-- ==== Defs.lean ====
def Pre_Enc (m : (ℓ : Loc Cert.Enc.nD Cert.Enc.τ Cert.Enc.sig) → Buf (Elt Bits) ℓ) : Prop :=
  True

def Pre_EncIdeal (m : (ℓ : Loc Cert.EncIdeal.nD Cert.EncIdeal.τ Cert.EncIdeal.sig) → Buf (Elt Ideal) ℓ) : Prop :=
  True

def Pre_EncRefIdeal (m : (ℓ : Loc Cert.EncRefIdeal.nD Cert.EncRefIdeal.τ Cert.EncRefIdeal.sig) → Buf (Elt Ideal) ℓ) : Prop :=
  True

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def Pre_Cube (m : (ℓ : Loc Cert.Cube.nD Cert.Cube.τ Cert.Cube.sig) → Buf (Elt Bits) ℓ) : Prop :=
  True

def Pre_CubeIdeal (m : (ℓ : Loc Cert.CubeIdeal.nD Cert.CubeIdeal.τ Cert.CubeIdeal.sig) → Buf (Elt Ideal) ℓ) : Prop :=
  True

def Pre_CubeIdeal_latents_and_pixels [hPre_latents_and_pixels : Cert.Pre_latents_and_pixels.Facts] (m : (ℓ : Loc Cert.CubeIdeal.nD Cert.CubeIdeal.τ Cert.CubeIdeal.sig) → Buf (Elt Ideal) ℓ) : Prop :=
  ∀ c : Dev Cert.CubeIdeal.nD,
    (Cert.Pre_latents_and_pixels.fn (F := Ideal) (m ((c.tc : Thread Cert.CubeIdeal.nD Cert.CubeIdeal.τ).loc Cert.CubeIdeal.main_arg0)) (m ((c.tc : Thread Cert.CubeIdeal.nD Cert.CubeIdeal.τ).loc Cert.CubeIdeal.main_arg1)) (m ((c.tc : Thread Cert.CubeIdeal.nD Cert.CubeIdeal.τ).loc Cert.CubeIdeal.main_arg2))) = (fun _ => 1#1)

def Pre_CubeRefIdeal (m : (ℓ : Loc Cert.CubeRefIdeal.nD Cert.CubeRefIdeal.τ Cert.CubeRefIdeal.sig) → Buf (Elt Ideal) ℓ) : Prop :=
  True

def Pre_CubeRefIdeal_latents_and_pixels [hPre_latents_and_pixels : Cert.Pre_latents_and_pixels.Facts] (m : (ℓ : Loc Cert.CubeRefIdeal.nD Cert.CubeRefIdeal.τ Cert.CubeRefIdeal.sig) → Buf (Elt Ideal) ℓ) : Prop :=
  ∀ c : Dev Cert.CubeRefIdeal.nD,
    (Cert.Pre_latents_and_pixels.fn (F := Ideal) (m ((c.tc : Thread Cert.CubeRefIdeal.nD Cert.CubeRefIdeal.τ).loc Cert.CubeRefIdeal.main_arg0)) (m ((c.tc : Thread Cert.CubeRefIdeal.nD Cert.CubeRefIdeal.τ).loc Cert.CubeRefIdeal.main_arg1)) (m ((c.tc : Thread Cert.CubeRefIdeal.nD Cert.CubeRefIdeal.τ).loc Cert.CubeRefIdeal.main_arg2))) = (fun _ => 1#1)

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_pixels [hPre_pixels : Cert.Pre_pixels.Facts] (m : (ℓ : Loc Cert.WholeIdeal.nD Cert.WholeIdeal.τ Cert.WholeIdeal.sig) → Buf (Elt Ideal) ℓ) : Prop :=
  ∀ c : Dev Cert.WholeIdeal.nD,
    (Cert.Pre_pixels.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6)) (m ((c.tc : Thread Cert.WholeIdeal.nD Cert.WholeIdeal.τ).loc Cert.WholeIdeal.main_arg7)) (m ((c.tc : Thread Cert.WholeIdeal.nD Cert.WholeIdeal.τ).loc Cert.WholeIdeal.main_arg8)) (m ((c.tc : Thread Cert.WholeIdeal.nD Cert.WholeIdeal.τ).loc Cert.WholeIdeal.main_arg9)) (m ((c.tc : Thread Cert.WholeIdeal.nD Cert.WholeIdeal.τ).loc Cert.WholeIdeal.main_arg10)) (m ((c.tc : Thread Cert.WholeIdeal.nD Cert.WholeIdeal.τ).loc Cert.WholeIdeal.main_arg11)) (m ((c.tc : Thread Cert.WholeIdeal.nD Cert.WholeIdeal.τ).loc Cert.WholeIdeal.main_arg12)) (m ((c.tc : Thread Cert.WholeIdeal.nD Cert.WholeIdeal.τ).loc Cert.WholeIdeal.main_arg13)) (m ((c.tc : Thread Cert.WholeIdeal.nD Cert.WholeIdeal.τ).loc Cert.WholeIdeal.main_arg14)) (m ((c.tc : Thread Cert.WholeIdeal.nD Cert.WholeIdeal.τ).loc Cert.WholeIdeal.main_arg15)) (m ((c.tc : Thread Cert.WholeIdeal.nD Cert.WholeIdeal.τ).loc Cert.WholeIdeal.main_arg16)) (m ((c.tc : Thread Cert.WholeIdeal.nD Cert.WholeIdeal.τ).loc Cert.WholeIdeal.main_arg17)) (m ((c.tc : Thread Cert.WholeIdeal.nD Cert.WholeIdeal.τ).loc Cert.WholeIdeal.main_arg18))) = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_pixels [hPre_pixels : Cert.Pre_pixels.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_pixels.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (m ((c.tc : Thread Cert.WholeRefIdeal.nD Cert.WholeRefIdeal.τ).loc Cert.WholeRefIdeal.main_arg3)) (m ((c.tc : Thread Cert.WholeRefIdeal.nD Cert.WholeRefIdeal.τ).loc Cert.WholeRefIdeal.main_arg4)) (m ((c.tc : Thread Cert.WholeRefIdeal.nD Cert.WholeRefIdeal.τ).loc Cert.WholeRefIdeal.main_arg5)) (m ((c.tc : Thread Cert.WholeRefIdeal.nD Cert.WholeRefIdeal.τ).loc Cert.WholeRefIdeal.main_arg6)) (m ((c.tc : Thread Cert.WholeRefIdeal.nD Cert.WholeRefIdeal.τ).loc Cert.WholeRefIdeal.main_arg7)) (m ((c.tc : Thread Cert.WholeRefIdeal.nD Cert.WholeRefIdeal.τ).loc Cert.WholeRefIdeal.main_arg8)) (m ((c.tc : Thread Cert.WholeRefIdeal.nD Cert.WholeRefIdeal.τ).loc Cert.WholeRefIdeal.main_arg9)) (m ((c.tc : Thread Cert.WholeRefIdeal.nD Cert.WholeRefIdeal.τ).loc Cert.WholeRefIdeal.main_arg10)) (m ((c.tc : Thread Cert.WholeRefIdeal.nD Cert.WholeRefIdeal.τ).loc Cert.WholeRefIdeal.main_arg11)) (m ((c.tc : Thread Cert.WholeRefIdeal.nD Cert.WholeRefIdeal.τ).loc Cert.WholeRefIdeal.main_arg12)) (m ((c.tc : Thread Cert.WholeRefIdeal.nD Cert.WholeRefIdeal.τ).loc Cert.WholeRefIdeal.main_arg13)) (m ((c.tc : Thread Cert.WholeRefIdeal.nD Cert.WholeRefIdeal.τ).loc Cert.WholeRefIdeal.main_arg14)) (m ((c.tc : Thread Cert.WholeRefIdeal.nD Cert.WholeRefIdeal.τ).loc Cert.WholeRefIdeal.main_arg15)) (m ((c.tc : Thread Cert.WholeRefIdeal.nD Cert.WholeRefIdeal.τ).loc Cert.WholeRefIdeal.main_arg16)) (m ((c.tc : Thread Cert.WholeRefIdeal.nD Cert.WholeRefIdeal.τ).loc Cert.WholeRefIdeal.main_arg17)) (m ((c.tc : Thread Cert.WholeRefIdeal.nD Cert.WholeRefIdeal.τ).loc Cert.WholeRefIdeal.main_arg18))) = (fun _ => 1#1)

def quiescent_Enc [hEnc : Cert.Enc.Facts] : Prop :=
  ∀ (m : (ℓ : Loc Cert.Enc.nD Cert.Enc.τ Cert.Enc.sig) → Buf (Elt Bits) ℓ) (g : Dev Cert.Enc.nD → PrngReg), Pre_Enc m →
    θ_run (Cert.Enc.defs (F := Bits)) (onTc (τ := Cert.Enc.τ) (Cert.Enc.main (F := Bits))) ⟨m, fun _ => 0, g⟩ (fun r => (∀ c : Dev Cert.Enc.nD,
      r.2.mem ((c.tc : Thread Cert.Enc.nD Cert.Enc.τ).loc Cert.Enc.main_arg0) = m ((c.tc : Thread Cert.Enc.nD Cert.Enc.τ).loc Cert.Enc.main_arg0)
      ∧ r.2.mem ((c.tc : Thread Cert.Enc.nD Cert.Enc.τ).loc Cert.Enc.main_arg1) = m ((c.tc : Thread Cert.Enc.nD Cert.Enc.τ).loc Cert.Enc.main_arg1)
      ∧ r.2.mem ((c.tc : Thread Cert.Enc.nD Cert.Enc.τ).loc Cert.Enc.main_arg2) = m ((c.tc : Thread Cert.Enc.nD Cert.Enc.τ).loc Cert.Enc.main_arg2)
      ∧ r.2.mem ((c.tc : Thread Cert.Enc.nD Cert.Enc.τ).loc Cert.Enc.main_arg3) = m ((c.tc : Thread Cert.Enc.nD Cert.Enc.τ).loc Cert.Enc.main_arg3)
      ∧ r.2.mem ((c.tc : Thread Cert.Enc.nD Cert.Enc.τ).loc Cert.Enc.main_arg4) = m ((c.tc : Thread Cert.Enc.nD Cert.Enc.τ).loc Cert.Enc.main_arg4)
      ∧ r.2.mem ((c.tc : Thread Cert.Enc.nD Cert.Enc.τ).loc Cert.Enc.main_arg5) = m ((c.tc : Thread Cert.Enc.nD Cert.Enc.τ).loc Cert.Enc.main_arg5)
      ∧ r.2.mem ((c.tc : Thread Cert.Enc.nD Cert.Enc.τ).loc Cert.Enc.main_arg6) = m ((c.tc : Thread Cert.Enc.nD Cert.Enc.τ).loc Cert.Enc.main_arg6))
      ∧ r.2.sem = fun _ => 0)

def quiescent_EncIdeal [hEncIdeal : Cert.EncIdeal.Facts] : Prop :=
  ∀ (m : (ℓ : Loc Cert.EncIdeal.nD Cert.EncIdeal.τ Cert.EncIdeal.sig) → Buf (Elt Ideal) ℓ) (g : Dev Cert.EncIdeal.nD → PrngReg), Pre_EncIdeal m →
    θ_run (Cert.EncIdeal.defs (F := Ideal)) (onTc (τ := Cert.EncIdeal.τ) (Cert.EncIdeal.main (F := Ideal))) ⟨m, fun _ => 0, g⟩ (fun r => (∀ c : Dev Cert.EncIdeal.nD,
      r.2.mem ((c.tc : Thread Cert.EncIdeal.nD Cert.EncIdeal.τ).loc Cert.EncIdeal.main_arg0) = m ((c.tc : Thread Cert.EncIdeal.nD Cert.EncIdeal.τ).loc Cert.EncIdeal.main_arg0)
      ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
      ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
      ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
      ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
      ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
      ∧ r.2.mem ((c.tc : Thread Cert.EncIdeal.nD Cert.EncIdeal.τ).loc Cert.EncIdeal.main_arg6) = m ((c.tc : Thread Cert.EncIdeal.nD Cert.EncIdeal.τ).loc Cert.EncIdeal.main_arg6))
      ∧ r.2.sem = fun _ => 0)

def quiescent_EncRefIdeal [hEncRefIdeal : Cert.EncRefIdeal.Facts] : Prop :=
  ∀ (m : (ℓ : Loc Cert.EncRefIdeal.nD Cert.EncRefIdeal.τ Cert.EncRefIdeal.sig) → Buf (Elt Ideal) ℓ) (g : Dev Cert.EncRefIdeal.nD → PrngReg), Pre_EncRefIdeal m →
    θ_run (Cert.EncRefIdeal.defs (F := Ideal)) (onTc (τ := Cert.EncRefIdeal.τ) (Cert.EncRefIdeal.main (F := Ideal))) ⟨m, fun _ => 0, g⟩ (fun r => (∀ c : Dev Cert.EncRefIdeal.nD,
      r.2.mem ((c.tc : Thread Cert.EncRefIdeal.nD Cert.EncRefIdeal.τ).loc Cert.EncRefIdeal.main_arg0) = m ((c.tc : Thread Cert.EncRefIdeal.nD Cert.EncRefIdeal.τ).loc Cert.EncRefIdeal.main_arg0)
      ∧ r.2.mem ((c.tc : Thread Cert.EncRefIdeal.nD Cert.EncRefIdeal.τ).loc Cert.EncRefIdeal.main_arg1) = m ((c.tc : Thread Cert.EncRefIdeal.nD Cert.EncRefIdeal.τ).loc Cert.EncRefIdeal.main_arg1)
      ∧ r.2.mem ((c.tc : Thread Cert.EncRefIdeal.nD Cert.EncRefIdeal.τ).loc Cert.EncRefIdeal.main_arg2) = m ((c.tc : Thread Cert.EncRefIdeal.nD Cert.EncRefIdeal.τ).loc Cert.EncRefIdeal.main_arg2)
      ∧ r.2.mem ((c.tc : Thread Cert.EncRefIdeal.nD Cert.EncRefIdeal.τ).loc Cert.EncRefIdeal.main_arg3) = m ((c.tc : Thread Cert.EncRefIdeal.nD Cert.EncRefIdeal.τ).loc Cert.EncRefIdeal.main_arg3)
      ∧ r.2.mem ((c.tc : Thread Cert.EncRefIdeal.nD Cert.EncRefIdeal.τ).loc Cert.EncRefIdeal.main_arg4) = m ((c.tc : Thread Cert.EncRefIdeal.nD Cert.EncRefIdeal.τ).loc Cert.EncRefIdeal.main_arg4)
      ∧ r.2.mem ((c.tc : Thread Cert.EncRefIdeal.nD Cert.EncRefIdeal.τ).loc Cert.EncRefIdeal.main_arg5) = m ((c.tc : Thread Cert.EncRefIdeal.nD Cert.EncRefIdeal.τ).loc Cert.EncRefIdeal.main_arg5)
      ∧ r.2.mem ((c.tc : Thread Cert.EncRefIdeal.nD Cert.EncRefIdeal.τ).loc Cert.EncRefIdeal.main_arg6) = m ((c.tc : Thread Cert.EncRefIdeal.nD Cert.EncRefIdeal.τ).loc Cert.EncRefIdeal.main_arg6))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3)
      ∧ r.2.mem ((c.tc : Thread Cert.Fc.nD Cert.Fc.τ).loc Cert.Fc.main_arg4) = m ((c.tc : Thread Cert.Fc.nD Cert.Fc.τ).loc Cert.Fc.main_arg4)
      ∧ r.2.mem ((c.tc : Thread Cert.Fc.nD Cert.Fc.τ).loc Cert.Fc.main_arg5) = m ((c.tc : Thread Cert.Fc.nD Cert.Fc.τ).loc Cert.Fc.main_arg5)
      ∧ r.2.mem ((c.tc : Thread Cert.Fc.nD Cert.Fc.τ).loc Cert.Fc.main_arg6) = m ((c.tc : Thread Cert.Fc.nD Cert.Fc.τ).loc Cert.Fc.main_arg6)
      ∧ r.2.mem ((c.tc : Thread Cert.Fc.nD Cert.Fc.τ).loc Cert.Fc.main_arg7) = m ((c.tc : Thread Cert.Fc.nD Cert.Fc.τ).loc Cert.Fc.main_arg7)
      ∧ r.2.mem ((c.tc : Thread Cert.Fc.nD Cert.Fc.τ).loc Cert.Fc.main_arg8) = m ((c.tc : Thread Cert.Fc.nD Cert.Fc.τ).loc Cert.Fc.main_arg8)
      ∧ r.2.mem ((c.tc : Thread Cert.Fc.nD Cert.Fc.τ).loc Cert.Fc.main_arg9) = m ((c.tc : Thread Cert.Fc.nD Cert.Fc.τ).loc Cert.Fc.main_arg9)
      ∧ r.2.mem ((c.tc : Thread Cert.Fc.nD Cert.Fc.τ).loc Cert.Fc.main_arg10) = m ((c.tc : Thread Cert.Fc.nD Cert.Fc.τ).loc Cert.Fc.main_arg10))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
      ∧ r.2.mem ((c.tc : Thread Cert.FcIdeal.nD Cert.FcIdeal.τ).loc Cert.FcIdeal.main_arg4) = m ((c.tc : Thread Cert.FcIdeal.nD Cert.FcIdeal.τ).loc Cert.FcIdeal.main_arg4)
      ∧ r.2.mem ((c.tc : Thread Cert.FcIdeal.nD Cert.FcIdeal.τ).loc Cert.FcIdeal.main_arg5) = m ((c.tc : Thread Cert.FcIdeal.nD Cert.FcIdeal.τ).loc Cert.FcIdeal.main_arg5)
      ∧ r.2.mem ((c.tc : Thread Cert.FcIdeal.nD Cert.FcIdeal.τ).loc Cert.FcIdeal.main_arg6) = m ((c.tc : Thread Cert.FcIdeal.nD Cert.FcIdeal.τ).loc Cert.FcIdeal.main_arg6)
      ∧ r.2.mem ((c.tc : Thread Cert.FcIdeal.nD Cert.FcIdeal.τ).loc Cert.FcIdeal.main_arg7) = m ((c.tc : Thread Cert.FcIdeal.nD Cert.FcIdeal.τ).loc Cert.FcIdeal.main_arg7)
      ∧ r.2.mem ((c.tc : Thread Cert.FcIdeal.nD Cert.FcIdeal.τ).loc Cert.FcIdeal.main_arg8) = m ((c.tc : Thread Cert.FcIdeal.nD Cert.FcIdeal.τ).loc Cert.FcIdeal.main_arg8)
      ∧ r.2.mem ((c.tc : Thread Cert.FcIdeal.nD Cert.FcIdeal.τ).loc Cert.FcIdeal.main_arg9) = m ((c.tc : Thread Cert.FcIdeal.nD Cert.FcIdeal.τ).loc Cert.FcIdeal.main_arg9)
      ∧ r.2.mem ((c.tc : Thread Cert.FcIdeal.nD Cert.FcIdeal.τ).loc Cert.FcIdeal.main_arg10) = m ((c.tc : Thread Cert.FcIdeal.nD Cert.FcIdeal.τ).loc Cert.FcIdeal.main_arg10))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2)
      ∧ r.2.mem ((c.tc : Thread Cert.FcRefIdeal.nD Cert.FcRefIdeal.τ).loc Cert.FcRefIdeal.main_arg3) = m ((c.tc : Thread Cert.FcRefIdeal.nD Cert.FcRefIdeal.τ).loc Cert.FcRefIdeal.main_arg3)
      ∧ r.2.mem ((c.tc : Thread Cert.FcRefIdeal.nD Cert.FcRefIdeal.τ).loc Cert.FcRefIdeal.main_arg4) = m ((c.tc : Thread Cert.FcRefIdeal.nD Cert.FcRefIdeal.τ).loc Cert.FcRefIdeal.main_arg4)
      ∧ r.2.mem ((c.tc : Thread Cert.FcRefIdeal.nD Cert.FcRefIdeal.τ).loc Cert.FcRefIdeal.main_arg5) = m ((c.tc : Thread Cert.FcRefIdeal.nD Cert.FcRefIdeal.τ).loc Cert.FcRefIdeal.main_arg5)
      ∧ r.2.mem ((c.tc : Thread Cert.FcRefIdeal.nD Cert.FcRefIdeal.τ).loc Cert.FcRefIdeal.main_arg6) = m ((c.tc : Thread Cert.FcRefIdeal.nD Cert.FcRefIdeal.τ).loc Cert.FcRefIdeal.main_arg6)
      ∧ r.2.mem ((c.tc : Thread Cert.FcRefIdeal.nD Cert.FcRefIdeal.τ).loc Cert.FcRefIdeal.main_arg7) = m ((c.tc : Thread Cert.FcRefIdeal.nD Cert.FcRefIdeal.τ).loc Cert.FcRefIdeal.main_arg7)
      ∧ r.2.mem ((c.tc : Thread Cert.FcRefIdeal.nD Cert.FcRefIdeal.τ).loc Cert.FcRefIdeal.main_arg8) = m ((c.tc : Thread Cert.FcRefIdeal.nD Cert.FcRefIdeal.τ).loc Cert.FcRefIdeal.main_arg8)
      ∧ r.2.mem ((c.tc : Thread Cert.FcRefIdeal.nD Cert.FcRefIdeal.τ).loc Cert.FcRefIdeal.main_arg9) = m ((c.tc : Thread Cert.FcRefIdeal.nD Cert.FcRefIdeal.τ).loc Cert.FcRefIdeal.main_arg9)
      ∧ r.2.mem ((c.tc : Thread Cert.FcRefIdeal.nD Cert.FcRefIdeal.τ).loc Cert.FcRefIdeal.main_arg10) = m ((c.tc : Thread Cert.FcRefIdeal.nD Cert.FcRefIdeal.τ).loc Cert.FcRefIdeal.main_arg10))
      ∧ r.2.sem = fun _ => 0)

def quiescent_Cube [hCube : Cert.Cube.Facts] : Prop :=
  ∀ (m : (ℓ : Loc Cert.Cube.nD Cert.Cube.τ Cert.Cube.sig) → Buf (Elt Bits) ℓ) (g : Dev Cert.Cube.nD → PrngReg), Pre_Cube m →
    θ_run (Cert.Cube.defs (F := Bits)) (onTc (τ := Cert.Cube.τ) (Cert.Cube.main (F := Bits))) ⟨m, fun _ => 0, g⟩ (fun r => (∀ c : Dev Cert.Cube.nD,
      r.2.mem ((c.tc : Thread Cert.Cube.nD Cert.Cube.τ).loc Cert.Cube.main_arg0) = m ((c.tc : Thread Cert.Cube.nD Cert.Cube.τ).loc Cert.Cube.main_arg0)
      ∧ r.2.mem ((c.tc : Thread Cert.Cube.nD Cert.Cube.τ).loc Cert.Cube.main_arg1) = m ((c.tc : Thread Cert.Cube.nD Cert.Cube.τ).loc Cert.Cube.main_arg1)
      ∧ r.2.mem ((c.tc : Thread Cert.Cube.nD Cert.Cube.τ).loc Cert.Cube.main_arg2) = m ((c.tc : Thread Cert.Cube.nD Cert.Cube.τ).loc Cert.Cube.main_arg2))
      ∧ r.2.sem = fun _ => 0)

def quiescent_CubeIdeal [hCubeIdeal : Cert.CubeIdeal.Facts] : Prop :=
  ∀ (m : (ℓ : Loc Cert.CubeIdeal.nD Cert.CubeIdeal.τ Cert.CubeIdeal.sig) → Buf (Elt Ideal) ℓ) (g : Dev Cert.CubeIdeal.nD → PrngReg), Pre_CubeIdeal m →
    θ_run (Cert.CubeIdeal.defs (F := Ideal)) (onTc (τ := Cert.CubeIdeal.τ) (Cert.CubeIdeal.main (F := Ideal))) ⟨m, fun _ => 0, g⟩ (fun r => (∀ c : Dev Cert.CubeIdeal.nD,
      r.2.mem ((c.tc : Thread Cert.CubeIdeal.nD Cert.CubeIdeal.τ).loc Cert.CubeIdeal.main_arg0) = m ((c.tc : Thread Cert.CubeIdeal.nD Cert.CubeIdeal.τ).loc Cert.CubeIdeal.main_arg0)
      ∧ r.2.mem ((c.tc : Thread Cert.CubeIdeal.nD Cert.CubeIdeal.τ).loc Cert.CubeIdeal.main_arg1) = m ((c.tc : Thread Cert.CubeIdeal.nD Cert.CubeIdeal.τ).loc Cert.CubeIdeal.main_arg1)
      ∧ r.2.mem ((c.tc : Thread Cert.CubeIdeal.nD Cert.CubeIdeal.τ).loc Cert.CubeIdeal.main_arg2) = m ((c.tc : Thread Cert.CubeIdeal.nD Cert.CubeIdeal.τ).loc Cert.CubeIdeal.main_arg2))
      ∧ r.2.sem = fun _ => 0)

def quiescent_CubeIdeal_pre_latents_and_pixels [hCubeIdeal : Cert.CubeIdeal.Facts] [hPre_latents_and_pixels : Cert.Pre_latents_and_pixels.Facts] : Prop :=
  ∀ (m : (ℓ : Loc Cert.CubeIdeal.nD Cert.CubeIdeal.τ Cert.CubeIdeal.sig) → Buf (Elt Ideal) ℓ) (g : Dev Cert.CubeIdeal.nD → PrngReg), Pre_CubeIdeal_latents_and_pixels m →
    θ_run (Cert.CubeIdeal.defs (F := Ideal)) (onTc (τ := Cert.CubeIdeal.τ) (Cert.CubeIdeal.main (F := Ideal))) ⟨m, fun _ => 0, g⟩ (fun r => (∀ c : Dev Cert.CubeIdeal.nD,
      r.2.mem ((c.tc : Thread Cert.CubeIdeal.nD Cert.CubeIdeal.τ).loc Cert.CubeIdeal.main_arg0) = m ((c.tc : Thread Cert.CubeIdeal.nD Cert.CubeIdeal.τ).loc Cert.CubeIdeal.main_arg0)
      ∧ r.2.mem ((c.tc : Thread Cert.CubeIdeal.nD Cert.CubeIdeal.τ).loc Cert.CubeIdeal.main_arg1) = m ((c.tc : Thread Cert.CubeIdeal.nD Cert.CubeIdeal.τ).loc Cert.CubeIdeal.main_arg1)
      ∧ r.2.mem ((c.tc : Thread Cert.CubeIdeal.nD Cert.CubeIdeal.τ).loc Cert.CubeIdeal.main_arg2) = m ((c.tc : Thread Cert.CubeIdeal.nD Cert.CubeIdeal.τ).loc Cert.CubeIdeal.main_arg2))
      ∧ r.2.sem = fun _ => 0)

def quiescent_CubeRefIdeal [hCubeRefIdeal : Cert.CubeRefIdeal.Facts] : Prop :=
  ∀ (m : (ℓ : Loc Cert.CubeRefIdeal.nD Cert.CubeRefIdeal.τ Cert.CubeRefIdeal.sig) → Buf (Elt Ideal) ℓ) (g : Dev Cert.CubeRefIdeal.nD → PrngReg), Pre_CubeRefIdeal m →
    θ_run (Cert.CubeRefIdeal.defs (F := Ideal)) (onTc (τ := Cert.CubeRefIdeal.τ) (Cert.CubeRefIdeal.main (F := Ideal))) ⟨m, fun _ => 0, g⟩ (fun r => (∀ c : Dev Cert.CubeRefIdeal.nD,
      r.2.mem ((c.tc : Thread Cert.CubeRefIdeal.nD Cert.CubeRefIdeal.τ).loc Cert.CubeRefIdeal.main_arg0) = m ((c.tc : Thread Cert.CubeRefIdeal.nD Cert.CubeRefIdeal.τ).loc Cert.CubeRefIdeal.main_arg0)
      ∧ r.2.mem ((c.tc : Thread Cert.CubeRefIdeal.nD Cert.CubeRefIdeal.τ).loc Cert.CubeRefIdeal.main_arg1) = m ((c.tc : Thread Cert.CubeRefIdeal.nD Cert.CubeRefIdeal.τ).loc Cert.CubeRefIdeal.main_arg1)
      ∧ r.2.mem ((c.tc : Thread Cert.CubeRefIdeal.nD Cert.CubeRefIdeal.τ).loc Cert.CubeRefIdeal.main_arg2) = m ((c.tc : Thread Cert.CubeRefIdeal.nD Cert.CubeRefIdeal.τ).loc Cert.CubeRefIdeal.main_arg2))
      ∧ r.2.sem = fun _ => 0)

def quiescent_CubeRefIdeal_pre_latents_and_pixels [hCubeRefIdeal : Cert.CubeRefIdeal.Facts] [hPre_latents_and_pixels : Cert.Pre_latents_and_pixels.Facts] : Prop :=
  ∀ (m : (ℓ : Loc Cert.CubeRefIdeal.nD Cert.CubeRefIdeal.τ Cert.CubeRefIdeal.sig) → Buf (Elt Ideal) ℓ) (g : Dev Cert.CubeRefIdeal.nD → PrngReg), Pre_CubeRefIdeal_latents_and_pixels m →
    θ_run (Cert.CubeRefIdeal.defs (F := Ideal)) (onTc (τ := Cert.CubeRefIdeal.τ) (Cert.CubeRefIdeal.main (F := Ideal))) ⟨m, fun _ => 0, g⟩ (fun r => (∀ c : Dev Cert.CubeRefIdeal.nD,
      r.2.mem ((c.tc : Thread Cert.CubeRefIdeal.nD Cert.CubeRefIdeal.τ).loc Cert.CubeRefIdeal.main_arg0) = m ((c.tc : Thread Cert.CubeRefIdeal.nD Cert.CubeRefIdeal.τ).loc Cert.CubeRefIdeal.main_arg0)
      ∧ r.2.mem ((c.tc : Thread Cert.CubeRefIdeal.nD Cert.CubeRefIdeal.τ).loc Cert.CubeRefIdeal.main_arg1) = m ((c.tc : Thread Cert.CubeRefIdeal.nD Cert.CubeRefIdeal.τ).loc Cert.CubeRefIdeal.main_arg1)
      ∧ r.2.mem ((c.tc : Thread Cert.CubeRefIdeal.nD Cert.CubeRefIdeal.τ).loc Cert.CubeRefIdeal.main_arg2) = m ((c.tc : Thread Cert.CubeRefIdeal.nD Cert.CubeRefIdeal.τ).loc Cert.CubeRefIdeal.main_arg2))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5)
      ∧ r.2.mem ((c.tc : Thread Cert.Whole.nD Cert.Whole.τ).loc Cert.Whole.main_arg6) = m ((c.tc : Thread Cert.Whole.nD Cert.Whole.τ).loc Cert.Whole.main_arg6)
      ∧ r.2.mem ((c.tc : Thread Cert.Whole.nD Cert.Whole.τ).loc Cert.Whole.main_arg7) = m ((c.tc : Thread Cert.Whole.nD Cert.Whole.τ).loc Cert.Whole.main_arg7)
      ∧ r.2.mem ((c.tc : Thread Cert.Whole.nD Cert.Whole.τ).loc Cert.Whole.main_arg8) = m ((c.tc : Thread Cert.Whole.nD Cert.Whole.τ).loc Cert.Whole.main_arg8)
      ∧ r.2.mem ((c.tc : Thread Cert.Whole.nD Cert.Whole.τ).loc Cert.Whole.main_arg9) = m ((c.tc : Thread Cert.Whole.nD Cert.Whole.τ).loc Cert.Whole.main_arg9)
      ∧ r.2.mem ((c.tc : Thread Cert.Whole.nD Cert.Whole.τ).loc Cert.Whole.main_arg10) = m ((c.tc : Thread Cert.Whole.nD Cert.Whole.τ).loc Cert.Whole.main_arg10)
      ∧ r.2.mem ((c.tc : Thread Cert.Whole.nD Cert.Whole.τ).loc Cert.Whole.main_arg11) = m ((c.tc : Thread Cert.Whole.nD Cert.Whole.τ).loc Cert.Whole.main_arg11)
      ∧ r.2.mem ((c.tc : Thread Cert.Whole.nD Cert.Whole.τ).loc Cert.Whole.main_arg12) = m ((c.tc : Thread Cert.Whole.nD Cert.Whole.τ).loc Cert.Whole.main_arg12)
      ∧ r.2.mem ((c.tc : Thread Cert.Whole.nD Cert.Whole.τ).loc Cert.Whole.main_arg13) = m ((c.tc : Thread Cert.Whole.nD Cert.Whole.τ).loc Cert.Whole.main_arg13)
      ∧ r.2.mem ((c.tc : Thread Cert.Whole.nD Cert.Whole.τ).loc Cert.Whole.main_arg14) = m ((c.tc : Thread Cert.Whole.nD Cert.Whole.τ).loc Cert.Whole.main_arg14)
      ∧ r.2.mem ((c.tc : Thread Cert.Whole.nD Cert.Whole.τ).loc Cert.Whole.main_arg15) = m ((c.tc : Thread Cert.Whole.nD Cert.Whole.τ).loc Cert.Whole.main_arg15)
      ∧ r.2.mem ((c.tc : Thread Cert.Whole.nD Cert.Whole.τ).loc Cert.Whole.main_arg16) = m ((c.tc : Thread Cert.Whole.nD Cert.Whole.τ).loc Cert.Whole.main_arg16)
      ∧ r.2.mem ((c.tc : Thread Cert.Whole.nD Cert.Whole.τ).loc Cert.Whole.main_arg17) = m ((c.tc : Thread Cert.Whole.nD Cert.Whole.τ).loc Cert.Whole.main_arg17)
      ∧ r.2.mem ((c.tc : Thread Cert.Whole.nD Cert.Whole.τ).loc Cert.Whole.main_arg18) = m ((c.tc : Thread Cert.Whole.nD Cert.Whole.τ).loc Cert.Whole.main_arg18))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
      ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
      ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
      ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17)
      ∧ r.2.mem ((c.tc : Thread Cert.WholeIdeal.nD Cert.WholeIdeal.τ).loc Cert.WholeIdeal.main_arg18) = m ((c.tc : Thread Cert.WholeIdeal.nD Cert.WholeIdeal.τ).loc Cert.WholeIdeal.main_arg18))
      ∧ r.2.sem = fun _ => 0)

def quiescent_WholeIdeal_pre_pixels [hWholeIdeal : Cert.WholeIdeal.Facts] [hPre_pixels : Cert.Pre_pixels.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_pixels m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
      ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
      ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
      ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17)
      ∧ r.2.mem ((c.tc : Thread Cert.WholeIdeal.nD Cert.WholeIdeal.τ).loc Cert.WholeIdeal.main_arg18) = m ((c.tc : Thread Cert.WholeIdeal.nD Cert.WholeIdeal.τ).loc Cert.WholeIdeal.main_arg18))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6)
      ∧ r.2.mem ((c.tc : Thread Cert.WholeRefIdeal.nD Cert.WholeRefIdeal.τ).loc Cert.WholeRefIdeal.main_arg7) = m ((c.tc : Thread Cert.WholeRefIdeal.nD Cert.WholeRefIdeal.τ).loc Cert.WholeRefIdeal.main_arg7)
      ∧ r.2.mem ((c.tc : Thread Cert.WholeRefIdeal.nD Cert.WholeRefIdeal.τ).loc Cert.WholeRefIdeal.main_arg8) = m ((c.tc : Thread Cert.WholeRefIdeal.nD Cert.WholeRefIdeal.τ).loc Cert.WholeRefIdeal.main_arg8)
      ∧ r.2.mem ((c.tc : Thread Cert.WholeRefIdeal.nD Cert.WholeRefIdeal.τ).loc Cert.WholeRefIdeal.main_arg9) = m ((c.tc : Thread Cert.WholeRefIdeal.nD Cert.WholeRefIdeal.τ).loc Cert.WholeRefIdeal.main_arg9)
      ∧ r.2.mem ((c.tc : Thread Cert.WholeRefIdeal.nD Cert.WholeRefIdeal.τ).loc Cert.WholeRefIdeal.main_arg10) = m ((c.tc : Thread Cert.WholeRefIdeal.nD Cert.WholeRefIdeal.τ).loc Cert.WholeRefIdeal.main_arg10)
      ∧ r.2.mem ((c.tc : Thread Cert.WholeRefIdeal.nD Cert.WholeRefIdeal.τ).loc Cert.WholeRefIdeal.main_arg11) = m ((c.tc : Thread Cert.WholeRefIdeal.nD Cert.WholeRefIdeal.τ).loc Cert.WholeRefIdeal.main_arg11)
      ∧ r.2.mem ((c.tc : Thread Cert.WholeRefIdeal.nD Cert.WholeRefIdeal.τ).loc Cert.WholeRefIdeal.main_arg12) = m ((c.tc : Thread Cert.WholeRefIdeal.nD Cert.WholeRefIdeal.τ).loc Cert.WholeRefIdeal.main_arg12)
      ∧ r.2.mem ((c.tc : Thread Cert.WholeRefIdeal.nD Cert.WholeRefIdeal.τ).loc Cert.WholeRefIdeal.main_arg13) = m ((c.tc : Thread Cert.WholeRefIdeal.nD Cert.WholeRefIdeal.τ).loc Cert.WholeRefIdeal.main_arg13)
      ∧ r.2.mem ((c.tc : Thread Cert.WholeRefIdeal.nD Cert.WholeRefIdeal.τ).loc Cert.WholeRefIdeal.main_arg14) = m ((c.tc : Thread Cert.WholeRefIdeal.nD Cert.WholeRefIdeal.τ).loc Cert.WholeRefIdeal.main_arg14)
      ∧ r.2.mem ((c.tc : Thread Cert.WholeRefIdeal.nD Cert.WholeRefIdeal.τ).loc Cert.WholeRefIdeal.main_arg15) = m ((c.tc : Thread Cert.WholeRefIdeal.nD Cert.WholeRefIdeal.τ).loc Cert.WholeRefIdeal.main_arg15)
      ∧ r.2.mem ((c.tc : Thread Cert.WholeRefIdeal.nD Cert.WholeRefIdeal.τ).loc Cert.WholeRefIdeal.main_arg16) = m ((c.tc : Thread Cert.WholeRefIdeal.nD Cert.WholeRefIdeal.τ).loc Cert.WholeRefIdeal.main_arg16)
      ∧ r.2.mem ((c.tc : Thread Cert.WholeRefIdeal.nD Cert.WholeRefIdeal.τ).loc Cert.WholeRefIdeal.main_arg17) = m ((c.tc : Thread Cert.WholeRefIdeal.nD Cert.WholeRefIdeal.τ).loc Cert.WholeRefIdeal.main_arg17)
      ∧ r.2.mem ((c.tc : Thread Cert.WholeRefIdeal.nD Cert.WholeRefIdeal.τ).loc Cert.WholeRefIdeal.main_arg18) = m ((c.tc : Thread Cert.WholeRefIdeal.nD Cert.WholeRefIdeal.τ).loc Cert.WholeRefIdeal.main_arg18))
      ∧ r.2.sem = fun _ => 0)

def quiescent_WholeRefIdeal_pre_pixels [hWholeRefIdeal : Cert.WholeRefIdeal.Facts] [hPre_pixels : Cert.Pre_pixels.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_pixels m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6)
      ∧ r.2.mem ((c.tc : Thread Cert.WholeRefIdeal.nD Cert.WholeRefIdeal.τ).loc Cert.WholeRefIdeal.main_arg7) = m ((c.tc : Thread Cert.WholeRefIdeal.nD Cert.WholeRefIdeal.τ).loc Cert.WholeRefIdeal.main_arg7)
      ∧ r.2.mem ((c.tc : Thread Cert.WholeRefIdeal.nD Cert.WholeRefIdeal.τ).loc Cert.WholeRefIdeal.main_arg8) = m ((c.tc : Thread Cert.WholeRefIdeal.nD Cert.WholeRefIdeal.τ).loc Cert.WholeRefIdeal.main_arg8)
      ∧ r.2.mem ((c.tc : Thread Cert.WholeRefIdeal.nD Cert.WholeRefIdeal.τ).loc Cert.WholeRefIdeal.main_arg9) = m ((c.tc : Thread Cert.WholeRefIdeal.nD Cert.WholeRefIdeal.τ).loc Cert.WholeRefIdeal.main_arg9)
      ∧ r.2.mem ((c.tc : Thread Cert.WholeRefIdeal.nD Cert.WholeRefIdeal.τ).loc Cert.WholeRefIdeal.main_arg10) = m ((c.tc : Thread Cert.WholeRefIdeal.nD Cert.WholeRefIdeal.τ).loc Cert.WholeRefIdeal.main_arg10)
      ∧ r.2.mem ((c.tc : Thread Cert.WholeRefIdeal.nD Cert.WholeRefIdeal.τ).loc Cert.WholeRefIdeal.main_arg11) = m ((c.tc : Thread Cert.WholeRefIdeal.nD Cert.WholeRefIdeal.τ).loc Cert.WholeRefIdeal.main_arg11)
      ∧ r.2.mem ((c.tc : Thread Cert.WholeRefIdeal.nD Cert.WholeRefIdeal.τ).loc Cert.WholeRefIdeal.main_arg12) = m ((c.tc : Thread Cert.WholeRefIdeal.nD Cert.WholeRefIdeal.τ).loc Cert.WholeRefIdeal.main_arg12)
      ∧ r.2.mem ((c.tc : Thread Cert.WholeRefIdeal.nD Cert.WholeRefIdeal.τ).loc Cert.WholeRefIdeal.main_arg13) = m ((c.tc : Thread Cert.WholeRefIdeal.nD Cert.WholeRefIdeal.τ).loc Cert.WholeRefIdeal.main_arg13)
      ∧ r.2.mem ((c.tc : Thread Cert.WholeRefIdeal.nD Cert.WholeRefIdeal.τ).loc Cert.WholeRefIdeal.main_arg14) = m ((c.tc : Thread Cert.WholeRefIdeal.nD Cert.WholeRefIdeal.τ).loc Cert.WholeRefIdeal.main_arg14)
      ∧ r.2.mem ((c.tc : Thread Cert.WholeRefIdeal.nD Cert.WholeRefIdeal.τ).loc Cert.WholeRefIdeal.main_arg15) = m ((c.tc : Thread Cert.WholeRefIdeal.nD Cert.WholeRefIdeal.τ).loc Cert.WholeRefIdeal.main_arg15)
      ∧ r.2.mem ((c.tc : Thread Cert.WholeRefIdeal.nD Cert.WholeRefIdeal.τ).loc Cert.WholeRefIdeal.main_arg16) = m ((c.tc : Thread Cert.WholeRefIdeal.nD Cert.WholeRefIdeal.τ).loc Cert.WholeRefIdeal.main_arg16)
      ∧ r.2.mem ((c.tc : Thread Cert.WholeRefIdeal.nD Cert.WholeRefIdeal.τ).loc Cert.WholeRefIdeal.main_arg17) = m ((c.tc : Thread Cert.WholeRefIdeal.nD Cert.WholeRefIdeal.τ).loc Cert.WholeRefIdeal.main_arg17)
      ∧ r.2.mem ((c.tc : Thread Cert.WholeRefIdeal.nD Cert.WholeRefIdeal.τ).loc Cert.WholeRefIdeal.main_arg18) = m ((c.tc : Thread Cert.WholeRefIdeal.nD Cert.WholeRefIdeal.τ).loc Cert.WholeRefIdeal.main_arg18))
      ∧ r.2.sem = fun _ => 0)

def preserves_Enc_EncIdeal : Prop :=
  True

def algebraic_EncIdeal_EncRefIdeal [hEncIdeal : Cert.EncIdeal.Facts] [hEncRefIdeal : Cert.EncRefIdeal.Facts] : Prop :=
  ∀ (m : (ℓ : Loc Cert.EncIdeal.nD Cert.EncIdeal.τ Cert.EncIdeal.sig) → Buf (Elt Ideal) ℓ) (g : Dev Cert.EncIdeal.nD → PrngReg)
    (m' : (ℓ : Loc Cert.EncRefIdeal.nD Cert.EncRefIdeal.τ Cert.EncRefIdeal.sig) → Buf (Elt Ideal) ℓ) (g' : Dev Cert.EncRefIdeal.nD → PrngReg), Pre_EncIdeal m →
    (∀ c : Dev Cert.EncIdeal.nD,
      m' ((c.tc : Thread Cert.EncRefIdeal.nD Cert.EncRefIdeal.τ).loc Cert.EncRefIdeal.main_arg0) = m ((c.tc : Thread Cert.EncIdeal.nD Cert.EncIdeal.τ).loc Cert.EncIdeal.main_arg0)
      ∧ m' ((c.tc : Thread Cert.EncRefIdeal.nD Cert.EncRefIdeal.τ).loc Cert.EncRefIdeal.main_arg1) = m ((c.tc : Thread Cert.EncIdeal.nD Cert.EncIdeal.τ).loc Cert.EncIdeal.main_arg1)
      ∧ m' ((c.tc : Thread Cert.EncRefIdeal.nD Cert.EncRefIdeal.τ).loc Cert.EncRefIdeal.main_arg2) = m ((c.tc : Thread Cert.EncIdeal.nD Cert.EncIdeal.τ).loc Cert.EncIdeal.main_arg2)
      ∧ m' ((c.tc : Thread Cert.EncRefIdeal.nD Cert.EncRefIdeal.τ).loc Cert.EncRefIdeal.main_arg3) = m ((c.tc : Thread Cert.EncIdeal.nD Cert.EncIdeal.τ).loc Cert.EncIdeal.main_arg3)
      ∧ m' ((c.tc : Thread Cert.EncRefIdeal.nD Cert.EncRefIdeal.τ).loc Cert.EncRefIdeal.main_arg4) = m ((c.tc : Thread Cert.EncIdeal.nD Cert.EncIdeal.τ).loc Cert.EncIdeal.main_arg4)
      ∧ m' ((c.tc : Thread Cert.EncRefIdeal.nD Cert.EncRefIdeal.τ).loc Cert.EncRefIdeal.main_arg5) = m ((c.tc : Thread Cert.EncIdeal.nD Cert.EncIdeal.τ).loc Cert.EncIdeal.main_arg5)
      ∧ m' ((c.tc : Thread Cert.EncRefIdeal.nD Cert.EncRefIdeal.τ).loc Cert.EncRefIdeal.main_arg6) = m ((c.tc : Thread Cert.EncIdeal.nD Cert.EncIdeal.τ).loc Cert.EncIdeal.main_arg6)) →
    ∃ (v0 : (c : Dev Cert.EncIdeal.nD) → Buf (Elt Ideal) ((c.tc : Thread Cert.EncIdeal.nD Cert.EncIdeal.τ).loc Cert.EncIdeal.main_v10)),
      θ_run (Cert.EncIdeal.defs (F := Ideal)) (onTc (τ := Cert.EncIdeal.τ) (Cert.EncIdeal.main (F := Ideal))) ⟨m, fun _ => 0, g⟩ (fun r => ∀ c : Dev Cert.EncIdeal.nD,
          r.2.mem ((c.tc : Thread Cert.EncIdeal.nD Cert.EncIdeal.τ).loc Cert.EncIdeal.main_v10) = v0 c
          ∧ r.2.mem ((c.tc : Thread Cert.EncIdeal.nD Cert.EncIdeal.τ).loc Cert.EncIdeal.main_arg0) = m ((c.tc : Thread Cert.EncIdeal.nD Cert.EncIdeal.τ).loc Cert.EncIdeal.main_arg0)
          ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
          ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
          ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
          ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
          ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
          ∧ r.2.mem ((c.tc : Thread Cert.EncIdeal.nD Cert.EncIdeal.τ).loc Cert.EncIdeal.main_arg6) = m ((c.tc : Thread Cert.EncIdeal.nD Cert.EncIdeal.τ).loc Cert.EncIdeal.main_arg6))
      ∧ θ_run (Cert.EncRefIdeal.defs (F := Ideal)) (onTc (τ := Cert.EncRefIdeal.τ) (Cert.EncRefIdeal.main (F := Ideal))) ⟨m', fun _ => 0, g'⟩ (fun r => ∀ c : Dev Cert.EncRefIdeal.nD,
          r.2.mem ((c.tc : Thread Cert.EncRefIdeal.nD Cert.EncRefIdeal.τ).loc Cert.EncRefIdeal.main_v156) = v0 c
          ∧ r.2.mem ((c.tc : Thread Cert.EncRefIdeal.nD Cert.EncRefIdeal.τ).loc Cert.EncRefIdeal.main_arg0) = m' ((c.tc : Thread Cert.EncRefIdeal.nD Cert.EncRefIdeal.τ).loc Cert.EncRefIdeal.main_arg0)
          ∧ r.2.mem ((c.tc : Thread Cert.EncRefIdeal.nD Cert.EncRefIdeal.τ).loc Cert.EncRefIdeal.main_arg1) = m' ((c.tc : Thread Cert.EncRefIdeal.nD Cert.EncRefIdeal.τ).loc Cert.EncRefIdeal.main_arg1)
          ∧ r.2.mem ((c.tc : Thread Cert.EncRefIdeal.nD Cert.EncRefIdeal.τ).loc Cert.EncRefIdeal.main_arg2) = m' ((c.tc : Thread Cert.EncRefIdeal.nD Cert.EncRefIdeal.τ).loc Cert.EncRefIdeal.main_arg2)
          ∧ r.2.mem ((c.tc : Thread Cert.EncRefIdeal.nD Cert.EncRefIdeal.τ).loc Cert.EncRefIdeal.main_arg3) = m' ((c.tc : Thread Cert.EncRefIdeal.nD Cert.EncRefIdeal.τ).loc Cert.EncRefIdeal.main_arg3)
          ∧ r.2.mem ((c.tc : Thread Cert.EncRefIdeal.nD Cert.EncRefIdeal.τ).loc Cert.EncRefIdeal.main_arg4) = m' ((c.tc : Thread Cert.EncRefIdeal.nD Cert.EncRefIdeal.τ).loc Cert.EncRefIdeal.main_arg4)
          ∧ r.2.mem ((c.tc : Thread Cert.EncRefIdeal.nD Cert.EncRefIdeal.τ).loc Cert.EncRefIdeal.main_arg5) = m' ((c.tc : Thread Cert.EncRefIdeal.nD Cert.EncRefIdeal.τ).loc Cert.EncRefIdeal.main_arg5)
          ∧ r.2.mem ((c.tc : Thread Cert.EncRefIdeal.nD Cert.EncRefIdeal.τ).loc Cert.EncRefIdeal.main_arg6) = m' ((c.tc : Thread Cert.EncRefIdeal.nD Cert.EncRefIdeal.τ).loc Cert.EncRefIdeal.main_arg6))

def preserves_Fc_FcIdeal : Prop :=
  True

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)
      ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)
      ∧ m' ((c.tc : Thread Cert.FcRefIdeal.nD Cert.FcRefIdeal.τ).loc Cert.FcRefIdeal.main_arg4) = m ((c.tc : Thread Cert.FcIdeal.nD Cert.FcIdeal.τ).loc Cert.FcIdeal.main_arg4)
      ∧ m' ((c.tc : Thread Cert.FcRefIdeal.nD Cert.FcRefIdeal.τ).loc Cert.FcRefIdeal.main_arg5) = m ((c.tc : Thread Cert.FcIdeal.nD Cert.FcIdeal.τ).loc Cert.FcIdeal.main_arg5)
      ∧ m' ((c.tc : Thread Cert.FcRefIdeal.nD Cert.FcRefIdeal.τ).loc Cert.FcRefIdeal.main_arg6) = m ((c.tc : Thread Cert.FcIdeal.nD Cert.FcIdeal.τ).loc Cert.FcIdeal.main_arg6)
      ∧ m' ((c.tc : Thread Cert.FcRefIdeal.nD Cert.FcRefIdeal.τ).loc Cert.FcRefIdeal.main_arg7) = m ((c.tc : Thread Cert.FcIdeal.nD Cert.FcIdeal.τ).loc Cert.FcIdeal.main_arg7)
      ∧ m' ((c.tc : Thread Cert.FcRefIdeal.nD Cert.FcRefIdeal.τ).loc Cert.FcRefIdeal.main_arg8) = m ((c.tc : Thread Cert.FcIdeal.nD Cert.FcIdeal.τ).loc Cert.FcIdeal.main_arg8)
      ∧ m' ((c.tc : Thread Cert.FcRefIdeal.nD Cert.FcRefIdeal.τ).loc Cert.FcRefIdeal.main_arg9) = m ((c.tc : Thread Cert.FcIdeal.nD Cert.FcIdeal.τ).loc Cert.FcIdeal.main_arg9)
      ∧ m' ((c.tc : Thread Cert.FcRefIdeal.nD Cert.FcRefIdeal.τ).loc Cert.FcRefIdeal.main_arg10) = m ((c.tc : Thread Cert.FcIdeal.nD Cert.FcIdeal.τ).loc Cert.FcIdeal.main_arg10)) →
    ∃ (v0 : (c : Dev Cert.FcIdeal.nD) → Buf (Elt Ideal) ((c.tc : Thread Cert.FcIdeal.nD Cert.FcIdeal.τ).loc Cert.FcIdeal.main_v8)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v8) = v0 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
          ∧ r.2.mem ((c.tc : Thread Cert.FcIdeal.nD Cert.FcIdeal.τ).loc Cert.FcIdeal.main_arg4) = m ((c.tc : Thread Cert.FcIdeal.nD Cert.FcIdeal.τ).loc Cert.FcIdeal.main_arg4)
          ∧ r.2.mem ((c.tc : Thread Cert.FcIdeal.nD Cert.FcIdeal.τ).loc Cert.FcIdeal.main_arg5) = m ((c.tc : Thread Cert.FcIdeal.nD Cert.FcIdeal.τ).loc Cert.FcIdeal.main_arg5)
          ∧ r.2.mem ((c.tc : Thread Cert.FcIdeal.nD Cert.FcIdeal.τ).loc Cert.FcIdeal.main_arg6) = m ((c.tc : Thread Cert.FcIdeal.nD Cert.FcIdeal.τ).loc Cert.FcIdeal.main_arg6)
          ∧ r.2.mem ((c.tc : Thread Cert.FcIdeal.nD Cert.FcIdeal.τ).loc Cert.FcIdeal.main_arg7) = m ((c.tc : Thread Cert.FcIdeal.nD Cert.FcIdeal.τ).loc Cert.FcIdeal.main_arg7)
          ∧ r.2.mem ((c.tc : Thread Cert.FcIdeal.nD Cert.FcIdeal.τ).loc Cert.FcIdeal.main_arg8) = m ((c.tc : Thread Cert.FcIdeal.nD Cert.FcIdeal.τ).loc Cert.FcIdeal.main_arg8)
          ∧ r.2.mem ((c.tc : Thread Cert.FcIdeal.nD Cert.FcIdeal.τ).loc Cert.FcIdeal.main_arg9) = m ((c.tc : Thread Cert.FcIdeal.nD Cert.FcIdeal.τ).loc Cert.FcIdeal.main_arg9)
          ∧ r.2.mem ((c.tc : Thread Cert.FcIdeal.nD Cert.FcIdeal.τ).loc Cert.FcIdeal.main_arg10) = m ((c.tc : Thread Cert.FcIdeal.nD Cert.FcIdeal.τ).loc Cert.FcIdeal.main_arg10))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v29) = v0 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2)
          ∧ r.2.mem ((c.tc : Thread Cert.FcRefIdeal.nD Cert.FcRefIdeal.τ).loc Cert.FcRefIdeal.main_arg3) = m' ((c.tc : Thread Cert.FcRefIdeal.nD Cert.FcRefIdeal.τ).loc Cert.FcRefIdeal.main_arg3)
          ∧ r.2.mem ((c.tc : Thread Cert.FcRefIdeal.nD Cert.FcRefIdeal.τ).loc Cert.FcRefIdeal.main_arg4) = m' ((c.tc : Thread Cert.FcRefIdeal.nD Cert.FcRefIdeal.τ).loc Cert.FcRefIdeal.main_arg4)
          ∧ r.2.mem ((c.tc : Thread Cert.FcRefIdeal.nD Cert.FcRefIdeal.τ).loc Cert.FcRefIdeal.main_arg5) = m' ((c.tc : Thread Cert.FcRefIdeal.nD Cert.FcRefIdeal.τ).loc Cert.FcRefIdeal.main_arg5)
          ∧ r.2.mem ((c.tc : Thread Cert.FcRefIdeal.nD Cert.FcRefIdeal.τ).loc Cert.FcRefIdeal.main_arg6) = m' ((c.tc : Thread Cert.FcRefIdeal.nD Cert.FcRefIdeal.τ).loc Cert.FcRefIdeal.main_arg6)
          ∧ r.2.mem ((c.tc : Thread Cert.FcRefIdeal.nD Cert.FcRefIdeal.τ).loc Cert.FcRefIdeal.main_arg7) = m' ((c.tc : Thread Cert.FcRefIdeal.nD Cert.FcRefIdeal.τ).loc Cert.FcRefIdeal.main_arg7)
          ∧ r.2.mem ((c.tc : Thread Cert.FcRefIdeal.nD Cert.FcRefIdeal.τ).loc Cert.FcRefIdeal.main_arg8) = m' ((c.tc : Thread Cert.FcRefIdeal.nD Cert.FcRefIdeal.τ).loc Cert.FcRefIdeal.main_arg8)
          ∧ r.2.mem ((c.tc : Thread Cert.FcRefIdeal.nD Cert.FcRefIdeal.τ).loc Cert.FcRefIdeal.main_arg9) = m' ((c.tc : Thread Cert.FcRefIdeal.nD Cert.FcRefIdeal.τ).loc Cert.FcRefIdeal.main_arg9)
          ∧ r.2.mem ((c.tc : Thread Cert.FcRefIdeal.nD Cert.FcRefIdeal.τ).loc Cert.FcRefIdeal.main_arg10) = m' ((c.tc : Thread Cert.FcRefIdeal.nD Cert.FcRefIdeal.τ).loc Cert.FcRefIdeal.main_arg10))

def preserves_Cube_CubeIdeal : Prop :=
  IdealRules.named_const.Statement Cert.CubeIdeal.κ "quarter_pi" .f32 0x3F490FDB#32 ((Real.pi * (1 / 4) : ℝ) : EReal)
  ∧ IdealRules.named_const.Statement Cert.CubeIdeal.κ "half_pi" .f32 0x3FC90FDB#32 ((Real.pi * (1 / 2) : ℝ) : EReal)

def algebraic_CubeIdeal_CubeRefIdeal_pre_latents_and_pixels [hCubeIdeal : Cert.CubeIdeal.Facts] [hCubeRefIdeal : Cert.CubeRefIdeal.Facts] [hPre_latents_and_pixels : Cert.Pre_latents_and_pixels.Facts] : Prop :=
  ∀ (m : (ℓ : Loc Cert.CubeIdeal.nD Cert.CubeIdeal.τ Cert.CubeIdeal.sig) → Buf (Elt Ideal) ℓ) (g : Dev Cert.CubeIdeal.nD → PrngReg)
    (m' : (ℓ : Loc Cert.CubeRefIdeal.nD Cert.CubeRefIdeal.τ Cert.CubeRefIdeal.sig) → Buf (Elt Ideal) ℓ) (g' : Dev Cert.CubeRefIdeal.nD → PrngReg), Pre_CubeIdeal_latents_and_pixels m →
    (∀ c : Dev Cert.CubeIdeal.nD,
      m' ((c.tc : Thread Cert.CubeRefIdeal.nD Cert.CubeRefIdeal.τ).loc Cert.CubeRefIdeal.main_arg0) = m ((c.tc : Thread Cert.CubeIdeal.nD Cert.CubeIdeal.τ).loc Cert.CubeIdeal.main_arg0)
      ∧ m' ((c.tc : Thread Cert.CubeRefIdeal.nD Cert.CubeRefIdeal.τ).loc Cert.CubeRefIdeal.main_arg1) = m ((c.tc : Thread Cert.CubeIdeal.nD Cert.CubeIdeal.τ).loc Cert.CubeIdeal.main_arg1)
      ∧ m' ((c.tc : Thread Cert.CubeRefIdeal.nD Cert.CubeRefIdeal.τ).loc Cert.CubeRefIdeal.main_arg2) = m ((c.tc : Thread Cert.CubeIdeal.nD Cert.CubeIdeal.τ).loc Cert.CubeIdeal.main_arg2)) →
    ∃ (v0 : (c : Dev Cert.CubeIdeal.nD) → Buf (Elt Ideal) ((c.tc : Thread Cert.CubeIdeal.nD Cert.CubeIdeal.τ).loc Cert.CubeIdeal.main_v31_0)) (v1 : (c : Dev Cert.CubeIdeal.nD) → Buf (Elt Ideal) ((c.tc : Thread Cert.CubeIdeal.nD Cert.CubeIdeal.τ).loc Cert.CubeIdeal.main_v31_1)),
      θ_run (Cert.CubeIdeal.defs (F := Ideal)) (onTc (τ := Cert.CubeIdeal.τ) (Cert.CubeIdeal.main (F := Ideal))) ⟨m, fun _ => 0, g⟩ (fun r => ∀ c : Dev Cert.CubeIdeal.nD,
          r.2.mem ((c.tc : Thread Cert.CubeIdeal.nD Cert.CubeIdeal.τ).loc Cert.CubeIdeal.main_v31_0) = v0 c
          ∧ r.2.mem ((c.tc : Thread Cert.CubeIdeal.nD Cert.CubeIdeal.τ).loc Cert.CubeIdeal.main_v31_1) = v1 c
          ∧ r.2.mem ((c.tc : Thread Cert.CubeIdeal.nD Cert.CubeIdeal.τ).loc Cert.CubeIdeal.main_arg0) = m ((c.tc : Thread Cert.CubeIdeal.nD Cert.CubeIdeal.τ).loc Cert.CubeIdeal.main_arg0)
          ∧ r.2.mem ((c.tc : Thread Cert.CubeIdeal.nD Cert.CubeIdeal.τ).loc Cert.CubeIdeal.main_arg1) = m ((c.tc : Thread Cert.CubeIdeal.nD Cert.CubeIdeal.τ).loc Cert.CubeIdeal.main_arg1)
          ∧ r.2.mem ((c.tc : Thread Cert.CubeIdeal.nD Cert.CubeIdeal.τ).loc Cert.CubeIdeal.main_arg2) = m ((c.tc : Thread Cert.CubeIdeal.nD Cert.CubeIdeal.τ).loc Cert.CubeIdeal.main_arg2))
      ∧ θ_run (Cert.CubeRefIdeal.defs (F := Ideal)) (onTc (τ := Cert.CubeRefIdeal.τ) (Cert.CubeRefIdeal.main (F := Ideal))) ⟨m', fun _ => 0, g'⟩ (fun r => ∀ c : Dev Cert.CubeRefIdeal.nD,
          r.2.mem ((c.tc : Thread Cert.CubeRefIdeal.nD Cert.CubeRefIdeal.τ).loc Cert.CubeRefIdeal.main_v140) = v0 c
          ∧ r.2.mem ((c.tc : Thread Cert.CubeRefIdeal.nD Cert.CubeRefIdeal.τ).loc Cert.CubeRefIdeal.main_v141) = v1 c
          ∧ r.2.mem ((c.tc : Thread Cert.CubeRefIdeal.nD Cert.CubeRefIdeal.τ).loc Cert.CubeRefIdeal.main_arg0) = m' ((c.tc : Thread Cert.CubeRefIdeal.nD Cert.CubeRefIdeal.τ).loc Cert.CubeRefIdeal.main_arg0)
          ∧ r.2.mem ((c.tc : Thread Cert.CubeRefIdeal.nD Cert.CubeRefIdeal.τ).loc Cert.CubeRefIdeal.main_arg1) = m' ((c.tc : Thread Cert.CubeRefIdeal.nD Cert.CubeRefIdeal.τ).loc Cert.CubeRefIdeal.main_arg1)
          ∧ r.2.mem ((c.tc : Thread Cert.CubeRefIdeal.nD Cert.CubeRefIdeal.τ).loc Cert.CubeRefIdeal.main_arg2) = m' ((c.tc : Thread Cert.CubeRefIdeal.nD Cert.CubeRefIdeal.τ).loc Cert.CubeRefIdeal.main_arg2))

def preserves_Whole_WholeIdeal : Prop :=
  IdealRules.named_const.Statement Cert.WholeIdeal.κ "quarter_pi" .f32 0x3F490FDB#32 ((Real.pi * (1 / 4) : ℝ) : EReal)
  ∧ IdealRules.named_const.Statement Cert.WholeIdeal.κ "half_pi" .f32 0x3FC90FDB#32 ((Real.pi * (1 / 2) : ℝ) : EReal)

def algebraic_WholeIdeal_WholeRefIdeal_pre_pixels [hWholeIdeal : Cert.WholeIdeal.Facts] [hWholeRefIdeal : Cert.WholeRefIdeal.Facts] [hPre_pixels : Cert.Pre_pixels.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal_pixels m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)
      ∧ m' ((c.tc : Thread Cert.WholeRefIdeal.nD Cert.WholeRefIdeal.τ).loc Cert.WholeRefIdeal.main_arg3) = m ((c.tc : Thread Cert.WholeIdeal.nD Cert.WholeIdeal.τ).loc Cert.WholeIdeal.main_arg3)
      ∧ m' ((c.tc : Thread Cert.WholeRefIdeal.nD Cert.WholeRefIdeal.τ).loc Cert.WholeRefIdeal.main_arg4) = m ((c.tc : Thread Cert.WholeIdeal.nD Cert.WholeIdeal.τ).loc Cert.WholeIdeal.main_arg4)
      ∧ m' ((c.tc : Thread Cert.WholeRefIdeal.nD Cert.WholeRefIdeal.τ).loc Cert.WholeRefIdeal.main_arg5) = m ((c.tc : Thread Cert.WholeIdeal.nD Cert.WholeIdeal.τ).loc Cert.WholeIdeal.main_arg5)
      ∧ m' ((c.tc : Thread Cert.WholeRefIdeal.nD Cert.WholeRefIdeal.τ).loc Cert.WholeRefIdeal.main_arg6) = m ((c.tc : Thread Cert.WholeIdeal.nD Cert.WholeIdeal.τ).loc Cert.WholeIdeal.main_arg6)
      ∧ m' ((c.tc : Thread Cert.WholeRefIdeal.nD Cert.WholeRefIdeal.τ).loc Cert.WholeRefIdeal.main_arg7) = m ((c.tc : Thread Cert.WholeIdeal.nD Cert.WholeIdeal.τ).loc Cert.WholeIdeal.main_arg7)
      ∧ m' ((c.tc : Thread Cert.WholeRefIdeal.nD Cert.WholeRefIdeal.τ).loc Cert.WholeRefIdeal.main_arg8) = m ((c.tc : Thread Cert.WholeIdeal.nD Cert.WholeIdeal.τ).loc Cert.WholeIdeal.main_arg8)
      ∧ m' ((c.tc : Thread Cert.WholeRefIdeal.nD Cert.WholeRefIdeal.τ).loc Cert.WholeRefIdeal.main_arg9) = m ((c.tc : Thread Cert.WholeIdeal.nD Cert.WholeIdeal.τ).loc Cert.WholeIdeal.main_arg9)
      ∧ m' ((c.tc : Thread Cert.WholeRefIdeal.nD Cert.WholeRefIdeal.τ).loc Cert.WholeRefIdeal.main_arg10) = m ((c.tc : Thread Cert.WholeIdeal.nD Cert.WholeIdeal.τ).loc Cert.WholeIdeal.main_arg10)
      ∧ m' ((c.tc : Thread Cert.WholeRefIdeal.nD Cert.WholeRefIdeal.τ).loc Cert.WholeRefIdeal.main_arg11) = m ((c.tc : Thread Cert.WholeIdeal.nD Cert.WholeIdeal.τ).loc Cert.WholeIdeal.main_arg11)
      ∧ m' ((c.tc : Thread Cert.WholeRefIdeal.nD Cert.WholeRefIdeal.τ).loc Cert.WholeRefIdeal.main_arg12) = m ((c.tc : Thread Cert.WholeIdeal.nD Cert.WholeIdeal.τ).loc Cert.WholeIdeal.main_arg12)
      ∧ m' ((c.tc : Thread Cert.WholeRefIdeal.nD Cert.WholeRefIdeal.τ).loc Cert.WholeRefIdeal.main_arg13) = m ((c.tc : Thread Cert.WholeIdeal.nD Cert.WholeIdeal.τ).loc Cert.WholeIdeal.main_arg13)
      ∧ m' ((c.tc : Thread Cert.WholeRefIdeal.nD Cert.WholeRefIdeal.τ).loc Cert.WholeRefIdeal.main_arg14) = m ((c.tc : Thread Cert.WholeIdeal.nD Cert.WholeIdeal.τ).loc Cert.WholeIdeal.main_arg14)
      ∧ m' ((c.tc : Thread Cert.WholeRefIdeal.nD Cert.WholeRefIdeal.τ).loc Cert.WholeRefIdeal.main_arg15) = m ((c.tc : Thread Cert.WholeIdeal.nD Cert.WholeIdeal.τ).loc Cert.WholeIdeal.main_arg15)
      ∧ m' ((c.tc : Thread Cert.WholeRefIdeal.nD Cert.WholeRefIdeal.τ).loc Cert.WholeRefIdeal.main_arg16) = m ((c.tc : Thread Cert.WholeIdeal.nD Cert.WholeIdeal.τ).loc Cert.WholeIdeal.main_arg16)
      ∧ m' ((c.tc : Thread Cert.WholeRefIdeal.nD Cert.WholeRefIdeal.τ).loc Cert.WholeRefIdeal.main_arg17) = m ((c.tc : Thread Cert.WholeIdeal.nD Cert.WholeIdeal.τ).loc Cert.WholeIdeal.main_arg17)
      ∧ m' ((c.tc : Thread Cert.WholeRefIdeal.nD Cert.WholeRefIdeal.τ).loc Cert.WholeRefIdeal.main_arg18) = m ((c.tc : Thread Cert.WholeIdeal.nD Cert.WholeIdeal.τ).loc Cert.WholeIdeal.main_arg18)) →
    ∃ (v0 : (c : Dev Cert.WholeIdeal.nD) → Buf (Elt Ideal) ((c.tc : Thread Cert.WholeIdeal.nD Cert.WholeIdeal.τ).loc Cert.WholeIdeal.main_v53)) (v1 : (c : Dev Cert.WholeIdeal.nD) → Buf (Elt Ideal) ((c.tc : Thread Cert.WholeIdeal.nD Cert.WholeIdeal.τ).loc Cert.WholeIdeal.main_v54)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v53) = v0 c
          ∧ r.2.mem ((c.tc : Thread Cert.WholeIdeal.nD Cert.WholeIdeal.τ).loc Cert.WholeIdeal.main_v54) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
          ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
          ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
          ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
          ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
          ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
          ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
          ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
          ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
          ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17)
          ∧ r.2.mem ((c.tc : Thread Cert.WholeIdeal.nD Cert.WholeIdeal.τ).loc Cert.WholeIdeal.main_arg18) = m ((c.tc : Thread Cert.WholeIdeal.nD Cert.WholeIdeal.τ).loc Cert.WholeIdeal.main_arg18))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v326) = v0 c
          ∧ r.2.mem ((c.tc : Thread Cert.WholeRefIdeal.nD Cert.WholeRefIdeal.τ).loc Cert.WholeRefIdeal.main_v310) = v1 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2)
          ∧ r.2.mem ((c.tc : Thread Cert.WholeRefIdeal.nD Cert.WholeRefIdeal.τ).loc Cert.WholeRefIdeal.main_arg3) = m' ((c.tc : Thread Cert.WholeRefIdeal.nD Cert.WholeRefIdeal.τ).loc Cert.WholeRefIdeal.main_arg3)
          ∧ r.2.mem ((c.tc : Thread Cert.WholeRefIdeal.nD Cert.WholeRefIdeal.τ).loc Cert.WholeRefIdeal.main_arg4) = m' ((c.tc : Thread Cert.WholeRefIdeal.nD Cert.WholeRefIdeal.τ).loc Cert.WholeRefIdeal.main_arg4)
          ∧ r.2.mem ((c.tc : Thread Cert.WholeRefIdeal.nD Cert.WholeRefIdeal.τ).loc Cert.WholeRefIdeal.main_arg5) = m' ((c.tc : Thread Cert.WholeRefIdeal.nD Cert.WholeRefIdeal.τ).loc Cert.WholeRefIdeal.main_arg5)
          ∧ r.2.mem ((c.tc : Thread Cert.WholeRefIdeal.nD Cert.WholeRefIdeal.τ).loc Cert.WholeRefIdeal.main_arg6) = m' ((c.tc : Thread Cert.WholeRefIdeal.nD Cert.WholeRefIdeal.τ).loc Cert.WholeRefIdeal.main_arg6)
          ∧ r.2.mem ((c.tc : Thread Cert.WholeRefIdeal.nD Cert.WholeRefIdeal.τ).loc Cert.WholeRefIdeal.main_arg7) = m' ((c.tc : Thread Cert.WholeRefIdeal.nD Cert.WholeRefIdeal.τ).loc Cert.WholeRefIdeal.main_arg7)
          ∧ r.2.mem ((c.tc : Thread Cert.WholeRefIdeal.nD Cert.WholeRefIdeal.τ).loc Cert.WholeRefIdeal.main_arg8) = m' ((c.tc : Thread Cert.WholeRefIdeal.nD Cert.WholeRefIdeal.τ).loc Cert.WholeRefIdeal.main_arg8)
          ∧ r.2.mem ((c.tc : Thread Cert.WholeRefIdeal.nD Cert.WholeRefIdeal.τ).loc Cert.WholeRefIdeal.main_arg9) = m' ((c.tc : Thread Cert.WholeRefIdeal.nD Cert.WholeRefIdeal.τ).loc Cert.WholeRefIdeal.main_arg9)
          ∧ r.2.mem ((c.tc : Thread Cert.WholeRefIdeal.nD Cert.WholeRefIdeal.τ).loc Cert.WholeRefIdeal.main_arg10) = m' ((c.tc : Thread Cert.WholeRefIdeal.nD Cert.WholeRefIdeal.τ).loc Cert.WholeRefIdeal.main_arg10)
          ∧ r.2.mem ((c.tc : Thread Cert.WholeRefIdeal.nD Cert.WholeRefIdeal.τ).loc Cert.WholeRefIdeal.main_arg11) = m' ((c.tc : Thread Cert.WholeRefIdeal.nD Cert.WholeRefIdeal.τ).loc Cert.WholeRefIdeal.main_arg11)
          ∧ r.2.mem ((c.tc : Thread Cert.WholeRefIdeal.nD Cert.WholeRefIdeal.τ).loc Cert.WholeRefIdeal.main_arg12) = m' ((c.tc : Thread Cert.WholeRefIdeal.nD Cert.WholeRefIdeal.τ).loc Cert.WholeRefIdeal.main_arg12)
          ∧ r.2.mem ((c.tc : Thread Cert.WholeRefIdeal.nD Cert.WholeRefIdeal.τ).loc Cert.WholeRefIdeal.main_arg13) = m' ((c.tc : Thread Cert.WholeRefIdeal.nD Cert.WholeRefIdeal.τ).loc Cert.WholeRefIdeal.main_arg13)
          ∧ r.2.mem ((c.tc : Thread Cert.WholeRefIdeal.nD Cert.WholeRefIdeal.τ).loc Cert.WholeRefIdeal.main_arg14) = m' ((c.tc : Thread Cert.WholeRefIdeal.nD Cert.WholeRefIdeal.τ).loc Cert.WholeRefIdeal.main_arg14)
          ∧ r.2.mem ((c.tc : Thread Cert.WholeRefIdeal.nD Cert.WholeRefIdeal.τ).loc Cert.WholeRefIdeal.main_arg15) = m' ((c.tc : Thread Cert.WholeRefIdeal.nD Cert.WholeRefIdeal.τ).loc Cert.WholeRefIdeal.main_arg15)
          ∧ r.2.mem ((c.tc : Thread Cert.WholeRefIdeal.nD Cert.WholeRefIdeal.τ).loc Cert.WholeRefIdeal.main_arg16) = m' ((c.tc : Thread Cert.WholeRefIdeal.nD Cert.WholeRefIdeal.τ).loc Cert.WholeRefIdeal.main_arg16)
          ∧ r.2.mem ((c.tc : Thread Cert.WholeRefIdeal.nD Cert.WholeRefIdeal.τ).loc Cert.WholeRefIdeal.main_arg17) = m' ((c.tc : Thread Cert.WholeRefIdeal.nD Cert.WholeRefIdeal.τ).loc Cert.WholeRefIdeal.main_arg17)
          ∧ r.2.mem ((c.tc : Thread Cert.WholeRefIdeal.nD Cert.WholeRefIdeal.τ).loc Cert.WholeRefIdeal.main_arg18) = m' ((c.tc : Thread Cert.WholeRefIdeal.nD Cert.WholeRefIdeal.τ).loc Cert.WholeRefIdeal.main_arg18))

def Claim : Prop :=
  ∃ (hEnc : Cert.Enc.Facts) (hEncIdeal : Cert.EncIdeal.Facts) (hEncRefIdeal : Cert.EncRefIdeal.Facts) (hFc : Cert.Fc.Facts) (hFcIdeal : Cert.FcIdeal.Facts) (hFcRefIdeal : Cert.FcRefIdeal.Facts) (hCube : Cert.Cube.Facts) (hCubeIdeal : Cert.CubeIdeal.Facts) (hCubeRefIdeal : Cert.CubeRefIdeal.Facts) (hWhole : Cert.Whole.Facts) (hWholeIdeal : Cert.WholeIdeal.Facts) (hWholeRefIdeal : Cert.WholeRefIdeal.Facts) (hPre_latents_and_pixels : Cert.Pre_latents_and_pixels.Facts) (hPre_pixels : Cert.Pre_pixels.Facts),
    quiescent_Enc (hEnc := hEnc)
    ∧ quiescent_EncIdeal (hEncIdeal := hEncIdeal)
    ∧ quiescent_EncRefIdeal (hEncRefIdeal := hEncRefIdeal)
    ∧ quiescent_Fc (hFc := hFc)
    ∧ quiescent_FcIdeal (hFcIdeal := hFcIdeal)
    ∧ quiescent_FcRefIdeal (hFcRefIdeal := hFcRefIdeal)
    ∧ quiescent_Cube (hCube := hCube)
    ∧ quiescent_CubeIdeal (hCubeIdeal := hCubeIdeal)
    ∧ quiescent_CubeIdeal_pre_latents_and_pixels (hCubeIdeal := hCubeIdeal) (hPre_latents_and_pixels := hPre_latents_and_pixels)
    ∧ quiescent_CubeRefIdeal (hCubeRefIdeal := hCubeRefIdeal)
    ∧ quiescent_CubeRefIdeal_pre_latents_and_pixels (hCubeRefIdeal := hCubeRefIdeal) (hPre_latents_and_pixels := hPre_latents_and_pixels)
    ∧ quiescent_Whole (hWhole := hWhole)
    ∧ quiescent_WholeIdeal (hWholeIdeal := hWholeIdeal)
    ∧ quiescent_WholeIdeal_pre_pixels (hWholeIdeal := hWholeIdeal) (hPre_pixels := hPre_pixels)
    ∧ quiescent_WholeRefIdeal (hWholeRefIdeal := hWholeRefIdeal)
    ∧ quiescent_WholeRefIdeal_pre_pixels (hWholeRefIdeal := hWholeRefIdeal) (hPre_pixels := hPre_pixels)
    ∧ preserves_Enc_EncIdeal
    ∧ algebraic_EncIdeal_EncRefIdeal (hEncIdeal := hEncIdeal) (hEncRefIdeal := hEncRefIdeal)
    ∧ preserves_Fc_FcIdeal
    ∧ algebraic_FcIdeal_FcRefIdeal (hFcIdeal := hFcIdeal) (hFcRefIdeal := hFcRefIdeal)
    ∧ preserves_Cube_CubeIdeal
    ∧ algebraic_CubeIdeal_CubeRefIdeal_pre_latents_and_pixels (hCubeIdeal := hCubeIdeal) (hCubeRefIdeal := hCubeRefIdeal) (hPre_latents_and_pixels := hPre_latents_and_pixels)
    ∧ preserves_Whole_WholeIdeal
    ∧ algebraic_WholeIdeal_WholeRefIdeal_pre_pixels (hWholeIdeal := hWholeIdeal) (hWholeRefIdeal := hWholeRefIdeal) (hPre_pixels := hPre_pixels)
-- ==== Pre_latents_and_pixels.lean ====
abbrev S64x6 : Shape := ⟨2, ![64, 6]⟩
abbrev S64x64 : Shape := ⟨2, ![64, 64]⟩
abbrev S_ : Shape := ⟨0, ![]⟩
abbrev S64x6x1x1 : Shape := ⟨4, ![64, 6, 1, 1]⟩
abbrev S1x1x64x64 : Shape := ⟨4, ![1, 1, 64, 64]⟩
abbrev S64x6x64x64 : Shape := ⟨4, ![64, 6, 64, 64]⟩

class Facts : Prop where
  bcast_S_S64x64 : S_.BroadcastsInDim S64x64 (![] : Fin 0 → Fin S64x64.rank)
  bcast_S_S64x6 : S_.BroadcastsInDim S64x6 (![] : Fin 0 → Fin S64x6.rank)
  bcast_S64x6_S64x6x1x1_0_1 : S64x6.BroadcastsInDim S64x6x1x1 (![0, 1] : Fin 2 → Fin S64x6x1x1.rank)
  bcast_S64x64_S1x1x64x64_2_3 : S64x64.BroadcastsInDim S1x1x64x64 (![2, 3] : Fin 2 → Fin S1x1x64x64.rank)
  bcast_S64x6x1x1_S64x6x64x64_0_1_2_3 : S64x6x1x1.BroadcastsInDim S64x6x64x64 (![0, 1, 2, 3] : Fin 4 → Fin S64x6x64x64.rank)
  bcast_S1x1x64x64_S64x6x64x64_0_1_2_3 : S1x1x64x64.BroadcastsInDim S64x6x64x64 (![0, 1, 2, 3] : Fin 4 → Fin S64x6x64x64.rank)

variable [Facts]

def fn_part1 {F : FTy → Type} [FloatOps F] (main_v18 : IVec S64x6x64x64 1) (main_v19 : IVec S64x6x64x64 1) : IVec S64x6x64x64 1 :=
  let main_v20 : IVec S64x6x64x64 1 := andi main_v18 main_v19
  main_v20

def fn {F : FTy → Type} [FloatOps F] (main_arg0 : FVec F S64x6 .f32) (main_arg1 : FVec F S64x64 .f32) (main_arg2 : FVec F S64x64 .f32) : IVec S64x6x64x64 1 :=
  let main_v0 : FVec F S64x64 .f32 := Host.absf main_arg1
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_v3 : FVec F S64x64 .f32 := Host.absf main_arg2
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : IVec S64x64 1 := andi main_v2 main_v5
  let main_v7 : FVec F S64x64 .f32 := Host.absf main_arg1
  let main_v8 : FVec F S64x64 .f32 := Host.absf main_arg2
  let main_v9 : FVec F S64x64 .f32 := addf main_v7 main_v8
  let main_cst_1 : FVec F S_ .f32 := constant S_ .f32 0x00000000#32
  let main_v10 : FVec F S64x64 .f32 := broadcastInDim S64x64 ![] bcast_S_S64x64 main_cst_1
  let main_v11 : IVec S64x64 1 := cmpf .ogt main_v9 main_v10
  let main_v12 : IVec S64x64 1 := andi main_v6 main_v11
  let main_v13 : FVec F S64x6 .f32 := Host.absf main_arg0
  let main_cst_2 : FVec F S_ .f32 := constant S_ .f32 0x3F800000#32
  let main_v14 : FVec F S64x6 .f32 := broadcastInDim S64x6 ![] bcast_S_S64x6 main_cst_2
  let main_v15 : IVec S64x6 1 := cmpf .ole main_v13 main_v14
  let main_v16 : IVec S64x6x1x1 1 := broadcastInDim S64x6x1x1 ![0, 1] bcast_S64x6_S64x6x1x1_0_1 main_v15
  let main_v17 : IVec S1x1x64x64 1 := broadcastInDim S1x1x64x64 ![2, 3] bcast_S64x64_S1x1x64x64_2_3 main_v12
  let main_v18 : IVec S64x6x64x64 1 := broadcastInDim S64x6x64x64 ![0, 1, 2, 3] bcast_S64x6x1x1_S64x6x64x64_0_1_2_3 main_v16
  let main_v19 : IVec S64x6x64x64 1 := broadcastInDim S64x6x64x64 ![0, 1, 2, 3] bcast_S1x1x64x64_S64x6x64x64_0_1_2_3 main_v17
  fn_part1 (F := F) main_v18 main_v19
-- ==== Pre_pixels.lean ====
abbrev S64x120x64x64 : Shape := ⟨4, ![64, 120, 64, 64]⟩
abbrev S64x64 : Shape := ⟨2, ![64, 64]⟩
abbrev S32x120x3x3 : Shape := ⟨4, ![32, 120, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S2048x8192 : Shape := ⟨2, ![2048, 8192]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S6x256 : Shape := ⟨2, ![6, 256]⟩
abbrev S6 : Shape := ⟨1, ![6]⟩
abbrev S_ : Shape := ⟨0, ![]⟩

class Facts : Prop where
  bcast_S_S64x64 : S_.BroadcastsInDim S64x64 (![] : Fin 0 → Fin S64x64.rank)

variable [Facts]

def fn {F : FTy → Type} [FloatOps F] (main_arg0 : FVec F S64x120x64x64 .f32) (main_arg1 : FVec F S64x64 .f32) (main_arg2 : FVec F S64x64 .f32) (main_arg3 : FVec F S32x120x3x3 .f32) (main_arg4 : FVec F S32 .f32) (main_arg5 : FVec F S64x32x3x3 .f32) (main_arg6 : FVec F S64 .f32) (main_arg7 : FVec F S128x64x3x3 .f32) (main_arg8 : FVec F S128 .f32) (main_arg9 : FVec F S2048x8192 .f32) (main_arg10 : FVec F S2048 .f32) (main_arg11 : FVec F S1024x2048 .f32) (main_arg12 : FVec F S1024 .f32) (main_arg13 : FVec F S512x1024 .f32) (main_arg14 : FVec F S512 .f32) (main_arg15 : FVec F S256x512 .f32) (main_arg16 : FVec F S256 .f32) (main_arg17 : FVec F S6x256 .f32) (main_arg18 : FVec F S6 .f32) : IVec S64x64 1 :=
  let main_v0 : FVec F S64x64 .f32 := Host.absf main_arg1
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_v3 : FVec F S64x64 .f32 := Host.absf main_arg2
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : IVec S64x64 1 := andi main_v2 main_v5
  let main_v7 : FVec F S64x64 .f32 := Host.absf main_arg1
  let main_v8 : FVec F S64x64 .f32 := Host.absf main_arg2
  let main_v9 : FVec F S64x64 .f32 := addf main_v7 main_v8
  let main_cst_1 : FVec F S_ .f32 := constant S_ .f32 0x00000000#32
  let main_v10 : FVec F S64x64 .f32 := broadcastInDim S64x64 ![] bcast_S_S64x64 main_cst_1
  let main_v11 : IVec S64x64 1 := cmpf .ogt main_v9 main_v10
  let main_v12 : IVec S64x64 1 := andi main_v6 main_v11
  main_v12
-- ==== Enc.lean ====
abbrev S64x120x64x64 : Shape := ⟨4, ![64, 120, 64, 64]⟩
abbrev S32x120x3x3 : Shape := ⟨4, ![32, 120, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S64x120x4096 : Shape := ⟨3, ![64, 120, 4096]⟩
abbrev S120x3x3x32 : Shape := ⟨4, ![120, 3, 3, 32]⟩
abbrev S120x288 : Shape := ⟨2, ![120, 288]⟩
abbrev S32x3x3x64 : Shape := ⟨4, ![32, 3, 3, 64]⟩
abbrev S32x576 : Shape := ⟨2, ![32, 576]⟩
abbrev S64x3x3x128 : Shape := ⟨4, ![64, 3, 3, 128]⟩
abbrev S64x1152 : Shape := ⟨2, ![64, 1152]⟩
abbrev S1x32 : Shape := ⟨2, ![1, 32]⟩
abbrev S1x64 : Shape := ⟨2, ![1, 64]⟩
abbrev S1x128 : Shape := ⟨2, ![1, 128]⟩
abbrev S64x128x64 : Shape := ⟨3, ![64, 128, 64]⟩
abbrev S1x120x4096 : Shape := ⟨3, ![1, 120, 4096]⟩
abbrev S1x128x64 : Shape := ⟨3, ![1, 128, 64]⟩
abbrev S4240x288 : Shape := ⟨2, ![4240, 288]⟩
abbrev S1104x576 : Shape := ⟨2, ![1104, 576]⟩
abbrev S304x1152 : Shape := ⟨2, ![304, 1152]⟩
abbrev S120x4096 : Shape := ⟨2, ![120, 4096]⟩
abbrev S4096x288 : Shape := ⟨2, ![4096, 288]⟩
abbrev S72x288 : Shape := ⟨2, ![72, 288]⟩
abbrev S4096x32 : Shape := ⟨2, ![4096, 32]⟩
abbrev S2048x2x32 : Shape := ⟨3, ![2048, 2, 32]⟩
abbrev S2048x1x32 : Shape := ⟨3, ![2048, 1, 32]⟩
abbrev S2048x32 : Shape := ⟨2, ![2048, 32]⟩
abbrev S32x2x32x32 : Shape := ⟨4, ![32, 2, 32, 32]⟩
abbrev S32x1x32x32 : Shape := ⟨4, ![32, 1, 32, 32]⟩
abbrev S32x32x32 : Shape := ⟨3, ![32, 32, 32]⟩
abbrev S1024x32 : Shape := ⟨2, ![1024, 32]⟩
abbrev S1024x576 : Shape := ⟨2, ![1024, 576]⟩
abbrev S40x576 : Shape := ⟨2, ![40, 576]⟩
abbrev S1024x64 : Shape := ⟨2, ![1024, 64]⟩
abbrev S512x2x64 : Shape := ⟨3, ![512, 2, 64]⟩
abbrev S512x1x64 : Shape := ⟨3, ![512, 1, 64]⟩
abbrev S512x64 : Shape := ⟨2, ![512, 64]⟩
abbrev S16x2x16x64 : Shape := ⟨4, ![16, 2, 16, 64]⟩
abbrev S16x1x16x64 : Shape := ⟨4, ![16, 1, 16, 64]⟩
abbrev S16x16x64 : Shape := ⟨3, ![16, 16, 64]⟩
abbrev S256x64 : Shape := ⟨2, ![256, 64]⟩
abbrev S256x1152 : Shape := ⟨2, ![256, 1152]⟩
abbrev S24x1152 : Shape := ⟨2, ![24, 1152]⟩
abbrev S256x128 : Shape := ⟨2, ![256, 128]⟩
abbrev S128x2x128 : Shape := ⟨3, ![128, 2, 128]⟩
abbrev S128x1x128 : Shape := ⟨3, ![128, 1, 128]⟩
abbrev S128x128 : Shape := ⟨2, ![128, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S64x128 : Shape := ⟨2, ![64, 128]⟩
abbrev S128x64 : Shape := ⟨2, ![128, 64]⟩

abbrev nBuf : Space → Nat
  | .hbm => 18
  | .vmem => 13
  | .smem => 0
  | _ => 0

abbrev bufTy : (tb : Table) → Fin (tcTables nBuf tb) → BufTy
  | .hbm, ⟨0, _⟩ => ⟨S64x120x64x64, .f32⟩
  | .hbm, ⟨1, _⟩ => ⟨S32x120x3x3, .f32⟩
  | .hbm, ⟨2, _⟩ => ⟨S32, .f32⟩
  | .hbm, ⟨3, _⟩ => ⟨S64x32x3x3, .f32⟩
  | .hbm, ⟨4, _⟩ => ⟨S64, .f32⟩
  | .hbm, ⟨5, _⟩ => ⟨S128x64x3x3, .f32⟩
  | .hbm, ⟨6, _⟩ => ⟨S128, .f32⟩
  | .hbm, ⟨7, _⟩ => ⟨S64x120x4096, .f32⟩
  | .hbm, ⟨8, _⟩ => ⟨S120x3x3x32, .f32⟩
  | .hbm, ⟨9, _⟩ => ⟨S120x288, .f32⟩
  | .hbm, ⟨10, _⟩ => ⟨S32x3x3x64, .f32⟩
  | .hbm, ⟨11, _⟩ => ⟨S32x576, .f32⟩
  | .hbm, ⟨12, _⟩ => ⟨S64x3x3x128, .f32⟩
  | .hbm, ⟨13, _⟩ => ⟨S64x1152, .f32⟩
  | .hbm, ⟨14, _⟩ => ⟨S1x32, .f32⟩
  | .hbm, ⟨15, _⟩ => ⟨S1x64, .f32⟩
  | .hbm, ⟨16, _⟩ => ⟨S1x128, .f32⟩
  | .hbm, ⟨17, _⟩ => ⟨S64x128x64, .f32⟩
  | .local _ .vmem, ⟨0, _⟩ => ⟨S1x120x4096, .f32⟩
  | .local _ .vmem, ⟨1, _⟩ => ⟨S1x120x4096, .f32⟩
  | .local _ .vmem, ⟨2, _⟩ => ⟨S120x288, .f32⟩
  | .local _ .vmem, ⟨3, _⟩ => ⟨S32x576, .f32⟩
  | .local _ .vmem, ⟨4, _⟩ => ⟨S64x1152, .f32⟩
  | .local _ .vmem, ⟨5, _⟩ => ⟨S1x32, .f32⟩
  | .local _ .vmem, ⟨6, _⟩ => ⟨S1x64, .f32⟩
  | .local _ .vmem, ⟨7, _⟩ => ⟨S1x128, .f32⟩
  | .local _ .vmem, ⟨8, _⟩ => ⟨S1x128x64, .f32⟩
  | .local _ .vmem, ⟨9, _⟩ => ⟨S1x128x64, .f32⟩
  | .local _ .vmem, ⟨10, _⟩ => ⟨S4240x288, .f32⟩
  | .local _ .vmem, ⟨11, _⟩ => ⟨S1104x576, .f32⟩
  | .local _ .vmem, ⟨12, _⟩ => ⟨S304x1152, .f32⟩
  | _, _ => ⟨S64x120x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x120x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EncRefIdeal.lean ====
abbrev S64x120x64x64 : Shape := ⟨4, ![64, 120, 64, 64]⟩
abbrev S32x120x3x3 : Shape := ⟨4, ![32, 120, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S_ : Shape := ⟨0, ![]⟩
abbrev S64x120x66x66 : Shape := ⟨4, ![64, 120, 66, 66]⟩
abbrev S32x120x1x1 : Shape := ⟨4, ![32, 120, 1, 1]⟩
abbrev S32x120 : Shape := ⟨2, ![32, 120]⟩
abbrev S64x64x64x32 : Shape := ⟨4, ![64, 64, 64, 32]⟩
abbrev S64x32x64x64 : Shape := ⟨4, ![64, 32, 64, 64]⟩
abbrev S1x32x1x1 : Shape := ⟨4, ![1, 32, 1, 1]⟩
abbrev S64x32x32x32 : Shape := ⟨4, ![64, 32, 32, 32]⟩
abbrev S64x32x34x34 : Shape := ⟨4, ![64, 32, 34, 34]⟩
abbrev S64x32x1x1 : Shape := ⟨4, ![64, 32, 1, 1]⟩
abbrev S64x32 : Shape := ⟨2, ![64, 32]⟩
abbrev S64x32x32x64 : Shape := ⟨4, ![64, 32, 32, 64]⟩
abbrev S64x64x32x32 : Shape := ⟨4, ![64, 64, 32, 32]⟩
abbrev S1x64x1x1 : Shape := ⟨4, ![1, 64, 1, 1]⟩
abbrev S64x64x16x16 : Shape := ⟨4, ![64, 64, 16, 16]⟩
abbrev S64x64x18x18 : Shape := ⟨4, ![64, 64, 18, 18]⟩
abbrev S128x64x1x1 : Shape := ⟨4, ![128, 64, 1, 1]⟩
abbrev S128x64 : Shape := ⟨2, ![128, 64]⟩
abbrev S64x16x16x128 : Shape := ⟨4, ![64, 16, 16, 128]⟩
abbrev S64x128x16x16 : Shape := ⟨4, ![64, 128, 16, 16]⟩
abbrev S1x128x1x1 : Shape := ⟨4, ![1, 128, 1, 1]⟩
abbrev S64x128x8x8 : Shape := ⟨4, ![64, 128, 8, 8]⟩
abbrev S64x128x64 : Shape := ⟨3, ![64, 128, 64]⟩

abbrev nBuf : Space → Nat
  | .hbm => 179
  | .vmem => 0
  | .smem => 0
  | _ => 0

abbrev hbmTy0_0 (i : Nat) : BufTy := match i % 128 with
  | 0 => ⟨S64x120x64x64, .f32⟩
  | 1 => ⟨S32x120x3x3, .f32⟩
  | 2 => ⟨S32, .f32⟩
  | 3 => ⟨S64x32x3x3, .f32⟩
  | 4 => ⟨S64, .f32⟩
  | 5 => ⟨S128x64x3x3, .f32⟩
  | 6 => ⟨S128, .f32⟩
  | 7 => ⟨S_, .i32⟩
  | 8 => ⟨S_, .f32⟩
  | 9 => ⟨S64x120x66x66, .f32⟩
  | 10 => ⟨S64x120x64x64, .f32⟩
  | 11 => ⟨S32x120x1x1, .f32⟩
  | 12 => ⟨S32x120, .f32⟩
  | 13 => ⟨S64x64x64x32, .f32⟩
  | 14 => ⟨S64x120x64x64, .f32⟩
  | 15 => ⟨S32x120x1x1, .f32⟩
  | 16 => ⟨S32x120, .f32⟩
  | 17 => ⟨S64x64x64x32, .f32⟩
  | 18 => ⟨S64x64x64x32, .f32⟩
  | 19 => ⟨S64x120x64x64, .f32⟩
  | 20 => ⟨S32x120x1x1, .f32⟩
  | 21 => ⟨S32x120, .f32⟩
  | 22 => ⟨S64x64x64x32, .f32⟩
  | 23 => ⟨S64x64x64x32, .f32⟩
  | 24 => ⟨S64x120x64x64, .f32⟩
  | 25 => ⟨S32x120x1x1, .f32⟩
  | 26 => ⟨S32x120, .f32⟩
  | 27 => ⟨S64x64x64x32, .f32⟩
  | 28 => ⟨S64x64x64x32, .f32⟩
  | 29 => ⟨S64x120x64x64, .f32⟩
  | 30 => ⟨S32x120x1x1, .f32⟩
  | 31 => ⟨S32x120, .f32⟩
  | 32 => ⟨S64x64x64x32, .f32⟩
  | 33 => ⟨S64x64x64x32, .f32⟩
  | 34 => ⟨S64x120x64x64, .f32⟩
  | 35 => ⟨S32x120x1x1, .f32⟩
  | 36 => ⟨S32x120, .f32⟩
  | 37 => ⟨S64x64x64x32, .f32⟩
  | 38 => ⟨S64x64x64x32, .f32⟩
  | 39 => ⟨S64x120x64x64, .f32⟩
  | 40 => ⟨S32x120x1x1, .f32⟩
  | 41 => ⟨S32x120, .f32⟩
  | 42 => ⟨S64x64x64x32, .f32⟩
  | 43 => ⟨S64x64x64x32, .f32⟩
  | 44 => ⟨S64x120x64x64, .f32⟩
  | 45 => ⟨S32x120x1x1, .f32⟩
  | 46 => ⟨S32x120, .f32⟩
  | 47 => ⟨S64x64x64x32, .f32⟩
  | 48 => ⟨S64x64x64x32, .f32⟩
  | 49 => ⟨S64x120x64x64, .f32⟩
  | 50 => ⟨S32x120x1x1, .f32⟩
  | 51 => ⟨S32x120, .f32⟩
  | 52 => ⟨S64x64x64x32, .f32⟩
  | 53 => ⟨S64x64x64x32, .f32⟩
  | 54 => ⟨S64x32x64x64, .f32⟩
  | 55 => ⟨S1x32x1x1, .f32⟩
  | 56 => ⟨S64x32x64x64, .f32⟩
  | 57 => ⟨S64x32x64x64, .f32⟩
  | 58 => ⟨S_, .f32⟩
  | 59 => ⟨S64x32x64x64, .f32⟩
  | 60 => ⟨S64x32x64x64, .f32⟩
  | 61 => ⟨S_, .f32⟩
  | 62 => ⟨S_, .f32⟩
  | 63 => ⟨S64x32x32x32, .f32⟩
  | 64 => ⟨S_, .i32⟩
  | 65 => ⟨S_, .f32⟩
  | 66 => ⟨S64x32x34x34, .f32⟩
  | 67 => ⟨S64x32x32x32, .f32⟩
  | 68 => ⟨S64x32x1x1, .f32⟩
  | 69 => ⟨S64x32, .f32⟩
  | 70 => ⟨S64x32x32x64, .f32⟩
  | 71 => ⟨S64x32x32x32, .f32⟩
  | 72 => ⟨S64x32x1x1, .f32⟩
  | 73 => ⟨S64x32, .f32⟩
  | 74 => ⟨S64x32x32x64, .f32⟩
  | 75 => ⟨S64x32x32x64, .f32⟩
  | 76 => ⟨S64x32x32x32, .f32⟩
  | 77 => ⟨S64x32x1x1, .f32⟩
  | 78 => ⟨S64x32, .f32⟩
  | 79 => ⟨S64x32x32x64, .f32⟩
  | 80 => ⟨S64x32x32x64, .f32⟩
  | 81 => ⟨S64x32x32x32, .f32⟩
  | 82 => ⟨S64x32x1x1, .f32⟩
  | 83 => ⟨S64x32, .f32⟩
  | 84 => ⟨S64x32x32x64, .f32⟩
  | 85 => ⟨S64x32x32x64, .f32⟩
  | 86 => ⟨S64x32x32x32, .f32⟩
  | 87 => ⟨S64x32x1x1, .f32⟩
  | 88 => ⟨S64x32, .f32⟩
  | 89 => ⟨S64x32x32x64, .f32⟩
  | 90 => ⟨S64x32x32x64, .f32⟩
  | 91 => ⟨S64x32x32x32, .f32⟩
  | 92 => ⟨S64x32x1x1, .f32⟩
  | 93 => ⟨S64x32, .f32⟩
  | 94 => ⟨S64x32x32x64, .f32⟩
  | 95 => ⟨S64x32x32x64, .f32⟩
  | 96 => ⟨S64x32x32x32, .f32⟩
  | 97 => ⟨S64x32x1x1, .f32⟩
  | 98 => ⟨S64x32, .f32⟩
  | 99 => ⟨S64x32x32x64, .f32⟩
  | 100 => ⟨S64x32x32x64, .f32⟩
  | 101 => ⟨S64x32x32x32, .f32⟩
  | 102 => ⟨S64x32x1x1, .f32⟩
  | 103 => ⟨S64x32, .f32⟩
  | 104 => ⟨S64x32x32x64, .f32⟩
  | 105 => ⟨S64x32x32x64, .f32⟩
  | 106 => ⟨S64x32x32x32, .f32⟩
  | 107 => ⟨S64x32x1x1, .f32⟩
  | 108 => ⟨S64x32, .f32⟩
  | 109 => ⟨S64x32x32x64, .f32⟩
  | 110 => ⟨S64x32x32x64, .f32⟩
  | 111 => ⟨S64x64x32x32, .f32⟩
  | 112 => ⟨S1x64x1x1, .f32⟩
  | 113 => ⟨S64x64x32x32, .f32⟩
  | 114 => ⟨S64x64x32x32, .f32⟩
  | 115 => ⟨S_, .f32⟩
  | 116 => ⟨S64x64x32x32, .f32⟩
  | 117 => ⟨S64x64x32x32, .f32⟩
  | 118 => ⟨S_, .f32⟩
  | 119 => ⟨S_, .f32⟩
  | 120 => ⟨S64x64x16x16, .f32⟩
  | 121 => ⟨S_, .i32⟩
  | 122 => ⟨S_, .f32⟩
  | 123 => ⟨S64x64x18x18, .f32⟩
  | 124 => ⟨S64x64x16x16, .f32⟩
  | 125 => ⟨S128x64x1x1, .f32⟩
  | 126 => ⟨S128x64, .f32⟩
  | 127 => ⟨S64x16x16x128, .f32⟩
  | _ => ⟨S64x120x64x64, .f32⟩

abbrev hbmTy0_1 (i : Nat) : BufTy := match i % 128 with
  | 0 => ⟨S64x64x16x16, .f32⟩
  | 1 => ⟨S128x64x1x1, .f32⟩
  | 2 => ⟨S128x64, .f32⟩
  | 3 => ⟨S64x16x16x128, .f32⟩
  | 4 => ⟨S64x16x16x128, .f32⟩
  | 5 => ⟨S64x64x16x16, .f32⟩
  | 6 => ⟨S128x64x1x1, .f32⟩
  | 7 => ⟨S128x64, .f32⟩
  | 8 => ⟨S64x16x16x128, .f32⟩
  | 9 => ⟨S64x16x16x128, .f32⟩
  | 10 => ⟨S64x64x16x16, .f32⟩
  | 11 => ⟨S128x64x1x1, .f32⟩
  | 12 => ⟨S128x64, .f32⟩
  | 13 => ⟨S64x16x16x128, .f32⟩
  | 14 => ⟨S64x16x16x128, .f32⟩
  | 15 => ⟨S64x64x16x16, .f32⟩
  | 16 => ⟨S128x64x1x1, .f32⟩
  | 17 => ⟨S128x64, .f32⟩
  | 18 => ⟨S64x16x16x128, .f32⟩
  | 19 => ⟨S64x16x16x128, .f32⟩
  | 20 => ⟨S64x64x16x16, .f32⟩
  | 21 => ⟨S128x64x1x1, .f32⟩
  | 22 => ⟨S128x64, .f32⟩
  | 23 => ⟨S64x16x16x128, .f32⟩
  | 24 => ⟨S64x16x16x128, .f32⟩
  | 25 => ⟨S64x64x16x16, .f32⟩
  | 26 => ⟨S128x64x1x1, .f32⟩
  | 27 => ⟨S128x64, .f32⟩
  | 28 => ⟨S64x16x16x128, .f32⟩
  | 29 => ⟨S64x16x16x128, .f32⟩
  | 30 => ⟨S64x64x16x16, .f32⟩
  | 31 => ⟨S128x64x1x1, .f32⟩
  | 32 => ⟨S128x64, .f32⟩
  | 33 => ⟨S64x16x16x128, .f32⟩
  | 34 => ⟨S64x16x16x128, .f32⟩
  | 35 => ⟨S64x64x16x16, .f32⟩
  | 36 => ⟨S128x64x1x1, .f32⟩
  | 37 => ⟨S128x64, .f32⟩
  | 38 => ⟨S64x16x16x128, .f32⟩
  | 39 => ⟨S64x16x16x128, .f32⟩
  | 40 => ⟨S64x128x16x16, .f32⟩
  | 41 => ⟨S1x128x1x1, .f32⟩
  | 42 => ⟨S64x128x16x16, .f32⟩
  | 43 => ⟨S64x128x16x16, .f32⟩
  | 44 => ⟨S_, .f32⟩
  | 45 => ⟨S64x128x16x16, .f32⟩
  | 46 => ⟨S64x128x16x16, .f32⟩
  | 47 => ⟨S_, .f32⟩
  | 48 => ⟨S_, .f32⟩
  | 49 => ⟨S64x128x8x8, .f32⟩
  | 50 => ⟨S64x128x64, .f32⟩
  | _ => ⟨S64x120x64x64, .f32⟩

abbrev hbmTy (i : Nat) : BufTy := match i / 128 with
  | 0 => hbmTy0_0 i
  | 1 => hbmTy0_1 i
  | _ => ⟨S64x120x64x64, .f32⟩

abbrev bufTy : (tb : Table) → Fin (tcTables nBuf tb) → BufTy
  | .hbm, ⟨i, _⟩ => hbmTy i
  | _, _ => ⟨S64x120x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_call1_cst : Ref sig .tc := ⟨.hbm, 58, rfl⟩
abbrev main_call1_v0 : Ref sig .tc := ⟨.hbm, 59, rfl⟩
abbrev main_v49 : Ref sig .tc := ⟨.hbm, 60, rfl⟩
abbrev main_cst : Ref sig .tc := ⟨.hbm, 61, rfl⟩
abbrev main_v50 : Ref sig .tc := ⟨.hbm, 62, rfl⟩
abbrev main_v51 : Ref sig .tc := ⟨.hbm, 63, rfl⟩
abbrev main_c_0 : Ref sig .tc := ⟨.hbm, 64, rfl⟩
abbrev main_call2_v0 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_call3_cst : Ref sig .tc := ⟨.hbm, 115, rfl⟩
abbrev main_call3_v0 : Ref sig .tc := ⟨.hbm, 116, rfl⟩
abbrev main_v101 : Ref sig .tc := ⟨.hbm, 117, rfl⟩
abbrev main_cst_1 : Ref sig .tc := ⟨.hbm, 118, rfl⟩
abbrev main_v102 : Ref sig .tc := ⟨.hbm, 119, rfl⟩
abbrev main_v103 : Ref sig .tc := ⟨.hbm, 120, rfl⟩
abbrev main_c_2 : Ref sig .tc := ⟨.hbm, 121, rfl⟩
abbrev main_call4_v0 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_call5_cst : Ref sig .tc := ⟨.hbm, 172, rfl⟩
abbrev main_call5_v0 : Ref sig .tc := ⟨.hbm, 173, rfl⟩
abbrev main_v153 : Ref sig .tc := ⟨.hbm, 174, rfl⟩
abbrev main_cst_3 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩

abbrev nD : Nat := 1
abbrev τ : Topo := Topo.v7x

variable {F : FTy → Type} [FloatOps F]
-- ==== Fc.lean ====
abbrev S64x8192 : Shape := ⟨2, ![64, 8192]⟩
abbrev S2048x8192 : Shape := ⟨2, ![2048, 8192]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S6x256 : Shape := ⟨2, ![6, 256]⟩
abbrev S6 : Shape := ⟨1, ![6]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S_ : Shape := ⟨0, ![]⟩
abbrev S128x256 : Shape := ⟨2, ![128, 256]⟩
abbrev S128 : Shape := ⟨1, ![128]⟩
abbrev S1x128 : Shape := ⟨2, ![1, 128]⟩
abbrev S64x128 : Shape := ⟨2, ![64, 128]⟩
abbrev S256x8192 : Shape := ⟨2, ![256, 8192]⟩
abbrev S64x2048 : Shape := ⟨2, ![64, 2048]⟩
abbrev S64x256 : Shape := ⟨2, ![64, 256]⟩
abbrev S64x1024 : Shape := ⟨2, ![64, 1024]⟩
abbrev S64x512 : Shape := ⟨2, ![64, 512]⟩
abbrev S64x6 : Shape := ⟨2, ![64, 6]⟩

abbrev nBuf : Space → Nat
  | .hbm => 24
  | .vmem => 15
  | .smem => 0
  | _ => 0

abbrev bufTy : (tb : Table) → Fin (tcTables nBuf tb) → BufTy
  | .hbm, ⟨0, _⟩ => ⟨S64x8192, .f32⟩
  | .hbm, ⟨1, _⟩ => ⟨S2048x8192, .f32⟩
  | .hbm, ⟨2, _⟩ => ⟨S2048, .f32⟩
  | .hbm, ⟨3, _⟩ => ⟨S1024x2048, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S6x256, .f32⟩
  | .hbm, ⟨10, _⟩ => ⟨S6, .f32⟩
  | .hbm, ⟨11, _⟩ => ⟨S1x2048, .f32⟩
  | .hbm, ⟨12, _⟩ => ⟨S1x1024, .f32⟩
  | .hbm, ⟨13, _⟩ => ⟨S1x512, .f32⟩
  | .hbm, ⟨14, _⟩ => ⟨S1x256, .f32⟩
  | .hbm, ⟨15, _⟩ => ⟨S_, .i32⟩
  | .hbm, ⟨16, _⟩ => ⟨S_, .f32⟩
  | .hbm, ⟨17, _⟩ => ⟨S128x256, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S64x128, .f32⟩
  | .hbm, ⟨23, _⟩ => ⟨S64x6, .f32⟩
  | .local _ .vmem, ⟨0, _⟩ => ⟨S64x8192, .f32⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S1024x2048, .f32⟩
  | .local _ .vmem, ⟨6, _⟩ => ⟨S1x1024, .f32⟩
  | .local _ .vmem, ⟨7, _⟩ => ⟨S512x1024, .f32⟩
  | .local _ .vmem, ⟨8, _⟩ => ⟨S1x512, .f32⟩
  | .local _ .vmem, ⟨9, _⟩ => ⟨S256x512, .f32⟩
  | .local _ .vmem, ⟨10, _⟩ => ⟨S1x256, .f32⟩
  | .local _ .vmem, ⟨11, _⟩ => ⟨S128x256, .f32⟩
  | .local _ .vmem, ⟨12, _⟩ => ⟨S1x128, .f32⟩
  | .local _ .vmem, ⟨13, _⟩ => ⟨S64x128, .f32⟩
  | .local _ .vmem, ⟨14, _⟩ => ⟨S64x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_6 : Index := 0#32
  let arg0 : BitVec 32 := BitVec.ofNat 32 (i 0).val
  let c256_i32 : BitVec 32 := 256#32
  let v9 : BitVec 32 := Scalar.muli arg0 c256_i32
  let v10 : Index := Scalar.indexCast v9
  ![0, v10.toNat]
def k0_cond1 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32 : BitVec 32 := 0#32
  let v16 : BitVec 1 := Scalar.cmpi .ne v15 c0_i32
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FcRefIdeal.lean ====
abbrev S64x8192 : Shape := ⟨2, ![64, 8192]⟩
abbrev S2048x8192 : Shape := ⟨2, ![2048, 8192]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S6x256 : Shape := ⟨2, ![6, 256]⟩
abbrev S6 : Shape := ⟨1, ![6]⟩
abbrev S8192x2048 : Shape := ⟨2, ![8192, 2048]⟩
abbrev S64x2048 : Shape := ⟨2, ![64, 2048]⟩
abbrev S1x2048 : Shape := ⟨2, ![1, 2048]⟩
abbrev S_ : Shape := ⟨0, ![]⟩
abbrev S2048x1024 : Shape := ⟨2, ![2048, 1024]⟩
abbrev S64x1024 : Shape := ⟨2, ![64, 1024]⟩
abbrev S1x1024 : Shape := ⟨2, ![1, 1024]⟩
abbrev S1024x512 : Shape := ⟨2, ![1024, 512]⟩
abbrev S64x512 : Shape := ⟨2, ![64, 512]⟩
abbrev S1x512 : Shape := ⟨2, ![1, 512]⟩
abbrev S512x256 : Shape := ⟨2, ![512, 256]⟩
abbrev S64x256 : Shape := ⟨2, ![64, 256]⟩
abbrev S1x256 : Shape := ⟨2, ![1, 256]⟩
abbrev S256x6 : Shape := ⟨2, ![256, 6]⟩
abbrev S64x6 : Shape := ⟨2, ![64, 6]⟩
abbrev S1x6 : Shape := ⟨2, ![1, 6]⟩

abbrev nBuf : Space → Nat
  | .hbm => 56
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S2048x8192, .f32⟩
  | .hbm, ⟨2, _⟩ => ⟨S2048, .f32⟩
  | .hbm, ⟨3, _⟩ => ⟨S1024x2048, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S6x256, .f32⟩
  | .hbm, ⟨10, _⟩ => ⟨S6, .f32⟩
  | .hbm, ⟨11, _⟩ => ⟨S8192x2048, .f32⟩
  | .hbm, ⟨12, _⟩ => ⟨S64x2048, .f32⟩
  | .hbm, ⟨13, _⟩ => ⟨S1x2048, .f32⟩
  | .hbm, ⟨14, _⟩ => ⟨S64x2048, .f32⟩
  | .hbm, ⟨15, _⟩ => ⟨S64x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S2048x1024, .f32⟩
  | .hbm, ⟨20, _⟩ => ⟨S64x1024, .f32⟩
  | .hbm, ⟨21, _⟩ => ⟨S1x1024, .f32⟩
  | .hbm, ⟨22, _⟩ => ⟨S64x1024, .f32⟩
  | .hbm, ⟨23, _⟩ => ⟨S64x1024, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S1024x512, .f32⟩
  | .hbm, ⟨28, _⟩ => ⟨S64x512, .f32⟩
  | .hbm, ⟨29, _⟩ => ⟨S1x512, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S512x256, .f32⟩
  | .hbm, ⟨36, _⟩ => ⟨S64x256, .f32⟩
  | .hbm, ⟨37, _⟩ => ⟨S1x256, .f32⟩
  | .hbm, ⟨38, _⟩ => ⟨S64x256, .f32⟩
  | .hbm, ⟨39, _⟩ => ⟨S64x256, .f32⟩
  | .hbm, ⟨40, _⟩ => ⟨S_, .f32⟩
  | .hbm, ⟨41, _⟩ => ⟨S64x256, .f32⟩
  | .hbm, ⟨42, _⟩ => ⟨S64x256, .f32⟩
  | .hbm, ⟨43, _⟩ => ⟨S256x6, .f32⟩
  | .hbm, ⟨44, _⟩ => ⟨S64x6, .f32⟩
  | .hbm, ⟨45, _⟩ => ⟨S1x6, .f32⟩
  | .hbm, ⟨46, _⟩ => ⟨S64x6, .f32⟩
  | .hbm, ⟨47, _⟩ => ⟨S64x6, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64x6, .f32⟩
  | .hbm, ⟨52, _⟩ => ⟨S64x6, .f32⟩
  | .hbm, ⟨53, _⟩ => ⟨S_, .f32⟩
  | .hbm, ⟨54, _⟩ => ⟨S64x6, .f32⟩
  | .hbm, ⟨55, _⟩ => ⟨S64x6, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call3_cst : Ref sig .tc := ⟨.hbm, 40, rfl⟩
abbrev main_call3_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_cst_0 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Cube.lean ====
abbrev S64x6 : Shape := ⟨2, ![64, 6]⟩
abbrev S64x64 : Shape := ⟨2, ![64, 64]⟩
abbrev S64x1 : Shape := ⟨2, ![64, 1]⟩
abbrev S64 : Shape := ⟨1, ![64]⟩
abbrev S_ : Shape := ⟨0, ![]⟩
abbrev S64x8 : Shape := ⟨2, ![64, 8]⟩
abbrev S64x1x8 : Shape := ⟨3, ![64, 1, 8]⟩
abbrev S32x128 : Shape := ⟨2, ![32, 128]⟩
abbrev S64x121x32x128 : Shape := ⟨4, ![64, 121, 32, 128]⟩
abbrev S64x32x128 : Shape := ⟨3, ![64, 32, 128]⟩
abbrev S1x1x8 : Shape := ⟨3, ![1, 1, 8]⟩
abbrev S1x121x32x128 : Shape := ⟨4, ![1, 121, 32, 128]⟩
abbrev S1x32x128 : Shape := ⟨3, ![1, 32, 128]⟩
abbrev S1x1x1 : Shape := ⟨3, ![1, 1, 1]⟩
abbrev S121x32x128 : Shape := ⟨3, ![121, 32, 128]⟩

abbrev nBuf : Space → Nat
  | .hbm => 37
  | .vmem => 8
  | .smem => 0
  | _ => 0

abbrev bufTy : (tb : Table) → Fin (tcTables nBuf tb) → BufTy
  | .hbm, ⟨0, _⟩ => ⟨S64x6, .f32⟩
  | .hbm, ⟨1, _⟩ => ⟨S64x64, .f32⟩
  | .hbm, ⟨2, _⟩ => ⟨S64x64, .f32⟩
  | .hbm, ⟨3, _⟩ => ⟨S64x1, .f32⟩
  | .hbm, ⟨4, _⟩ => ⟨S64, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x1, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S64x8, .f32⟩
  | .hbm, ⟨32, _⟩ => ⟨S64x1x8, .f32⟩
  | .hbm, ⟨33, _⟩ => ⟨S32x128, .f32⟩
  | .hbm, ⟨34, _⟩ => ⟨S32x128, .f32⟩
  | .hbm, ⟨35, _⟩ => ⟨S64x121x32x128, .f32⟩
  | .hbm, ⟨36, _⟩ => ⟨S64x32x128, .f32⟩
  | .local _ .vmem, ⟨0, _⟩ => ⟨S1x1x8, .f32⟩
  | .local _ .vmem, ⟨1, _⟩ => ⟨S1x1x8, .f32⟩
  | .local _ .vmem, ⟨2, _⟩ => ⟨S32x128, .f32⟩
  | .local _ .vmem, ⟨3, _⟩ => ⟨S32x128, .f32⟩
  | .local _ .vmem, ⟨4, _⟩ => ⟨S1x121x32x128, .f32⟩
  | .local _ .vmem, ⟨5, _⟩ => ⟨S1x121x32x128, .f32⟩
  | .local _ .vmem, ⟨6, _⟩ => ⟨S1x32x128, .f32⟩
  | .local _ .vmem, ⟨7, _⟩ => ⟨S1x32x128, .f32⟩
  | _, _ => ⟨S64x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31_0 : Ref sig .tc := ⟨.hbm, 35, rfl⟩
abbrev main_v31_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x121x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CubeIdeal.lean ====
variable {F : FTy → Type} [FloatOps F] [Named F]
def κ : String → Option EReal := fun
  | "half_pi" => some ((Real.pi * (1 / 2) : ℝ) : EReal)
  | "quarter_pi" => some ((Real.pi * (1 / 4) : ℝ) : EReal)
  | _ => none
-- ==== CubeRefIdeal.lean ====
abbrev S64x6 : Shape := ⟨2, ![64, 6]⟩
abbrev S64x64 : Shape := ⟨2, ![64, 64]⟩
abbrev S121 : Shape := ⟨1, ![121]⟩
abbrev S64x1 : Shape := ⟨2, ![64, 1]⟩
abbrev S64 : Shape := ⟨1, ![64]⟩
abbrev S1x64x64 : Shape := ⟨3, ![1, 64, 64]⟩
abbrev S64x1x1 : Shape := ⟨3, ![64, 1, 1]⟩
abbrev S64x64x64 : Shape := ⟨3, ![64, 64, 64]⟩
abbrev S_ : Shape := ⟨0, ![]⟩
abbrev S64x1x64x64 : Shape := ⟨4, ![64, 1, 64, 64]⟩
abbrev S121x1x1 : Shape := ⟨3, ![121, 1, 1]⟩
abbrev S1x121x1x1 : Shape := ⟨4, ![1, 121, 1, 1]⟩
abbrev S64x121x64x64 : Shape := ⟨4, ![64, 121, 64, 64]⟩
abbrev S64x121x32x128 : Shape := ⟨4, ![64, 121, 32, 128]⟩
abbrev S64x32x128 : Shape := ⟨3, ![64, 32, 128]⟩

abbrev nBuf : Space → Nat
  | .hbm => 179
  | .vmem => 0
  | .smem => 0
  | _ => 0

abbrev hbmTy0_0 (i : Nat) : BufTy := match i % 128 with
  | 0 => ⟨S64x6, .f32⟩
  | 1 => ⟨S64x64, .f32⟩
  | 2 => ⟨S64x64, .f32⟩
  | 3 => ⟨S121, .f32⟩
  | 4 => ⟨S64x1, .f32⟩
  | 5 => ⟨S64, .f32⟩
  | 6 => ⟨S64x1, .f32⟩
  | 7 => ⟨S64, .f32⟩
  | 8 => ⟨S64, .f32⟩
  | 9 => ⟨S64x1, .f32⟩
  | 10 => ⟨S64, .f32⟩
  | 11 => ⟨S64x1, .f32⟩
  | 12 => ⟨S64, .f32⟩
  | 13 => ⟨S64, .f32⟩
  | 14 => ⟨S64x1, .f32⟩
  | 15 => ⟨S64, .f32⟩
  | 16 => ⟨S64x1, .f32⟩
  | 17 => ⟨S64, .f32⟩
  | 18 => ⟨S64, .f32⟩
  | 19 => ⟨S1x64x64, .f32⟩
  | 20 => ⟨S64x1x1, .f32⟩
  | 21 => ⟨S64x64x64, .f32⟩
  | 22 => ⟨S64x64x64, .f32⟩
  | 23 => ⟨S64x64x64, .f32⟩
  | 24 => ⟨S64, .f32⟩
  | 25 => ⟨S1x64x64, .f32⟩
  | 26 => ⟨S64x1x1, .f32⟩
  | 27 => ⟨S64x64x64, .f32⟩
  | 28 => ⟨S64x64x64, .f32⟩
  | 29 => ⟨S64x64x64, .f32⟩
  | 30 => ⟨S64x64x64, .f32⟩
  | 31 => ⟨S64x64, .f32⟩
  | 32 => ⟨S64, .f32⟩
  | 33 => ⟨S1x64x64, .f32⟩
  | 34 => ⟨S64x1x1, .f32⟩
  | 35 => ⟨S64x64x64, .f32⟩
  | 36 => ⟨S64x64x64, .f32⟩
  | 37 => ⟨S64x64x64, .f32⟩
  | 38 => ⟨S64, .f32⟩
  | 39 => ⟨S1x64x64, .f32⟩
  | 40 => ⟨S64x1x1, .f32⟩
  | 41 => ⟨S64x64x64, .f32⟩
  | 42 => ⟨S64x64x64, .f32⟩
  | 43 => ⟨S64x64x64, .f32⟩
  | 44 => ⟨S64, .f32⟩
  | 45 => ⟨S64x1x1, .f32⟩
  | 46 => ⟨S64x64x64, .f32⟩
  | 47 => ⟨S64x64x64, .f32⟩
  | 48 => ⟨S64x64x64, .f32⟩
  | 49 => ⟨S64x64x64, .f32⟩
  | 50 => ⟨S64x64x64, .f32⟩
  | 51 => ⟨S64x64x64, .f32⟩
  | 52 => ⟨S64x64x64, .f32⟩
  | 53 => ⟨S64x64x64, .f32⟩
  | 54 => ⟨S64x1x1, .f32⟩
  | 55 => ⟨S64x64x64, .f32⟩
  | 56 => ⟨S64x64x64, .f32⟩
  | 57 => ⟨S64x64x64, .f32⟩
  | 58 => ⟨S64, .f32⟩
  | 59 => ⟨S64x1x1, .f32⟩
  | 60 => ⟨S64x64x64, .f32⟩
  | 61 => ⟨S64x64x64, .f32⟩
  | 62 => ⟨S64x1x1, .f32⟩
  | 63 => ⟨S64x64x64, .f32⟩
  | 64 => ⟨S64x64x64, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S64x64x64, .f32⟩
  | 72 => ⟨S_, .f32⟩
  | 73 => ⟨S64x64x64, .f32⟩
  | 74 => ⟨S64x64x64, .i1⟩
  | 75 => ⟨S_, .f32⟩
  | 76 => ⟨S64x64x64, .f32⟩
  | 77 => ⟨S64x64x64, .i1⟩
  | 78 => ⟨S_, .f32⟩
  | 79 => ⟨S64x64x64, .f32⟩
  | 80 => ⟨S64x64x64, .f32⟩
  | 81 => ⟨S_, .f32⟩
  | 82 => ⟨S64x64x64, .f32⟩
  | 83 => ⟨S64x64x64, .f32⟩
  | 84 => ⟨S_, .f32⟩
  | 85 => ⟨S64x64x64, .f32⟩
  | 86 => ⟨S64x64x64, .f32⟩
  | 87 => ⟨S64x64x64, .f32⟩
  | 88 => ⟨S64x64x64, .f32⟩
  | 89 => ⟨S64x64x64, .f32⟩
  | 90 => ⟨S64x64x64, .f32⟩
  | 91 => ⟨S64x64x64, .f32⟩
  | 92 => ⟨S_, .f32⟩
  | 93 => ⟨S64x64x64, .f32⟩
  | 94 => ⟨S64x64x64, .f32⟩
  | 95 => ⟨S_, .f32⟩
  | 96 => ⟨S64x64x64, .f32⟩
  | 97 => ⟨S64x64x64, .f32⟩
  | 98 => ⟨S64x64x64, .f32⟩
  | 99 => ⟨S_, .f32⟩
  | 100 => ⟨S64x64x64, .f32⟩
  | 101 => ⟨S64x64x64, .f32⟩
  | 102 => ⟨S64x64x64, .f32⟩
  | 103 => ⟨S_, .f32⟩
  | 104 => ⟨S64x64x64, .f32⟩
  | 105 => ⟨S64x64x64, .f32⟩
  | 106 => ⟨S64x64x64, .f32⟩
  | 107 => ⟨S64x64x64, .f32⟩
  | 108 => ⟨S_, .f32⟩
  | 109 => ⟨S64x64, .f32⟩
  | 110 => ⟨S64x64, .f32⟩
  | 111 => ⟨S64x64x64, .f32⟩
  | 112 => ⟨S64x64x64, .f32⟩
  | 113 => ⟨S64x64x64, .f32⟩
  | 114 => ⟨S64x64, .f32⟩
  | 115 => ⟨S64x64x64, .f32⟩
  | 116 => ⟨S64x64x64, .f32⟩
  | 117 => ⟨S64x64x64, .f32⟩
  | 118 => ⟨S64x64x64, .f32⟩
  | 119 => ⟨S_, .f32⟩
  | 120 => ⟨S64x64x64, .f32⟩
  | 121 => ⟨S64x64x64, .i1⟩
  | 122 => ⟨S64x64x64, .f32⟩
  | 123 => ⟨S64x64x64, .f32⟩
  | 124 => ⟨S64x64x64, .f32⟩
  | 125 => ⟨S_, .f32⟩
  | 126 => ⟨S64x64x64, .f32⟩
  | 127 => ⟨S64x64x64, .f32⟩
  | _ => ⟨S64x6, .f32⟩

abbrev hbmTy0_1 (i : Nat) : BufTy := match i % 128 with
  | 0 => ⟨S64x1x1, .f32⟩
  | 1 => ⟨S64x64x64, .f32⟩
  | 2 => ⟨S64x64x64, .f32⟩
  | 3 => ⟨S64x64x64, .f32⟩
  | 4 => ⟨S_, .f32⟩
  | 5 => ⟨S64x64x64, .f32⟩
  | 6 => ⟨S64x64x64, .f32⟩
  | 7 => ⟨S64x64x64, .f32⟩
  | 8 => ⟨S64x1x1, .f32⟩
  | 9 => ⟨S64x64x64, .f32⟩
  | 10 => ⟨S64x64x64, .f32⟩
  | 11 => ⟨S_, .f32⟩
  | 12 => ⟨S_, .f32⟩
  | 13 => ⟨S_, .f32⟩
  | 14 => ⟨S_, .f32⟩
  | 15 => ⟨S64x64x64, .f32⟩
  | 16 => ⟨S64x64x64, .f32⟩
  | 17 => ⟨S64x64x64, .f32⟩
  | 18 => ⟨S64x64x64, .f32⟩
  | 19 => ⟨S64, .f32⟩
  | 20 => ⟨S64x1x1, .f32⟩
  | 21 => ⟨S64x64x64, .f32⟩
  | 22 => ⟨S64x64x64, .f32⟩
  | 23 => ⟨S64x64x64, .f32⟩
  | 24 => ⟨S_, .f32⟩
  | 25 => ⟨S64x64x64, .f32⟩
  | 26 => ⟨S64x64x64, .f32⟩
  | 27 => ⟨S64x64x64, .f32⟩
  | 28 => ⟨S_, .f32⟩
  | 29 => ⟨S64x64x64, .f32⟩
  | 30 => ⟨S64x64x64, .f32⟩
  | 31 => ⟨S_, .f32⟩
  | 32 => ⟨S_, .f32⟩
  | 33 => ⟨S_, .f32⟩
  | 34 => ⟨S64x64x64, .f32⟩
  | 35 => ⟨S64x64x64, .f32⟩
  | 36 => ⟨S_, .f32⟩
  | 37 => ⟨S64x64x64, .f32⟩
  | 38 => ⟨S64x64x64, .f32⟩
  | 39 => ⟨S64x1x64x64, .f32⟩
  | 40 => ⟨S121x1x1, .f32⟩
  | 41 => ⟨S1x121x1x1, .f32⟩
  | 42 => ⟨S64x121x64x64, .f32⟩
  | 43 => ⟨S64x121x64x64, .f32⟩
  | 44 => ⟨S64x121x64x64, .i1⟩
  | 45 => ⟨S64x121x64x64, .f32⟩
  | 46 => ⟨S64x1x64x64, .f32⟩
  | 47 => ⟨S64x121x64x64, .f32⟩
  | 48 => ⟨S64x121x64x64, .f32⟩
  | 49 => ⟨S64x121x32x128, .f32⟩
  | 50 => ⟨S64x32x128, .f32⟩
  | _ => ⟨S64x6, .f32⟩

abbrev hbmTy (i : Nat) : BufTy := match i / 128 with
  | 0 => hbmTy0_0 i
  | 1 => hbmTy0_1 i
  | _ => ⟨S64x6, .f32⟩

abbrev bufTy : (tb : Table) → Fin (tcTables nBuf tb) → BufTy
  | .hbm, ⟨i, _⟩ => hbmTy i
  | _, _ => ⟨S64x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_cst : Ref sig .tc := ⟨.hbm, 65, rfl⟩
abbrev main_cst_0 : Ref sig .tc := ⟨.hbm, 66, rfl⟩
abbrev main_v62 : Ref sig .tc := ⟨.hbm, 67, rfl⟩
abbrev main_cst_1 : Ref sig .tc := ⟨.hbm, 68, rfl⟩
abbrev main_cst_2 : Ref sig .tc := ⟨.hbm, 69, rfl⟩
abbrev main_v63 : Ref sig .tc := ⟨.hbm, 70, rfl⟩
abbrev main_v64 : Ref sig .tc := ⟨.hbm, 71, rfl⟩
abbrev main_cst_3 : Ref sig .tc := ⟨.hbm, 72, rfl⟩
abbrev main_v65 : Ref sig .tc := ⟨.hbm, 73, rfl⟩
abbrev main_v66 : Ref sig .tc := ⟨.hbm, 74, rfl⟩
abbrev main_cst_4 : Ref sig .tc := ⟨.hbm, 75, rfl⟩
abbrev main_v67 : Ref sig .tc := ⟨.hbm, 76, rfl⟩
abbrev main_v68 : Ref sig .tc := ⟨.hbm, 77, rfl⟩
abbrev main_cst_5 : Ref sig .tc := ⟨.hbm, 78, rfl⟩
abbrev main_v69 : Ref sig .tc := ⟨.hbm, 79, rfl⟩
abbrev main_v70 : Ref sig .tc := ⟨.hbm, 80, rfl⟩
abbrev main_cst_6 : Ref sig .tc := ⟨.hbm, 81, rfl⟩
abbrev main_v71 : Ref sig .tc := ⟨.hbm, 82, rfl⟩
abbrev main_v72 : Ref sig .tc := ⟨.hbm, 83, rfl⟩
abbrev main_cst_7 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_8 : Ref sig .tc := ⟨.hbm, 92, rfl⟩
abbrev main_v80 : Ref sig .tc := ⟨.hbm, 93, rfl⟩
abbrev main_v81 : Ref sig .tc := ⟨.hbm, 94, rfl⟩
abbrev main_cst_9 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_10 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_11 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_12 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_v92 : Ref sig .tc := ⟨.hbm, 113, rfl⟩
abbrev main_call3_v0 : Ref sig .tc := ⟨.hbm, 114, rfl⟩
abbrev main_call3_v1 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_13 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_14 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_15 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_16 : Ref sig .tc := ⟨.hbm, 139, rfl⟩
abbrev main_cst_17 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_18 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_19 : Ref sig .tc := ⟨.hbm, 156, rfl⟩
abbrev main_v127 : Ref sig .tc := ⟨.hbm, 157, rfl⟩
abbrev main_v128 : Ref sig .tc := ⟨.hbm, 158, rfl⟩
abbrev main_cst_20 : Ref sig .tc := ⟨.hbm, 159, rfl⟩
abbrev main_cst_21 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩

abbrev nD : Nat := 1
abbrev τ : Topo := Topo.v7x

variable {F : FTy → Type} [FloatOps F]
-- ==== Whole.lean ====
abbrev S64x120x64x64 : Shape := ⟨4, ![64, 120, 64, 64]⟩
abbrev S64x64 : Shape := ⟨2, ![64, 64]⟩
abbrev S32x120x3x3 : Shape := ⟨4, ![32, 120, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S2048x8192 : Shape := ⟨2, ![2048, 8192]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S6x256 : Shape := ⟨2, ![6, 256]⟩
abbrev S6 : Shape := ⟨1, ![6]⟩
abbrev S64x120x4096 : Shape := ⟨3, ![64, 120, 4096]⟩
abbrev S120x3x3x32 : Shape := ⟨4, ![120, 3, 3, 32]⟩
abbrev S120x288 : Shape := ⟨2, ![120, 288]⟩
abbrev S32x3x3x64 : Shape := ⟨4, ![32, 3, 3, 64]⟩
abbrev S32x576 : Shape := ⟨2, ![32, 576]⟩
abbrev S64x3x3x128 : Shape := ⟨4, ![64, 3, 3, 128]⟩
abbrev S64x1152 : Shape := ⟨2, ![64, 1152]⟩
abbrev S1x32 : Shape := ⟨2, ![1, 32]⟩
abbrev S1x64 : Shape := ⟨2, ![1, 64]⟩
abbrev S1x128 : Shape := ⟨2, ![1, 128]⟩
abbrev S64x128x64 : Shape := ⟨3, ![64, 128, 64]⟩
abbrev S1x120x4096 : Shape := ⟨3, ![1, 120, 4096]⟩
abbrev S1x128x64 : Shape := ⟨3, ![1, 128, 64]⟩
abbrev S4240x288 : Shape := ⟨2, ![4240, 288]⟩
abbrev S1104x576 : Shape := ⟨2, ![1104, 576]⟩
abbrev S304x1152 : Shape := ⟨2, ![304, 1152]⟩
abbrev S120x4096 : Shape := ⟨2, ![120, 4096]⟩
abbrev S4096x288 : Shape := ⟨2, ![4096, 288]⟩
abbrev S72x288 : Shape := ⟨2, ![72, 288]⟩
abbrev S4096x32 : Shape := ⟨2, ![4096, 32]⟩
abbrev S2048x2x32 : Shape := ⟨3, ![2048, 2, 32]⟩
abbrev S2048x1x32 : Shape := ⟨3, ![2048, 1, 32]⟩
abbrev S2048x32 : Shape := ⟨2, ![2048, 32]⟩
abbrev S32x2x32x32 : Shape := ⟨4, ![32, 2, 32, 32]⟩
abbrev S32x1x32x32 : Shape := ⟨4, ![32, 1, 32, 32]⟩
abbrev S32x32x32 : Shape := ⟨3, ![32, 32, 32]⟩
abbrev S1024x32 : Shape := ⟨2, ![1024, 32]⟩
abbrev S1024x576 : Shape := ⟨2, ![1024, 576]⟩
abbrev S40x576 : Shape := ⟨2, ![40, 576]⟩
abbrev S1024x64 : Shape := ⟨2, ![1024, 64]⟩
abbrev S512x2x64 : Shape := ⟨3, ![512, 2, 64]⟩
abbrev S512x1x64 : Shape := ⟨3, ![512, 1, 64]⟩
abbrev S512x64 : Shape := ⟨2, ![512, 64]⟩
abbrev S16x2x16x64 : Shape := ⟨4, ![16, 2, 16, 64]⟩
abbrev S16x1x16x64 : Shape := ⟨4, ![16, 1, 16, 64]⟩
abbrev S16x16x64 : Shape := ⟨3, ![16, 16, 64]⟩
abbrev S256x64 : Shape := ⟨2, ![256, 64]⟩
abbrev S256x1152 : Shape := ⟨2, ![256, 1152]⟩
abbrev S24x1152 : Shape := ⟨2, ![24, 1152]⟩
abbrev S256x128 : Shape := ⟨2, ![256, 128]⟩
abbrev S128x2x128 : Shape := ⟨3, ![128, 2, 128]⟩
abbrev S128x1x128 : Shape := ⟨3, ![128, 1, 128]⟩
abbrev S128x128 : Shape := ⟨2, ![128, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S64x128 : Shape := ⟨2, ![64, 128]⟩
abbrev S128x64 : Shape := ⟨2, ![128, 64]⟩
abbrev S64x8192 : Shape := ⟨2, ![64, 8192]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S_ : Shape := ⟨0, ![]⟩
abbrev S128x256 : Shape := ⟨2, ![128, 256]⟩
abbrev S256x8192 : Shape := ⟨2, ![256, 8192]⟩
abbrev S64x2048 : Shape := ⟨2, ![64, 2048]⟩
abbrev S64x256 : Shape := ⟨2, ![64, 256]⟩
abbrev S64x1024 : Shape := ⟨2, ![64, 1024]⟩
abbrev S64x512 : Shape := ⟨2, ![64, 512]⟩
abbrev S64x6 : Shape := ⟨2, ![64, 6]⟩
abbrev S64x1 : Shape := ⟨2, ![64, 1]⟩
abbrev S64x8 : Shape := ⟨2, ![64, 8]⟩
abbrev S64x1x8 : Shape := ⟨3, ![64, 1, 8]⟩
abbrev S32x128 : Shape := ⟨2, ![32, 128]⟩
abbrev S64x121x32x128 : Shape := ⟨4, ![64, 121, 32, 128]⟩
abbrev S64x32x128 : Shape := ⟨3, ![64, 32, 128]⟩
abbrev S1x1x8 : Shape := ⟨3, ![1, 1, 8]⟩
abbrev S1x121x32x128 : Shape := ⟨4, ![1, 121, 32, 128]⟩
abbrev S1x32x128 : Shape := ⟨3, ![1, 32, 128]⟩
abbrev S1x1x1 : Shape := ⟨3, ![1, 1, 1]⟩
abbrev S121x32x128 : Shape := ⟨3, ![121, 32, 128]⟩
abbrev S64x121x64x64 : Shape := ⟨4, ![64, 121, 64, 64]⟩
abbrev S64x64x64 : Shape := ⟨3, ![64, 64, 64]⟩

abbrev nBuf : Space → Nat
  | .hbm => 80
  | .vmem => 36
  | .smem => 0
  | _ => 0

abbrev bufTy : (tb : Table) → Fin (tcTables nBuf tb) → BufTy
  | .hbm, ⟨0, _⟩ => ⟨S64x120x64x64, .f32⟩
  | .hbm, ⟨1, _⟩ => ⟨S64x64, .f32⟩
  | .hbm, ⟨2, _⟩ => ⟨S64x64, .f32⟩
  | .hbm, ⟨3, _⟩ => ⟨S32x120x3x3, .f32⟩
  | .hbm, ⟨4, _⟩ => ⟨S32, .f32⟩
  | .hbm, ⟨5, _⟩ => ⟨S64x32x3x3, .f32⟩
  | .hbm, ⟨6, _⟩ => ⟨S64, .f32⟩
  | .hbm, ⟨7, _⟩ => ⟨S128x64x3x3, .f32⟩
  | .hbm, ⟨8, _⟩ => ⟨S128, .f32⟩
  | .hbm, ⟨9, _⟩ => ⟨S2048x8192, .f32⟩
  | .hbm, ⟨10, _⟩ => ⟨S2048, .f32⟩
  | .hbm, ⟨11, _⟩ => ⟨S1024x2048, .f32⟩
  | .hbm, ⟨12, _⟩ => ⟨S1024, .f32⟩
  | .hbm, ⟨13, _⟩ => ⟨S512x1024, .f32⟩
  | .hbm, ⟨14, _⟩ => ⟨S512, .f32⟩
  | .hbm, ⟨15, _⟩ => ⟨S256x512, .f32⟩
  | .hbm, ⟨16, _⟩ => ⟨S256, .f32⟩
  | .hbm, ⟨17, _⟩ => ⟨S6x256, .f32⟩
  | .hbm, ⟨18, _⟩ => ⟨S6, .f32⟩
  | .hbm, ⟨19, _⟩ => ⟨S64x120x4096, .f32⟩
  | .hbm, ⟨20, _⟩ => ⟨S120x3x3x32, .f32⟩
  | .hbm, ⟨21, _⟩ => ⟨S120x288, .f32⟩
  | .hbm, ⟨22, _⟩ => ⟨S32x3x3x64, .f32⟩
  | .hbm, ⟨23, _⟩ => ⟨S32x576, .f32⟩
  | .hbm, ⟨24, _⟩ => ⟨S64x3x3x128, .f32⟩
  | .hbm, ⟨25, _⟩ => ⟨S64x1152, .f32⟩
  | .hbm, ⟨26, _⟩ => ⟨S1x32, .f32⟩
  | .hbm, ⟨27, _⟩ => ⟨S1x64, .f32⟩
  | .hbm, ⟨28, _⟩ => ⟨S1x128, .f32⟩
  | .hbm, ⟨29, _⟩ => ⟨S64x128x64, .f32⟩
  | .hbm, ⟨30, _⟩ => ⟨S64x8192, .f32⟩
  | .hbm, ⟨31, _⟩ => ⟨S1x2048, .f32⟩
  | .hbm, ⟨32, _⟩ => ⟨S1x1024, .f32⟩
  | .hbm, ⟨33, _⟩ => ⟨S1x512, .f32⟩
  | .hbm, ⟨34, _⟩ => ⟨S1x256, .f32⟩
  | .hbm, ⟨35, _⟩ => ⟨S_, .i32⟩
  | .hbm, ⟨36, _⟩ => ⟨S_, .f32⟩
  | .hbm, ⟨37, _⟩ => ⟨S128x256, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S64x128, .f32⟩
  | .hbm, ⟨43, _⟩ => ⟨S64x6, .f32⟩
  | .hbm, ⟨44, _⟩ => ⟨S64x1, .f32⟩
  | .hbm, ⟨45, _⟩ => ⟨S64, .f32⟩
  | .hbm, ⟨46, _⟩ => ⟨S64x1, .f32⟩
  | .hbm, ⟨47, _⟩ => ⟨S64, .f32⟩
  | .hbm, ⟨48, _⟩ => ⟨S64x1, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64x1, .f32⟩
  | .hbm, ⟨56, _⟩ => ⟨S64, .f32⟩
  | .hbm, ⟨57, _⟩ => ⟨S64, .f32⟩
  | .hbm, ⟨58, _⟩ => ⟨S64x1, .f32⟩
  | .hbm, ⟨59, _⟩ => ⟨S64, .f32⟩
  | .hbm, ⟨60, _⟩ => ⟨S64x1, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64x1, .f32⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S64x1, .f32⟩
  | .hbm, ⟨70, _⟩ => ⟨S64x1, .f32⟩
  | .hbm, ⟨71, _⟩ => ⟨S64x1, .f32⟩
  | .hbm, ⟨72, _⟩ => ⟨S64x8, .f32⟩
  | .hbm, ⟨73, _⟩ => ⟨S64x1x8, .f32⟩
  | .hbm, ⟨74, _⟩ => ⟨S32x128, .f32⟩
  | .hbm, ⟨75, _⟩ => ⟨S32x128, .f32⟩
  | .hbm, ⟨76, _⟩ => ⟨S64x121x32x128, .f32⟩
  | .hbm, ⟨77, _⟩ => ⟨S64x32x128, .f32⟩
  | .hbm, ⟨78, _⟩ => ⟨S64x121x64x64, .f32⟩
  | .hbm, ⟨79, _⟩ => ⟨S64x64x64, .f32⟩
  | .local _ .vmem, ⟨0, _⟩ => ⟨S1x120x4096, .f32⟩
  | .local _ .vmem, ⟨1, _⟩ => ⟨S1x120x4096, .f32⟩
  | .local _ .vmem, ⟨2, _⟩ => ⟨S120x288, .f32⟩
  | .local _ .vmem, ⟨3, _⟩ => ⟨S32x576, .f32⟩
  | .local _ .vmem, ⟨4, _⟩ => ⟨S64x1152, .f32⟩
  | .local _ .vmem, ⟨5, _⟩ => ⟨S1x32, .f32⟩
  | .local _ .vmem, ⟨6, _⟩ => ⟨S1x64, .f32⟩
  | .local _ .vmem, ⟨7, _⟩ => ⟨S1x128, .f32⟩
  | .local _ .vmem, ⟨8, _⟩ => ⟨S1x128x64, .f32⟩
  | .local _ .vmem, ⟨9, _⟩ => ⟨S1x128x64, .f32⟩
  | .local _ .vmem, ⟨10, _⟩ => ⟨S4240x288, .f32⟩
  | .local _ .vmem, ⟨11, _⟩ => ⟨S1104x576, .f32⟩
  | .local _ .vmem, ⟨12, _⟩ => ⟨S304x1152, .f32⟩
  | .local _ .vmem, ⟨13, _⟩ => ⟨S64x8192, .f32⟩
  | .local _ .vmem, ⟨14, _⟩ => ⟨S256x8192, .f32⟩
  | .local _ .vmem, ⟨15, _⟩ => ⟨S256x8192, .f32⟩
  | .local _ .vmem, ⟨16, _⟩ => ⟨S1x256, .f32⟩
  | .local _ .vmem, ⟨17, _⟩ => ⟨S1x256, .f32⟩
  | .local _ .vmem, ⟨18, _⟩ => ⟨S1024x2048, .f32⟩
  | .local _ .vmem, ⟨19, _⟩ => ⟨S1x1024, .f32⟩
  | .local _ .vmem, ⟨20, _⟩ => ⟨S512x1024, .f32⟩
  | .local _ .vmem, ⟨21, _⟩ => ⟨S1x512, .f32⟩
  | .local _ .vmem, ⟨22, _⟩ => ⟨S256x512, .f32⟩
  | .local _ .vmem, ⟨23, _⟩ => ⟨S1x256, .f32⟩
  | .local _ .vmem, ⟨24, _⟩ => ⟨S128x256, .f32⟩
  | .local _ .vmem, ⟨25, _⟩ => ⟨S1x128, .f32⟩
  | .local _ .vmem, ⟨26, _⟩ => ⟨S64x128, .f32⟩
  | .local _ .vmem, ⟨27, _⟩ => ⟨S64x2048, .f32⟩
  | .local _ .vmem, ⟨28, _⟩ => ⟨S1x1x8, .f32⟩
  | .local _ .vmem, ⟨29, _⟩ => ⟨S1x1x8, .f32⟩
  | .local _ .vmem, ⟨30, _⟩ => ⟨S32x128, .f32⟩
  | .local _ .vmem, ⟨31, _⟩ => ⟨S32x128, .f32⟩
  | .local _ .vmem, ⟨32, _⟩ => ⟨S1x121x32x128, .f32⟩
  | .local _ .vmem, ⟨33, _⟩ => ⟨S1x121x32x128, .f32⟩
  | .local _ .vmem, ⟨34, _⟩ => ⟨S1x32x128, .f32⟩
  | .local _ .vmem, ⟨35, _⟩ => ⟨S1x32x128, .f32⟩
  | _, _ => ⟨S64x120x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_call0_v0 : Ref sig .tc := ⟨.hbm, 36, rfl⟩
abbrev main_v16 : Ref sig .tc := ⟨.hbm, 37, rfl⟩
abbrev main_c_0 : Ref sig .tc := ⟨.hbm, 38, rfl⟩
abbrev main_call1_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x120x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_off1 (i : grid1.Coords) : Fin 2 → Nat :=
  let c0_6 : Index := 0#32
  let arg0 : BitVec 32 := BitVec.ofNat 32 (i 0).val
  let c256_i32 : BitVec 32 := 256#32
  let v10 : BitVec 32 := Scalar.muli arg0 c256_i32
  let v11 : Index := Scalar.indexCast v10
  ![0, v11.toNat]
def k1_cond1 (i : grid1.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32 : BitVec 32 := 0#32
  let v17 : BitVec 1 := Scalar.cmpi .ne v16 c0_i32
  v17

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x121x32x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x32x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== WholeIdeal.lean ====
variable {F : FTy → Type} [FloatOps F] [Named F]
def κ : String → Option EReal := fun
  | "half_pi" => some ((Real.pi * (1 / 2) : ℝ) : EReal)
  | "quarter_pi" => some ((Real.pi * (1 / 4) : ℝ) : EReal)
  | _ => none
-- ==== WholeRefIdeal.lean ====
abbrev S64x120x64x64 : Shape := ⟨4, ![64, 120, 64, 64]⟩
abbrev S64x64 : Shape := ⟨2, ![64, 64]⟩
abbrev S32x120x3x3 : Shape := ⟨4, ![32, 120, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S2048x8192 : Shape := ⟨2, ![2048, 8192]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S6x256 : Shape := ⟨2, ![6, 256]⟩
abbrev S6 : Shape := ⟨1, ![6]⟩
abbrev S_ : Shape := ⟨0, ![]⟩
abbrev S64x120x66x66 : Shape := ⟨4, ![64, 120, 66, 66]⟩
abbrev S32x120x1x1 : Shape := ⟨4, ![32, 120, 1, 1]⟩
abbrev S32x120 : Shape := ⟨2, ![32, 120]⟩
abbrev S64x64x64x32 : Shape := ⟨4, ![64, 64, 64, 32]⟩
abbrev S64x32x64x64 : Shape := ⟨4, ![64, 32, 64, 64]⟩
abbrev S1x32x1x1 : Shape := ⟨4, ![1, 32, 1, 1]⟩
abbrev S64x32x32x32 : Shape := ⟨4, ![64, 32, 32, 32]⟩
abbrev S64x32x34x34 : Shape := ⟨4, ![64, 32, 34, 34]⟩
abbrev S64x32x1x1 : Shape := ⟨4, ![64, 32, 1, 1]⟩
abbrev S64x32 : Shape := ⟨2, ![64, 32]⟩
abbrev S64x32x32x64 : Shape := ⟨4, ![64, 32, 32, 64]⟩
abbrev S64x64x32x32 : Shape := ⟨4, ![64, 64, 32, 32]⟩
abbrev S1x64x1x1 : Shape := ⟨4, ![1, 64, 1, 1]⟩
abbrev S64x64x16x16 : Shape := ⟨4, ![64, 64, 16, 16]⟩
abbrev S64x64x18x18 : Shape := ⟨4, ![64, 64, 18, 18]⟩
abbrev S128x64x1x1 : Shape := ⟨4, ![128, 64, 1, 1]⟩
abbrev S128x64 : Shape := ⟨2, ![128, 64]⟩
abbrev S64x16x16x128 : Shape := ⟨4, ![64, 16, 16, 128]⟩
abbrev S64x128x16x16 : Shape := ⟨4, ![64, 128, 16, 16]⟩
abbrev S1x128x1x1 : Shape := ⟨4, ![1, 128, 1, 1]⟩
abbrev S64x128x8x8 : Shape := ⟨4, ![64, 128, 8, 8]⟩
abbrev S64x8192 : Shape := ⟨2, ![64, 8192]⟩
abbrev S8192x2048 : Shape := ⟨2, ![8192, 2048]⟩
abbrev S64x2048 : Shape := ⟨2, ![64, 2048]⟩
abbrev S1x2048 : Shape := ⟨2, ![1, 2048]⟩
abbrev S2048x1024 : Shape := ⟨2, ![2048, 1024]⟩
abbrev S64x1024 : Shape := ⟨2, ![64, 1024]⟩
abbrev S1x1024 : Shape := ⟨2, ![1, 1024]⟩
abbrev S1024x512 : Shape := ⟨2, ![1024, 512]⟩
abbrev S64x512 : Shape := ⟨2, ![64, 512]⟩
abbrev S1x512 : Shape := ⟨2, ![1, 512]⟩
abbrev S512x256 : Shape := ⟨2, ![512, 256]⟩
abbrev S64x256 : Shape := ⟨2, ![64, 256]⟩
abbrev S1x256 : Shape := ⟨2, ![1, 256]⟩
abbrev S256x6 : Shape := ⟨2, ![256, 6]⟩
abbrev S64x6 : Shape := ⟨2, ![64, 6]⟩
abbrev S1x6 : Shape := ⟨2, ![1, 6]⟩
abbrev S121 : Shape := ⟨1, ![121]⟩
abbrev S64x1 : Shape := ⟨2, ![64, 1]⟩
abbrev S1x64x64 : Shape := ⟨3, ![1, 64, 64]⟩
abbrev S64x1x1 : Shape := ⟨3, ![64, 1, 1]⟩
abbrev S64x64x64 : Shape := ⟨3, ![64, 64, 64]⟩
abbrev S64x1x64x64 : Shape := ⟨4, ![64, 1, 64, 64]⟩
abbrev S121x1x1 : Shape := ⟨3, ![121, 1, 1]⟩
abbrev S1x121x1x1 : Shape := ⟨4, ![1, 121, 1, 1]⟩
abbrev S64x121x64x64 : Shape := ⟨4, ![64, 121, 64, 64]⟩

abbrev nBuf : Space → Nat
  | .hbm => 410
  | .vmem => 0
  | .smem => 0
  | _ => 0

abbrev hbmTy0_0 (i : Nat) : BufTy := match i % 128 with
  | 0 => ⟨S64x120x64x64, .f32⟩
  | 1 => ⟨S64x64, .f32⟩
  | 2 => ⟨S64x64, .f32⟩
  | 3 => ⟨S32x120x3x3, .f32⟩
  | 4 => ⟨S32, .f32⟩
  | 5 => ⟨S64x32x3x3, .f32⟩
  | 6 => ⟨S64, .f32⟩
  | 7 => ⟨S128x64x3x3, .f32⟩
  | 8 => ⟨S128, .f32⟩
  | 9 => ⟨S2048x8192, .f32⟩
  | 10 => ⟨S2048, .f32⟩
  | 11 => ⟨S1024x2048, .f32⟩
  | 12 => ⟨S1024, .f32⟩
  | 13 => ⟨S512x1024, .f32⟩
  | 14 => ⟨S512, .f32⟩
  | 15 => ⟨S256x512, .f32⟩
  | 16 => ⟨S256, .f32⟩
  | 17 => ⟨S6x256, .f32⟩
  | 18 => ⟨S6, .f32⟩
  | 19 => ⟨S_, .i32⟩
  | 20 => ⟨S_, .f32⟩
  | 21 => ⟨S64x120x66x66, .f32⟩
  | 22 => ⟨S64x120x64x64, .f32⟩
  | 23 => ⟨S32x120x1x1, .f32⟩
  | 24 => ⟨S32x120, .f32⟩
  | 25 => ⟨S64x64x64x32, .f32⟩
  | 26 => ⟨S64x120x64x64, .f32⟩
  | 27 => ⟨S32x120x1x1, .f32⟩
  | 28 => ⟨S32x120, .f32⟩
  | 29 => ⟨S64x64x64x32, .f32⟩
  | 30 => ⟨S64x64x64x32, .f32⟩
  | 31 => ⟨S64x120x64x64, .f32⟩
  | 32 => ⟨S32x120x1x1, .f32⟩
  | 33 => ⟨S32x120, .f32⟩
  | 34 => ⟨S64x64x64x32, .f32⟩
  | 35 => ⟨S64x64x64x32, .f32⟩
  | 36 => ⟨S64x120x64x64, .f32⟩
  | 37 => ⟨S32x120x1x1, .f32⟩
  | 38 => ⟨S32x120, .f32⟩
  | 39 => ⟨S64x64x64x32, .f32⟩
  | 40 => ⟨S64x64x64x32, .f32⟩
  | 41 => ⟨S64x120x64x64, .f32⟩
  | 42 => ⟨S32x120x1x1, .f32⟩
  | 43 => ⟨S32x120, .f32⟩
  | 44 => ⟨S64x64x64x32, .f32⟩
  | 45 => ⟨S64x64x64x32, .f32⟩
  | 46 => ⟨S64x120x64x64, .f32⟩
  | 47 => ⟨S32x120x1x1, .f32⟩
  | 48 => ⟨S32x120, .f32⟩
  | 49 => ⟨S64x64x64x32, .f32⟩
  | 50 => ⟨S64x64x64x32, .f32⟩
  | 51 => ⟨S64x120x64x64, .f32⟩
  | 52 => ⟨S32x120x1x1, .f32⟩
  | 53 => ⟨S32x120, .f32⟩
  | 54 => ⟨S64x64x64x32, .f32⟩
  | 55 => ⟨S64x64x64x32, .f32⟩
  | 56 => ⟨S64x120x64x64, .f32⟩
  | 57 => ⟨S32x120x1x1, .f32⟩
  | 58 => ⟨S32x120, .f32⟩
  | 59 => ⟨S64x64x64x32, .f32⟩
  | 60 => ⟨S64x64x64x32, .f32⟩
  | 61 => ⟨S64x120x64x64, .f32⟩
  | 62 => ⟨S32x120x1x1, .f32⟩
  | 63 => ⟨S32x120, .f32⟩
  | 64 => ⟨S64x64x64x32, .f32⟩
  | 65 => ⟨S64x64x64x32, .f32⟩
  | 66 => ⟨S64x32x64x64, .f32⟩
  | 67 => ⟨S1x32x1x1, .f32⟩
  | 68 => ⟨S64x32x64x64, .f32⟩
  | 69 => ⟨S64x32x64x64, .f32⟩
  | 70 => ⟨S_, .f32⟩
  | 71 => ⟨S64x32x64x64, .f32⟩
  | 72 => ⟨S64x32x64x64, .f32⟩
  | 73 => ⟨S_, .f32⟩
  | 74 => ⟨S_, .f32⟩
  | 75 => ⟨S64x32x32x32, .f32⟩
  | 76 => ⟨S_, .i32⟩
  | 77 => ⟨S_, .f32⟩
  | 78 => ⟨S64x32x34x34, .f32⟩
  | 79 => ⟨S64x32x32x32, .f32⟩
  | 80 => ⟨S64x32x1x1, .f32⟩
  | 81 => ⟨S64x32, .f32⟩
  | 82 => ⟨S64x32x32x64, .f32⟩
  | 83 => ⟨S64x32x32x32, .f32⟩
  | 84 => ⟨S64x32x1x1, .f32⟩
  | 85 => ⟨S64x32, .f32⟩
  | 86 => ⟨S64x32x32x64, .f32⟩
  | 87 => ⟨S64x32x32x64, .f32⟩
  | 88 => ⟨S64x32x32x32, .f32⟩
  | 89 => ⟨S64x32x1x1, .f32⟩
  | 90 => ⟨S64x32, .f32⟩
  | 91 => ⟨S64x32x32x64, .f32⟩
  | 92 => ⟨S64x32x32x64, .f32⟩
  | 93 => ⟨S64x32x32x32, .f32⟩
  | 94 => ⟨S64x32x1x1, .f32⟩
  | 95 => ⟨S64x32, .f32⟩
  | 96 => ⟨S64x32x32x64, .f32⟩
  | 97 => ⟨S64x32x32x64, .f32⟩
  | 98 => ⟨S64x32x32x32, .f32⟩
  | 99 => ⟨S64x32x1x1, .f32⟩
  | 100 => ⟨S64x32, .f32⟩
  | 101 => ⟨S64x32x32x64, .f32⟩
  | 102 => ⟨S64x32x32x64, .f32⟩
  | 103 => ⟨S64x32x32x32, .f32⟩
  | 104 => ⟨S64x32x1x1, .f32⟩
  | 105 => ⟨S64x32, .f32⟩
  | 106 => ⟨S64x32x32x64, .f32⟩
  | 107 => ⟨S64x32x32x64, .f32⟩
  | 108 => ⟨S64x32x32x32, .f32⟩
  | 109 => ⟨S64x32x1x1, .f32⟩
  | 110 => ⟨S64x32, .f32⟩
  | 111 => ⟨S64x32x32x64, .f32⟩
  | 112 => ⟨S64x32x32x64, .f32⟩
  | 113 => ⟨S64x32x32x32, .f32⟩
  | 114 => ⟨S64x32x1x1, .f32⟩
  | 115 => ⟨S64x32, .f32⟩
  | 116 => ⟨S64x32x32x64, .f32⟩
  | 117 => ⟨S64x32x32x64, .f32⟩
  | 118 => ⟨S64x32x32x32, .f32⟩
  | 119 => ⟨S64x32x1x1, .f32⟩
  | 120 => ⟨S64x32, .f32⟩
  | 121 => ⟨S64x32x32x64, .f32⟩
  | 122 => ⟨S64x32x32x64, .f32⟩
  | 123 => ⟨S64x64x32x32, .f32⟩
  | 124 => ⟨S1x64x1x1, .f32⟩
  | 125 => ⟨S64x64x32x32, .f32⟩
  | 126 => ⟨S64x64x32x32, .f32⟩
  | 127 => ⟨S_, .f32⟩
  | _ => ⟨S64x120x64x64, .f32⟩

abbrev hbmTy0_1 (i : Nat) : BufTy := match i % 128 with
  | 0 => ⟨S64x64x32x32, .f32⟩
  | 1 => ⟨S64x64x32x32, .f32⟩
  | 2 => ⟨S_, .f32⟩
  | 3 => ⟨S_, .f32⟩
  | 4 => ⟨S64x64x16x16, .f32⟩
  | 5 => ⟨S_, .i32⟩
  | 6 => ⟨S_, .f32⟩
  | 7 => ⟨S64x64x18x18, .f32⟩
  | 8 => ⟨S64x64x16x16, .f32⟩
  | 9 => ⟨S128x64x1x1, .f32⟩
  | 10 => ⟨S128x64, .f32⟩
  | 11 => ⟨S64x16x16x128, .f32⟩
  | 12 => ⟨S64x64x16x16, .f32⟩
  | 13 => ⟨S128x64x1x1, .f32⟩
  | 14 => ⟨S128x64, .f32⟩
  | 15 => ⟨S64x16x16x128, .f32⟩
  | 16 => ⟨S64x16x16x128, .f32⟩
  | 17 => ⟨S64x64x16x16, .f32⟩
  | 18 => ⟨S128x64x1x1, .f32⟩
  | 19 => ⟨S128x64, .f32⟩
  | 20 => ⟨S64x16x16x128, .f32⟩
  | 21 => ⟨S64x16x16x128, .f32⟩
  | 22 => ⟨S64x64x16x16, .f32⟩
  | 23 => ⟨S128x64x1x1, .f32⟩
  | 24 => ⟨S128x64, .f32⟩
  | 25 => ⟨S64x16x16x128, .f32⟩
  | 26 => ⟨S64x16x16x128, .f32⟩
  | 27 => ⟨S64x64x16x16, .f32⟩
  | 28 => ⟨S128x64x1x1, .f32⟩
  | 29 => ⟨S128x64, .f32⟩
  | 30 => ⟨S64x16x16x128, .f32⟩
  | 31 => ⟨S64x16x16x128, .f32⟩
  | 32 => ⟨S64x64x16x16, .f32⟩
  | 33 => ⟨S128x64x1x1, .f32⟩
  | 34 => ⟨S128x64, .f32⟩
  | 35 => ⟨S64x16x16x128, .f32⟩
  | 36 => ⟨S64x16x16x128, .f32⟩
  | 37 => ⟨S64x64x16x16, .f32⟩
  | 38 => ⟨S128x64x1x1, .f32⟩
  | 39 => ⟨S128x64, .f32⟩
  | 40 => ⟨S64x16x16x128, .f32⟩
  | 41 => ⟨S64x16x16x128, .f32⟩
  | 42 => ⟨S64x64x16x16, .f32⟩
  | 43 => ⟨S128x64x1x1, .f32⟩
  | 44 => ⟨S128x64, .f32⟩
  | 45 => ⟨S64x16x16x128, .f32⟩
  | 46 => ⟨S64x16x16x128, .f32⟩
  | 47 => ⟨S64x64x16x16, .f32⟩
  | 48 => ⟨S128x64x1x1, .f32⟩
  | 49 => ⟨S128x64, .f32⟩
  | 50 => ⟨S64x16x16x128, .f32⟩
  | 51 => ⟨S64x16x16x128, .f32⟩
  | 52 => ⟨S64x128x16x16, .f32⟩
  | 53 => ⟨S1x128x1x1, .f32⟩
  | 54 => ⟨S64x128x16x16, .f32⟩
  | 55 => ⟨S64x128x16x16, .f32⟩
  | 56 => ⟨S_, .f32⟩
  | 57 => ⟨S64x128x16x16, .f32⟩
  | 58 => ⟨S64x128x16x16, .f32⟩
  | 59 => ⟨S_, .f32⟩
  | 60 => ⟨S_, .f32⟩
  | 61 => ⟨S64x128x8x8, .f32⟩
  | 62 => ⟨S64x8192, .f32⟩
  | 63 => ⟨S8192x2048, .f32⟩
  | 64 => ⟨S64x2048, .f32⟩
  | 65 => ⟨S1x2048, .f32⟩
  | 66 => ⟨S64x2048, .f32⟩
  | 67 => ⟨S64x2048, .f32⟩
  | 68 => ⟨S_, .f32⟩
  | 69 => ⟨S64x2048, .f32⟩
  | 70 => ⟨S64x2048, .f32⟩
  | 71 => ⟨S2048x1024, .f32⟩
  | 72 => ⟨S64x1024, .f32⟩
  | 73 => ⟨S1x1024, .f32⟩
  | 74 => ⟨S64x1024, .f32⟩
  | 75 => ⟨S64x1024, .f32⟩
  | 76 => ⟨S_, .f32⟩
  | 77 => ⟨S64x1024, .f32⟩
  | 78 => ⟨S64x1024, .f32⟩
  | 79 => ⟨S1024x512, .f32⟩
  | 80 => ⟨S64x512, .f32⟩
  | 81 => ⟨S1x512, .f32⟩
  | 82 => ⟨S64x512, .f32⟩
  | 83 => ⟨S64x512, .f32⟩
  | 84 => ⟨S_, .f32⟩
  | 85 => ⟨S64x512, .f32⟩
  | 86 => ⟨S64x512, .f32⟩
  | 87 => ⟨S512x256, .f32⟩
  | 88 => ⟨S64x256, .f32⟩
  | 89 => ⟨S1x256, .f32⟩
  | 90 => ⟨S64x256, .f32⟩
  | 91 => ⟨S64x256, .f32⟩
  | 92 => ⟨S_, .f32⟩
  | 93 => ⟨S64x256, .f32⟩
  | 94 => ⟨S64x256, .f32⟩
  | 95 => ⟨S256x6, .f32⟩
  | 96 => ⟨S64x6, .f32⟩
  | 97 => ⟨S1x6, .f32⟩
  | 98 => ⟨S64x6, .f32⟩
  | 99 => ⟨S64x6, .f32⟩
  | 100 => ⟨S_, .f32⟩
  | 101 => ⟨S_, .f32⟩
  | 102 => ⟨S_, .f32⟩
  | 103 => ⟨S64x6, .f32⟩
  | 104 => ⟨S64x6, .f32⟩
  | 105 => ⟨S_, .f32⟩
  | 106 => ⟨S64x6, .f32⟩
  | 107 => ⟨S64x6, .f32⟩
  | 108 => ⟨S121, .f32⟩
  | 109 => ⟨S64x1, .f32⟩
  | 110 => ⟨S64, .f32⟩
  | 111 => ⟨S64x1, .f32⟩
  | 112 => ⟨S64, .f32⟩
  | 113 => ⟨S64, .f32⟩
  | 114 => ⟨S64x1, .f32⟩
  | 115 => ⟨S64, .f32⟩
  | 116 => ⟨S64x1, .f32⟩
  | 117 => ⟨S64, .f32⟩
  | 118 => ⟨S64, .f32⟩
  | 119 => ⟨S64x1, .f32⟩
  | 120 => ⟨S64, .f32⟩
  | 121 => ⟨S64x1, .f32⟩
  | 122 => ⟨S64, .f32⟩
  | 123 => ⟨S64, .f32⟩
  | 124 => ⟨S1x64x64, .f32⟩
  | 125 => ⟨S64x1x1, .f32⟩
  | 126 => ⟨S64x64x64, .f32⟩
  | 127 => ⟨S64x64x64, .f32⟩
  | _ => ⟨S64x120x64x64, .f32⟩

abbrev hbmTy0_2 (i : Nat) : BufTy := match i % 128 with
  | 0 => ⟨S64x64x64, .f32⟩
  | 1 => ⟨S64, .f32⟩
  | 2 => ⟨S1x64x64, .f32⟩
  | 3 => ⟨S64x1x1, .f32⟩
  | 4 => ⟨S64x64x64, .f32⟩
  | 5 => ⟨S64x64x64, .f32⟩
  | 6 => ⟨S64x64x64, .f32⟩
  | 7 => ⟨S64x64x64, .f32⟩
  | 8 => ⟨S64x64, .f32⟩
  | 9 => ⟨S64, .f32⟩
  | 10 => ⟨S1x64x64, .f32⟩
  | 11 => ⟨S64x1x1, .f32⟩
  | 12 => ⟨S64x64x64, .f32⟩
  | 13 => ⟨S64x64x64, .f32⟩
  | 14 => ⟨S64x64x64, .f32⟩
  | 15 => ⟨S64, .f32⟩
  | 16 => ⟨S1x64x64, .f32⟩
  | 17 => ⟨S64x1x1, .f32⟩
  | 18 => ⟨S64x64x64, .f32⟩
  | 19 => ⟨S64x64x64, .f32⟩
  | 20 => ⟨S64x64x64, .f32⟩
  | 21 => ⟨S64, .f32⟩
  | 22 => ⟨S64x1x1, .f32⟩
  | 23 => ⟨S64x64x64, .f32⟩
  | 24 => ⟨S64x64x64, .f32⟩
  | 25 => ⟨S64x64x64, .f32⟩
  | 26 => ⟨S64x64x64, .f32⟩
  | 27 => ⟨S64x64x64, .f32⟩
  | 28 => ⟨S64x64x64, .f32⟩
  | 29 => ⟨S64x64x64, .f32⟩
  | 30 => ⟨S64x64x64, .f32⟩
  | 31 => ⟨S64x1x1, .f32⟩
  | 32 => ⟨S64x64x64, .f32⟩
  | 33 => ⟨S64x64x64, .f32⟩
  | 34 => ⟨S64x64x64, .f32⟩
  | 35 => ⟨S64, .f32⟩
  | 36 => ⟨S64x1x1, .f32⟩
  | 37 => ⟨S64x64x64, .f32⟩
  | 38 => ⟨S64x64x64, .f32⟩
  | 39 => ⟨S64x1x1, .f32⟩
  | 40 => ⟨S64x64x64, .f32⟩
  | 41 => ⟨S64x64x64, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S64x64x64, .f32⟩
  | 49 => ⟨S_, .f32⟩
  | 50 => ⟨S64x64x64, .f32⟩
  | 51 => ⟨S64x64x64, .i1⟩
  | 52 => ⟨S_, .f32⟩
  | 53 => ⟨S64x64x64, .f32⟩
  | 54 => ⟨S64x64x64, .i1⟩
  | 55 => ⟨S_, .f32⟩
  | 56 => ⟨S64x64x64, .f32⟩
  | 57 => ⟨S64x64x64, .f32⟩
  | 58 => ⟨S_, .f32⟩
  | 59 => ⟨S64x64x64, .f32⟩
  | 60 => ⟨S64x64x64, .f32⟩
  | 61 => ⟨S_, .f32⟩
  | 62 => ⟨S64x64x64, .f32⟩
  | 63 => ⟨S64x64x64, .f32⟩
  | 64 => ⟨S64x64x64, .f32⟩
  | 65 => ⟨S64x64x64, .f32⟩
  | 66 => ⟨S64x64x64, .f32⟩
  | 67 => ⟨S64x64x64, .f32⟩
  | 68 => ⟨S64x64x64, .f32⟩
  | 69 => ⟨S_, .f32⟩
  | 70 => ⟨S64x64x64, .f32⟩
  | 71 => ⟨S64x64x64, .f32⟩
  | 72 => ⟨S_, .f32⟩
  | 73 => ⟨S64x64x64, .f32⟩
  | 74 => ⟨S64x64x64, .f32⟩
  | 75 => ⟨S64x64x64, .f32⟩
  | 76 => ⟨S_, .f32⟩
  | 77 => ⟨S64x64x64, .f32⟩
  | 78 => ⟨S64x64x64, .f32⟩
  | 79 => ⟨S64x64x64, .f32⟩
  | 80 => ⟨S_, .f32⟩
  | 81 => ⟨S64x64x64, .f32⟩
  | 82 => ⟨S64x64x64, .f32⟩
  | 83 => ⟨S64x64x64, .f32⟩
  | 84 => ⟨S64x64x64, .f32⟩
  | 85 => ⟨S_, .f32⟩
  | 86 => ⟨S64x64, .f32⟩
  | 87 => ⟨S64x64, .f32⟩
  | 88 => ⟨S64x64x64, .f32⟩
  | 89 => ⟨S64x64x64, .f32⟩
  | 90 => ⟨S64x64x64, .f32⟩
  | 91 => ⟨S64x64, .f32⟩
  | 92 => ⟨S64x64x64, .f32⟩
  | 93 => ⟨S64x64x64, .f32⟩
  | 94 => ⟨S64x64x64, .f32⟩
  | 95 => ⟨S64x64x64, .f32⟩
  | 96 => ⟨S_, .f32⟩
  | 97 => ⟨S64x64x64, .f32⟩
  | 98 => ⟨S64x64x64, .i1⟩
  | 99 => ⟨S64x64x64, .f32⟩
  | 100 => ⟨S64x64x64, .f32⟩
  | 101 => ⟨S64x64x64, .f32⟩
  | 102 => ⟨S_, .f32⟩
  | 103 => ⟨S64x64x64, .f32⟩
  | 104 => ⟨S64x64x64, .f32⟩
  | 105 => ⟨S64x1x1, .f32⟩
  | 106 => ⟨S64x64x64, .f32⟩
  | 107 => ⟨S64x64x64, .f32⟩
  | 108 => ⟨S64x64x64, .f32⟩
  | 109 => ⟨S_, .f32⟩
  | 110 => ⟨S64x64x64, .f32⟩
  | 111 => ⟨S64x64x64, .f32⟩
  | 112 => ⟨S64x64x64, .f32⟩
  | 113 => ⟨S64x1x1, .f32⟩
  | 114 => ⟨S64x64x64, .f32⟩
  | 115 => ⟨S64x64x64, .f32⟩
  | 116 => ⟨S_, .f32⟩
  | 117 => ⟨S_, .f32⟩
  | 118 => ⟨S_, .f32⟩
  | 119 => ⟨S_, .f32⟩
  | 120 => ⟨S64x64x64, .f32⟩
  | 121 => ⟨S64x64x64, .f32⟩
  | 122 => ⟨S64x64x64, .f32⟩
  | 123 => ⟨S64x64x64, .f32⟩
  | 124 => ⟨S64, .f32⟩
  | 125 => ⟨S64x1x1, .f32⟩
  | 126 => ⟨S64x64x64, .f32⟩
  | 127 => ⟨S64x64x64, .f32⟩
  | _ => ⟨S64x120x64x64, .f32⟩

abbrev hbmTy0_3 (i : Nat) : BufTy := match i % 128 with
  | 0 => ⟨S64x64x64, .f32⟩
  | 1 => ⟨S_, .f32⟩
  | 2 => ⟨S64x64x64, .f32⟩
  | 3 => ⟨S64x64x64, .f32⟩
  | 4 => ⟨S64x64x64, .f32⟩
  | 5 => ⟨S_, .f32⟩
  | 6 => ⟨S64x64x64, .f32⟩
  | 7 => ⟨S64x64x64, .f32⟩
  | 8 => ⟨S_, .f32⟩
  | 9 => ⟨S_, .f32⟩
  | 10 => ⟨S_, .f32⟩
  | 11 => ⟨S64x64x64, .f32⟩
  | 12 => ⟨S64x64x64, .f32⟩
  | 13 => ⟨S_, .f32⟩
  | 14 => ⟨S64x64x64, .f32⟩
  | 15 => ⟨S64x64x64, .f32⟩
  | 16 => ⟨S64x1x64x64, .f32⟩
  | 17 => ⟨S121x1x1, .f32⟩
  | 18 => ⟨S1x121x1x1, .f32⟩
  | 19 => ⟨S64x121x64x64, .f32⟩
  | 20 => ⟨S64x121x64x64, .f32⟩
  | 21 => ⟨S64x121x64x64, .i1⟩
  | 22 => ⟨S64x121x64x64, .f32⟩
  | 23 => ⟨S64x1x64x64, .f32⟩
  | 24 => ⟨S64x121x64x64, .f32⟩
  | 25 => ⟨S64x121x64x64, .f32⟩
  | _ => ⟨S64x120x64x64, .f32⟩

abbrev hbmTy (i : Nat) : BufTy := match i / 128 with
  | 0 => hbmTy0_0 i
  | 1 => hbmTy0_1 i
  | 2 => hbmTy0_2 i
  | 3 => hbmTy0_3 i
  | _ => ⟨S64x120x64x64, .f32⟩

abbrev bufTy : (tb : Table) → Fin (tcTables nBuf tb) → BufTy
  | .hbm, ⟨i, _⟩ => hbmTy i
  | _, _ => ⟨S64x120x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_cst : Ref sig .tc := ⟨.hbm, 73, rfl⟩
abbrev main_v50 : Ref sig .tc := ⟨.hbm, 74, rfl⟩
abbrev main_v51 : Ref sig .tc := ⟨.hbm, 75, rfl⟩
abbrev main_c_0 : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_call3_cst : Ref sig .tc := ⟨.hbm, 127, rfl⟩
abbrev main_call3_v0 : Ref sig .tc := ⟨.hbm, 128, rfl⟩
abbrev main_v101 : Ref sig .tc := ⟨.hbm, 129, rfl⟩
abbrev main_cst_1 : Ref sig .tc := ⟨.hbm, 130, rfl⟩
abbrev main_v102 : Ref sig .tc := ⟨.hbm, 131, rfl⟩
abbrev main_v103 : Ref sig .tc := ⟨.hbm, 132, rfl⟩
abbrev main_c_2 : Ref sig .tc := ⟨.hbm, 133, rfl⟩
abbrev main_call4_v0 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_call5_cst : Ref sig .tc := ⟨.hbm, 184, rfl⟩
abbrev main_call5_v0 : Ref sig .tc := ⟨.hbm, 185, rfl⟩
abbrev main_v153 : Ref sig .tc := ⟨.hbm, 186, rfl⟩
abbrev main_cst_3 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_call6_cst : Ref sig .tc := ⟨.hbm, 196, rfl⟩
abbrev main_call6_v0 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_call7_cst : Ref sig .tc := ⟨.hbm, 204, rfl⟩
abbrev main_call7_v0 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_call8_cst : Ref sig .tc := ⟨.hbm, 212, rfl⟩
abbrev main_call8_v0 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_call9_cst : Ref sig .tc := ⟨.hbm, 220, rfl⟩
abbrev main_call9_v0 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_cst_4 : Ref sig .tc := ⟨.hbm, 228, rfl⟩
abbrev main_cst_5 : Ref sig .tc := ⟨.hbm, 229, rfl⟩
abbrev main_call10_v0 : Ref sig .tc := ⟨.hbm, 230, rfl⟩
abbrev main_call10_v1 : Ref sig .tc := ⟨.hbm, 231, rfl⟩
abbrev main_call10_v2 : Ref sig .tc := ⟨.hbm, 232, rfl⟩
abbrev main_call10_v3 : Ref sig .tc := ⟨.hbm, 233, rfl⟩
abbrev main_call10_v4 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_cst_6 : Ref sig .tc := ⟨.hbm, 298, rfl⟩
abbrev main_cst_7 : Ref sig .tc := ⟨.hbm, 299, rfl⟩
abbrev main_v249 : Ref sig .tc := ⟨.hbm, 300, rfl⟩
abbrev main_cst_8 : Ref sig .tc := ⟨.hbm, 301, rfl⟩
abbrev main_cst_9 : Ref sig .tc := ⟨.hbm, 302, rfl⟩
abbrev main_v250 : Ref sig .tc := ⟨.hbm, 303, rfl⟩
abbrev main_v251 : Ref sig .tc := ⟨.hbm, 304, rfl⟩
abbrev main_cst_10 : Ref sig .tc := ⟨.hbm, 305, rfl⟩
abbrev main_v252 : Ref sig .tc := ⟨.hbm, 306, rfl⟩
abbrev main_v253 : Ref sig .tc := ⟨.hbm, 307, rfl⟩
abbrev main_cst_11 : Ref sig .tc := ⟨.hbm, 308, rfl⟩
abbrev main_v254 : Ref sig .tc := ⟨.hbm, 309, rfl⟩
abbrev main_v255 : Ref sig .tc := ⟨.hbm, 310, rfl⟩
abbrev main_cst_12 : Ref sig .tc := ⟨.hbm, 311, rfl⟩
abbrev main_v256 : Ref sig .tc := ⟨.hbm, 312, rfl⟩
abbrev main_v257 : Ref sig .tc := ⟨.hbm, 313, rfl⟩
abbrev main_cst_13 : Ref sig .tc := ⟨.hbm, 314, rfl⟩
abbrev main_v258 : Ref sig .tc := ⟨.hbm, 315, rfl⟩
abbrev main_v259 : Ref sig .tc := ⟨.hbm, 316, rfl⟩
abbrev main_cst_14 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_cst_15 : Ref sig .tc := ⟨.hbm, 325, rfl⟩
abbrev main_v267 : Ref sig .tc := ⟨.hbm, 326, rfl⟩
abbrev main_v268 : Ref sig .tc := ⟨.hbm, 327, rfl⟩
abbrev main_cst_16 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_cst_17 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_cst_18 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_cst_19 : Ref sig .tc := ⟨.hbm, 341, rfl⟩
abbrev main_call13_v0 : Ref sig .tc := ⟨.hbm, 342, rfl⟩
abbrev main_call13_v1 : Ref sig .tc := ⟨.hbm, 343, rfl⟩
abbrev main_call13_v2 : Ref sig .tc := ⟨.hbm, 344, rfl⟩
abbrev main_call13_v3 : Ref sig .tc := ⟨.hbm, 345, rfl⟩
abbrev main_v279 : Ref sig .tc := ⟨.hbm, 346, rfl⟩
abbrev main_call14_v0 : Ref sig .tc := ⟨.hbm, 347, rfl⟩
abbrev main_call14_v1 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_cst_20 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_cst_21 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_cst_22 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_cst_23 : Ref sig .tc := ⟨.hbm, 372, rfl⟩
abbrev main_cst_24 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_cst_25 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_cst_26 : Ref sig .tc := ⟨.hbm, 389, rfl⟩
abbrev main_v314 : Ref sig .tc := ⟨.hbm, 390, rfl⟩
abbrev main_v315 : Ref sig .tc := ⟨.hbm, 391, rfl⟩
abbrev main_cst_27 : Ref sig .tc := ⟨.hbm, 392, rfl⟩
abbrev main_cst_28 : Ref sig .tc := ⟨.hbm, 393, rfl⟩
abbrev main_call16_v0 : Ref sig .tc := ⟨.hbm, 394, rfl⟩
abbrev main_call16_v1 : Ref sig .tc := ⟨.hbm, 395, rfl⟩
abbrev main_call16_v2 : Ref sig .tc := ⟨.hbm, 396, rfl⟩
abbrev main_call16_v3 : Ref sig .tc := ⟨.hbm, 397, rfl⟩
abbrev main_call16_v4 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩

abbrev nD : Nat := 1
abbrev τ : Topo := Topo.v7x

variable {F : FTy → Type} [FloatOps F]
-- ==== Proof.Conv.lean ====
/- The convolution blocks by coordinates: the 3×3 convolution with zero padding, its bias, relu and 2×2 maximum pool as
   functions of natural coordinates, and the kernel's way to the same sums: nine shifted reads of a scratch that holds,
   row by row, every pixel's product with all nine weights, rows of zeros before and after. -/
module

public import Idealize.ShloMosaic.PureOps.Ideal
public import Mathlib.Data.EReal.Operations

@[expose] public section

noncomputable section

namespace Cert.Conv

/-- Pixel `(Y, X)` of channel `c` in an image with a border of zeros one pixel wide around its `s × s` pixels. -/
def px (s : ℕ) (h : ℕ → ℕ → ℕ → EReal) (c Y X : ℕ) : EReal :=
  if 1 ≤ Y ∧ Y ≤ s ∧ 1 ≤ X ∧ X ≤ s then h c (Y - 1) (X - 1) else 0

/-- One of the nine terms of output channel `o` at pixel `(y, x)`: the pixels at offset `(i, j)` of the window against
    their weights, summed over the `ci` input channels. -/
def tap (ci s : ℕ) (h : ℕ → ℕ → ℕ → EReal) (w : ℕ → ℕ → ℕ → ℕ → EReal) (o y x i j : ℕ) : EReal :=
  ∑ c : Fin ci, px s h c.val (y + i) (x + j) * w o c.val i j

/-- Nine terms added from the left, the window's rows outermost. -/
def sum9 (t : ℕ → ℕ → EReal) : EReal :=
  t 0 0 + t 0 1 + t 0 2 + t 1 0 + t 1 1 + t 1 2 + t 2 0 + t 2 1 + t 2 2

/-- The convolution at a pixel, plus bias, cut off below at zero. -/
def act (ci s : ℕ) (h : ℕ → ℕ → ℕ → EReal) (w : ℕ → ℕ → ℕ → ℕ → EReal) (b : ℕ → EReal) (o y x : ℕ) : EReal :=
  max (sum9 (tap ci s h w o y x) + b o) 0

/-- The greatest of the four values of a 2×2 square. -/
def pool (r : ℕ → ℕ → EReal) (y x : ℕ) : EReal :=
  max (max (r (2 * y) (2 * x)) (r (2 * y) (2 * x + 1))) (max (r (2 * y + 1) (2 * x)) (r (2 * y + 1) (2 * x + 1)))

/-- One block: convolution, bias, relu, pool. -/
def blk (ci s : ℕ) (h : ℕ → ℕ → ℕ → EReal) (w : ℕ → ℕ → ℕ → ℕ → EReal) (b : ℕ → EReal) (o y x : ℕ) : EReal :=
  pool (act ci s h w b o) y x

/-- A read at column `x` of the window's column `j`, blanked where the shift would leave the row. -/
def mask (s x j : ℕ) (v : EReal) : EReal :=
  if (j = 0 ∧ x = 0) ∨ (j = 2 ∧ x = s - 1) then 0 else v

theorem px_mul_sum_zero (ci : ℕ) (s : ℕ) (h : ℕ → ℕ → ℕ → EReal) (w : ℕ → ℕ → ℕ → ℕ → EReal) (o Y X i j : ℕ)
    (hz : ¬ (1 ≤ Y ∧ Y ≤ s ∧ 1 ≤ X ∧ X ≤ s)) :
    ∑ c : Fin ci, px s h c.val Y X * w o c.val i j = 0 :=
  Finset.sum_eq_zero fun c _ => by rw [px, if_neg hz, zero_mul]

/-- Row `7 + i·s + j` onward of the scratch, at columns `(3·i + j)·co` onward, blanked at the row's ends, holds the term
    of the window's offset `(i, j)`: the scratch has every pixel's products from row `s + 8` on and zeros around them. -/
theorem mask_scratch (ci co s : ℕ) (T : ℕ → ℕ → EReal) (h : ℕ → ℕ → ℕ → EReal) (w : ℕ → ℕ → ℕ → ℕ → EReal)
    (hm : ∀ y x, y < s → x < s → ∀ i j, i < 3 → j < 3 → ∀ o, o < co →
      T (s + 8 + (y * s + x)) ((3 * i + j) * co + o) = ∑ c : Fin ci, h c.val y x * w o c.val i j)
    (hz : ∀ r q, r < s + 8 ∨ s + 8 + s * s ≤ r → T r q = 0)
    (y x i j o : ℕ) (hy : y < s) (hx : x < s) (hi : i < 3) (hj : j < 3) (ho : o < co) :
    mask s x j (T (7 + i * s + j + (y * s + x)) ((3 * i + j) * co + o)) = tap ci s h w o y x i j := by
  unfold mask tap
  by_cases hin : 1 ≤ y + i ∧ y + i ≤ s ∧ 1 ≤ x + j ∧ x + j ≤ s
  · rw [if_neg (by omega)]
    obtain ⟨Y, hY⟩ : ∃ Y, y + i = Y + 1 := ⟨y + i - 1, by omega⟩
    obtain ⟨X, hX⟩ : ∃ X, x + j = X + 1 := ⟨x + j - 1, by omega⟩
    have e : 7 + i * s + j + (y * s + x) = s + 8 + (Y * s + X) := by
      have : (y + i) * s = (Y + 1) * s := by rw [hY]
      rw [Nat.add_mul, Nat.add_mul, Nat.one_mul] at this
      omega
    rw [e, hm Y X (by omega) (by omega) i j hi hj o ho]
    refine Finset.sum_congr rfl fun c _ => ?_
    rw [px, if_pos hin, hY, hX, Nat.add_sub_cancel, Nat.add_sub_cancel]
  · rw [px_mul_sum_zero _ _ _ _ _ _ _ _ _ hin]
    split_ifs with hmk
    · rfl
    · have hcol : 1 ≤ x + j ∧ x + j ≤ s := by omega
      refine hz _ _ ?_
      by_cases hlo : y + i = 0
      · left
        obtain ⟨rfl, rfl⟩ : y = 0 ∧ i = 0 := by omega
        simp only [Nat.zero_mul]
        omega
      · right
        have hYi : s + 1 ≤ y + i := by omega
        have : (s + 1) * s ≤ (y + i) * s := Nat.mul_le_mul_right s hYi
        rw [Nat.add_mul, Nat.add_mul, Nat.one_mul] at this
        omega

/-- The value of a block depends only on the image's pixels. -/
theorem act_congr {ci s : ℕ} {h h' : ℕ → ℕ → ℕ → EReal} {w w' : ℕ → ℕ → ℕ → ℕ → EReal} {b b' : ℕ → EReal} {o y x : ℕ}
    (hh : ∀ c Y X, c < ci → Y < s → X < s → h c Y X = h' c Y X)
    (hw : ∀ c i j, c < ci → i < 3 → j < 3 → w o c i j = w' o c i j) (hb : b o = b' o) :
    act ci s h w b o y x = act ci s h' w' b' o y x := by
  have ht : ∀ i j, i < 3 → j < 3 → tap ci s h w o y x i j = tap ci s h' w' o y x i j := fun i j hi hj => by
    unfold tap
    refine Finset.sum_congr rfl fun c _ => ?_
    rw [hw c.val i j c.isLt hi hj]
    congr 1
    unfold px
    split_ifs with hin
    · exact hh _ _ _ c.isLt (by omega) (by omega)
    · rfl
  unfold act sum9
  rw [ht 0 0 (by omega) (by omega), ht 0 1 (by omega) (by omega), ht 0 2 (by omega) (by omega),
    ht 1 0 (by omega) (by omega), ht 1 1 (by omega) (by omega), ht 1 2 (by omega) (by omega),
    ht 2 0 (by omega) (by omega), ht 2 1 (by omega) (by omega), ht 2 2 (by omega) (by omega), hb]

end Cert.Conv

end
-- ==== Proof.Rows.lean ====
/- Loads of a window of a two-axis buffer after stores of whole rows, read at an index: the newest store that holds the
   row gives its payload there, a store of other rows is passed over, and with no store left the buffer's own contents
   answer. And an array of known extents as a function of natural coordinates. -/
module

public import Idealize.ShloMosaic.Lib.Pipeline.ValueKit
public import Idealize.ShloMosaic.Lib.Pointwise

@[expose] public section

noncomputable section

namespace Cert.Rows

open Idealize.ShloMosaic

variable {sig : RefSig} {Val : EltTy → Type} {κ : Kind} {sp : Space} {e : EltTy}

/-- A load at an index of its window is the buffer's contents at the window's place of that index. -/
theorem load_at {R Q N C a b : ℕ} (v : View sig κ sp ⟨2, ![R, Q]⟩ e) (f : v.ty.Contents Val)
    (inb : ∀ x, (![a, b] : Fin 2 → ℕ) x + (![N, C] : Fin 2 → ℕ) x ≤ (⟨2, ![R, Q]⟩ : Shape).size x) (r : Fin N) (o : Fin C)
    (hr : a + r.val < R) (ho : b + o.val < Q) :
    v.readAt Val (Rect.unit (s := ⟨2, ![R, Q]⟩) ![a, b] ![N, C] inb).toLoadRect f (ix2 r o)
      = v.read Val f (ix2 ⟨a + r.val, hr⟩ ⟨b + o.val, ho⟩) := by
  show v.read Val f _ = _
  congr 1
  funext x
  apply Fin.ext
  match x with
  | ⟨0, _⟩ => show a + 1 * r.val = a + r.val; omega
  | ⟨1, _⟩ => show b + 1 * o.val = b + o.val; omega

/-- The newest store holds the row: its payload. -/
theorem rows_hit {R Q P p : ℕ} (v : View sig κ sp ⟨2, ![R, Q]⟩ e) (f : v.ty.Contents Val)
    (inb : ∀ x, (![p, 0] : Fin 2 → ℕ) x + (![P, Q] : Fin 2 → ℕ) x ≤ (⟨2, ![R, Q]⟩ : Shape).size x)
    (w : (⟨2, ![P, Q]⟩ : Shape).Idx → Val e) (L : List (View.Piece Val ⟨2, ![R, Q]⟩ e)) (r : Fin R) (q : Fin Q)
    (hp : p ≤ r.val) (hP : r.val - p < P) :
    v.read Val (v.writes Val f (⟨Rect.unit (s := ⟨2, ![R, Q]⟩) ![p, 0] ![P, Q] inb, w⟩ :: L)) (ix2 r q)
      = w (ix2 ⟨r.val - p, hP⟩ q) := by
  refine View.read_writes_cons_hit_of_coords v f (Rect.unit (s := ⟨2, ![R, Q]⟩) ![p, 0] ![P, Q] inb) w L
    (ix2 ⟨r.val - p, hP⟩ q) (ix2 r q) fun x => ?_
  match x with
  | ⟨0, _⟩ => show r.val = p + 1 * (r.val - p); omega
  | ⟨1, _⟩ => show q.val = 0 + 1 * q.val; omega

/-- The newest store holds other rows: the older stores. -/
theorem rows_miss {R Q P p : ℕ} (v : View sig κ sp ⟨2, ![R, Q]⟩ e) (f : v.ty.Contents Val)
    (inb : ∀ x, (![p, 0] : Fin 2 → ℕ) x + (![P, Q] : Fin 2 → ℕ) x ≤ (⟨2, ![R, Q]⟩ : Shape).size x)
    (w : (⟨2, ![P, Q]⟩ : Shape).Idx → Val e) (L : List (View.Piece Val ⟨2, ![R, Q]⟩ e)) (r : Fin R) (q : Fin Q)
    (h : r.val < p ∨ p + P ≤ r.val) :
    v.read Val (v.writes Val f (⟨Rect.unit (s := ⟨2, ![R, Q]⟩) ![p, 0] ![P, Q] inb, w⟩ :: L)) (ix2 r q)
      = v.read Val (v.writes Val f L) (ix2 r q) :=
  View.read_writes_cons_miss_of_axis v f _ L (ix2 r q) 0 p P rfl rfl rfl h

/-- A two-axis array at natural coordinates, zero outside its extents. -/
def at2 {R Q : ℕ} (A : (⟨2, ![R, Q]⟩ : Shape).Idx → EReal) (r q : ℕ) : EReal :=
  if h : r < R ∧ q < Q then A (ix2 ⟨r, h.1⟩ ⟨q, h.2⟩) else 0

theorem at2_ix {R Q : ℕ} (A : (⟨2, ![R, Q]⟩ : Shape).Idx → EReal) (r : Fin R) (q : Fin Q) : A (ix2 r q) = at2 A r.val q.val := by
  rw [at2, dif_pos ⟨r.isLt, q.isLt⟩]

theorem at2_of_lt {R Q : ℕ} (A : (⟨2, ![R, Q]⟩ : Shape).Idx → EReal) {r q : ℕ} (hr : r < R) (hq : q < Q) :
    at2 A r q = A (ix2 ⟨r, hr⟩ ⟨q, hq⟩) := by
  rw [at2, dif_pos ⟨hr, hq⟩]

/-- A vector at a natural coordinate. -/
def at1 {A : ℕ} (X : (⟨1, ![A]⟩ : Shape).Idx → EReal) (a : ℕ) : EReal := if h : a < A then X (ix1 ⟨a, h⟩) else 0

theorem at1_of_lt {A : ℕ} (X : (⟨1, ![A]⟩ : Shape).Idx → EReal) {a : ℕ} (ha : a < A) : at1 X a = X (ix1 ⟨a, ha⟩) := by
  rw [at1, dif_pos ha]

/-- A three-axis array at natural coordinates, zero outside its extents. -/
def at3 {A B C : ℕ} (X : (⟨3, ![A, B, C]⟩ : Shape).Idx → EReal) (a b c : ℕ) : EReal :=
  if h : a < A ∧ b < B ∧ c < C then X (ix3 ⟨a, h.1⟩ ⟨b, h.2.1⟩ ⟨c, h.2.2⟩) else 0

theorem at3_of_lt {A B C : ℕ} (X : (⟨3, ![A, B, C]⟩ : Shape).Idx → EReal) {a b c : ℕ} (ha : a < A) (hb : b < B) (hc : c < C) :
    at3 X a b c = X (ix3 ⟨a, ha⟩ ⟨b, hb⟩ ⟨c, hc⟩) := by
  rw [at3, dif_pos ⟨ha, hb, hc⟩]

/-- A four-axis array at natural coordinates, zero outside its extents. -/
def at4 {A B C D : ℕ} (X : (⟨4, ![A, B, C, D]⟩ : Shape).Idx → EReal) (a b c d : ℕ) : EReal :=
  if h : a < A ∧ b < B ∧ c < C ∧ d < D then X (ix4 ⟨a, h.1⟩ ⟨b, h.2.1⟩ ⟨c, h.2.2.1⟩ ⟨d, h.2.2.2⟩) else 0

theorem at4_of_lt {A B C D : ℕ} (X : (⟨4, ![A, B, C, D]⟩ : Shape).Idx → EReal) {a b c d : ℕ} (ha : a < A) (hb : b < B)
    (hc : c < C) (hd : d < D) : at4 X a b c d = X (ix4 ⟨a, ha⟩ ⟨b, hb⟩ ⟨c, hc⟩ ⟨d, hd⟩) := by
  rw [at4, dif_pos ⟨ha, hb, hc, hd⟩]

/-- The contents of a scratch: `mid` from row `p` on, zeros elsewhere. -/
def band {P Q : ℕ} (p : ℕ) (mid : (⟨2, ![P, Q]⟩ : Shape).Idx → EReal) (r q : ℕ) : EReal :=
  if p ≤ r ∧ r < p + P then at2 mid (r - p) q else 0

/-- A scratch whose first `p` rows and rows from `p + P` on are zero. -/
def Halo {R Q : ℕ} (p P : ℕ) (S : (⟨2, ![R, Q]⟩ : Shape).Idx → EReal) : Prop :=
  ∀ (r : Fin R) (q : Fin Q), r.val < p ∨ p + P ≤ r.val → S (ix2 r q) = 0

/-- A load of a window after the middle rows were stored over contents with zero rows around: the band's entries. -/
theorem load_over {R Q N C a b P p : ℕ} {m : Memref sig κ sp ⟨2, ![R, Q]⟩ .f32} (hm : m.IsWhole)
    (xs : (⟨2, ![R, Q]⟩ : Shape).Idx → EReal) (hxs : Halo p P xs)
    (inb : ∀ x, (![a, b] : Fin 2 → ℕ) x + (![N, C] : Fin 2 → ℕ) x ≤ (⟨2, ![R, Q]⟩ : Shape).size x)
    (inb' : ∀ x, (![p, 0] : Fin 2 → ℕ) x + (![P, Q] : Fin 2 → ℕ) x ≤ (⟨2, ![R, Q]⟩ : Shape).size x)
    (w : (⟨2, ![P, Q]⟩ : Shape).Idx → EReal) (r : Fin N) (o : Fin C) :
    m.view.readAt (Elt Ideal) (Rect.unit (s := ⟨2, ![R, Q]⟩) ![a, b] ![N, C] inb).toLoadRect
        (m.view.writes (Elt Ideal) (hm.unread xs) [⟨Rect.unit (s := ⟨2, ![R, Q]⟩) ![p, 0] ![P, Q] inb', w⟩]) (ix2 r o)
      = band p w (a + r.val) (b + o.val) := by
  have hr : a + r.val < R := lt_of_lt_of_le (Nat.add_lt_add_left r.isLt a) (inb 0)
  have ho : b + o.val < Q := lt_of_lt_of_le (Nat.add_lt_add_left o.isLt b) (inb 1)
  rw [load_at _ _ _ _ _ hr ho]
  unfold band
  split_ifs with h
  · have hP : a + r.val - p < P := by omega
    rw [rows_hit _ _ _ _ _ ⟨a + r.val, hr⟩ ⟨b + o.val, ho⟩ h.1 hP, at2_of_lt _ hP ho]
  · rw [rows_miss _ _ _ _ _ ⟨a + r.val, hr⟩ ⟨b + o.val, ho⟩ (by show a + r.val < p ∨ p + P ≤ a + r.val; omega)]
    have e : m.view.read (Elt Ideal) (hm.unread xs) = xs := Memref.IsWhole.read_unread (Val := Elt Ideal) hm xs
    show m.view.read (Elt Ideal) (hm.unread xs) _ = 0
    rw [e]
    exact (hxs ⟨a + r.val, hr⟩ ⟨b + o.val, ho⟩ (by show a + r.val < p ∨ p + P ≤ a + r.val; omega))

/-- The same after zero rows were stored below and above first, whatever was there before. -/
theorem load_cov {R Q N C a b P p : ℕ} (v : View sig κ sp ⟨2, ![R, Q]⟩ .f32)
    (inb : ∀ x, (![a, b] : Fin 2 → ℕ) x + (![N, C] : Fin 2 → ℕ) x ≤ (⟨2, ![R, Q]⟩ : Shape).size x)
    (inb' : ∀ x, (![p, 0] : Fin 2 → ℕ) x + (![P, Q] : Fin 2 → ℕ) x ≤ (⟨2, ![R, Q]⟩ : Shape).size x)
    (p' : ℕ) (hp' : p' = p + P) (hR : R = p + P + p)
    (inb1 : ∀ x, (![p', 0] : Fin 2 → ℕ) x + (![p, Q] : Fin 2 → ℕ) x ≤ (⟨2, ![R, Q]⟩ : Shape).size x)
    (inb0 : ∀ x, (![0, 0] : Fin 2 → ℕ) x + (![p, Q] : Fin 2 → ℕ) x ≤ (⟨2, ![R, Q]⟩ : Shape).size x)
    (w : (⟨2, ![P, Q]⟩ : Shape).Idx → EReal) (z1 z0 : (⟨2, ![p, Q]⟩ : Shape).Idx → EReal)
    (hz1 : ∀ j, z1 j = 0) (hz0 : ∀ j, z0 j = 0) (r : Fin N) (o : Fin C) :
    v.readCov (Val := Elt Ideal) [⟨Rect.unit (s := ⟨2, ![R, Q]⟩) ![p, 0] ![P, Q] inb', w⟩,
        ⟨Rect.unit (s := ⟨2, ![R, Q]⟩) ![p', 0] ![p, Q] inb1, z1⟩, ⟨Rect.unit (s := ⟨2, ![R, Q]⟩) ![0, 0] ![p, Q] inb0, z0⟩]
        (Rect.unit (s := ⟨2, ![R, Q]⟩) ![a, b] ![N, C] inb).toLoadRect (ix2 r o)
      = band p w (a + r.val) (b + o.val) := by
  have hr : a + r.val < R := lt_of_lt_of_le (Nat.add_lt_add_left r.isLt a) (inb 0)
  have ho : b + o.val < Q := lt_of_lt_of_le (Nat.add_lt_add_left o.isLt b) (inb 1)
  refine (load_at v (v.writes (Elt Ideal) v.junk _) inb r o hr ho).trans ?_
  unfold band
  split_ifs with h
  · have hP : a + r.val - p < P := by omega
    rw [rows_hit _ _ _ _ _ ⟨a + r.val, hr⟩ ⟨b + o.val, ho⟩ h.1 hP, at2_of_lt _ hP ho]
  · rw [rows_miss _ _ _ _ _ ⟨a + r.val, hr⟩ ⟨b + o.val, ho⟩ (by show a + r.val < p ∨ p + P ≤ a + r.val; omega)]
    by_cases hlo : a + r.val < p
    · rw [rows_miss _ _ _ _ _ ⟨a + r.val, hr⟩ ⟨b + o.val, ho⟩ (by show a + r.val < p' ∨ p' + p ≤ a + r.val; omega),
        rows_hit _ _ _ _ _ ⟨a + r.val, hr⟩ ⟨b + o.val, ho⟩ (Nat.zero_le _) (by show a + r.val - 0 < p; omega)]
      exact hz0 _
    · rw [rows_hit _ _ _ _ _ ⟨a + r.val, hr⟩ ⟨b + o.val, ho⟩ (by show p' ≤ a + r.val; omega)
        (by show a + r.val - p' < p; omega)]
      exact hz1 _

/-- A load inside the middle rows that were stored last: the band's entries, whatever else the buffer holds. -/
theorem load_mid {R Q N C a b P p : ℕ} (v : View sig κ sp ⟨2, ![R, Q]⟩ .f32)
    (inb : ∀ x, (![a, b] : Fin 2 → ℕ) x + (![N, C] : Fin 2 → ℕ) x ≤ (⟨2, ![R, Q]⟩ : Shape).size x)
    (inb' : ∀ x, (![p, 0] : Fin 2 → ℕ) x + (![P, Q] : Fin 2 → ℕ) x ≤ (⟨2, ![R, Q]⟩ : Shape).size x)
    (w : (⟨2, ![P, Q]⟩ : Shape).Idx → EReal) (L : List (View.Piece (Elt Ideal) ⟨2, ![R, Q]⟩ .f32))
    (ha : p ≤ a) (hN : a + N ≤ p + P) (r : Fin N) (o : Fin C) :
    v.readCov (Val := Elt Ideal) (⟨Rect.unit (s := ⟨2, ![R, Q]⟩) ![p, 0] ![P, Q] inb', w⟩ :: L)
        (Rect.unit (s := ⟨2, ![R, Q]⟩) ![a, b] ![N, C] inb).toLoadRect (ix2 r o)
      = band p w (a + r.val) (b + o.val) := by
  have hr : a + r.val < R := lt_of_lt_of_le (Nat.add_lt_add_left r.isLt a) (inb 0)
  have ho : b + o.val < Q := lt_of_lt_of_le (Nat.add_lt_add_left o.isLt b) (inb 1)
  have hP : a + r.val - p < P := by have := r.isLt; omega
  refine (load_at v (v.writes (Elt Ideal) v.junk _) inb r o hr ho).trans ?_
  rw [band, if_pos (by have := r.isLt; omega), rows_hit _ _ _ _ _ ⟨a + r.val, hr⟩ ⟨b + o.val, ho⟩ (by show p ≤ a + r.val; omega) hP,
    at2_of_lt _ hP ho]

/-- A load of a whole two-axis operand is the operand. -/
theorem whole2 {R Q : ℕ} {m : Memref sig κ sp ⟨2, ![R, Q]⟩ .f32} (hm : m.IsWhole) (x : (⟨2, ![R, Q]⟩ : Shape).Idx → EReal)
    (inb : ∀ a, (![0, 0] : Fin 2 → ℕ) a + (![R, Q] : Fin 2 → ℕ) a ≤ (⟨2, ![R, Q]⟩ : Shape).size a) :
    m.view.readAt (Elt Ideal) (Rect.unit (s := ⟨2, ![R, Q]⟩) ![0, 0] ![R, Q] inb).toLoadRect (hm.unread x) = x := by
  have e : m.view.read (Elt Ideal) (hm.unread x) = x := Memref.IsWhole.read_unread (Val := Elt Ideal) hm x
  funext j
  show m.view.read (Elt Ideal) (hm.unread x) _ = _
  rw [e]
  congr 1
  funext a
  apply Fin.ext
  match a with
  | ⟨0, _⟩ => show 0 + 1 * (j 0).val = (j 0).val; omega
  | ⟨1, _⟩ => show 0 + 1 * (j 1).val = (j 1).val; omega

/-- A load of a whole three-axis operand is the operand. -/
theorem whole3 {A B C : ℕ} {m : Memref sig κ sp ⟨3, ![A, B, C]⟩ .f32} (hm : m.IsWhole) (x : (⟨3, ![A, B, C]⟩ : Shape).Idx → EReal)
    (inb : ∀ a, (![0, 0, 0] : Fin 3 → ℕ) a + (![A, B, C] : Fin 3 → ℕ) a ≤ (⟨3, ![A, B, C]⟩ : Shape).size a) :
    m.view.readAt (Elt Ideal) (Rect.unit (s := ⟨3, ![A, B, C]⟩) ![0, 0, 0] ![A, B, C] inb).toLoadRect (hm.unread x) = x := by
  have e : m.view.read (Elt Ideal) (hm.unread x) = x := Memref.IsWhole.read_unread (Val := Elt Ideal) hm x
  funext j
  show m.view.read (Elt Ideal) (hm.unread x) _ = _
  rw [e]
  congr 1
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- What the middle store leaves over contents with zero rows around still has them. -/
theorem halo_over {R Q P p : ℕ} (v : View sig κ sp ⟨2, ![R, Q]⟩ .f32) (f : v.ty.Contents (Elt Ideal))
    (hf : Halo (R := R) (Q := Q) p P (v.read (Elt Ideal) f))
    (inb' : ∀ x, (![p, 0] : Fin 2 → ℕ) x + (![P, Q] : Fin 2 → ℕ) x ≤ (⟨2, ![R, Q]⟩ : Shape).size x)
    (w : (⟨2, ![P, Q]⟩ : Shape).Idx → EReal) :
    Halo (R := R) (Q := Q) p P (v.read (Elt Ideal)
      (v.writes (Elt Ideal) f [⟨Rect.unit (s := ⟨2, ![R, Q]⟩) ![p, 0] ![P, Q] inb', w⟩])) := fun r q h => by
  rw [rows_miss _ _ _ _ _ r q h]
  exact hf r q h

/-- And so does what all three stores leave. -/
theorem halo_cov {R Q P p : ℕ} (v : View sig κ sp ⟨2, ![R, Q]⟩ .f32) (f : v.ty.Contents (Elt Ideal))
    (inb' : ∀ x, (![p, 0] : Fin 2 → ℕ) x + (![P, Q] : Fin 2 → ℕ) x ≤ (⟨2, ![R, Q]⟩ : Shape).size x)
    (p' : ℕ) (hp' : p' = p + P) (hR : R = p + P + p)
    (inb1 : ∀ x, (![p', 0] : Fin 2 → ℕ) x + (![p, Q] : Fin 2 → ℕ) x ≤ (⟨2, ![R, Q]⟩ : Shape).size x)
    (inb0 : ∀ x, (![0, 0] : Fin 2 → ℕ) x + (![p, Q] : Fin 2 → ℕ) x ≤ (⟨2, ![R, Q]⟩ : Shape).size x)
    (w : (⟨2, ![P, Q]⟩ : Shape).Idx → EReal) (z1 z0 : (⟨2, ![p, Q]⟩ : Shape).Idx → EReal)
    (hz1 : ∀ j, z1 j = 0) (hz0 : ∀ j, z0 j = 0) :
    Halo (R := R) (Q := Q) p P (v.read (Elt Ideal) (v.writes (Elt Ideal) f
      [⟨Rect.unit (s := ⟨2, ![R, Q]⟩) ![p, 0] ![P, Q] inb', w⟩, ⟨Rect.unit (s := ⟨2, ![R, Q]⟩) ![p', 0] ![p, Q] inb1, z1⟩,
        ⟨Rect.unit (s := ⟨2, ![R, Q]⟩) ![0, 0] ![p, Q] inb0, z0⟩])) := fun r q h => by
  have hr := r.isLt
  rw [rows_miss _ _ _ _ _ r q h]
  by_cases hlo : r.val < p
  · rw [rows_miss _ _ _ _ _ r q (by omega), rows_hit _ _ _ _ _ r q (Nat.zero_le _) (by omega)]
    exact hz0 _
  · rw [rows_hit _ _ _ _ _ r q (by omega) (by omega)]
    exact hz1 _

end Cert.Rows

end
-- ==== Proof.Band.lean ====
/- A scratch of a convolution block: what the loads of its shifted windows give when its middle rows hold every pixel's
   products with all nine weights. -/
module

public import proofs.«01_k».proof.Proof.Conv
public import proofs.«01_k».proof.Proof.Rows

@[expose] public section

noncomputable section

namespace Cert.Band

open Idealize.ShloMosaic Cert.Conv Cert.Rows

/-- The weights of a block laid out as a matrix: row = input channel, column = window offset times the number of output
    channels plus the output channel. -/
def wmat {K Q : ℕ} (co : ℕ) (W : (⟨2, ![K, Q]⟩ : Shape).Idx → EReal) (o c i j : ℕ) : EReal := at2 W c ((3 * i + j) * co + o)

/-- The nine masked loads of such a scratch are the nine terms of the convolution. -/
theorem mask_band {P Q K : ℕ} (ci co s : ℕ) (hP : P = s * s) (mid : (⟨2, ![P, Q]⟩ : Shape).Idx → EReal)
    (H : ℕ → ℕ → ℕ → EReal) (W : (⟨2, ![K, Q]⟩ : Shape).Idx → EReal)
    (hmid : ∀ y x q, y < s → x < s → q < 9 * co → at2 mid (y * s + x) q = ∑ c : Fin ci, H c.val y x * at2 W c.val q)
    (y x i j o : ℕ) (hy : y < s) (hx : x < s) (hi : i < 3) (hj : j < 3) (ho : o < co) :
    mask s x j (band (s + 8) mid (7 + i * s + j + (y * s + x)) ((3 * i + j) * co + o)) = tap ci s H (wmat co W) o y x i j := by
  refine mask_scratch ci co s (band (s + 8) mid) H (wmat co W) ?_ ?_ y x i j o hy hx hi hj ho
  · intro y x hy hx i j hi hj o ho
    have hr : y * s + x < s * s := by
      calc y * s + x < y * s + s := by omega
        _ = (y + 1) * s := (Nat.succ_mul _ _).symm
        _ ≤ s * s := Nat.mul_le_mul_right s hy
    have hq : (3 * i + j) * co + o < 9 * co := by
      calc (3 * i + j) * co + o < (3 * i + j) * co + co := by omega
        _ = (3 * i + j + 1) * co := (Nat.succ_mul _ _).symm
        _ ≤ 9 * co := Nat.mul_le_mul_right co (by omega)
    rw [band, if_pos (by omega), Nat.add_sub_cancel_left]
    exact hmid y x _ hy hx hq
  · intro r q h
    rw [band, if_neg (by omega)]

theorem mask0 (s x : ℕ) (v : EReal) : mask s x 0 v = if x = 0 then 0 else v := by
  unfold mask
  congr 1
  simp

theorem mask1 (s x : ℕ) (v : EReal) : mask s x 1 v = v := by
  unfold mask
  rw [if_neg (by omega)]

theorem mask2 (s x : ℕ) (v : EReal) : mask s x 2 v = if x = s - 1 then 0 else v := by
  unfold mask
  congr 1
  simp

theorem at2_ext {R Q R' Q' : ℕ} {A : (⟨2, ![R, Q]⟩ : Shape).Idx → EReal} {B : (⟨2, ![R', Q']⟩ : Shape).Idx → EReal} {r q r' q' : ℕ}
    (hr : r < R) (hq : q < Q) (hr' : r' < R') (hq' : q' < Q') (h : A (ix2 ⟨r, hr⟩ ⟨q, hq⟩) = B (ix2 ⟨r', hr'⟩ ⟨q', hq'⟩)) :
    at2 A r q = at2 B r' q' := by
  rw [at2_of_lt A hr hq, at2_of_lt B hr' hq', h]

end Cert.Band

end
-- ==== Proof.Stage1.lean ====
/- Block 1 of the encoder's body, read at coordinates. -/
module

public import proofs.«01_k».proof.Proof.Gen.EncIdeal.Skeleton
public import proofs.«01_k».proof.Proof.Band
public import Idealize.ShloMosaic.Lib.Pointwise

@[expose] public section

set_option maxRecDepth 16384

noncomputable section

namespace Cert.Stage

open Idealize.ShloMosaic Cert.EncIdeal Cert.EncIdeal.Gen Cert.Conv Cert.Rows Cert.Band

/-- Nine loads added with the masks, plus bias, cut off at zero. -/
def act1 (b : FVec Ideal S1x32 .f32) (V0 V1 V2 V3 V4 V5 V6 V7 V8 : FVec Ideal S4096x32 .f32) : FVec Ideal S4096x32 .f32 :=
  have z : FVec Ideal S4096x32 .f32 := broadcast S4096x32 (Scalar.ofBits .f32 0x00000000#32)
  maximumf (addf (addf (addf (addf (addf (addf (addf (addf (addf (select k0_pay8 V0 z) V1) (select k0_pay7 V2 z)) (select k0_pay8 V3 z)) V4)
    (select k0_pay7 V5 z)) (select k0_pay8 V6 z)) V7) (select k0_pay7 V8 z)) (broadcastTo S4096x32 b broadcasts_S1x32_S4096x32)) z

/-- The 2×2 maximum pool of rows that are the pixels of a 64×64 image. -/
def pool1 (v : FVec Ideal S4096x32 .f32) : FVec Ideal S1024x32 .f32 :=
  have p : FVec Ideal S2048x2x32 .f32 := shapeCast S2048x2x32 v shapeCasts_S4096x32_S2048x2x32
  have q : FVec Ideal S2048x32 .f32 := maximumf
    (shapeCast S2048x32 (extractStridedSlice S2048x1x32 ![0, 0, 0] p slices_S2048x2x32_o0_0_0_S2048x1x32) shapeCasts_S2048x1x32_S2048x32)
    (shapeCast S2048x32 (extractStridedSlice S2048x1x32 ![0, 1, 0] p slices_S2048x2x32_o0_1_0_S2048x1x32) shapeCasts_S2048x1x32_S2048x32)
  have t : FVec Ideal S32x2x32x32 .f32 := shapeCast S32x2x32x32 q shapeCasts_S2048x32_S32x2x32x32
  shapeCast S1024x32 (maximumf
    (shapeCast S32x32x32 (extractStridedSlice S32x1x32x32 ![0, 0, 0, 0] t slices_S32x2x32x32_o0_0_0_0_S32x1x32x32) shapeCasts_S32x1x32x32_S32x32x32)
    (shapeCast S32x32x32 (extractStridedSlice S32x1x32x32 ![0, 1, 0, 0] t slices_S32x2x32x32_o0_1_0_0_S32x1x32x32) shapeCasts_S32x1x32x32_S32x32x32))
    shapeCasts_S32x32x32_S1024x32

theorem k0_pay8_apply (r : Fin 4096) (o : Fin 32) : k0_pay8 (ix2 r o) = if r.val % 64 = 0 then 0#1 else 1#1 := by
  pointwise [k0_pay8, k0_pay6]
  revert r
  decide +kernel

theorem k0_pay7_apply (r : Fin 4096) (o : Fin 32) : k0_pay7 (ix2 r o) = if r.val % 64 = 63 then 0#1 else 1#1 := by
  pointwise [k0_pay7, k0_pay6]
  revert r
  decide +kernel

theorem sel1 (k : Prop) [Decidable k] (v : EReal) : Scalar.select (if k then (0#1 : BitVec 1) else 1#1) v 0 = if k then 0 else v := by
  split_ifs <;> rfl

/-- The pool of the rows at a pixel. -/
theorem pool1_apply (v : FVec Ideal S4096x32 .f32) (y x c : ℕ) (hy : y < 32) (hx : x < 32) (hc : c < 32) :
    at2 (pool1 v) (y * 32 + x) c = Conv.pool (fun Y X => at2 v (Y * 64 + X) c) y x := by
  have hr : y * 32 + x < 1024 := by omega
  have e1 : (y * 32 + x) / 32 = y := by omega
  have e2 : (y * 32 + x) % 32 = x := by omega
  rw [at2_of_lt _ hr hc]
  unfold pool1
  pointwise [e1, e2]
  unfold Conv.pool
  simp only [at2_ix]
  refine congrArg₂ max (congrArg₂ max ?_ ?_) (congrArg₂ max ?_ ?_) <;> exact congrArg (fun r => at2 v r c) (by omega)

/-- The values before the pool are the convolution's, cut off at zero. -/
theorem act1_apply (mid : FVec Ideal S4096x288 .f32) (H : ℕ → ℕ → ℕ → EReal) (W : FVec Ideal S120x288 .f32)
    (hmid : ∀ y x q, y < 64 → x < 64 → q < 9 * 32 → at2 mid (y * 64 + x) q = ∑ c : Fin 120, H c.val y x * at2 W c.val q)
    (b : FVec Ideal S1x32 .f32) (V0 V1 V2 V3 V4 V5 V6 V7 V8 : FVec Ideal S4096x32 .f32)
    (h0 : ∀ r o, V0 (ix2 r o) = band 72 mid (7 + r.val) (0 + o.val)) (h1 : ∀ r o, V1 (ix2 r o) = band 72 mid (8 + r.val) (32 + o.val)) (h2 : ∀ r o, V2 (ix2 r o) = band 72 mid (9 + r.val) (64 + o.val)) (h3 : ∀ r o, V3 (ix2 r o) = band 72 mid (71 + r.val) (96 + o.val)) (h4 : ∀ r o, V4 (ix2 r o) = band 72 mid (72 + r.val) (128 + o.val)) (h5 : ∀ r o, V5 (ix2 r o) = band 72 mid (73 + r.val) (160 + o.val)) (h6 : ∀ r o, V6 (ix2 r o) = band 72 mid (135 + r.val) (192 + o.val)) (h7 : ∀ r o, V7 (ix2 r o) = band 72 mid (136 + r.val) (224 + o.val)) (h8 : ∀ r o, V8 (ix2 r o) = band 72 mid (137 + r.val) (256 + o.val))
    (y x o : ℕ) (hy : y < 64) (hx : x < 64) (ho : o < 32) :
    at2 (act1 b V0 V1 V2 V3 V4 V5 V6 V7 V8) (y * 64 + x) o = act 120 64 H (wmat 32 W) (fun o => at2 b 0 o) o y x := by
  have hr : y * 64 + x < 4096 := by omega
  have ex : (y * 64 + x) % 64 = x := by omega
  have e0 := mask_band 120 32 64 rfl mid H W hmid y x 0 0 o hy hx (by omega) (by omega) ho
  rw [show 7 + 0 * 64 + 0 + (y * 64 + x) = 7 + (y * 64 + x) by omega, show (3 * 0 + 0) * 32 + o = 0 + o by omega] at e0
  have e1 := mask_band 120 32 64 rfl mid H W hmid y x 0 1 o hy hx (by omega) (by omega) ho
  rw [show 7 + 0 * 64 + 1 + (y * 64 + x) = 8 + (y * 64 + x) by omega, show (3 * 0 + 1) * 32 + o = 32 + o by omega] at e1
  have e2 := mask_band 120 32 64 rfl mid H W hmid y x 0 2 o hy hx (by omega) (by omega) ho
  rw [show 7 + 0 * 64 + 2 + (y * 64 + x) = 9 + (y * 64 + x) by omega, show (3 * 0 + 2) * 32 + o = 64 + o by omega] at e2
  have e3 := mask_band 120 32 64 rfl mid H W hmid y x 1 0 o hy hx (by omega) (by omega) ho
  rw [show 7 + 1 * 64 + 0 + (y * 64 + x) = 71 + (y * 64 + x) by omega, show (3 * 1 + 0) * 32 + o = 96 + o by omega] at e3
  have e4 := mask_band 120 32 64 rfl mid H W hmid y x 1 1 o hy hx (by omega) (by omega) ho
  rw [show 7 + 1 * 64 + 1 + (y * 64 + x) = 72 + (y * 64 + x) by omega, show (3 * 1 + 1) * 32 + o = 128 + o by omega] at e4
  have e5 := mask_band 120 32 64 rfl mid H W hmid y x 1 2 o hy hx (by omega) (by omega) ho
  rw [show 7 + 1 * 64 + 2 + (y * 64 + x) = 73 + (y * 64 + x) by omega, show (3 * 1 + 2) * 32 + o = 160 + o by omega] at e5
  have e6 := mask_band 120 32 64 rfl mid H W hmid y x 2 0 o hy hx (by omega) (by omega) ho
  rw [show 7 + 2 * 64 + 0 + (y * 64 + x) = 135 + (y * 64 + x) by omega, show (3 * 2 + 0) * 32 + o = 192 + o by omega] at e6
  have e7 := mask_band 120 32 64 rfl mid H W hmid y x 2 1 o hy hx (by omega) (by omega) ho
  rw [show 7 + 2 * 64 + 1 + (y * 64 + x) = 136 + (y * 64 + x) by omega, show (3 * 2 + 1) * 32 + o = 224 + o by omega] at e7
  have e8 := mask_band 120 32 64 rfl mid H W hmid y x 2 2 o hy hx (by omega) (by omega) ho
  rw [show 7 + 2 * 64 + 2 + (y * 64 + x) = 137 + (y * 64 + x) by omega, show (3 * 2 + 2) * 32 + o = 256 + o by omega] at e8
  rw [at2_of_lt _ hr ho, act, sum9, ← e0, ← e1, ← e2, ← e3, ← e4, ← e5, ← e6, ← e7, ← e8]
  simp only [mask0, mask1, mask2, Nat.reduceSub, Nat.reduceAdd]
  unfold act1
  pointwise
  rw [k0_pay8_apply, k0_pay7_apply, ex, h0 ⟨y * 64 + x, hr⟩ ⟨o, ho⟩, h1 ⟨y * 64 + x, hr⟩ ⟨o, ho⟩, h2 ⟨y * 64 + x, hr⟩ ⟨o, ho⟩, h3 ⟨y * 64 + x, hr⟩ ⟨o, ho⟩, h4 ⟨y * 64 + x, hr⟩ ⟨o, ho⟩, h5 ⟨y * 64 + x, hr⟩ ⟨o, ho⟩, h6 ⟨y * 64 + x, hr⟩ ⟨o, ho⟩, h7 ⟨y * 64 + x, hr⟩ ⟨o, ho⟩, h8 ⟨y * 64 + x, hr⟩ ⟨o, ho⟩]
  simp only [sel1]
  rw [at2_ix b 0 ⟨o, ho⟩, Fin.val_zero]
  simp only [Nat.zero_add]

/-- The block at a pixel. -/
theorem blk1 (mid : FVec Ideal S4096x288 .f32) (H : ℕ → ℕ → ℕ → EReal) (W : FVec Ideal S120x288 .f32)
    (hmid : ∀ y x q, y < 64 → x < 64 → q < 9 * 32 → at2 mid (y * 64 + x) q = ∑ c : Fin 120, H c.val y x * at2 W c.val q)
    (b : FVec Ideal S1x32 .f32) (V0 V1 V2 V3 V4 V5 V6 V7 V8 : FVec Ideal S4096x32 .f32)
    (h0 : ∀ r o, V0 (ix2 r o) = band 72 mid (7 + r.val) (0 + o.val)) (h1 : ∀ r o, V1 (ix2 r o) = band 72 mid (8 + r.val) (32 + o.val)) (h2 : ∀ r o, V2 (ix2 r o) = band 72 mid (9 + r.val) (64 + o.val)) (h3 : ∀ r o, V3 (ix2 r o) = band 72 mid (71 + r.val) (96 + o.val)) (h4 : ∀ r o, V4 (ix2 r o) = band 72 mid (72 + r.val) (128 + o.val)) (h5 : ∀ r o, V5 (ix2 r o) = band 72 mid (73 + r.val) (160 + o.val)) (h6 : ∀ r o, V6 (ix2 r o) = band 72 mid (135 + r.val) (192 + o.val)) (h7 : ∀ r o, V7 (ix2 r o) = band 72 mid (136 + r.val) (224 + o.val)) (h8 : ∀ r o, V8 (ix2 r o) = band 72 mid (137 + r.val) (256 + o.val))
    (y x o : ℕ) (hy : y < 32) (hx : x < 32) (ho : o < 32) :
    at2 (pool1 (act1 b V0 V1 V2 V3 V4 V5 V6 V7 V8)) (y * 32 + x) o = blk 120 64 H (wmat 32 W) (fun o => at2 b 0 o) o y x := by
  have e := act1_apply mid H W hmid b V0 V1 V2 V3 V4 V5 V6 V7 V8 h0 h1 h2 h3 h4 h5 h6 h7 h8
  rw [pool1_apply _ y x o hy hx ho, blk, Conv.pool, Conv.pool, e _ _ o (by omega) (by omega) ho, e _ _ o (by omega) (by omega) ho,
    e _ _ o (by omega) (by omega) ho, e _ _ o (by omega) (by omega) ho]

/-- The block's values and their products with the next block's weights, as the body spells them. -/
theorem pay12_eq (b : FVec Ideal S1x32 .f32) (V0 V1 V2 V3 V4 V5 V6 V7 V8 : FVec Ideal S4096x32 .f32) (w : FVec Ideal S32x576 .f32) :
    k0_pay12 b k0_pay7 k0_pay8 (k0_pay9 V0 V1 V2) V3 k0_pay10 V4 V5 V6 V7 V8 w
      = matmul dot_S1024x32_S32x576_S1024x576_1_0_0_1_n_n none (pool1 (act1 b V0 V1 V2 V3 V4 V5 V6 V7 V8))
          (shapeCast S32x576 w shapeCasts_S32x576_S32x576) (constant S1024x576 .f32 0x00000000#32) := rfl

/-- The products of the first block's values with the second block's weights. -/
theorem mid2 (mid : FVec Ideal S4096x288 .f32) (H : ℕ → ℕ → ℕ → EReal) (W : FVec Ideal S120x288 .f32)
    (hmid : ∀ y x q, y < 64 → x < 64 → q < 9 * 32 → at2 mid (y * 64 + x) q = ∑ c : Fin 120, H c.val y x * at2 W c.val q)
    (b : FVec Ideal S1x32 .f32) (V0 V1 V2 V3 V4 V5 V6 V7 V8 : FVec Ideal S4096x32 .f32)
    (h0 : ∀ r o, V0 (ix2 r o) = band 72 mid (7 + r.val) (0 + o.val)) (h1 : ∀ r o, V1 (ix2 r o) = band 72 mid (8 + r.val) (32 + o.val)) (h2 : ∀ r o, V2 (ix2 r o) = band 72 mid (9 + r.val) (64 + o.val)) (h3 : ∀ r o, V3 (ix2 r o) = band 72 mid (71 + r.val) (96 + o.val)) (h4 : ∀ r o, V4 (ix2 r o) = band 72 mid (72 + r.val) (128 + o.val)) (h5 : ∀ r o, V5 (ix2 r o) = band 72 mid (73 + r.val) (160 + o.val)) (h6 : ∀ r o, V6 (ix2 r o) = band 72 mid (135 + r.val) (192 + o.val)) (h7 : ∀ r o, V7 (ix2 r o) = band 72 mid (136 + r.val) (224 + o.val)) (h8 : ∀ r o, V8 (ix2 r o) = band 72 mid (137 + r.val) (256 + o.val))
    (w : FVec Ideal S32x576 .f32) (y x q : ℕ) (hy : y < 32) (hx : x < 32) (hq : q < 9 * 64) :
    at2 (k0_pay15 (F := Ideal) (k0_pay12 b k0_pay7 k0_pay8 (k0_pay9 V0 V1 V2) V3 k0_pay10 V4 V5 V6 V7 V8 w)) (y * 32 + x) q
      = ∑ c : Fin 32, blk 120 64 H (wmat 32 W) (fun o => at2 b 0 o) c.val y x * at2 w c.val q := by
  have hr : y * 32 + x < 1024 := by omega
  have hq' : q < 576 := hq
  rw [pay12_eq, at2_of_lt _ hr hq']
  pointwise [dot_S1024x32_S32x576_S1024x576_1_0_0_1_n_n, k0_pay15]
  refine Finset.sum_congr rfl fun c _ => ?_
  rw [at2_ix (pool1 _), at2_ix w, blk1 mid H W hmid b V0 V1 V2 V3 V4 V5 V6 V7 V8 h0 h1 h2 h3 h4 h5 h6 h7 h8 y x c.val hy hx c.isLt]

/-- The products of the input's pixels with the first block's weights. -/
theorem mid1 (x0 : FVec Ideal S1x120x4096 .f32) (w : FVec Ideal S120x288 .f32) (y x q : ℕ) (hy : y < 64) (hx : x < 64) (hq : q < 9 * 32) :
    at2 (k0_pay5 (F := Ideal) x0 w) (y * 64 + x) q
      = ∑ c : Fin 120, at3 x0 0 c.val (y * 64 + x) * at2 w c.val q := by
  have hr : y * 64 + x < 4096 := by omega
  have hq' : q < 288 := hq
  rw [at2_of_lt _ hr hq']
  pointwise [dot_S120x4096_S120x288_S4096x288_0_0_1_1_n_n, k0_pay5]
  refine Finset.sum_congr rfl fun c _ => ?_
  rw [at3_of_lt x0 (by omega) c.isLt hr, at2_of_lt w c.isLt hq']
  rfl

end Cert.Stage

end
-- ==== Proof.Stage2.lean ====
/- Block 2 of the encoder's body, read at coordinates. -/
module

public import proofs.«01_k».proof.Proof.Gen.EncIdeal.Skeleton
public import proofs.«01_k».proof.Proof.Band
public import Idealize.ShloMosaic.Lib.Pointwise

@[expose] public section

set_option maxRecDepth 16384

noncomputable section

namespace Cert.Stage

open Idealize.ShloMosaic Cert.EncIdeal Cert.EncIdeal.Gen Cert.Conv Cert.Rows Cert.Band

/-- Nine loads added with the masks, plus bias, cut off at zero. -/
def act2 (b : FVec Ideal S1x64 .f32) (V0 V1 V2 V3 V4 V5 V6 V7 V8 : FVec Ideal S1024x64 .f32) : FVec Ideal S1024x64 .f32 :=
  have z : FVec Ideal S1024x64 .f32 := broadcast S1024x64 (Scalar.ofBits .f32 0x00000000#32)
  maximumf (addf (addf (addf (addf (addf (addf (addf (addf (addf (select k0_pay18 V0 z) V1) (select k0_pay17 V2 z)) (select k0_pay18 V3 z)) V4)
    (select k0_pay17 V5 z)) (select k0_pay18 V6 z)) V7) (select k0_pay17 V8 z)) (broadcastTo S1024x64 b broadcasts_S1x64_S1024x64)) z

/-- The 2×2 maximum pool of rows that are the pixels of a 32×32 image. -/
def pool2 (v : FVec Ideal S1024x64 .f32) : FVec Ideal S256x64 .f32 :=
  have p : FVec Ideal S512x2x64 .f32 := shapeCast S512x2x64 v shapeCasts_S1024x64_S512x2x64
  have q : FVec Ideal S512x64 .f32 := maximumf
    (shapeCast S512x64 (extractStridedSlice S512x1x64 ![0, 0, 0] p slices_S512x2x64_o0_0_0_S512x1x64) shapeCasts_S512x1x64_S512x64)
    (shapeCast S512x64 (extractStridedSlice S512x1x64 ![0, 1, 0] p slices_S512x2x64_o0_1_0_S512x1x64) shapeCasts_S512x1x64_S512x64)
  have t : FVec Ideal S16x2x16x64 .f32 := shapeCast S16x2x16x64 q shapeCasts_S512x64_S16x2x16x64
  shapeCast S256x64 (maximumf
    (shapeCast S16x16x64 (extractStridedSlice S16x1x16x64 ![0, 0, 0, 0] t slices_S16x2x16x64_o0_0_0_0_S16x1x16x64) shapeCasts_S16x1x16x64_S16x16x64)
    (shapeCast S16x16x64 (extractStridedSlice S16x1x16x64 ![0, 1, 0, 0] t slices_S16x2x16x64_o0_1_0_0_S16x1x16x64) shapeCasts_S16x1x16x64_S16x16x64))
    shapeCasts_S16x16x64_S256x64

theorem k0_pay18_apply (r : Fin 1024) (o : Fin 64) : k0_pay18 (ix2 r o) = if r.val % 32 = 0 then 0#1 else 1#1 := by
  pointwise [k0_pay18, k0_pay16]
  revert r
  decide +kernel

theorem k0_pay17_apply (r : Fin 1024) (o : Fin 64) : k0_pay17 (ix2 r o) = if r.val % 32 = 31 then 0#1 else 1#1 := by
  pointwise [k0_pay17, k0_pay16]
  revert r
  decide +kernel

theorem sel2 (k : Prop) [Decidable k] (v : EReal) : Scalar.select (if k then (0#1 : BitVec 1) else 1#1) v 0 = if k then 0 else v := by
  split_ifs <;> rfl

/-- The pool of the rows at a pixel. -/
theorem pool2_apply (v : FVec Ideal S1024x64 .f32) (y x c : ℕ) (hy : y < 16) (hx : x < 16) (hc : c < 64) :
    at2 (pool2 v) (y * 16 + x) c = Conv.pool (fun Y X => at2 v (Y * 32 + X) c) y x := by
  have hr : y * 16 + x < 256 := by omega
  have e1 : (y * 16 + x) / 16 = y := by omega
  have e2 : (y * 16 + x) % 16 = x := by omega
  rw [at2_of_lt _ hr hc]
  unfold pool2
  pointwise [e1, e2]
  unfold Conv.pool
  simp only [at2_ix]
  refine congrArg₂ max (congrArg₂ max ?_ ?_) (congrArg₂ max ?_ ?_) <;> exact congrArg (fun r => at2 v r c) (by omega)

/-- The values before the pool are the convolution's, cut off at zero. -/
theorem act2_apply (mid : FVec Ideal S1024x576 .f32) (H : ℕ → ℕ → ℕ → EReal) (W : FVec Ideal S32x576 .f32)
    (hmid : ∀ y x q, y < 32 → x < 32 → q < 9 * 64 → at2 mid (y * 32 + x) q = ∑ c : Fin 32, H c.val y x * at2 W c.val q)
    (b : FVec Ideal S1x64 .f32) (V0 V1 V2 V3 V4 V5 V6 V7 V8 : FVec Ideal S1024x64 .f32)
    (h0 : ∀ r o, V0 (ix2 r o) = band 40 mid (7 + r.val) (0 + o.val)) (h1 : ∀ r o, V1 (ix2 r o) = band 40 mid (8 + r.val) (64 + o.val)) (h2 : ∀ r o, V2 (ix2 r o) = band 40 mid (9 + r.val) (128 + o.val)) (h3 : ∀ r o, V3 (ix2 r o) = band 40 mid (39 + r.val) (192 + o.val)) (h4 : ∀ r o, V4 (ix2 r o) = band 40 mid (40 + r.val) (256 + o.val)) (h5 : ∀ r o, V5 (ix2 r o) = band 40 mid (41 + r.val) (320 + o.val)) (h6 : ∀ r o, V6 (ix2 r o) = band 40 mid (71 + r.val) (384 + o.val)) (h7 : ∀ r o, V7 (ix2 r o) = band 40 mid (72 + r.val) (448 + o.val)) (h8 : ∀ r o, V8 (ix2 r o) = band 40 mid (73 + r.val) (512 + o.val))
    (y x o : ℕ) (hy : y < 32) (hx : x < 32) (ho : o < 64) :
    at2 (act2 b V0 V1 V2 V3 V4 V5 V6 V7 V8) (y * 32 + x) o = act 32 32 H (wmat 64 W) (fun o => at2 b 0 o) o y x := by
  have hr : y * 32 + x < 1024 := by omega
  have ex : (y * 32 + x) % 32 = x := by omega
  have e0 := mask_band 32 64 32 rfl mid H W hmid y x 0 0 o hy hx (by omega) (by omega) ho
  rw [show 7 + 0 * 32 + 0 + (y * 32 + x) = 7 + (y * 32 + x) by omega, show (3 * 0 + 0) * 64 + o = 0 + o by omega] at e0
  have e1 := mask_band 32 64 32 rfl mid H W hmid y x 0 1 o hy hx (by omega) (by omega) ho
  rw [show 7 + 0 * 32 + 1 + (y * 32 + x) = 8 + (y * 32 + x) by omega, show (3 * 0 + 1) * 64 + o = 64 + o by omega] at e1
  have e2 := mask_band 32 64 32 rfl mid H W hmid y x 0 2 o hy hx (by omega) (by omega) ho
  rw [show 7 + 0 * 32 + 2 + (y * 32 + x) = 9 + (y * 32 + x) by omega, show (3 * 0 + 2) * 64 + o = 128 + o by omega] at e2
  have e3 := mask_band 32 64 32 rfl mid H W hmid y x 1 0 o hy hx (by omega) (by omega) ho
  rw [show 7 + 1 * 32 + 0 + (y * 32 + x) = 39 + (y * 32 + x) by omega, show (3 * 1 + 0) * 64 + o = 192 + o by omega] at e3
  have e4 := mask_band 32 64 32 rfl mid H W hmid y x 1 1 o hy hx (by omega) (by omega) ho
  rw [show 7 + 1 * 32 + 1 + (y * 32 + x) = 40 + (y * 32 + x) by omega, show (3 * 1 + 1) * 64 + o = 256 + o by omega] at e4
  have e5 := mask_band 32 64 32 rfl mid H W hmid y x 1 2 o hy hx (by omega) (by omega) ho
  rw [show 7 + 1 * 32 + 2 + (y * 32 + x) = 41 + (y * 32 + x) by omega, show (3 * 1 + 2) * 64 + o = 320 + o by omega] at e5
  have e6 := mask_band 32 64 32 rfl mid H W hmid y x 2 0 o hy hx (by omega) (by omega) ho
  rw [show 7 + 2 * 32 + 0 + (y * 32 + x) = 71 + (y * 32 + x) by omega, show (3 * 2 + 0) * 64 + o = 384 + o by omega] at e6
  have e7 := mask_band 32 64 32 rfl mid H W hmid y x 2 1 o hy hx (by omega) (by omega) ho
  rw [show 7 + 2 * 32 + 1 + (y * 32 + x) = 72 + (y * 32 + x) by omega, show (3 * 2 + 1) * 64 + o = 448 + o by omega] at e7
  have e8 := mask_band 32 64 32 rfl mid H W hmid y x 2 2 o hy hx (by omega) (by omega) ho
  rw [show 7 + 2 * 32 + 2 + (y * 32 + x) = 73 + (y * 32 + x) by omega, show (3 * 2 + 2) * 64 + o = 512 + o by omega] at e8
  rw [at2_of_lt _ hr ho, act, sum9, ← e0, ← e1, ← e2, ← e3, ← e4, ← e5, ← e6, ← e7, ← e8]
  simp only [mask0, mask1, mask2, Nat.reduceSub, Nat.reduceAdd]
  unfold act2
  pointwise
  rw [k0_pay18_apply, k0_pay17_apply, ex, h0 ⟨y * 32 + x, hr⟩ ⟨o, ho⟩, h1 ⟨y * 32 + x, hr⟩ ⟨o, ho⟩, h2 ⟨y * 32 + x, hr⟩ ⟨o, ho⟩, h3 ⟨y * 32 + x, hr⟩ ⟨o, ho⟩, h4 ⟨y * 32 + x, hr⟩ ⟨o, ho⟩, h5 ⟨y * 32 + x, hr⟩ ⟨o, ho⟩, h6 ⟨y * 32 + x, hr⟩ ⟨o, ho⟩, h7 ⟨y * 32 + x, hr⟩ ⟨o, ho⟩, h8 ⟨y * 32 + x, hr⟩ ⟨o, ho⟩]
  simp only [sel2]
  rw [at2_ix b 0 ⟨o, ho⟩, Fin.val_zero]
  simp only [Nat.zero_add]

/-- The block at a pixel. -/
theorem blk2 (mid : FVec Ideal S1024x576 .f32) (H : ℕ → ℕ → ℕ → EReal) (W : FVec Ideal S32x576 .f32)
    (hmid : ∀ y x q, y < 32 → x < 32 → q < 9 * 64 → at2 mid (y * 32 + x) q = ∑ c : Fin 32, H c.val y x * at2 W c.val q)
    (b : FVec Ideal S1x64 .f32) (V0 V1 V2 V3 V4 V5 V6 V7 V8 : FVec Ideal S1024x64 .f32)
    (h0 : ∀ r o, V0 (ix2 r o) = band 40 mid (7 + r.val) (0 + o.val)) (h1 : ∀ r o, V1 (ix2 r o) = band 40 mid (8 + r.val) (64 + o.val)) (h2 : ∀ r o, V2 (ix2 r o) = band 40 mid (9 + r.val) (128 + o.val)) (h3 : ∀ r o, V3 (ix2 r o) = band 40 mid (39 + r.val) (192 + o.val)) (h4 : ∀ r o, V4 (ix2 r o) = band 40 mid (40 + r.val) (256 + o.val)) (h5 : ∀ r o, V5 (ix2 r o) = band 40 mid (41 + r.val) (320 + o.val)) (h6 : ∀ r o, V6 (ix2 r o) = band 40 mid (71 + r.val) (384 + o.val)) (h7 : ∀ r o, V7 (ix2 r o) = band 40 mid (72 + r.val) (448 + o.val)) (h8 : ∀ r o, V8 (ix2 r o) = band 40 mid (73 + r.val) (512 + o.val))
    (y x o : ℕ) (hy : y < 16) (hx : x < 16) (ho : o < 64) :
    at2 (pool2 (act2 b V0 V1 V2 V3 V4 V5 V6 V7 V8)) (y * 16 + x) o = blk 32 32 H (wmat 64 W) (fun o => at2 b 0 o) o y x := by
  have e := act2_apply mid H W hmid b V0 V1 V2 V3 V4 V5 V6 V7 V8 h0 h1 h2 h3 h4 h5 h6 h7 h8
  rw [pool2_apply _ y x o hy hx ho, blk, Conv.pool, Conv.pool, e _ _ o (by omega) (by omega) ho, e _ _ o (by omega) (by omega) ho,
    e _ _ o (by omega) (by omega) ho, e _ _ o (by omega) (by omega) ho]

/-- The block's values and their products with the next block's weights, as the body spells them. -/
theorem pay24_eq (b : FVec Ideal S1x64 .f32) (V0 V1 V2 V3 V4 V5 V6 V7 V8 : FVec Ideal S1024x64 .f32) (w : FVec Ideal S64x1152 .f32) :
    k0_pay24 b k0_pay17 (k0_pay19 V0 V1 V2 V3 V4 V5) (k0_pay20 V6) V7 V8 w
      = shapeCast S256x1152 (matmul dot_S256x64_S64x1152_S256x1152_1_0_0_1_n_n none (pool2 (act2 b V0 V1 V2 V3 V4 V5 V6 V7 V8))
          (shapeCast S64x1152 w shapeCasts_S64x1152_S64x1152) (constant S256x1152 .f32 0x00000000#32)) shapeCasts_S256x1152_S256x1152 := rfl

/-- The products of the second block's values with the third block's weights. -/
theorem mid3 (mid : FVec Ideal S1024x576 .f32) (H : ℕ → ℕ → ℕ → EReal) (W : FVec Ideal S32x576 .f32)
    (hmid : ∀ y x q, y < 32 → x < 32 → q < 9 * 64 → at2 mid (y * 32 + x) q = ∑ c : Fin 32, H c.val y x * at2 W c.val q)
    (b : FVec Ideal S1x64 .f32) (V0 V1 V2 V3 V4 V5 V6 V7 V8 : FVec Ideal S1024x64 .f32)
    (h0 : ∀ r o, V0 (ix2 r o) = band 40 mid (7 + r.val) (0 + o.val)) (h1 : ∀ r o, V1 (ix2 r o) = band 40 mid (8 + r.val) (64 + o.val)) (h2 : ∀ r o, V2 (ix2 r o) = band 40 mid (9 + r.val) (128 + o.val)) (h3 : ∀ r o, V3 (ix2 r o) = band 40 mid (39 + r.val) (192 + o.val)) (h4 : ∀ r o, V4 (ix2 r o) = band 40 mid (40 + r.val) (256 + o.val)) (h5 : ∀ r o, V5 (ix2 r o) = band 40 mid (41 + r.val) (320 + o.val)) (h6 : ∀ r o, V6 (ix2 r o) = band 40 mid (71 + r.val) (384 + o.val)) (h7 : ∀ r o, V7 (ix2 r o) = band 40 mid (72 + r.val) (448 + o.val)) (h8 : ∀ r o, V8 (ix2 r o) = band 40 mid (73 + r.val) (512 + o.val))
    (w : FVec Ideal S64x1152 .f32) (y x q : ℕ) (hy : y < 16) (hx : x < 16) (hq : q < 9 * 128) :
    at2 (k0_pay24 b k0_pay17 (k0_pay19 V0 V1 V2 V3 V4 V5) (k0_pay20 V6) V7 V8 w) (y * 16 + x) q
      = ∑ c : Fin 64, blk 32 32 H (wmat 64 W) (fun o => at2 b 0 o) c.val y x * at2 w c.val q := by
  have hr : y * 16 + x < 256 := by omega
  have hq' : q < 1152 := hq
  rw [pay24_eq, at2_of_lt _ hr hq']
  pointwise [dot_S256x64_S64x1152_S256x1152_1_0_0_1_n_n]
  refine Finset.sum_congr rfl fun c _ => ?_
  rw [at2_ix (pool2 _), at2_ix w, blk2 mid H W hmid b V0 V1 V2 V3 V4 V5 V6 V7 V8 h0 h1 h2 h3 h4 h5 h6 h7 h8 y x c.val hy hx c.isLt]

end Cert.Stage

end
-- ==== Proof.Stage3.lean ====
/- Block 3 of the encoder's body, read at coordinates. -/
module

public import proofs.«01_k».proof.Proof.Gen.EncIdeal.Skeleton
public import proofs.«01_k».proof.Proof.Band
public import Idealize.ShloMosaic.Lib.Pointwise

@[expose] public section

set_option maxRecDepth 16384

noncomputable section

namespace Cert.Stage

open Idealize.ShloMosaic Cert.EncIdeal Cert.EncIdeal.Gen Cert.Conv Cert.Rows Cert.Band

/-- Nine loads added with the masks, plus bias, cut off at zero. -/
def act3 (b : FVec Ideal S1x128 .f32) (V0 V1 V2 V3 V4 V5 V6 V7 V8 : FVec Ideal S256x128 .f32) : FVec Ideal S256x128 .f32 :=
  have z : FVec Ideal S256x128 .f32 := broadcast S256x128 (Scalar.ofBits .f32 0x00000000#32)
  maximumf (addf (addf (addf (addf (addf (addf (addf (addf (addf (select k0_pay27 V0 z) V1) (select k0_pay26 V2 z)) (select k0_pay27 V3 z)) V4)
    (select k0_pay26 V5 z)) (select k0_pay27 V6 z)) V7) (select k0_pay26 V8 z)) (broadcastTo S256x128 b broadcasts_S1x128_S256x128)) z

/-- The 2×2 maximum pool of rows that are the pixels of a 16×16 image. -/
def pool3 (v : FVec Ideal S256x128 .f32) : FVec Ideal S64x128 .f32 :=
  have p : FVec Ideal S128x2x128 .f32 := shapeCast S128x2x128 v shapeCasts_S256x128_S128x2x128
  have q : FVec Ideal S128x128 .f32 := maximumf
    (shapeCast S128x128 (extractStridedSlice S128x1x128 ![0, 0, 0] p slices_S128x2x128_o0_0_0_S128x1x128) shapeCasts_S128x1x128_S128x128)
    (shapeCast S128x128 (extractStridedSlice S128x1x128 ![0, 1, 0] p slices_S128x2x128_o0_1_0_S128x1x128) shapeCasts_S128x1x128_S128x128)
  have t : FVec Ideal S8x2x8x128 .f32 := shapeCast S8x2x8x128 q shapeCasts_S128x128_S8x2x8x128
  shapeCast S64x128 (maximumf
    (shapeCast S8x8x128 (extractStridedSlice S8x1x8x128 ![0, 0, 0, 0] t slices_S8x2x8x128_o0_0_0_0_S8x1x8x128) shapeCasts_S8x1x8x128_S8x8x128)
    (shapeCast S8x8x128 (extractStridedSlice S8x1x8x128 ![0, 1, 0, 0] t slices_S8x2x8x128_o0_1_0_0_S8x1x8x128) shapeCasts_S8x1x8x128_S8x8x128))
    shapeCasts_S8x8x128_S64x128

theorem k0_pay27_apply (r : Fin 256) (o : Fin 128) : k0_pay27 (ix2 r o) = if r.val % 16 = 0 then 0#1 else 1#1 := by
  pointwise [k0_pay27, k0_pay25]
  revert r
  decide +kernel

theorem k0_pay26_apply (r : Fin 256) (o : Fin 128) : k0_pay26 (ix2 r o) = if r.val % 16 = 15 then 0#1 else 1#1 := by
  pointwise [k0_pay26, k0_pay25]
  revert r
  decide +kernel

theorem sel3 (k : Prop) [Decidable k] (v : EReal) : Scalar.select (if k then (0#1 : BitVec 1) else 1#1) v 0 = if k then 0 else v := by
  split_ifs <;> rfl

/-- The pool of the rows at a pixel. -/
theorem pool3_apply (v : FVec Ideal S256x128 .f32) (y x c : ℕ) (hy : y < 8) (hx : x < 8) (hc : c < 128) :
    at2 (pool3 v) (y * 8 + x) c = Conv.pool (fun Y X => at2 v (Y * 16 + X) c) y x := by
  have hr : y * 8 + x < 64 := by omega
  have e1 : (y * 8 + x) / 8 = y := by omega
  have e2 : (y * 8 + x) % 8 = x := by omega
  rw [at2_of_lt _ hr hc]
  unfold pool3
  pointwise [e1, e2]
  unfold Conv.pool
  simp only [at2_ix]
  refine congrArg₂ max (congrArg₂ max ?_ ?_) (congrArg₂ max ?_ ?_) <;> exact congrArg (fun r => at2 v r c) (by omega)

/-- The values before the pool are the convolution's, cut off at zero. -/
theorem act3_apply (mid : FVec Ideal S256x1152 .f32) (H : ℕ → ℕ → ℕ → EReal) (W : FVec Ideal S64x1152 .f32)
    (hmid : ∀ y x q, y < 16 → x < 16 → q < 9 * 128 → at2 mid (y * 16 + x) q = ∑ c : Fin 64, H c.val y x * at2 W c.val q)
    (b : FVec Ideal S1x128 .f32) (V0 V1 V2 V3 V4 V5 V6 V7 V8 : FVec Ideal S256x128 .f32)
    (h0 : ∀ r o, V0 (ix2 r o) = band 24 mid (7 + r.val) (0 + o.val)) (h1 : ∀ r o, V1 (ix2 r o) = band 24 mid (8 + r.val) (128 + o.val)) (h2 : ∀ r o, V2 (ix2 r o) = band 24 mid (9 + r.val) (256 + o.val)) (h3 : ∀ r o, V3 (ix2 r o) = band 24 mid (23 + r.val) (384 + o.val)) (h4 : ∀ r o, V4 (ix2 r o) = band 24 mid (24 + r.val) (512 + o.val)) (h5 : ∀ r o, V5 (ix2 r o) = band 24 mid (25 + r.val) (640 + o.val)) (h6 : ∀ r o, V6 (ix2 r o) = band 24 mid (39 + r.val) (768 + o.val)) (h7 : ∀ r o, V7 (ix2 r o) = band 24 mid (40 + r.val) (896 + o.val)) (h8 : ∀ r o, V8 (ix2 r o) = band 24 mid (41 + r.val) (1024 + o.val))
    (y x o : ℕ) (hy : y < 16) (hx : x < 16) (ho : o < 128) :
    at2 (act3 b V0 V1 V2 V3 V4 V5 V6 V7 V8) (y * 16 + x) o = act 64 16 H (wmat 128 W) (fun o => at2 b 0 o) o y x := by
  have hr : y * 16 + x < 256 := by omega
  have ex : (y * 16 + x) % 16 = x := by omega
  have e0 := mask_band 64 128 16 rfl mid H W hmid y x 0 0 o hy hx (by omega) (by omega) ho
  rw [show 7 + 0 * 16 + 0 + (y * 16 + x) = 7 + (y * 16 + x) by omega, show (3 * 0 + 0) * 128 + o = 0 + o by omega] at e0
  have e1 := mask_band 64 128 16 rfl mid H W hmid y x 0 1 o hy hx (by omega) (by omega) ho
  rw [show 7 + 0 * 16 + 1 + (y * 16 + x) = 8 + (y * 16 + x) by omega, show (3 * 0 + 1) * 128 + o = 128 + o by omega] at e1
  have e2 := mask_band 64 128 16 rfl mid H W hmid y x 0 2 o hy hx (by omega) (by omega) ho
  rw [show 7 + 0 * 16 + 2 + (y * 16 + x) = 9 + (y * 16 + x) by omega, show (3 * 0 + 2) * 128 + o = 256 + o by omega] at e2
  have e3 := mask_band 64 128 16 rfl mid H W hmid y x 1 0 o hy hx (by omega) (by omega) ho
  rw [show 7 + 1 * 16 + 0 + (y * 16 + x) = 23 + (y * 16 + x) by omega, show (3 * 1 + 0) * 128 + o = 384 + o by omega] at e3
  have e4 := mask_band 64 128 16 rfl mid H W hmid y x 1 1 o hy hx (by omega) (by omega) ho
  rw [show 7 + 1 * 16 + 1 + (y * 16 + x) = 24 + (y * 16 + x) by omega, show (3 * 1 + 1) * 128 + o = 512 + o by omega] at e4
  have e5 := mask_band 64 128 16 rfl mid H W hmid y x 1 2 o hy hx (by omega) (by omega) ho
  rw [show 7 + 1 * 16 + 2 + (y * 16 + x) = 25 + (y * 16 + x) by omega, show (3 * 1 + 2) * 128 + o = 640 + o by omega] at e5
  have e6 := mask_band 64 128 16 rfl mid H W hmid y x 2 0 o hy hx (by omega) (by omega) ho
  rw [show 7 + 2 * 16 + 0 + (y * 16 + x) = 39 + (y * 16 + x) by omega, show (3 * 2 + 0) * 128 + o = 768 + o by omega] at e6
  have e7 := mask_band 64 128 16 rfl mid H W hmid y x 2 1 o hy hx (by omega) (by omega) ho
  rw [show 7 + 2 * 16 + 1 + (y * 16 + x) = 40 + (y * 16 + x) by omega, show (3 * 2 + 1) * 128 + o = 896 + o by omega] at e7
  have e8 := mask_band 64 128 16 rfl mid H W hmid y x 2 2 o hy hx (by omega) (by omega) ho
  rw [show 7 + 2 * 16 + 2 + (y * 16 + x) = 41 + (y * 16 + x) by omega, show (3 * 2 + 2) * 128 + o = 1024 + o by omega] at e8
  rw [at2_of_lt _ hr ho, act, sum9, ← e0, ← e1, ← e2, ← e3, ← e4, ← e5, ← e6, ← e7, ← e8]
  simp only [mask0, mask1, mask2, Nat.reduceSub, Nat.reduceAdd]
  unfold act3
  pointwise
  rw [k0_pay27_apply, k0_pay26_apply, ex, h0 ⟨y * 16 + x, hr⟩ ⟨o, ho⟩, h1 ⟨y * 16 + x, hr⟩ ⟨o, ho⟩, h2 ⟨y * 16 + x, hr⟩ ⟨o, ho⟩, h3 ⟨y * 16 + x, hr⟩ ⟨o, ho⟩, h4 ⟨y * 16 + x, hr⟩ ⟨o, ho⟩, h5 ⟨y * 16 + x, hr⟩ ⟨o, ho⟩, h6 ⟨y * 16 + x, hr⟩ ⟨o, ho⟩, h7 ⟨y * 16 + x, hr⟩ ⟨o, ho⟩, h8 ⟨y * 16 + x, hr⟩ ⟨o, ho⟩]
  simp only [sel3]
  rw [at2_ix b 0 ⟨o, ho⟩, Fin.val_zero]
  simp only [Nat.zero_add]

/-- The block at a pixel. -/
theorem blk3 (mid : FVec Ideal S256x1152 .f32) (H : ℕ → ℕ → ℕ → EReal) (W : FVec Ideal S64x1152 .f32)
    (hmid : ∀ y x q, y < 16 → x < 16 → q < 9 * 128 → at2 mid (y * 16 + x) q = ∑ c : Fin 64, H c.val y x * at2 W c.val q)
    (b : FVec Ideal S1x128 .f32) (V0 V1 V2 V3 V4 V5 V6 V7 V8 : FVec Ideal S256x128 .f32)
    (h0 : ∀ r o, V0 (ix2 r o) = band 24 mid (7 + r.val) (0 + o.val)) (h1 : ∀ r o, V1 (ix2 r o) = band 24 mid (8 + r.val) (128 + o.val)) (h2 : ∀ r o, V2 (ix2 r o) = band 24 mid (9 + r.val) (256 + o.val)) (h3 : ∀ r o, V3 (ix2 r o) = band 24 mid (23 + r.val) (384 + o.val)) (h4 : ∀ r o, V4 (ix2 r o) = band 24 mid (24 + r.val) (512 + o.val)) (h5 : ∀ r o, V5 (ix2 r o) = band 24 mid (25 + r.val) (640 + o.val)) (h6 : ∀ r o, V6 (ix2 r o) = band 24 mid (39 + r.val) (768 + o.val)) (h7 : ∀ r o, V7 (ix2 r o) = band 24 mid (40 + r.val) (896 + o.val)) (h8 : ∀ r o, V8 (ix2 r o) = band 24 mid (41 + r.val) (1024 + o.val))
    (y x o : ℕ) (hy : y < 8) (hx : x < 8) (ho : o < 128) :
    at2 (pool3 (act3 b V0 V1 V2 V3 V4 V5 V6 V7 V8)) (y * 8 + x) o = blk 64 16 H (wmat 128 W) (fun o => at2 b 0 o) o y x := by
  have e := act3_apply mid H W hmid b V0 V1 V2 V3 V4 V5 V6 V7 V8 h0 h1 h2 h3 h4 h5 h6 h7 h8
  rw [pool3_apply _ y x o hy hx ho, blk, Conv.pool, Conv.pool, e _ _ o (by omega) (by omega) ho, e _ _ o (by omega) (by omega) ho,
    e _ _ o (by omega) (by omega) ho, e _ _ o (by omega) (by omega) ho]

/-- The block's values transposed, as the body spells them. -/
theorem pay1_eq (b : FVec Ideal S1x128 .f32) (V0 V1 V2 V3 V4 V5 V6 V7 V8 : FVec Ideal S256x128 .f32) :
    k0_pay1 (k0_pay28 b k0_pay26 k0_pay27 V0 V1 V2 V3 V4 V5 V6 V7 V8) (k0_pay29 b k0_pay26 k0_pay27 V0 V1 V2 V3 V4 V5 V6 V7 V8)
      = shapeCast S1x128x64 (transpose S128x64 [1, 0] (pool3 (act3 b V0 V1 V2 V3 V4 V5 V6 V7 V8)) transposes_S64x128_p1_0_S128x64)
          shapeCasts_S128x64_S1x128x64 := rfl

/-- What the body writes: the third block's values, channels first. -/
theorem out3 (mid : FVec Ideal S256x1152 .f32) (H : ℕ → ℕ → ℕ → EReal) (W : FVec Ideal S64x1152 .f32)
    (hmid : ∀ y x q, y < 16 → x < 16 → q < 9 * 128 → at2 mid (y * 16 + x) q = ∑ c : Fin 64, H c.val y x * at2 W c.val q)
    (b : FVec Ideal S1x128 .f32) (V0 V1 V2 V3 V4 V5 V6 V7 V8 : FVec Ideal S256x128 .f32)
    (h0 : ∀ r o, V0 (ix2 r o) = band 24 mid (7 + r.val) (0 + o.val)) (h1 : ∀ r o, V1 (ix2 r o) = band 24 mid (8 + r.val) (128 + o.val)) (h2 : ∀ r o, V2 (ix2 r o) = band 24 mid (9 + r.val) (256 + o.val)) (h3 : ∀ r o, V3 (ix2 r o) = band 24 mid (23 + r.val) (384 + o.val)) (h4 : ∀ r o, V4 (ix2 r o) = band 24 mid (24 + r.val) (512 + o.val)) (h5 : ∀ r o, V5 (ix2 r o) = band 24 mid (25 + r.val) (640 + o.val)) (h6 : ∀ r o, V6 (ix2 r o) = band 24 mid (39 + r.val) (768 + o.val)) (h7 : ∀ r o, V7 (ix2 r o) = band 24 mid (40 + r.val) (896 + o.val)) (h8 : ∀ r o, V8 (ix2 r o) = band 24 mid (41 + r.val) (1024 + o.val))
    (z : Fin 1) (o : Fin 128) (p : Fin 64) :
    k0_pay1 (k0_pay28 b k0_pay26 k0_pay27 V0 V1 V2 V3 V4 V5 V6 V7 V8) (k0_pay29 b k0_pay26 k0_pay27 V0 V1 V2 V3 V4 V5 V6 V7 V8)
        (ix3 z o p) = blk 64 16 H (wmat 128 W) (fun o => at2 b 0 o) o.val (p.val / 8) (p.val % 8) := by
  rw [pay1_eq]
  pointwise
  rw [← blk3 mid H W hmid b V0 V1 V2 V3 V4 V5 V6 V7 V8 h0 h1 h2 h3 h4 h5 h6 h7 h8 _ _ o.val (by omega) (by omega) o.isLt, at2_ix (pool3 _)]
  exact congrArg (fun r => at2 (pool3 (act3 b V0 V1 V2 V3 V4 V5 V6 V7 V8)) r o.val) (by omega)

end Cert.Stage

end
-- ==== Proof.Body.lean ====
/- The encoder's body at one grid point: what it writes and what it leaves in its scratches. -/
module

public import proofs.«01_k».proof.Proof.Gen.EncIdeal.Frame
public import proofs.«01_k».proof.Proof.Stage1
public import proofs.«01_k».proof.Proof.Stage2
public import proofs.«01_k».proof.Proof.Stage3

@[expose] public section

set_option maxRecDepth 16384

noncomputable section

namespace Cert.Body

open Idealize.ShloMosaic Cert.EncIdeal Cert.EncIdeal.Gen Cert.Conv Cert.Rows Cert.Band Cert.Stage

/-- The three blocks of the encoder on the seven blocks of operands a grid point reads. -/
def enc (x0 : FVec Ideal S1x120x4096 .f32) (x1 : FVec Ideal S120x288 .f32) (x2 : FVec Ideal S32x576 .f32) (x3 : FVec Ideal S64x1152 .f32)
    (x4 : FVec Ideal S1x32 .f32) (x5 : FVec Ideal S1x64 .f32) (x6 : FVec Ideal S1x128 .f32) (o y x : ℕ) : EReal :=
  blk 64 16 (blk 32 32 (blk 120 64 (fun c y x => at3 x0 0 c (y * 64 + x)) (wmat 32 x1) (fun o => at2 x4 0 o))
    (wmat 64 x2) (fun o => at2 x5 0 o)) (wmat 128 x3) (fun o => at2 x6 0 o) o y x

theorem pay3_zero (j : S72x288.Idx) : k0_pay3 (F := Ideal) j = 0 := by
  pointwise [k0_pay3]

theorem pay4_zero (j : S72x288.Idx) : k0_pay4 (F := Ideal) j = 0 := by
  pointwise [k0_pay4]

theorem pay13_zero (j : S40x576.Idx) : k0_pay13 (F := Ideal) j = 0 := by
  pointwise [k0_pay13]

theorem pay14_zero (j : S40x576.Idx) : k0_pay14 (F := Ideal) j = 0 := by
  pointwise [k0_pay14]

theorem pay22_zero (j : S24x1152.Idx) : k0_pay22 (F := Ideal) j = 0 := by
  pointwise [k0_pay22]

theorem pay23_zero (j : S24x1152.Idx) : k0_pay23 (F := Ideal) j = 0 := by
  pointwise [k0_pay23]

theorem pay2_eq (v : FVec Ideal S1x32 .f32) : k0_pay2 v = v := by
  funext j
  pointwise [k0_pay2]

theorem pay11_eq (v : FVec Ideal S1x64 .f32) : k0_pay11 v = v := by
  funext j
  pointwise [k0_pay11]

theorem pay21_eq (v : FVec Ideal S1x128 .f32) : k0_pay21 v = v := by
  funext j
  pointwise [k0_pay21]

variable (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole)
  (x0 : FVec Ideal S1x120x4096 .f32) (x1 : FVec Ideal S120x288 .f32) (x2 : FVec Ideal S32x576 .f32) (x3 : FVec Ideal S64x1152 .f32)
  (x4 : FVec Ideal S1x32 .f32) (x5 : FVec Ideal S1x64 .f32) (x6 : FVec Ideal S1x128 .f32)
  (xs0 : FVec Ideal S4240x288 .f32) (xs1 : FVec Ideal S1104x576 .f32) (xs2 : FVec Ideal S304x1152 .f32)

/-- What a point at the first position writes. -/
theorem outA (hc0 : cond0_0 i) (hc1 : cond0_1 i) (hc2 : cond0_2 i)
    (z : Fin 1) (o : Fin 128) (p : Fin 64) :
    out0_A_7 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6 (ix3 z o p)
      = enc x0 x1 x2 x3 x4 x5 x6 o.val (p.val / 8) (p.val % 8) := by
  unfold out0_A_7
  refine (View.read_writes_cons_hit_of_coords (Val := Elt Ideal) VO0_7 _
    (Rect.unit (s := S1x128x64) ![0, 0, 0] S1x128x64.size inb_S1x128x64_S1x128x64_0_0_0) _ [] (ix3 z o p) (ix3 z o p) fun a => ?_).trans ?_
  · match a with
    | ⟨0, _⟩ => show z.val = 0 + 1 * z.val; omega
    | ⟨1, _⟩ => show o.val = 0 + 1 * o.val; omega
    | ⟨2, _⟩ => show p.val = 0 + 1 * p.val; omega
  · refine (out3 _ _ (arg4.view.readAt (Elt Ideal) (Rect.unit (s := S64x1152) ![0, 0] S64x1152.size inb_S64x1152_S64x1152_0_0).toLoadRect (harg4.unread x3)) (mid3 _ _ (arg3.view.readAt (Elt Ideal) (Rect.unit (s := S32x576) ![0, 0] S32x576.size inb_S32x576_S32x576_0_0).toLoadRect (harg3.unread x2))
        (mid2 _ (fun c y x => at3 (arg1.view.readAt (Elt Ideal) (Rect.unit (s := S1x120x4096) ![0, 0, 0] S1x120x4096.size inb_S1x120x4096_S1x120x4096_0_0_0).toLoadRect (harg1.unread x0)) 0 c (y * 64 + x)) (arg2.view.readAt (Elt Ideal) (Rect.unit (s := S120x288) ![0, 0] S120x288.size inb_S120x288_S120x288_0_0).toLoadRect (harg2.unread x1)) (mid1 (arg1.view.readAt (Elt Ideal) (Rect.unit (s := S1x120x4096) ![0, 0, 0] S1x120x4096.size inb_S1x120x4096_S1x120x4096_0_0_0).toLoadRect (harg1.unread x0)) (arg2.view.readAt (Elt Ideal) (Rect.unit (s := S120x288) ![0, 0] S120x288.size inb_S120x288_S120x288_0_0).toLoadRect (harg2.unread x1)))
          (k0_pay2 (arg5.view.readAt (Elt Ideal) (Rect.unit (s := S1x32) ![0, 0] S1x32.size inb_S1x32_S1x32_0_0).toLoadRect (harg5.unread x4))) _ _ _ _ _ _ _ _ _ (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o) (fun r o => load_cov arg9.view _ _ _ rfl rfl _ _ _ _ _ pay4_zero pay3_zero r o)
          (arg3.view.readAt (Elt Ideal) (Rect.unit (s := S32x576) ![0, 0] S32x576.size inb_S32x576_S32x576_0_0).toLoadRect (harg3.unread x2)))
        (k0_pay11 (arg6.view.readAt (Elt Ideal) (Rect.unit (s := S1x64) ![0, 0] S1x64.size inb_S1x64_S1x64_0_0).toLoadRect (harg6.unread x5))) _ _ _ _ _ _ _ _ _ (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o) (fun r o => load_cov arg10.view _ _ _ rfl rfl _ _ _ _ _ pay14_zero pay13_zero r o)
        (arg4.view.readAt (Elt Ideal) (Rect.unit (s := S64x1152) ![0, 0] S64x1152.size inb_S64x1152_S64x1152_0_0).toLoadRect (harg4.unread x3)))
      (k0_pay21 (arg7.view.readAt (Elt Ideal) (Rect.unit (s := S1x128) ![0, 0] S1x128.size inb_S1x128_S1x128_0_0).toLoadRect (harg7.unread x6))) _ _ _ _ _ _ _ _ _ (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o) (fun r o => load_cov arg11.view _ _ _ rfl rfl _ _ _ _ _ pay23_zero pay22_zero r o)
      z o p).trans ?_
    rw [whole3 harg1 x0, whole2 harg2 x1, whole2 harg3 x2, whole2 harg4 x3, whole2 harg5 x4, whole2 harg6 x5, whole2 harg7 x6,
      pay2_eq, pay11_eq, pay21_eq]
    rfl

/-- What a point after the first writes. -/
theorem outB (hc0 : ¬cond0_0 i) (hc1 : ¬cond0_1 i) (hc2 : ¬cond0_2 i) (h0 : Halo 72 4096 xs0) (h1 : Halo 40 1024 xs1) (h2 : Halo 24 256 xs2)
    (z : Fin 1) (o : Fin 128) (p : Fin 64) :
    out0_B_7 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2 (ix3 z o p)
      = enc x0 x1 x2 x3 x4 x5 x6 o.val (p.val / 8) (p.val % 8) := by
  unfold out0_B_7
  refine (View.read_writes_cons_hit_of_coords (Val := Elt Ideal) VO0_7 _
    (Rect.unit (s := S1x128x64) ![0, 0, 0] S1x128x64.size inb_S1x128x64_S1x128x64_0_0_0) _ [] (ix3 z o p) (ix3 z o p) fun a => ?_).trans ?_
  · match a with
    | ⟨0, _⟩ => show z.val = 0 + 1 * z.val; omega
    | ⟨1, _⟩ => show o.val = 0 + 1 * o.val; omega
    | ⟨2, _⟩ => show p.val = 0 + 1 * p.val; omega
  · refine (out3 _ _ (arg4.view.readAt (Elt Ideal) (Rect.unit (s := S64x1152) ![0, 0] S64x1152.size inb_S64x1152_S64x1152_0_0).toLoadRect (harg4.unread x3)) (mid3 _ _ (arg3.view.readAt (Elt Ideal) (Rect.unit (s := S32x576) ![0, 0] S32x576.size inb_S32x576_S32x576_0_0).toLoadRect (harg3.unread x2))
        (mid2 _ (fun c y x => at3 (arg1.view.readAt (Elt Ideal) (Rect.unit (s := S1x120x4096) ![0, 0, 0] S1x120x4096.size inb_S1x120x4096_S1x120x4096_0_0_0).toLoadRect (harg1.unread x0)) 0 c (y * 64 + x)) (arg2.view.readAt (Elt Ideal) (Rect.unit (s := S120x288) ![0, 0] S120x288.size inb_S120x288_S120x288_0_0).toLoadRect (harg2.unread x1)) (mid1 (arg1.view.readAt (Elt Ideal) (Rect.unit (s := S1x120x4096) ![0, 0, 0] S1x120x4096.size inb_S1x120x4096_S1x120x4096_0_0_0).toLoadRect (harg1.unread x0)) (arg2.view.readAt (Elt Ideal) (Rect.unit (s := S120x288) ![0, 0] S120x288.size inb_S120x288_S120x288_0_0).toLoadRect (harg2.unread x1)))
          (k0_pay2 (arg5.view.readAt (Elt Ideal) (Rect.unit (s := S1x32) ![0, 0] S1x32.size inb_S1x32_S1x32_0_0).toLoadRect (harg5.unread x4))) _ _ _ _ _ _ _ _ _ (fun r o => load_over harg9 xs0 h0 _ _ _ r o) (fun r o => load_over harg9 xs0 h0 _ _ _ r o) (fun r o => load_over harg9 xs0 h0 _ _ _ r o) (fun r o => load_over harg9 xs0 h0 _ _ _ r o) (fun r o => load_mid arg9.view _ _ _ _ (by decide) (by decide) r o) (fun r o => load_over harg9 xs0 h0 _ _ _ r o) (fun r o => load_over harg9 xs0 h0 _ _ _ r o) (fun r o => load_over harg9 xs0 h0 _ _ _ r o) (fun r o => load_over harg9 xs0 h0 _ _ _ r o)
          (arg3.view.readAt (Elt Ideal) (Rect.unit (s := S32x576) ![0, 0] S32x576.size inb_S32x576_S32x576_0_0).toLoadRect (harg3.unread x2)))
        (k0_pay11 (arg6.view.readAt (Elt Ideal) (Rect.unit (s := S1x64) ![0, 0] S1x64.size inb_S1x64_S1x64_0_0).toLoadRect (harg6.unread x5))) _ _ _ _ _ _ _ _ _ (fun r o => load_over harg10 xs1 h1 _ _ _ r o) (fun r o => load_over harg10 xs1 h1 _ _ _ r o) (fun r o => load_over harg10 xs1 h1 _ _ _ r o) (fun r o => load_over harg10 xs1 h1 _ _ _ r o) (fun r o => load_mid arg10.view _ _ _ _ (by decide) (by decide) r o) (fun r o => load_over harg10 xs1 h1 _ _ _ r o) (fun r o => load_over harg10 xs1 h1 _ _ _ r o) (fun r o => load_over harg10 xs1 h1 _ _ _ r o) (fun r o => load_over harg10 xs1 h1 _ _ _ r o)
        (arg4.view.readAt (Elt Ideal) (Rect.unit (s := S64x1152) ![0, 0] S64x1152.size inb_S64x1152_S64x1152_0_0).toLoadRect (harg4.unread x3)))
      (k0_pay21 (arg7.view.readAt (Elt Ideal) (Rect.unit (s := S1x128) ![0, 0] S1x128.size inb_S1x128_S1x128_0_0).toLoadRect (harg7.unread x6))) _ _ _ _ _ _ _ _ _ (fun r o => load_over harg11 xs2 h2 _ _ _ r o) (fun r o => load_over harg11 xs2 h2 _ _ _ r o) (fun r o => load_over harg11 xs2 h2 _ _ _ r o) (fun r o => load_over harg11 xs2 h2 _ _ _ r o) (fun r o => load_mid arg11.view _ _ _ _ (by decide) (by decide) r o) (fun r o => load_over harg11 xs2 h2 _ _ _ r o) (fun r o => load_over harg11 xs2 h2 _ _ _ r o) (fun r o => load_over harg11 xs2 h2 _ _ _ r o) (fun r o => load_over harg11 xs2 h2 _ _ _ r o)
      z o p).trans ?_
    rw [whole3 harg1 x0, whole2 harg2 x1, whole2 harg3 x2, whole2 harg4 x3, whole2 harg5 x4, whole2 harg6 x5, whole2 harg7 x6,
      pay2_eq, pay11_eq, pay21_eq]
    rfl

/-- Scratch 1 still has its rows of zeros after such a point. -/
theorem haloA0 (hc0 : cond0_0 i) (hc1 : cond0_1 i) (hc2 : cond0_2 i)  :
    Halo 72 4096 (sout0_A_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6) :=
  halo_cov VS0_0 _ _ _ rfl rfl _ _ _ _ _ pay4_zero pay3_zero

/-- Scratch 2 still has its rows of zeros after such a point. -/
theorem haloA1 (hc0 : cond0_0 i) (hc1 : cond0_1 i) (hc2 : cond0_2 i)  :
    Halo 40 1024 (sout0_A_1 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6) :=
  halo_cov VS0_1 _ _ _ rfl rfl _ _ _ _ _ pay14_zero pay13_zero

/-- Scratch 3 still has its rows of zeros after such a point. -/
theorem haloA2 (hc0 : cond0_0 i) (hc1 : cond0_1 i) (hc2 : cond0_2 i)  :
    Halo 24 256 (sout0_A_2 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6) :=
  halo_cov VS0_2 _ _ _ rfl rfl _ _ _ _ _ pay23_zero pay22_zero

/-- Scratch 1 still has its rows of zeros after such a point. -/
theorem haloB0 (hc0 : ¬cond0_0 i) (hc1 : ¬cond0_1 i) (hc2 : ¬cond0_2 i) (h : Halo 72 4096 xs0) :
    Halo 72 4096 (sout0_B_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2) :=
  halo_over arg9.view _ (by rw [Memref.IsWhole.read_unread (Val := Elt Ideal) harg9 xs0]; exact h) _ _

/-- Scratch 2 still has its rows of zeros after such a point. -/
theorem haloB1 (hc0 : ¬cond0_0 i) (hc1 : ¬cond0_1 i) (hc2 : ¬cond0_2 i) (h : Halo 40 1024 xs1) :
    Halo 40 1024 (sout0_B_1 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2) :=
  halo_over arg10.view _ (by rw [Memref.IsWhole.read_unread (Val := Elt Ideal) harg10 xs1]; exact h) _ _

/-- Scratch 3 still has its rows of zeros after such a point. -/
theorem haloB2 (hc0 : ¬cond0_0 i) (hc1 : ¬cond0_1 i) (hc2 : ¬cond0_2 i) (h : Halo 24 256 xs2) :
    Halo 24 256 (sout0_B_2 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2) :=
  halo_over arg11.view _ (by rw [Memref.IsWhole.read_unread (Val := Elt Ideal) harg11 xs2]; exact h) _ _

end Cert.Body

end
-- ==== Proof.Sweep.lean ====
/-
  What the encoder's sweep over the 64 samples leaves at each point: the rows of zeros around each scratch stay, so
  every point's block is the three stages applied to that sample.
-/
module

public import proofs.«01_k».proof.Proof.Body
public import proofs.«01_k».proof.Proof.Gen.EncIdeal.Value

@[expose] public section

set_option maxRecDepth 16384

noncomputable section

namespace Cert.Sweep

open Cert.EncIdeal Cert.EncIdeal.Gen Cert.Rows Cert.Body Idealize.ShloMosaic Idealize.ShloMosaic.TcCoe

variable (m : (ℓ : Loc nD τ sig) → Buf (Elt Ideal) ℓ)

/-- Scratch 1 after a point of the first kind. -/
theorem haloPtA0 (c : Dev nD) (t : Fin cfg0.N) (h : t.val % 64 = 0) : Halo (R := 4240) (Q := 288) 72 4096 (outsAt0 m c t.val t.isLt).2.1 := by
  rw [outsAt0_A m c t h h h]
  dsimp only
  exact (haloA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h) ((hcond0_1 t).mpr h) ((hcond0_2 t).mpr h))

/-- Scratch 1 after a later point, from what the point before left. -/
theorem haloPtB0 (c : Dev nD) (t : Fin cfg0.N) (h : ¬ t.val % 64 = 0) (i : Halo (R := 4240) (Q := 288) 72 4096 (outsAt0 m c (t.val - 1) (by have := t.isLt; omega)).2.1) :
    Halo (R := 4240) (Q := 288) 72 4096 (outsAt0 m c t.val t.isLt).2.1 := by
  rw [outsAt0_B m c t h h h]
  dsimp only
  exact (haloB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (outsAt0 m c (t.val - 1) (by have := t.isLt; omega)).2.1 (outsAt0 m c (t.val - 1) (by have := t.isLt; omega)).2.2.1 (outsAt0 m c (t.val - 1) (by have := t.isLt; omega)).2.2.2 (fun k => h ((hcond0_0 t).mp k)) (fun k => h ((hcond0_1 t).mp k)) (fun k => h ((hcond0_2 t).mp k)) i)

/-- Scratch 2 after a point of the first kind. -/
theorem haloPtA1 (c : Dev nD) (t : Fin cfg0.N) (h : t.val % 64 = 0) : Halo (R := 1104) (Q := 576) 40 1024 (outsAt0 m c t.val t.isLt).2.2.1 := by
  rw [outsAt0_A m c t h h h]
  dsimp only
  exact (haloA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h) ((hcond0_1 t).mpr h) ((hcond0_2 t).mpr h))

/-- Scratch 2 after a later point, from what the point before left. -/
theorem haloPtB1 (c : Dev nD) (t : Fin cfg0.N) (h : ¬ t.val % 64 = 0) (i : Halo (R := 1104) (Q := 576) 40 1024 (outsAt0 m c (t.val - 1) (by have := t.isLt; omega)).2.2.1) :
    Halo (R := 1104) (Q := 576) 40 1024 (outsAt0 m c t.val t.isLt).2.2.1 := by
  rw [outsAt0_B m c t h h h]
  dsimp only
  exact (haloB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (outsAt0 m c (t.val - 1) (by have := t.isLt; omega)).2.1 (outsAt0 m c (t.val - 1) (by have := t.isLt; omega)).2.2.1 (outsAt0 m c (t.val - 1) (by have := t.isLt; omega)).2.2.2 (fun k => h ((hcond0_0 t).mp k)) (fun k => h ((hcond0_1 t).mp k)) (fun k => h ((hcond0_2 t).mp k)) i)

/-- Scratch 3 after a point of the first kind. -/
theorem haloPtA2 (c : Dev nD) (t : Fin cfg0.N) (h : t.val % 64 = 0) : Halo (R := 304) (Q := 1152) 24 256 (outsAt0 m c t.val t.isLt).2.2.2 := by
  rw [outsAt0_A m c t h h h]
  dsimp only
  exact (haloA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h) ((hcond0_1 t).mpr h) ((hcond0_2 t).mpr h))

/-- Scratch 3 after a later point, from what the point before left. -/
theorem haloPtB2 (c : Dev nD) (t : Fin cfg0.N) (h : ¬ t.val % 64 = 0) (i : Halo (R := 304) (Q := 1152) 24 256 (outsAt0 m c (t.val - 1) (by have := t.isLt; omega)).2.2.2) :
    Halo (R := 304) (Q := 1152) 24 256 (outsAt0 m c t.val t.isLt).2.2.2 := by
  rw [outsAt0_B m c t h h h]
  dsimp only
  exact (haloB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (outsAt0 m c (t.val - 1) (by have := t.isLt; omega)).2.1 (outsAt0 m c (t.val - 1) (by have := t.isLt; omega)).2.2.1 (outsAt0 m c (t.val - 1) (by have := t.isLt; omega)).2.2.2 (fun k => h ((hcond0_0 t).mp k)) (fun k => h ((hcond0_1 t).mp k)) (fun k => h ((hcond0_2 t).mp k)) i)

/-- After every point, each scratch still has its rows of zeros. -/
theorem halos (c : Dev nD) : ∀ (n : ℕ) (hn : n < cfg0.N),
    Halo (R := 4240) (Q := 288) 72 4096 (outsAt0 m c n hn).2.1 ∧ Halo (R := 1104) (Q := 576) 40 1024 (outsAt0 m c n hn).2.2.1 ∧ Halo (R := 304) (Q := 1152) 24 256 (outsAt0 m c n hn).2.2.2 := by
  intro n
  induction n with
  | zero => exact fun hn => ⟨haloPtA0 m c ⟨0, hn⟩ rfl, haloPtA1 m c ⟨0, hn⟩ rfl, haloPtA2 m c ⟨0, hn⟩ rfl⟩
  | succ n ih =>
    intro hn
    have h : ¬ (n + 1) % 64 = 0 := by have hN : cfg0.N = 64 := (by decide); omega
    obtain ⟨i0, i1, i2⟩ := ih (by omega)
    exact ⟨haloPtB0 m c ⟨n + 1, hn⟩ h i0, haloPtB1 m c ⟨n + 1, hn⟩ h i1, haloPtB2 m c ⟨n + 1, hn⟩ h i2⟩

/-- What a point leaves in the output's block: the three stages on its own blocks of the operands. -/
theorem outs (c : Dev nD) (t : Fin cfg0.N) (z : Fin 1) (o : Fin 128) (p : Fin 64) :
    (outsAt0 m c t.val t.isLt).1 (ix3 z o p)
      = enc (iblk m c 0 t) (iblk m c 1 t) (iblk m c 2 t) (iblk m c 3 t) (iblk m c 4 t) (iblk m c 5 t) (iblk m c 6 t)
          o.val (p.val / 8) (p.val % 8) := by
  by_cases h : t.val % 64 = 0
  · exact (congrArg (fun q => q.1 (ix3 z o p)) (outsAt0_A m c t h h h)).trans
      (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h) ((hcond0_1 t).mpr h) ((hcond0_2 t).mpr h) z o p)
  · obtain ⟨i0, i1, i2⟩ := halos m c (t.val - 1) (by have := t.isLt; omega)
    exact (congrArg (fun q => q.1 (ix3 z o p)) (outsAt0_B m c t h h h)).trans
      (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (outsAt0 m c (t.val - 1) (by have := t.isLt; omega)).2.1 (outsAt0 m c (t.val - 1) (by have := t.isLt; omega)).2.2.1 (outsAt0 m c (t.val - 1) (by have := t.isLt; omega)).2.2.2 (fun k => h ((hcond0_0 t).mp k)) (fun k => h ((hcond0_1 t).mp k)) (fun k => h ((hcond0_2 t).mp k)) i0 i1 i2 z o p)

end Cert.Sweep

end
-- ==== Proof.Spec.lean ====
/-
  The encoder's function of its seven arguments, entry by entry: three blocks of a 3×3 convolution with bias, relu and
  2×2 maximum.
-/
module

public import proofs.«01_k».proof.Proof.Band
public import proofs.«01_k».proof.Proof.Conv

@[expose] public section

set_option maxRecDepth 16384

noncomputable section

namespace Cert.Spec

open Cert.Conv Cert.Rows Cert.Band Idealize.ShloMosaic

/-- A block depends only on the image's pixels, the window's weights and the channel's bias. -/
theorem blk_congr {ci s : ℕ} {h h' : ℕ → ℕ → ℕ → EReal} {w w' : ℕ → ℕ → ℕ → ℕ → EReal} {b b' : ℕ → EReal} {o y x : ℕ}
    (hh : ∀ c Y X, c < ci → Y < s → X < s → h c Y X = h' c Y X)
    (hw : ∀ c i j, c < ci → i < 3 → j < 3 → w o c i j = w' o c i j) (hb : b o = b' o) :
    blk ci s h w b o y x = blk ci s h' w' b' o y x := by
  unfold blk Conv.pool
  simp only [act_congr hh hw hb]

/-- The first block of sample `n`. -/
def one (X : (⟨4, ![64, 120, 64, 64]⟩ : Shape).Idx → EReal) (W1 : (⟨4, ![32, 120, 3, 3]⟩ : Shape).Idx → EReal)
    (b1 : (⟨1, ![32]⟩ : Shape).Idx → EReal) (n : ℕ) : ℕ → ℕ → ℕ → EReal :=
  blk 120 64 (fun c y x => at4 X n c y x) (fun o c i j => at4 W1 o c i j) (fun o => at1 b1 o)

/-- The second block, on an image of 32 channels. -/
def two (h : ℕ → ℕ → ℕ → EReal) (W2 : (⟨4, ![64, 32, 3, 3]⟩ : Shape).Idx → EReal)
    (b2 : (⟨1, ![64]⟩ : Shape).Idx → EReal) : ℕ → ℕ → ℕ → EReal :=
  blk 32 32 h (fun o c i j => at4 W2 o c i j) (fun o => at1 b2 o)

/-- The third block, on an image of 64 channels. -/
def three (h : ℕ → ℕ → ℕ → EReal) (W3 : (⟨4, ![128, 64, 3, 3]⟩ : Shape).Idx → EReal)
    (b3 : (⟨1, ![128]⟩ : Shape).Idx → EReal) : ℕ → ℕ → ℕ → EReal :=
  blk 64 16 h (fun o c i j => at4 W3 o c i j) (fun o => at1 b3 o)

end Cert.Spec

end
-- ==== Proof.Operands.lean ====
/-
  What the encoder's blocks of operands are at each point, in terms of the program's arguments.
-/
module

public import proofs.«01_k».proof.Proof.Sweep
public import proofs.«01_k».proof.Proof.Spec
public import Idealize.ShloMosaic.Lib.Claim

@[expose] public section

set_option maxRecDepth 16384

noncomputable section

namespace Cert.Operands

open Cert.EncIdeal Cert.EncIdeal.Gen Cert.Rows Cert.Band Idealize.ShloMosaic Idealize.ShloMosaic.TcCoe

/-- Weights with the input channel as row and `(3·i + j)·32 + o` as column. -/
theorem laid1 (W : S32x120x3x3.Idx → EReal) (c : Fin 120) (q : Fin 288) :
    shapeCast S120x288 (transpose S120x3x3x32 [1, 2, 3, 0] W transposes_S32x120x3x3_S120x3x3x32_1_2_3_0)
        shapeCasts_S120x3x3x32_S120x288 (ix2 c q)
      = W (ix4 ⟨q.val % 32, by omega⟩ c ⟨q.val / 32 / 3, by omega⟩ ⟨q.val / 32 % 3, by omega⟩) := by
  pointwise
  congr 1
  funext a
  apply Fin.ext
  match a with
  | ⟨0, _⟩ => rfl
  | ⟨1, _⟩ => rfl
  | ⟨2, _⟩ => show q.val / 96 = q.val / 32 / 3; omega
  | ⟨3, _⟩ => rfl

/-- Weights with the input channel as row and `(3·i + j)·64 + o` as column. -/
theorem laid2 (W : S64x32x3x3.Idx → EReal) (c : Fin 32) (q : Fin 576) :
    shapeCast S32x576 (transpose S32x3x3x64 [1, 2, 3, 0] W transposes_S64x32x3x3_S32x3x3x64_1_2_3_0)
        shapeCasts_S32x3x3x64_S32x576 (ix2 c q)
      = W (ix4 ⟨q.val % 64, by omega⟩ c ⟨q.val / 64 / 3, by omega⟩ ⟨q.val / 64 % 3, by omega⟩) := by
  pointwise
  congr 1
  funext a
  apply Fin.ext
  match a with
  | ⟨0, _⟩ => rfl
  | ⟨1, _⟩ => rfl
  | ⟨2, _⟩ => show q.val / 192 = q.val / 64 / 3; omega
  | ⟨3, _⟩ => rfl

/-- Weights with the input channel as row and `(3·i + j)·128 + o` as column. -/
theorem laid3 (W : S128x64x3x3.Idx → EReal) (c : Fin 64) (q : Fin 1152) :
    shapeCast S64x1152 (transpose S64x3x3x128 [1, 2, 3, 0] W transposes_S128x64x3x3_S64x3x3x128_1_2_3_0)
        shapeCasts_S64x3x3x128_S64x1152 (ix2 c q)
      = W (ix4 ⟨q.val % 128, by omega⟩ c ⟨q.val / 128 / 3, by omega⟩ ⟨q.val / 128 % 3, by omega⟩) := by
  pointwise
  congr 1
  funext a
  apply Fin.ext
  match a with
  | ⟨0, _⟩ => rfl
  | ⟨1, _⟩ => rfl
  | ⟨2, _⟩ => show q.val / 384 = q.val / 128 / 3; omega
  | ⟨3, _⟩ => rfl

variable (m : (ℓ : Loc nD τ sig) → Buf (Elt Ideal) ℓ)

/-- The image's block at a point is that sample, pixel `(p / 64, p % 64)` at column `p`. -/
theorem x_at (c : Dev nD) (t : Fin cfg0.N) (z : Fin 1) (k : Fin 120) (p : Fin 4096) :
    iblk m c 0 t (ix3 z k p) = m ((c : Thread nD τ).loc main_arg0) (ix4 ⟨t.val, t.isLt⟩ k ⟨p.val / 64, by omega⟩ ⟨p.val % 64, by omega⟩) := by
  obtain ⟨h0, h1, h2⟩ := (by decide +kernel : ∀ t : Fin cfg0.N, win0_0.index t 0 = t.val ∧ win0_0.index t 1 = 0 ∧ win0_0.index t 2 = 0) t
  have e : iblk m c 0 t (ix3 z k p) = V m c main_v0 (ix3 ⟨t.val, t.isLt⟩ k p) := by
    unfold iblk
    rw [View.read_apply]
    show V m c main_v0 _ = _
    congr 1
    funext a
    apply Fin.ext
    match a with
    | ⟨0, _⟩ => show win0_0.index t 0 * 1 + 1 * z.val = t.val; rw [h0]; omega
    | ⟨1, _⟩ => show win0_0.index t 1 * 120 + 1 * k.val = k.val; rw [h1]; omega
    | ⟨2, _⟩ => show win0_0.index t 2 * 4096 + 1 * p.val = p.val; rw [h2]; omega
  rw [e]
  entry_read
  pointwise

/-- Operand 1's block is the whole array at every point. -/
theorem whole_1 (c : Dev nD) (t : Fin cfg0.N) (r : Fin 120) (q : Fin 288) :
    iblk m c 1 t (ix2 r q) = V m c main_v2 (ix2 r q) := by
  obtain ⟨h0, h1⟩ := (by decide +kernel : ∀ t : Fin cfg0.N, win0_1.index t 0 = 0 ∧ win0_1.index t 1 = 0) t
  unfold iblk
  rw [View.read_apply]
  show V m c main_v2 _ = _
  congr 1
  funext a
  apply Fin.ext
  match a with
  | ⟨0, _⟩ => show win0_1.index t 0 * 120 + 1 * r.val = r.val; rw [h0]; omega
  | ⟨1, _⟩ => show win0_1.index t 1 * 288 + 1 * q.val = q.val; rw [h1]; omega

/-- Operand 2's block is the whole array at every point. -/
theorem whole_2 (c : Dev nD) (t : Fin cfg0.N) (r : Fin 32) (q : Fin 576) :
    iblk m c 2 t (ix2 r q) = V m c main_v4 (ix2 r q) := by
  obtain ⟨h0, h1⟩ := (by decide +kernel : ∀ t : Fin cfg0.N, win0_2.index t 0 = 0 ∧ win0_2.index t 1 = 0) t
  unfold iblk
  rw [View.read_apply]
  show V m c main_v4 _ = _
  congr 1
  funext a
  apply Fin.ext
  match a with
  | ⟨0, _⟩ => show win0_2.index t 0 * 32 + 1 * r.val = r.val; rw [h0]; omega
  | ⟨1, _⟩ => show win0_2.index t 1 * 576 + 1 * q.val = q.val; rw [h1]; omega

/-- Operand 3's block is the whole array at every point. -/
theorem whole_3 (c : Dev nD) (t : Fin cfg0.N) (r : Fin 64) (q : Fin 1152) :
    iblk m c 3 t (ix2 r q) = V m c main_v6 (ix2 r q) := by
  obtain ⟨h0, h1⟩ := (by decide +kernel : ∀ t : Fin cfg0.N, win0_3.index t 0 = 0 ∧ win0_3.index t 1 = 0) t
  unfold iblk
  rw [View.read_apply]
  show V m c main_v6 _ = _
  congr 1
  funext a
  apply Fin.ext
  match a with
  | ⟨0, _⟩ => show win0_3.index t 0 * 64 + 1 * r.val = r.val; rw [h0]; omega
  | ⟨1, _⟩ => show win0_3.index t 1 * 1152 + 1 * q.val = q.val; rw [h1]; omega

/-- Operand 4's block is the whole array at every point. -/
theorem whole_4 (c : Dev nD) (t : Fin cfg0.N) (r : Fin 1) (q : Fin 32) :
    iblk m c 4 t (ix2 r q) = V m c main_v7 (ix2 r q) := by
  obtain ⟨h0, h1⟩ := (by decide +kernel : ∀ t : Fin cfg0.N, win0_4.index t 0 = 0 ∧ win0_4.index t 1 = 0) t
  unfold iblk
  rw [View.read_apply]
  show V m c main_v7 _ = _
  congr 1
  funext a
  apply Fin.ext
  match a with
  | ⟨0, _⟩ => show win0_4.index t 0 * 1 + 1 * r.val = r.val; rw [h0]; omega
  | ⟨1, _⟩ => show win0_4.index t 1 * 32 + 1 * q.val = q.val; rw [h1]; omega

/-- Operand 5's block is the whole array at every point. -/
theorem whole_5 (c : Dev nD) (t : Fin cfg0.N) (r : Fin 1) (q : Fin 64) :
    iblk m c 5 t (ix2 r q) = V m c main_v8 (ix2 r q) := by
  obtain ⟨h0, h1⟩ := (by decide +kernel : ∀ t : Fin cfg0.N, win0_5.index t 0 = 0 ∧ win0_5.index t 1 = 0) t
  unfold iblk
  rw [View.read_apply]
  show V m c main_v8 _ = _
  congr 1
  funext a
  apply Fin.ext
  match a with
  | ⟨0, _⟩ => show win0_5.index t 0 * 1 + 1 * r.val = r.val; rw [h0]; omega
  | ⟨1, _⟩ => show win0_5.index t 1 * 64 + 1 * q.val = q.val; rw [h1]; omega

/-- Operand 6's block is the whole array at every point. -/
theorem whole_6 (c : Dev nD) (t : Fin cfg0.N) (r : Fin 1) (q : Fin 128) :
    iblk m c 6 t (ix2 r q) = V m c main_v9 (ix2 r q) := by
  obtain ⟨h0, h1⟩ := (by decide +kernel : ∀ t : Fin cfg0.N, win0_6.index t 0 = 0 ∧ win0_6.index t 1 = 0) t
  unfold iblk
  rw [View.read_apply]
  show V m c main_v9 _ = _
  congr 1
  funext a
  apply Fin.ext
  match a with
  | ⟨0, _⟩ => show win0_6.index t 0 * 1 + 1 * r.val = r.val; rw [h0]; omega
  | ⟨1, _⟩ => show win0_6.index t 1 * 128 + 1 * q.val = q.val; rw [h1]; omega

/-- The weights of block 1, read at offset `(i, j)` of the window. -/
theorem weight1 (c : Dev nD) (t : Fin cfg0.N) (o k i j : ℕ) (ho : o < 32) (hk : k < 120) (hi : i < 3) (hj : j < 3) :
    wmat 32 (iblk m c 1 t : (⟨2, ![120, 288]⟩ : Shape).Idx → EReal) o k i j = at4 (m ((c : Thread nD τ).loc main_arg1) : (⟨4, ![32, 120, 3, 3]⟩ : Shape).Idx → EReal) o k i j := by
  have hq : (3 * i + j) * 32 + o < 288 := by omega
  rw [wmat, at2_of_lt _ hk hq, at4_of_lt _ ho hk hi hj, whole_1]
  entry_read
  refine (laid1 _ _ _).trans ?_
  congr 1
  funext a
  apply Fin.ext
  match a with
  | ⟨0, _⟩ => show ((3 * i + j) * 32 + o) % 32 = o; omega
  | ⟨1, _⟩ => rfl
  | ⟨2, _⟩ => show ((3 * i + j) * 32 + o) / 32 / 3 = i; omega
  | ⟨3, _⟩ => show ((3 * i + j) * 32 + o) / 32 % 3 = j; omega

/-- The weights of block 2, read at offset `(i, j)` of the window. -/
theorem weight2 (c : Dev nD) (t : Fin cfg0.N) (o k i j : ℕ) (ho : o < 64) (hk : k < 32) (hi : i < 3) (hj : j < 3) :
    wmat 64 (iblk m c 2 t : (⟨2, ![32, 576]⟩ : Shape).Idx → EReal) o k i j = at4 (m ((c : Thread nD τ).loc main_arg3) : (⟨4, ![64, 32, 3, 3]⟩ : Shape).Idx → EReal) o k i j := by
  have hq : (3 * i + j) * 64 + o < 576 := by omega
  rw [wmat, at2_of_lt _ hk hq, at4_of_lt _ ho hk hi hj, whole_2]
  entry_read
  refine (laid2 _ _ _).trans ?_
  congr 1
  funext a
  apply Fin.ext
  match a with
  | ⟨0, _⟩ => show ((3 * i + j) * 64 + o) % 64 = o; omega
  | ⟨1, _⟩ => rfl
  | ⟨2, _⟩ => show ((3 * i + j) * 64 + o) / 64 / 3 = i; omega
  | ⟨3, _⟩ => show ((3 * i + j) * 64 + o) / 64 % 3 = j; omega

/-- The weights of block 3, read at offset `(i, j)` of the window. -/
theorem weight3 (c : Dev nD) (t : Fin cfg0.N) (o k i j : ℕ) (ho : o < 128) (hk : k < 64) (hi : i < 3) (hj : j < 3) :
    wmat 128 (iblk m c 3 t : (⟨2, ![64, 1152]⟩ : Shape).Idx → EReal) o k i j = at4 (m ((c : Thread nD τ).loc main_arg5) : (⟨4, ![128, 64, 3, 3]⟩ : Shape).Idx → EReal) o k i j := by
  have hq : (3 * i + j) * 128 + o < 1152 := by omega
  rw [wmat, at2_of_lt _ hk hq, at4_of_lt _ ho hk hi hj, whole_3]
  entry_read
  refine (laid3 _ _ _).trans ?_
  congr 1
  funext a
  apply Fin.ext
  match a with
  | ⟨0, _⟩ => show ((3 * i + j) * 128 + o) % 128 = o; omega
  | ⟨1, _⟩ => rfl
  | ⟨2, _⟩ => show ((3 * i + j) * 128 + o) / 128 / 3 = i; omega
  | ⟨3, _⟩ => show ((3 * i + j) * 128 + o) / 128 % 3 = j; omega

/-- The bias of block 1. -/
theorem bias1 (c : Dev nD) (t : Fin cfg0.N) (o : ℕ) (ho : o < 32) :
    at2 (iblk m c 4 t : (⟨2, ![1, 32]⟩ : Shape).Idx → EReal) 0 o = at1 (m ((c : Thread nD τ).loc main_arg2) : (⟨1, ![32]⟩ : Shape).Idx → EReal) o := by
  rw [at2_of_lt _ (by omega : 0 < 1) ho, at1_of_lt _ ho, whole_4]
  entry_read
  pointwise

/-- The bias of block 2. -/
theorem bias2 (c : Dev nD) (t : Fin cfg0.N) (o : ℕ) (ho : o < 64) :
    at2 (iblk m c 5 t : (⟨2, ![1, 64]⟩ : Shape).Idx → EReal) 0 o = at1 (m ((c : Thread nD τ).loc main_arg4) : (⟨1, ![64]⟩ : Shape).Idx → EReal) o := by
  rw [at2_of_lt _ (by omega : 0 < 1) ho, at1_of_lt _ ho, whole_5]
  entry_read
  pointwise

/-- The bias of block 3. -/
theorem bias3 (c : Dev nD) (t : Fin cfg0.N) (o : ℕ) (ho : o < 128) :
    at2 (iblk m c 6 t : (⟨2, ![1, 128]⟩ : Shape).Idx → EReal) 0 o = at1 (m ((c : Thread nD τ).loc main_arg6) : (⟨1, ![128]⟩ : Shape).Idx → EReal) o := by
  rw [at2_of_lt _ (by omega : 0 < 1) ho, at1_of_lt _ ho, whole_6]
  entry_read
  pointwise

/-- The pixels of the point's sample. -/
theorem pixel (c : Dev nD) (t : Fin cfg0.N) (k y x : ℕ) (hk : k < 120) (hy : y < 64) (hx : x < 64) :
    at3 (iblk m c 0 t : (⟨3, ![1, 120, 4096]⟩ : Shape).Idx → EReal) 0 k (y * 64 + x) = at4 (m ((c : Thread nD τ).loc main_arg0) : (⟨4, ![64, 120, 64, 64]⟩ : Shape).Idx → EReal) t.val k y x := by
  rw [at3_of_lt _ (by omega : 0 < 1) hk (by omega : y * 64 + x < 4096), at4_of_lt _ (show t.val < 64 from t.isLt) hk hy hx, x_at]
  congr 1
  funext a
  apply Fin.ext
  match a with
  | ⟨0, _⟩ => rfl
  | ⟨1, _⟩ => rfl
  | ⟨2, _⟩ => show (y * 64 + x) / 64 = y; omega
  | ⟨3, _⟩ => show (y * 64 + x) % 64 = x; omega

/-- What a point writes, as the three blocks of the program's arguments. -/
theorem outs_spec (c : Dev nD) (t : Fin cfg0.N) (z : Fin 1) (o : Fin 128) (p : Fin 64) :
    (outsAt0 m c t.val t.isLt).1 (ix3 z o p)
      = Spec.three (Spec.two (Spec.one (m ((c : Thread nD τ).loc main_arg0)) (m ((c : Thread nD τ).loc main_arg1)) (m ((c : Thread nD τ).loc main_arg2)) t.val) (m ((c : Thread nD τ).loc main_arg3)) (m ((c : Thread nD τ).loc main_arg4)))
          (m ((c : Thread nD τ).loc main_arg5)) (m ((c : Thread nD τ).loc main_arg6)) o.val (p.val / 8) (p.val % 8) := by
  rw [Sweep.outs]
  exact Spec.blk_congr
    (fun k _ _ hk _ _ => Spec.blk_congr
      (fun k _ _ hk _ _ => Spec.blk_congr (fun k y x hk hy hx => pixel m c t k y x hk hy hx)
        (fun k' i j hk' hi hj => weight1 m c t k k' i j hk hk' hi hj) (bias1 m c t k hk))
      (fun k' i j hk' hi hj => weight2 m c t k k' i j hk hk' hi hj) (bias2 m c t k hk))
    (fun k' i j hk' hi hj => weight3 m c t o.val k' i j o.isLt hk' hi hj) (bias3 m c t o.val o.isLt)

/-- The encoder's result array after the run. -/
theorem result (c : Dev nD) (n : Fin 64) (o : Fin 128) (p : Fin 64) :
    Value.G7 m c (ix3 n o p)
      = Spec.three (Spec.two (Spec.one (m ((c : Thread nD τ).loc main_arg0)) (m ((c : Thread nD τ).loc main_arg1)) (m ((c : Thread nD τ).loc main_arg2)) n.val) (m ((c : Thread nD τ).loc main_arg3)) (m ((c : Thread nD τ).loc main_arg4)))
          (m ((c : Thread nD τ).loc main_arg5)) (m ((c : Thread nD τ).loc main_arg6)) o.val (p.val / 8) (p.val % 8) := by
  have hp : Value.pt7Of (ix3 n o p) = n.val := by
    show 1 * (n.val / 1 - 0) + 1 * (o.val / 128 - 0) + 1 * (p.val / 64 - 0) = n.val
    omega
  have hl : Value.loc7Of (ix3 n o p) = ix3 0 o p := by
    funext a
    apply Fin.ext
    match a with
    | ⟨0, _⟩ => show n.val % 1 = 0; omega
    | ⟨1, _⟩ => show o.val % 128 = o.val; omega
    | ⟨2, _⟩ => show p.val % 64 = p.val; omega
  have hN : n.val < cfg0.N := n.isLt
  unfold Value.G7
  rw [dif_pos (hp.symm ▸ hN), ← Value.outsAt0_sweep m c _ (hp.symm ▸ hN), hl]
  refine Eq.trans ?_ (outs_spec m c ⟨n.val, hN⟩ 0 o p)
  simp only [hp]

end Cert.Operands

end
-- ==== Proof.RefConv.lean ====
/-
  The reference's convolutions, pads and pools, entry by entry.
-/
module

public import proofs.«01_k».proof.Proof.Spec
public import proofs.«01_k».proof.Proof.Gen.EncRefIdeal.Run
public import Idealize.ShloMosaic.Lib.Pointwise

@[expose] public section

set_option maxRecDepth 16384

noncomputable section

namespace Cert.RefConv

open Cert.EncRefIdeal Cert.EncRefIdeal.Gen Cert.EncRefIdeal.Value Cert.Conv Cert.Rows Idealize.ShloMosaic Idealize.ShloMosaic.TcCoe

/-- The window of a 2×2 pool. -/
abbrev win : Shape := ⟨4, ![1, 1, 2, 2]⟩

/-- One of a pool's four reads. -/
theorem cell {N C H W H2 W2 : ℕ} (hH : H2 = 2 * H) (hW : W2 = 2 * W)
    (x : (⟨4, ![N, C, H2, W2]⟩ : Shape).Idx → EReal) (v : EReal) (n : Fin N) (c : Fin C) (y : Fin H) (z : Fin W)
    (hr : (⟨4, ![N, C, H, W]⟩ : Shape).rank = 4)
    (k : Fin win.numel) (a b : ℕ) (ha : a < 2) (hb : b < 2) (hk : ∀ d : Fin 4, (win.rowMajor.symm k d).val = (![0, 0, a, b] : Fin 4 → ℕ) d) :
    (if hin : ∀ d : Fin 4, (![0, 0, 0, 0] : Fin 4 → ℕ) d ≤ ((ix4 n c y z) (d.cast hr.symm)).val * (![1, 1, 2, 2] : Fin 4 → ℕ) d + (win.rowMajor.symm k d).val
        ∧ ((ix4 n c y z) (d.cast hr.symm)).val * (![1, 1, 2, 2] : Fin 4 → ℕ) d + (win.rowMajor.symm k d).val - (![0, 0, 0, 0] : Fin 4 → ℕ) d < (![N, C, H2, W2] : Fin 4 → ℕ) d
      then x (fun d => ⟨((ix4 n c y z) (d.cast hr.symm)).val * (![1, 1, 2, 2] : Fin 4 → ℕ) d + (win.rowMajor.symm k d).val - (![0, 0, 0, 0] : Fin 4 → ℕ) d, (hin d).2⟩) else v)
      = at4 x n.val c.val (2 * y.val + a) (2 * z.val + b) := by
  subst hH hW
  have hn := n.isLt
  have hc := c.isLt
  have hy := y.isLt
  have hz := z.isLt
  rw [at4_of_lt x hn hc (by omega : 2 * y.val + a < 2 * H) (by omega : 2 * z.val + b < 2 * W), dif_pos]
  · congr 1
    funext d
    apply Fin.ext
    show ((ix4 n c y z) (d.cast hr.symm)).val * (![1, 1, 2, 2] : Fin 4 → ℕ) d + (win.rowMajor.symm k d).val - (![0, 0, 0, 0] : Fin 4 → ℕ) d = _
    rw [hk d]
    match d with
    | ⟨0, _⟩ => show n.val * 1 + 0 - 0 = n.val; omega
    | ⟨1, _⟩ => show c.val * 1 + 0 - 0 = c.val; omega
    | ⟨2, _⟩ => show y.val * 2 + a - 0 = 2 * y.val + a; omega
    | ⟨3, _⟩ => show z.val * 2 + b - 0 = 2 * z.val + b; omega
  · intro d
    rw [hk d]
    match d with
    | ⟨0, _⟩ => show 0 ≤ n.val * 1 + 0 ∧ n.val * 1 + 0 - 0 < N; omega
    | ⟨1, _⟩ => show 0 ≤ c.val * 1 + 0 ∧ c.val * 1 + 0 - 0 < C; omega
    | ⟨2, _⟩ => show 0 ≤ y.val * 2 + a ∧ y.val * 2 + a - 0 < 2 * H; omega
    | ⟨3, _⟩ => show 0 ≤ z.val * 2 + b ∧ z.val * 2 + b - 0 < 2 * W; omega

/-- The greatest over each 2×2 square, from minus infinity. -/
theorem pool_window {N C H W H2 W2 : ℕ} {u : Shape} (hH : H2 = 2 * H) (hW : W2 = 2 * W)
    (x : (⟨4, ![N, C, H2, W2]⟩ : Shape).Idx → EReal) (init : u.Idx → EReal) (hinit : ∀ j, init j = ⊥)
    (h : (⟨4, ![N, C, H2, W2]⟩ : Shape).ReduceWindows ![1, 1, 2, 2] ![1, 1, 2, 2] ![0, 0, 0, 0] ![0, 0, 0, 0] ⟨4, ![N, C, H, W]⟩)
    (hu : 0 < u.numel) (n : Fin N) (c : Fin C) (y : Fin H) (z : Fin W) :
    Host.reduceWindow (FloatOps.maximumf (F := Ideal) (φ := .f32)) ![1, 1, 2, 2] ![1, 1, 2, 2] ![0, 0, 0, 0] ![0, 0, 0, 0] x init h hu (ix4 n c y z)
      = Conv.pool (fun Y X => at4 x n.val c.val Y X) y.val z.val := by
  unfold Host.reduceWindow
  have e : List.finRange (⟨4, ![1, 1, 2, 2]⟩ : Shape).numel = [⟨0, by decide⟩, ⟨1, by decide⟩, ⟨2, by decide⟩, ⟨3, by decide⟩] := by decide
  show List.foldl _ _ (List.finRange (⟨4, ![1, 1, 2, 2]⟩ : Shape).numel) = _
  rw [e]
  simp only [List.foldl]
  have c0 := cell hH hW x (init (Shape.Idx.first hu)) n c y z rfl ⟨0, by decide⟩ 0 0 (by omega) (by omega) (by decide +kernel)
  have c1 := cell hH hW x (init (Shape.Idx.first hu)) n c y z rfl ⟨1, by decide⟩ 0 1 (by omega) (by omega) (by decide +kernel)
  have c2 := cell hH hW x (init (Shape.Idx.first hu)) n c y z rfl ⟨2, by decide⟩ 1 0 (by omega) (by omega) (by decide +kernel)
  have c3 := cell hH hW x (init (Shape.Idx.first hu)) n c y z rfl ⟨3, by decide⟩ 1 1 (by omega) (by omega) (by decide +kernel)
  refine (congrArg₂ (fun p q : EReal => max p q) (congrArg₂ (fun p q : EReal => max p q) (congrArg₂ (fun p q : EReal => max p q) (congrArg₂ (fun p q : EReal => max p q) (hinit _) c0) c1) c2) c3).trans ?_
  unfold Conv.pool
  simp only [Nat.add_zero, bot_le, sup_of_le_right, max_assoc]

/-- The image with a border of zeros, from a pad's entries. -/
theorem px_of_if {s : ℕ} (h : ℕ → ℕ → ℕ → EReal) (c Y X : ℕ) (v : EReal) (A : (1 ≤ Y ∧ Y - 1 < s) ∧ 1 ≤ X ∧ X - 1 < s → EReal)
    (hv : v = 0) (hA : ∀ p, A p = h c (Y - 1) (X - 1)) :
    (if p : (1 ≤ Y ∧ Y - 1 < s) ∧ 1 ≤ X ∧ X - 1 < s then A p else v) = px s h c Y X := by
  unfold px
  split_ifs with h1 h2 h2
  · exact hA h1
  · omega
  · omega
  · exact hv

/-- One shifted product of a padded image `h`, summed over the input channels. -/
theorem tap_sum {ci co s p : ℕ} {xp : (⟨4, ![64, ci, p, p]⟩ : Shape).Idx → EReal} {w : (⟨4, ![co, ci, 3, 3]⟩ : Shape).Idx → EReal}
    {h : ℕ → ℕ → ℕ → ℕ → EReal} (hp : ∀ (n : Fin 64) (c : Fin ci) (Y X : Fin p), xp (ix4 n c Y X) = px s (h n.val) c.val Y.val X.val)
    (n : Fin 64) (o : Fin co) {y x : ℕ} (hy : y < s) (hx : x < s) (I J : Fin p) (i j : Fin 3) (hI : I.val = y + i.val) (hJ : J.val = x + j.val) :
    ∑ c : Fin ci, xp (ix4 n c I J) * w (ix4 o c i j) = tap ci s (h n.val) (fun o c i j => at4 w o c i j) o.val y x i.val j.val := by
  unfold tap
  refine Finset.sum_congr rfl fun c _ => ?_
  rw [hp n c I J, hI, hJ]
  exact congrArg (fun q : EReal => _ * q) (at4_of_lt w o.isLt c.isLt i.isLt j.isLt).symm

/-- The least value, where the pools start. -/
theorem neg_inf : Ideal.ofBits FTy.f32 4286578688#32 = (⊥ : EReal) := by
  simp [Ideal.ofBits, Ideal.ieee]

/-- The zero that pads. -/
theorem zero_i : FloatOps.sitofp (F := Ideal) .f32 (0#32) = (0 : EReal) := by
  show ((((0#32 : BitVec 32).toInt : ℤ) : ℝ) : EReal) = 0
  simp

/-- Block 1 of the reference on a padded image, before its pool. -/
def pre1 (xp : S64x120x66x66.Idx → EReal) (w : S32x120x3x3.Idx → EReal) (b : S32.Idx → EReal) : FVec Ideal S64x32x64x64 .f32 :=
  maximumf (addf (transpose S64x32x64x64 [0, 3, 1, 2] (addf (addf (addf (addf (addf (addf (addf (addf (Host.dotGeneral (F := Ideal) (φ₁ := .f32) (φ₂ := .f32) dot_S64x120x64x64_S32x120_S64x64x64x32_1_1_023_0_n_n none (extractStridedSlice S64x120x64x64 ![0, 0, 0, 0] xp slices_S64x120x66x66_S64x120x64x64_0_0_0_0) (shapeCast S32x120 (extractStridedSlice S32x120x1x1 ![0, 0, 0, 0] w slices_S32x120x3x3_S32x120x1x1_0_0_0_0) shapeCasts_S32x120x1x1_S32x120)) (Host.dotGeneral (F := Ideal) (φ₁ := .f32) (φ₂ := .f32) dot_S64x120x64x64_S32x120_S64x64x64x32_1_1_023_0_n_n none (extractStridedSlice S64x120x64x64 ![0, 0, 0, 1] xp slices_S64x120x66x66_S64x120x64x64_0_0_0_1) (shapeCast S32x120 (extractStridedSlice S32x120x1x1 ![0, 0, 0, 1] w slices_S32x120x3x3_S32x120x1x1_0_0_0_1) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 0, 2] xp slices_S64x120x66x66_S64x120x64x64_0_0_0_2) (shapeCast S32x120 (extractStridedSlice S32x120x1x1 ![0, 0, 0, 2] w slices_S32x120x3x3_S32x120x1x1_0_0_0_2) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 1, 0] xp slices_S64x120x66x66_S64x120x64x64_0_0_1_0) (shapeCast S32x120 (extractStridedSlice S32x120x1x1 ![0, 0, 1, 0] w slices_S32x120x3x3_S32x120x1x1_0_0_1_0) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 1, 1] xp slices_S64x120x66x66_S64x120x64x64_0_0_1_1) (shapeCast S32x120 (extractStridedSlice S32x120x1x1 ![0, 0, 1, 1] w slices_S32x120x3x3_S32x120x1x1_0_0_1_1) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 1, 2] xp slices_S64x120x66x66_S64x120x64x64_0_0_1_2) (shapeCast S32x120 (extractStridedSlice S32x120x1x1 ![0, 0, 1, 2] w slices_S32x120x3x3_S32x120x1x1_0_0_1_2) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 2, 0] xp slices_S64x120x66x66_S64x120x64x64_0_0_2_0) (shapeCast S32x120 (extractStridedSlice S32x120x1x1 ![0, 0, 2, 0] w slices_S32x120x3x3_S32x120x1x1_0_0_2_0) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 2, 1] xp slices_S64x120x66x66_S64x120x64x64_0_0_2_1) (shapeCast S32x120 (extractStridedSlice S32x120x1x1 ![0, 0, 2, 1] w slices_S32x120x3x3_S32x120x1x1_0_0_2_1) shapeCasts_S32x120x1x1_S32x120))) (Host.dotGeneral (F := Ideal) (φ₁ := .f32) (φ₂ := .f32) dot_S64x120x64x64_S32x120_S64x64x64x32_1_1_023_0_n_n none (extractStridedSlice S64x120x64x64 ![0, 0, 2, 2] xp slices_S64x120x66x66_S64x120x64x64_0_0_2_2) (shapeCast S32x120 (extractStridedSlice S32x120x1x1 ![0, 0, 2, 2] w slices_S32x120x3x3_S32x120x1x1_0_0_2_2) shapeCasts_S32x120x1x1_S32x120))) transposes_S64x64x64x32_S64x32x64x64_0_3_1_2)
      (broadcastInDim S64x32x64x64 ![0, 1, 2, 3] bcast_S1x32x1x1_S64x32x64x64_0_1_2_3 (broadcastInDim S1x32x1x1 ![1] bcast_S32_S1x32x1x1_1 b)))
      (broadcastInDim S64x32x64x64 ![] bcast_S_S64x32x64x64 (constant S_ .f32 0x00000000#32))

/-- Its entries. -/
theorem pre1_at (xp : S64x120x66x66.Idx → EReal) (w : S32x120x3x3.Idx → EReal) (b : S32.Idx → EReal) (h : ℕ → ℕ → ℕ → ℕ → EReal)
    (hp : ∀ (n : Fin 64) (c : Fin 120) (Y X : Fin 66), xp (ix4 n c Y X) = px 64 (h n.val) c.val Y.val X.val)
    (n : Fin 64) (o : Fin 32) (y x : Fin 64) :
    pre1 xp w b (ix4 n o y x) = act 120 64 (h n.val) (fun o c i j => at4 w o c i j) (fun o => at1 b o) o.val y.val x.val := by
  pointwise [pre1]
  exact congrArg₂ (fun p q : EReal => max p q) (congrArg₂ (fun p q : EReal => p + q) ((congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (tap_sum hp n o y.isLt x.isLt _ _ 0 0 (by show _ = y.val + 0; first | rfl | exact Nat.add_comm _ _) (by show _ = x.val + 0; first | rfl | exact Nat.add_comm _ _))
      (tap_sum hp n o y.isLt x.isLt _ _ 0 1 (by show _ = y.val + 0; first | rfl | exact Nat.add_comm _ _) (by show _ = x.val + 1; first | rfl | exact Nat.add_comm _ _)))
      (tap_sum hp n o y.isLt x.isLt _ _ 0 2 (by show _ = y.val + 0; first | rfl | exact Nat.add_comm _ _) (by show _ = x.val + 2; first | rfl | exact Nat.add_comm _ _)))
      (tap_sum hp n o y.isLt x.isLt _ _ 1 0 (by show _ = y.val + 1; first | rfl | exact Nat.add_comm _ _) (by show _ = x.val + 0; first | rfl | exact Nat.add_comm _ _)))
      (tap_sum hp n o y.isLt x.isLt _ _ 1 1 (by show _ = y.val + 1; first | rfl | exact Nat.add_comm _ _) (by show _ = x.val + 1; first | rfl | exact Nat.add_comm _ _)))
      (tap_sum hp n o y.isLt x.isLt _ _ 1 2 (by show _ = y.val + 1; first | rfl | exact Nat.add_comm _ _) (by show _ = x.val + 2; first | rfl | exact Nat.add_comm _ _)))
      (tap_sum hp n o y.isLt x.isLt _ _ 2 0 (by show _ = y.val + 2; first | rfl | exact Nat.add_comm _ _) (by show _ = x.val + 0; first | rfl | exact Nat.add_comm _ _)))
      (tap_sum hp n o y.isLt x.isLt _ _ 2 1 (by show _ = y.val + 2; first | rfl | exact Nat.add_comm _ _) (by show _ = x.val + 1; first | rfl | exact Nat.add_comm _ _)))
      (tap_sum hp n o y.isLt x.isLt _ _ 2 2 (by show _ = y.val + 2; first | rfl | exact Nat.add_comm _ _) (by show _ = x.val + 2; first | rfl | exact Nat.add_comm _ _)))) (at1_of_lt b o.isLt).symm) rfl

/-- Block 1 of the reference on a padded image. -/
def conv1 (xp : S64x120x66x66.Idx → EReal) (w : S32x120x3x3.Idx → EReal) (b : S32.Idx → EReal) : FVec Ideal S64x32x32x32 .f32 :=
  Host.reduceWindow FloatOps.maximumf ![1, 1, 2, 2] ![1, 1, 2, 2] ![0, 0, 0, 0] ![0, 0, 0, 0] (pre1 xp w b)
    (broadcastInDim S_ ![] bcast_S_S_ (constant (F := Ideal) S_ .f32 0xFF800000#32))
    reduceWindows_S64x32x64x64_S64x32x32x32_w1s1p0_0_w1s1p0_0_w2s2p0_0_w2s2p0_0 h_S_

/-- It is the block of the specification. -/
theorem conv1_at (xp : S64x120x66x66.Idx → EReal) (w : S32x120x3x3.Idx → EReal) (b : S32.Idx → EReal) (h : ℕ → ℕ → ℕ → ℕ → EReal)
    (hp : ∀ (n : Fin 64) (c : Fin 120) (Y X : Fin 66), xp (ix4 n c Y X) = px 64 (h n.val) c.val Y.val X.val)
    (n : Fin 64) (o : Fin 32) (y x : Fin 32) :
    conv1 xp w b (ix4 n o y x) = blk 120 64 (h n.val) (fun o c i j => at4 w o c i j) (fun o => at1 b o) o.val y.val x.val := by
  refine (pool_window (H := 32) (W := 32) (H2 := 64) (W2 := 64) rfl rfl (pre1 xp w b) _ (fun j => by pointwise; exact neg_inf) _ _ n o y x).trans ?_
  have hy := y.isLt
  have hx := x.isLt
  have e : ∀ Y X : ℕ, Y < 64 → X < 64 → at4 (pre1 xp w b) n.val o.val Y X = act 120 64 (h n.val) (fun o c i j => at4 w o c i j) (fun o => at1 b o) o.val Y X :=
    fun Y X hY hX => (at4_of_lt _ n.isLt o.isLt hY hX).trans (pre1_at xp w b h hp n o ⟨Y, hY⟩ ⟨X, hX⟩)
  unfold blk Conv.pool
  dsimp only
  rw [e _ _ (by omega) (by omega), e _ _ (by omega) (by omega), e _ _ (by omega) (by omega), e _ _ (by omega) (by omega)]

/-- The images block 1 reads, bordered by zeros. -/
def padded1 (x : FVec Ideal S64x120x64x64 .f32) : FVec Ideal S64x120x66x66 .f32 :=
  pad S64x120x66x66 ![0, 0, 1, 1] ![0, 0, 1, 1] ![0, 0, 0, 0] x (sitofp .f32 (constantI S_ 32 0#32)) pads_S64x120x64x64_S64x120x66x66_000_000_110_110 h_S_

/-- Their entries. -/
theorem padded1_at (x : FVec Ideal S64x120x64x64 .f32) (h : ℕ → ℕ → ℕ → ℕ → EReal)
    (hx : ∀ (n : Fin 64) (c : Fin 120) (y z : Fin 64), x (ix4 n c y z) = h n.val c.val y.val z.val) (n : Fin 64) (c : Fin 120) (Y X : Fin 66) :
    padded1 x (ix4 n c Y X) = px 64 (h n.val) c.val Y.val X.val := by
  pointwise [padded1]
  exact px_of_if _ _ _ _ _ _ zero_i fun q => hx n c ⟨Y.val - 1, q.1.2⟩ ⟨X.val - 1, q.2.2⟩

/-- Block 2 of the reference on a padded image, before its pool. -/
def pre2 (xp : S64x32x34x34.Idx → EReal) (w : S64x32x3x3.Idx → EReal) (b : S64.Idx → EReal) : FVec Ideal S64x64x32x32 .f32 :=
  maximumf (addf (transpose S64x64x32x32 [0, 3, 1, 2] (addf (addf (addf (addf (addf (addf (addf (addf (Host.dotGeneral (F := Ideal) (φ₁ := .f32) (φ₂ := .f32) dot_S64x32x32x32_S64x32_S64x32x32x64_1_1_023_0_n_n none (extractStridedSlice S64x32x32x32 ![0, 0, 0, 0] xp slices_S64x32x34x34_S64x32x32x32_0_0_0_0) (shapeCast S64x32 (extractStridedSlice S64x32x1x1 ![0, 0, 0, 0] w slices_S64x32x3x3_S64x32x1x1_0_0_0_0) shapeCasts_S64x32x1x1_S64x32)) (Host.dotGeneral (F := Ideal) (φ₁ := .f32) (φ₂ := .f32) dot_S64x32x32x32_S64x32_S64x32x32x64_1_1_023_0_n_n none (extractStridedSlice S64x32x32x32 ![0, 0, 0, 1] xp slices_S64x32x34x34_S64x32x32x32_0_0_0_1) (shapeCast S64x32 (extractStridedSlice S64x32x1x1 ![0, 0, 0, 1] w slices_S64x32x3x3_S64x32x1x1_0_0_0_1) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 0, 2] xp slices_S64x32x34x34_S64x32x32x32_0_0_0_2) (shapeCast S64x32 (extractStridedSlice S64x32x1x1 ![0, 0, 0, 2] w slices_S64x32x3x3_S64x32x1x1_0_0_0_2) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 1, 0] xp slices_S64x32x34x34_S64x32x32x32_0_0_1_0) (shapeCast S64x32 (extractStridedSlice S64x32x1x1 ![0, 0, 1, 0] w slices_S64x32x3x3_S64x32x1x1_0_0_1_0) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 1, 1] xp slices_S64x32x34x34_S64x32x32x32_0_0_1_1) (shapeCast S64x32 (extractStridedSlice S64x32x1x1 ![0, 0, 1, 1] w slices_S64x32x3x3_S64x32x1x1_0_0_1_1) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 1, 2] xp slices_S64x32x34x34_S64x32x32x32_0_0_1_2) (shapeCast S64x32 (extractStridedSlice S64x32x1x1 ![0, 0, 1, 2] w slices_S64x32x3x3_S64x32x1x1_0_0_1_2) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 2, 0] xp slices_S64x32x34x34_S64x32x32x32_0_0_2_0) (shapeCast S64x32 (extractStridedSlice S64x32x1x1 ![0, 0, 2, 0] w slices_S64x32x3x3_S64x32x1x1_0_0_2_0) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 2, 1] xp slices_S64x32x34x34_S64x32x32x32_0_0_2_1) (shapeCast S64x32 (extractStridedSlice S64x32x1x1 ![0, 0, 2, 1] w slices_S64x32x3x3_S64x32x1x1_0_0_2_1) shapeCasts_S64x32x1x1_S64x32))) (Host.dotGeneral (F := Ideal) (φ₁ := .f32) (φ₂ := .f32) dot_S64x32x32x32_S64x32_S64x32x32x64_1_1_023_0_n_n none (extractStridedSlice S64x32x32x32 ![0, 0, 2, 2] xp slices_S64x32x34x34_S64x32x32x32_0_0_2_2) (shapeCast S64x32 (extractStridedSlice S64x32x1x1 ![0, 0, 2, 2] w slices_S64x32x3x3_S64x32x1x1_0_0_2_2) shapeCasts_S64x32x1x1_S64x32))) transposes_S64x32x32x64_S64x64x32x32_0_3_1_2)
      (broadcastInDim S64x64x32x32 ![0, 1, 2, 3] bcast_S1x64x1x1_S64x64x32x32_0_1_2_3 (broadcastInDim S1x64x1x1 ![1] bcast_S64_S1x64x1x1_1 b)))
      (broadcastInDim S64x64x32x32 ![] bcast_S_S64x64x32x32 (constant S_ .f32 0x00000000#32))

/-- Its entries. -/
theorem pre2_at (xp : S64x32x34x34.Idx → EReal) (w : S64x32x3x3.Idx → EReal) (b : S64.Idx → EReal) (h : ℕ → ℕ → ℕ → ℕ → EReal)
    (hp : ∀ (n : Fin 64) (c : Fin 32) (Y X : Fin 34), xp (ix4 n c Y X) = px 32 (h n.val) c.val Y.val X.val)
    (n : Fin 64) (o : Fin 64) (y x : Fin 32) :
    pre2 xp w b (ix4 n o y x) = act 32 32 (h n.val) (fun o c i j => at4 w o c i j) (fun o => at1 b o) o.val y.val x.val := by
  pointwise [pre2]
  exact congrArg₂ (fun p q : EReal => max p q) (congrArg₂ (fun p q : EReal => p + q) ((congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (tap_sum hp n o y.isLt x.isLt _ _ 0 0 (by show _ = y.val + 0; first | rfl | exact Nat.add_comm _ _) (by show _ = x.val + 0; first | rfl | exact Nat.add_comm _ _))
      (tap_sum hp n o y.isLt x.isLt _ _ 0 1 (by show _ = y.val + 0; first | rfl | exact Nat.add_comm _ _) (by show _ = x.val + 1; first | rfl | exact Nat.add_comm _ _)))
      (tap_sum hp n o y.isLt x.isLt _ _ 0 2 (by show _ = y.val + 0; first | rfl | exact Nat.add_comm _ _) (by show _ = x.val + 2; first | rfl | exact Nat.add_comm _ _)))
      (tap_sum hp n o y.isLt x.isLt _ _ 1 0 (by show _ = y.val + 1; first | rfl | exact Nat.add_comm _ _) (by show _ = x.val + 0; first | rfl | exact Nat.add_comm _ _)))
      (tap_sum hp n o y.isLt x.isLt _ _ 1 1 (by show _ = y.val + 1; first | rfl | exact Nat.add_comm _ _) (by show _ = x.val + 1; first | rfl | exact Nat.add_comm _ _)))
      (tap_sum hp n o y.isLt x.isLt _ _ 1 2 (by show _ = y.val + 1; first | rfl | exact Nat.add_comm _ _) (by show _ = x.val + 2; first | rfl | exact Nat.add_comm _ _)))
      (tap_sum hp n o y.isLt x.isLt _ _ 2 0 (by show _ = y.val + 2; first | rfl | exact Nat.add_comm _ _) (by show _ = x.val + 0; first | rfl | exact Nat.add_comm _ _)))
      (tap_sum hp n o y.isLt x.isLt _ _ 2 1 (by show _ = y.val + 2; first | rfl | exact Nat.add_comm _ _) (by show _ = x.val + 1; first | rfl | exact Nat.add_comm _ _)))
      (tap_sum hp n o y.isLt x.isLt _ _ 2 2 (by show _ = y.val + 2; first | rfl | exact Nat.add_comm _ _) (by show _ = x.val + 2; first | rfl | exact Nat.add_comm _ _)))) (at1_of_lt b o.isLt).symm) rfl

/-- Block 2 of the reference on a padded image. -/
def conv2 (xp : S64x32x34x34.Idx → EReal) (w : S64x32x3x3.Idx → EReal) (b : S64.Idx → EReal) : FVec Ideal S64x64x16x16 .f32 :=
  Host.reduceWindow FloatOps.maximumf ![1, 1, 2, 2] ![1, 1, 2, 2] ![0, 0, 0, 0] ![0, 0, 0, 0] (pre2 xp w b)
    (broadcastInDim S_ ![] bcast_S_S_ (constant (F := Ideal) S_ .f32 0xFF800000#32))
    reduceWindows_S64x64x32x32_S64x64x16x16_w1s1p0_0_w1s1p0_0_w2s2p0_0_w2s2p0_0 h_S_

/-- It is the block of the specification. -/
theorem conv2_at (xp : S64x32x34x34.Idx → EReal) (w : S64x32x3x3.Idx → EReal) (b : S64.Idx → EReal) (h : ℕ → ℕ → ℕ → ℕ → EReal)
    (hp : ∀ (n : Fin 64) (c : Fin 32) (Y X : Fin 34), xp (ix4 n c Y X) = px 32 (h n.val) c.val Y.val X.val)
    (n : Fin 64) (o : Fin 64) (y x : Fin 16) :
    conv2 xp w b (ix4 n o y x) = blk 32 32 (h n.val) (fun o c i j => at4 w o c i j) (fun o => at1 b o) o.val y.val x.val := by
  refine (pool_window (H := 16) (W := 16) (H2 := 32) (W2 := 32) rfl rfl (pre2 xp w b) _ (fun j => by pointwise; exact neg_inf) _ _ n o y x).trans ?_
  have hy := y.isLt
  have hx := x.isLt
  have e : ∀ Y X : ℕ, Y < 32 → X < 32 → at4 (pre2 xp w b) n.val o.val Y X = act 32 32 (h n.val) (fun o c i j => at4 w o c i j) (fun o => at1 b o) o.val Y X :=
    fun Y X hY hX => (at4_of_lt _ n.isLt o.isLt hY hX).trans (pre2_at xp w b h hp n o ⟨Y, hY⟩ ⟨X, hX⟩)
  unfold blk Conv.pool
  dsimp only
  rw [e _ _ (by omega) (by omega), e _ _ (by omega) (by omega), e _ _ (by omega) (by omega), e _ _ (by omega) (by omega)]

/-- The images block 2 reads, bordered by zeros. -/
def padded2 (x : FVec Ideal S64x32x32x32 .f32) : FVec Ideal S64x32x34x34 .f32 :=
  pad S64x32x34x34 ![0, 0, 1, 1] ![0, 0, 1, 1] ![0, 0, 0, 0] x (sitofp .f32 (constantI S_ 32 0#32)) pads_S64x32x32x32_S64x32x34x34_000_000_110_110 h_S_

/-- Their entries. -/
theorem padded2_at (x : FVec Ideal S64x32x32x32 .f32) (h : ℕ → ℕ → ℕ → ℕ → EReal)
    (hx : ∀ (n : Fin 64) (c : Fin 32) (y z : Fin 32), x (ix4 n c y z) = h n.val c.val y.val z.val) (n : Fin 64) (c : Fin 32) (Y X : Fin 34) :
    padded2 x (ix4 n c Y X) = px 32 (h n.val) c.val Y.val X.val := by
  pointwise [padded2]
  exact px_of_if _ _ _ _ _ _ zero_i fun q => hx n c ⟨Y.val - 1, q.1.2⟩ ⟨X.val - 1, q.2.2⟩

/-- Block 3 of the reference on a padded image, before its pool. -/
def pre3 (xp : S64x64x18x18.Idx → EReal) (w : S128x64x3x3.Idx → EReal) (b : S128.Idx → EReal) : FVec Ideal S64x128x16x16 .f32 :=
  maximumf (addf (transpose S64x128x16x16 [0, 3, 1, 2] (addf (addf (addf (addf (addf (addf (addf (addf (Host.dotGeneral (F := Ideal) (φ₁ := .f32) (φ₂ := .f32) dot_S64x64x16x16_S128x64_S64x16x16x128_1_1_023_0_n_n none (extractStridedSlice S64x64x16x16 ![0, 0, 0, 0] xp slices_S64x64x18x18_S64x64x16x16_0_0_0_0) (shapeCast S128x64 (extractStridedSlice S128x64x1x1 ![0, 0, 0, 0] w slices_S128x64x3x3_S128x64x1x1_0_0_0_0) shapeCasts_S128x64x1x1_S128x64)) (Host.dotGeneral (F := Ideal) (φ₁ := .f32) (φ₂ := .f32) dot_S64x64x16x16_S128x64_S64x16x16x128_1_1_023_0_n_n none (extractStridedSlice S64x64x16x16 ![0, 0, 0, 1] xp slices_S64x64x18x18_S64x64x16x16_0_0_0_1) (shapeCast S128x64 (extractStridedSlice S128x64x1x1 ![0, 0, 0, 1] w slices_S128x64x3x3_S128x64x1x1_0_0_0_1) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 0, 2] xp slices_S64x64x18x18_S64x64x16x16_0_0_0_2) (shapeCast S128x64 (extractStridedSlice S128x64x1x1 ![0, 0, 0, 2] w slices_S128x64x3x3_S128x64x1x1_0_0_0_2) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 1, 0] xp slices_S64x64x18x18_S64x64x16x16_0_0_1_0) (shapeCast S128x64 (extractStridedSlice S128x64x1x1 ![0, 0, 1, 0] w slices_S128x64x3x3_S128x64x1x1_0_0_1_0) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 1, 1] xp slices_S64x64x18x18_S64x64x16x16_0_0_1_1) (shapeCast S128x64 (extractStridedSlice S128x64x1x1 ![0, 0, 1, 1] w slices_S128x64x3x3_S128x64x1x1_0_0_1_1) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 1, 2] xp slices_S64x64x18x18_S64x64x16x16_0_0_1_2) (shapeCast S128x64 (extractStridedSlice S128x64x1x1 ![0, 0, 1, 2] w slices_S128x64x3x3_S128x64x1x1_0_0_1_2) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 2, 0] xp slices_S64x64x18x18_S64x64x16x16_0_0_2_0) (shapeCast S128x64 (extractStridedSlice S128x64x1x1 ![0, 0, 2, 0] w slices_S128x64x3x3_S128x64x1x1_0_0_2_0) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 2, 1] xp slices_S64x64x18x18_S64x64x16x16_0_0_2_1) (shapeCast S128x64 (extractStridedSlice S128x64x1x1 ![0, 0, 2, 1] w slices_S128x64x3x3_S128x64x1x1_0_0_2_1) shapeCasts_S128x64x1x1_S128x64))) (Host.dotGeneral (F := Ideal) (φ₁ := .f32) (φ₂ := .f32) dot_S64x64x16x16_S128x64_S64x16x16x128_1_1_023_0_n_n none (extractStridedSlice S64x64x16x16 ![0, 0, 2, 2] xp slices_S64x64x18x18_S64x64x16x16_0_0_2_2) (shapeCast S128x64 (extractStridedSlice S128x64x1x1 ![0, 0, 2, 2] w slices_S128x64x3x3_S128x64x1x1_0_0_2_2) shapeCasts_S128x64x1x1_S128x64))) transposes_S64x16x16x128_S64x128x16x16_0_3_1_2)
      (broadcastInDim S64x128x16x16 ![0, 1, 2, 3] bcast_S1x128x1x1_S64x128x16x16_0_1_2_3 (broadcastInDim S1x128x1x1 ![1] bcast_S128_S1x128x1x1_1 b)))
      (broadcastInDim S64x128x16x16 ![] bcast_S_S64x128x16x16 (constant S_ .f32 0x00000000#32))

/-- Its entries. -/
theorem pre3_at (xp : S64x64x18x18.Idx → EReal) (w : S128x64x3x3.Idx → EReal) (b : S128.Idx → EReal) (h : ℕ → ℕ → ℕ → ℕ → EReal)
    (hp : ∀ (n : Fin 64) (c : Fin 64) (Y X : Fin 18), xp (ix4 n c Y X) = px 16 (h n.val) c.val Y.val X.val)
    (n : Fin 64) (o : Fin 128) (y x : Fin 16) :
    pre3 xp w b (ix4 n o y x) = act 64 16 (h n.val) (fun o c i j => at4 w o c i j) (fun o => at1 b o) o.val y.val x.val := by
  pointwise [pre3]
  exact congrArg₂ (fun p q : EReal => max p q) (congrArg₂ (fun p q : EReal => p + q) ((congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (tap_sum hp n o y.isLt x.isLt _ _ 0 0 (by show _ = y.val + 0; first | rfl | exact Nat.add_comm _ _) (by show _ = x.val + 0; first | rfl | exact Nat.add_comm _ _))
      (tap_sum hp n o y.isLt x.isLt _ _ 0 1 (by show _ = y.val + 0; first | rfl | exact Nat.add_comm _ _) (by show _ = x.val + 1; first | rfl | exact Nat.add_comm _ _)))
      (tap_sum hp n o y.isLt x.isLt _ _ 0 2 (by show _ = y.val + 0; first | rfl | exact Nat.add_comm _ _) (by show _ = x.val + 2; first | rfl | exact Nat.add_comm _ _)))
      (tap_sum hp n o y.isLt x.isLt _ _ 1 0 (by show _ = y.val + 1; first | rfl | exact Nat.add_comm _ _) (by show _ = x.val + 0; first | rfl | exact Nat.add_comm _ _)))
      (tap_sum hp n o y.isLt x.isLt _ _ 1 1 (by show _ = y.val + 1; first | rfl | exact Nat.add_comm _ _) (by show _ = x.val + 1; first | rfl | exact Nat.add_comm _ _)))
      (tap_sum hp n o y.isLt x.isLt _ _ 1 2 (by show _ = y.val + 1; first | rfl | exact Nat.add_comm _ _) (by show _ = x.val + 2; first | rfl | exact Nat.add_comm _ _)))
      (tap_sum hp n o y.isLt x.isLt _ _ 2 0 (by show _ = y.val + 2; first | rfl | exact Nat.add_comm _ _) (by show _ = x.val + 0; first | rfl | exact Nat.add_comm _ _)))
      (tap_sum hp n o y.isLt x.isLt _ _ 2 1 (by show _ = y.val + 2; first | rfl | exact Nat.add_comm _ _) (by show _ = x.val + 1; first | rfl | exact Nat.add_comm _ _)))
      (tap_sum hp n o y.isLt x.isLt _ _ 2 2 (by show _ = y.val + 2; first | rfl | exact Nat.add_comm _ _) (by show _ = x.val + 2; first | rfl | exact Nat.add_comm _ _)))) (at1_of_lt b o.isLt).symm) rfl

/-- Block 3 of the reference on a padded image. -/
def conv3 (xp : S64x64x18x18.Idx → EReal) (w : S128x64x3x3.Idx → EReal) (b : S128.Idx → EReal) : FVec Ideal S64x128x8x8 .f32 :=
  Host.reduceWindow FloatOps.maximumf ![1, 1, 2, 2] ![1, 1, 2, 2] ![0, 0, 0, 0] ![0, 0, 0, 0] (pre3 xp w b)
    (broadcastInDim S_ ![] bcast_S_S_ (constant (F := Ideal) S_ .f32 0xFF800000#32))
    reduceWindows_S64x128x16x16_S64x128x8x8_w1s1p0_0_w1s1p0_0_w2s2p0_0_w2s2p0_0 h_S_

/-- It is the block of the specification. -/
theorem conv3_at (xp : S64x64x18x18.Idx → EReal) (w : S128x64x3x3.Idx → EReal) (b : S128.Idx → EReal) (h : ℕ → ℕ → ℕ → ℕ → EReal)
    (hp : ∀ (n : Fin 64) (c : Fin 64) (Y X : Fin 18), xp (ix4 n c Y X) = px 16 (h n.val) c.val Y.val X.val)
    (n : Fin 64) (o : Fin 128) (y x : Fin 8) :
    conv3 xp w b (ix4 n o y x) = blk 64 16 (h n.val) (fun o c i j => at4 w o c i j) (fun o => at1 b o) o.val y.val x.val := by
  refine (pool_window (H := 8) (W := 8) (H2 := 16) (W2 := 16) rfl rfl (pre3 xp w b) _ (fun j => by pointwise; exact neg_inf) _ _ n o y x).trans ?_
  have hy := y.isLt
  have hx := x.isLt
  have e : ∀ Y X : ℕ, Y < 16 → X < 16 → at4 (pre3 xp w b) n.val o.val Y X = act 64 16 (h n.val) (fun o c i j => at4 w o c i j) (fun o => at1 b o) o.val Y X :=
    fun Y X hY hX => (at4_of_lt _ n.isLt o.isLt hY hX).trans (pre3_at xp w b h hp n o ⟨Y, hY⟩ ⟨X, hX⟩)
  unfold blk Conv.pool
  dsimp only
  rw [e _ _ (by omega) (by omega), e _ _ (by omega) (by omega), e _ _ (by omega) (by omega), e _ _ (by omega) (by omega)]

/-- The images block 3 reads, bordered by zeros. -/
def padded3 (x : FVec Ideal S64x64x16x16 .f32) : FVec Ideal S64x64x18x18 .f32 :=
  pad S64x64x18x18 ![0, 0, 1, 1] ![0, 0, 1, 1] ![0, 0, 0, 0] x (sitofp .f32 (constantI S_ 32 0#32)) pads_S64x64x16x16_S64x64x18x18_000_000_110_110 h_S_

/-- Their entries. -/
theorem padded3_at (x : FVec Ideal S64x64x16x16 .f32) (h : ℕ → ℕ → ℕ → ℕ → EReal)
    (hx : ∀ (n : Fin 64) (c : Fin 64) (y z : Fin 16), x (ix4 n c y z) = h n.val c.val y.val z.val) (n : Fin 64) (c : Fin 64) (Y X : Fin 18) :
    padded3 x (ix4 n c Y X) = px 16 (h n.val) c.val Y.val X.val := by
  pointwise [padded3]
  exact px_of_if _ _ _ _ _ _ zero_i fun q => hx n c ⟨Y.val - 1, q.1.2⟩ ⟨X.val - 1, q.2.2⟩

/-- The reference's features: entry `(n, o, p)` is the third block's channel `o` at row `p / 8`, column `p % 8`. -/
theorem features_at (X : FVec Ideal S64x120x64x64 .f32) (W1 : FVec Ideal S32x120x3x3 .f32) (b1 : FVec Ideal S32 .f32) (W2 : FVec Ideal S64x32x3x3 .f32) (b2 : FVec Ideal S64 .f32)
    (W3 : FVec Ideal S128x64x3x3 .f32) (b3 : FVec Ideal S128 .f32) (n : Fin 64) (o : Fin 128) (p : Fin 64) :
    (shapeCast S64x128x64 (conv3 (padded3 (conv2 (padded2 (conv1 (padded1 X) W1 b1)) W2 b2)) W3 b3) shapeCasts_S64x128x8x8_S64x128x64 : FVec Ideal S64x128x64 .f32) (ix3 n o p)
      = Spec.three (Spec.two (Spec.one X W1 b1 n.val) W2 b2) W3 b3 o.val (p.val / 8) (p.val % 8) := by
  have q1 := conv1_at (padded1 X) W1 b1 (fun n c y x => at4 X n c y x) (padded1_at X (fun n c y x => at4 X n c y x) fun n c y z => (at4_of_lt X n.isLt c.isLt y.isLt z.isLt).symm)
  have q2 := conv2_at _ W2 b2 (fun n => Spec.one X W1 b1 n) (padded2_at _ (fun n => Spec.one X W1 b1 n) q1)
  have q3 := conv3_at _ W3 b3 (fun n => Spec.two (Spec.one X W1 b1 n) W2 b2) (padded3_at _ (fun n => Spec.two (Spec.one X W1 b1 n) W2 b2) q2)
  have hp := p.isLt
  refine Eq.trans ?_ (q3 n o ⟨p.val / 8, by omega⟩ ⟨p.val % 8, by omega⟩)
  generalize conv3 (padded3 (conv2 (padded2 (conv1 (padded1 X) W1 b1)) W2 b2)) W3 b3 = Z
  pointwise

/-- The features a run of the reference leaves. -/
def features (V0 : Valuation τ sig (Elt Ideal)) : FVec Ideal S64x128x64 .f32 :=
  shapeCast S64x128x64 (conv3 (res_main_v104 V0) (V0 (Proc.devRef .tc main_arg5)) (V0 (Proc.devRef .tc main_arg6))) shapeCasts_S64x128x8x8_S64x128x64

/-- The first padded image of a run. -/
theorem run1 (V0 : Valuation τ sig (Elt Ideal)) : res_main_v0 V0 = padded1 (V0 (Proc.devRef .tc main_arg0)) := rfl

/-- The second. -/
theorem run2 (V0 : Valuation τ sig (Elt Ideal)) :
    res_main_v52 V0 = padded2 (conv1 (res_main_v0 V0) (V0 (Proc.devRef .tc main_arg1)) (V0 (Proc.devRef .tc main_arg2))) := by
  unfold res_main_v52 padded2 conv1 pre1
  rfl

/-- The third. -/
theorem run3 (V0 : Valuation τ sig (Elt Ideal)) :
    res_main_v104 V0 = padded3 (conv2 (res_main_v52 V0) (V0 (Proc.devRef .tc main_arg3)) (V0 (Proc.devRef .tc main_arg4))) := by
  unfold res_main_v104 padded3 conv2 pre2
  rfl

/-- The run's features, entry by entry. -/
theorem run_at (V0 : Valuation τ sig (Elt Ideal)) (n : Fin 64) (o : Fin 128) (p : Fin 64) :
    features V0 (ix3 n o p)
      = Spec.three (Spec.two (Spec.one (V0 (Proc.devRef .tc main_arg0)) (V0 (Proc.devRef .tc main_arg1)) (V0 (Proc.devRef .tc main_arg2)) n.val) (V0 (Proc.devRef .tc main_arg3)) (V0 (Proc.devRef .tc main_arg4)))
          (V0 (Proc.devRef .tc main_arg5)) (V0 (Proc.devRef .tc main_arg6)) o.val (p.val / 8) (p.val % 8) := by
  unfold features
  rw [run3, run2, run1]
  exact features_at _ _ _ _ _ _ _ n o p

end Cert.RefConv

end
-- ==== Proof.Disk.lean ====
/-
  One pixel of a rotating disk as functions of extended reals: its deprojected coordinates, its distance from the centre,
  the light there, the velocity along the line of sight, and the bin of the velocity cube it falls in. With the facts that
  turn another order of the same arithmetic into these.
-/
module

public import Idealize.ShloMosaic.PureOps.Ideal
public import Mathlib.Analysis.SpecialFunctions.Trigonometric.Arctan

@[expose] public section

noncomputable section

namespace Cert.Disk

open Idealize.ShloMosaic

/-- The extended real a float word denotes. -/
abbrev lit (b : BitVec 32) : EReal := Ideal.ofBits .f32 b

/-- First deprojected coordinate of the pixel `(x, y)`. -/
def across (cp sp x y : EReal) : EReal := x * cp + y * sp

/-- Second deprojected coordinate of the pixel `(x, y)`. -/
def along (cp sp ci x y : EReal) : EReal := -x * sp + y * ci * cp

/-- The length of `(u, v)`. -/
def radius (u v : EReal) : EReal := Ideal.sqrt (u * u + v * v)

/-- The light at distance `ρ`. -/
def light (a ρ : EReal) : EReal := Ideal.exp (Ideal.div (-ρ) a)

/-- The reduced argument of the arctangent of a number `r` that is not negative. -/
def reduced (r : EReal) : EReal :=
  if lit 0x401A827A#32 < r then Ideal.div (lit 0xBF800000#32) r
  else if r ≤ lit 0x3ED413CD#32 then r else Ideal.div (r - 1) (r + 1)

/-- The angle the reduction of `r` turns by. -/
def turned (r : EReal) : EReal :=
  if lit 0x401A827A#32 < r then Ideal.atan2 1 0 else if r ≤ lit 0x3ED413CD#32 then 0 else Ideal.atan2 1 1

/-- The arctangent's polynomial. -/
def poly (z : EReal) : EReal :=
  z + z * (z * z) * (lit 0xBEAAAA2A#32 + z * z * (lit 0x3E4C925F#32 + z * z * (lit 0xBE0E1B85#32 + z * z * lit 0x3DA4F0D1#32)))

/-- The arctangent of a number that is not negative. -/
def arc (r : EReal) : EReal := turned r + poly (reduced r)

/-- The arctangent of `t`. -/
def arctan (t : EReal) : EReal := if 0 ≤ t then arc (FloatOps.absf (F := Ideal) (φ := .f32) t) else -arc (FloatOps.absf (F := Ideal) (φ := .f32) t)

/-- The cosine between the velocity at `(u, v)` and the line of nodes at angle `pos`, with its sign. -/
def sight (pos u v : EReal) : EReal := -Ideal.cos (Ideal.atan2 u v + pos - Ideal.atan2 1 0)

/-- The speed of the orbit at distance `ρ`. -/
def speed (ah vh ρ : EReal) : EReal :=
  Ideal.sqrt (vh * vh * (1 - Ideal.div ah ρ * arctan (Ideal.div ρ ah))) * lit 0x43FA0000#32

/-- The velocity along the line of sight. -/
def velocity (pos si ah vh u v : EReal) : EReal := speed ah vh (radius u v) * (sight pos u v * si)

/-- The bin of a velocity, from 0 to 120. -/
def bin (v : EReal) : EReal := min (lit 0x42F00000#32) (max 0 (Ideal.liftRound Int.floor (Ideal.div v (lit 0x41200000#32)) + lit 0x42700000#32))

/-- A quarter turn. -/
theorem quarter : Ideal.atan2 1 0 = ((Real.pi * (1 / 2) : ℝ) : EReal) := by
  show ((_ : ℝ) : EReal) = _
  congr 1
  norm_num
  ring

/-- An eighth of a turn. -/
theorem eighth : Ideal.atan2 1 1 = ((Real.pi * (1 / 4) : ℝ) : EReal) := by
  show ((_ : ℝ) : EReal) = _
  congr 1
  norm_num [Real.arctan_one]
  ring

theorem lit_neg3 : lit 0xBEAAAA2A#32 = -lit 0x3EAAAA2A#32 := by
  simp [Ideal.ofBits, Ideal.ieee]

theorem lit_neg1 : lit 0xBE0E1B85#32 = -lit 0x3E0E1B85#32 := by
  simp [Ideal.ofBits, Ideal.ieee]

/-- The bins' number. -/
theorem lit_120 : lit 0x42F00000#32 = ((120 : ℝ) : EReal) := by
  simp [Ideal.ofBits, Ideal.ieee, -EReal.coe_mul]; norm_num

theorem lit_60 : lit 0x42700000#32 = ((60 : ℝ) : EReal) := by
  simp [Ideal.ofBits, Ideal.ieee, -EReal.coe_mul]; norm_num

/-- The polynomial by powers of `z * z` with the highest taken in first. -/
theorem poly_up (z : EReal) :
    (((lit 0x3DA4F0D1#32 * (z * z) - lit 0x3E0E1B85#32) * (z * z) + lit 0x3E4C925F#32) * (z * z) - lit 0x3EAAAA2A#32) * (z * z) * z + z
      = poly z := by
  rw [poly, lit_neg3, lit_neg1]
  generalize lit 0x3DA4F0D1#32 = a, lit 0x3E0E1B85#32 = b, lit 0x3E4C925F#32 = c, lit 0x3EAAAA2A#32 = d, z * z = s
  simp only [sub_eq_add_neg, mul_assoc, mul_comm, mul_left_comm, add_comm, add_left_comm]

/-- The angle of `(v, u)` has `u` over the length as sine and `v` over the length as cosine. -/
theorem atan2_coords (u v : ℝ) (h : 0 < u * u + v * v) : ∃ θ : ℝ, Ideal.atan2 (u : EReal) (v : EReal) = (θ : EReal)
    ∧ Real.sin θ = u / √(u * u + v * v) ∧ Real.cos θ = v / √(u * u + v * v) := by
  have key : ∀ w : ℝ, w ≠ 0 → √(1 + (u / w) ^ 2) = √(u * u + w * w) / |w| := fun w hw => by
    rw [show 1 + (u / w) ^ 2 = (u * u + w * w) / (w ^ 2) by field_simp; ring, Real.sqrt_div' _ (sq_nonneg w), Real.sqrt_sq_eq_abs]
  have hs : √(u * u + v * v) ≠ 0 := (Real.sqrt_pos.2 h).ne'
  rcases lt_trichotomy v 0 with hv | hv | hv
  · have hs' := key v hv.ne
    have ha : |v| = -v := abs_of_neg hv
    have hv' : v ≠ 0 := hv.ne
    have sn : Real.sin (Real.arctan (u / v)) = -(u / √(u * u + v * v)) := by
      rw [Real.sin_arctan, hs', ha]; field_simp
    have cs : Real.cos (Real.arctan (u / v)) = -(v / √(u * u + v * v)) := by
      rw [Real.cos_arctan, hs', ha]; field_simp
    by_cases hu : 0 ≤ u
    · refine ⟨Real.arctan (u / v) + Real.pi, ?_, ?_, ?_⟩
      · show ((_ : ℝ) : EReal) = _
        rw [if_neg hv.not_gt, if_pos hv, if_pos hu]
      · rw [Real.sin_add_pi, sn, neg_neg]
      · rw [Real.cos_add_pi, cs, neg_neg]
    · refine ⟨Real.arctan (u / v) - Real.pi, ?_, ?_, ?_⟩
      · show ((_ : ℝ) : EReal) = _
        rw [if_neg hv.not_gt, if_pos hv, if_neg hu]
      · rw [Real.sin_sub_pi, sn, neg_neg]
      · rw [Real.cos_sub_pi, cs, neg_neg]
  · subst hv
    have hq : √(u * u + 0 * 0) = |u| := by rw [mul_zero, add_zero, Real.sqrt_mul_self_eq_abs]
    have hu0 : u ≠ 0 := by rintro rfl; simp at h
    rcases lt_or_gt_of_ne hu0 with hu | hu
    · refine ⟨-(Real.pi / 2), ?_, ?_, ?_⟩
      · show ((_ : ℝ) : EReal) = _
        rw [if_neg (lt_irrefl _), if_neg (lt_irrefl _), if_neg hu.not_gt, if_pos hu]
      · rw [hq, abs_of_neg hu, Real.sin_neg, Real.sin_pi_div_two, div_neg, div_self hu0]
      · rw [Real.cos_neg, Real.cos_pi_div_two, zero_div]
    · refine ⟨Real.pi / 2, ?_, ?_, ?_⟩
      · show ((_ : ℝ) : EReal) = _
        rw [if_neg (lt_irrefl _), if_neg (lt_irrefl _), if_pos hu]
      · rw [hq, abs_of_pos hu, Real.sin_pi_div_two, div_self hu0]
      · rw [Real.cos_pi_div_two, zero_div]
  · have hs' := key v hv.ne'
    have ha : |v| = v := abs_of_pos hv
    refine ⟨Real.arctan (u / v), ?_, ?_, ?_⟩
    · show ((_ : ℝ) : EReal) = _
      rw [if_pos hv]
    · rw [Real.sin_arctan, hs', ha]; field_simp
    · rw [Real.cos_arctan, hs', ha]; field_simp

/-- Away from the centre, the sine of the sum of two angles over coordinates is the cosine a quarter turn back. -/
theorem sight_eq (p u v : ℝ) (h : 0 < u * u + v * v) :
    Ideal.div (0 - ((u : EReal) * Ideal.cos (p : EReal) + (v : EReal) * Ideal.sin (p : EReal))) (radius (u : EReal) (v : EReal))
      = sight (p : EReal) (u : EReal) (v : EReal) := by
  obtain ⟨θ, e, hs, hc⟩ := atan2_coords u v h
  have hr : radius (u : EReal) (v : EReal) = ((√(u * u + v * v) : ℝ) : EReal) := by
    rw [radius, ← EReal.coe_mul, ← EReal.coe_mul, ← EReal.coe_add, Ideal.sqrt_coe, if_neg h.le.not_gt]
  have h0 : √(u * u + v * v) ≠ 0 := (Real.sqrt_pos.2 h).ne'
  rw [sight, e, quarter, hr, Ideal.div_coe h0, Ideal.cos_coe, Ideal.sin_coe, ← EReal.coe_add, ← EReal.coe_sub, Ideal.cos_coe,
    ← EReal.coe_mul, ← EReal.coe_mul, ← EReal.coe_add, zero_sub, ← EReal.coe_neg, ← EReal.coe_mul, ← EReal.coe_neg]
  congr 1
  rw [show θ + p - Real.pi * (1 / 2) = θ + p - Real.pi / 2 by ring, Real.cos_sub_pi_div_two, Real.sin_add, hs, hc]
  field_simp

/-- A bin is a whole number from 0 to 120. -/
theorem bin_int (v : EReal) : ∃ n : ℕ, n ≤ 120 ∧ bin v = ((n : ℝ) : EReal) := by
  unfold bin
  rw [lit_120, lit_60]
  have fin : ∀ z : ℤ, ∃ n : ℕ, n ≤ 120 ∧ min ((120 : ℝ) : EReal) (max 0 (((z : ℝ) : EReal))) = ((n : ℝ) : EReal) := fun z => by
    refine ⟨(min 120 (max 0 z)).toNat, by omega, ?_⟩
    rw [← EReal.coe_zero, ← EReal.coe_strictMono.monotone.map_max, ← EReal.coe_strictMono.monotone.map_min]
    congr 1
    have : (((min 120 (max 0 z)).toNat : ℤ) : ℝ) = ((min 120 (max 0 z) : ℤ) : ℝ) := by
      congr 1; omega
    rw [show (((min 120 (max 0 z)).toNat : ℝ)) = ((((min 120 (max 0 z)).toNat : ℤ)) : ℝ) from by push_cast; rfl, this]
    push_cast; rfl
  induction Ideal.div v (lit 0x41200000#32) using EReal.rec with
  | bot =>
    obtain ⟨n, h, e⟩ := fin (-1)
    refine ⟨0, by omega, ?_⟩
    show min _ (max 0 ((⊥ : EReal) + _)) = _
    rw [EReal.bot_add, max_eq_left bot_le]
    norm_num
  | top =>
    refine ⟨120, le_rfl, ?_⟩
    show min _ (max 0 ((⊤ : EReal) + _)) = _
    rw [EReal.top_add_coe, max_eq_right le_top]
    norm_num
  | coe r =>
    obtain ⟨n, h, e⟩ := fin (⌊r⌋ + 60)
    refine ⟨n, h, ?_⟩
    rw [← e, Ideal.liftRound_coe, ← EReal.coe_add]
    push_cast
    rfl

/-- The bin as an integer of 32 bits equals `k` exactly where it equals the real `k`. -/
theorem bin_eq (v : EReal) (k : ℕ) (hk : k < 121) : (Ideal.fptosi 32 (bin v) = BitVec.ofNat 32 k) ↔ (bin v = ((k : ℝ) : EReal)) := by
  obtain ⟨n, hn, e⟩ := bin_int v
  rw [e]
  have h : Ideal.fptosi 32 ((n : ℝ) : EReal) = BitVec.ofNat 32 n := by
    rw [Ideal.fptosi, Ideal.toIntClamped_coe, if_pos (Nat.cast_nonneg n), Int.floor_natCast]
    rw [show max (-((2 ^ (32 - 1) : ℕ) : ℤ)) (min (((2 ^ (32 - 1) : ℕ) : ℤ) - 1) (n : ℤ)) = (n : ℤ) from by norm_num; omega]
    exact BitVec.ofInt_natCast 32 n
  rw [h, EReal.coe_eq_coe_iff, Nat.cast_inj]
  constructor
  · intro q
    have := congrArg BitVec.toNat q
    rw [BitVec.toNat_ofNat, BitVec.toNat_ofNat] at this
    omega
  · rintro rfl; rfl

end Cert.Disk

end
-- ==== Proof.KernelDisk.lean ====
/-
  What a point of the cubes' kernel writes, in the functions of one pixel.
-/
module

public import proofs.«01_k».proof.Proof.Disk
public import proofs.«01_k».proof.Proof.Gen.CubeIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelDisk

open Cert.CubeIdeal Cert.CubeIdeal.Gen Cert.Disk Idealize.ShloMosaic Idealize.ShloMosaic.TcCoe

variable (d : S1x1x8.Idx → EReal) (x y : S32x128.Idx → EReal)

/-- The eight numbers of a sample. -/
abbrev num (i : Fin 8) : EReal := d (ix3 0 0 i)

/-- First deprojected coordinate at a place of the block. -/
def uAt (r : Fin 32) (l : Fin 128) : EReal := across (num d 0) (num d 1) (x (ix2 r l)) (y (ix2 r l))

/-- Second deprojected coordinate at a place of the block. -/
def vAt (r : Fin 32) (l : Fin 128) : EReal := along (num d 0) (num d 1) (num d 2) (x (ix2 r l)) (y (ix2 r l))

/-- The velocity at a place of the block, the sight line's cosine as a quotient. -/
def velAt (r : Fin 32) (l : Fin 128) : EReal :=
  speed (num d 5) (num d 6) (radius (uAt d x y r l) (vAt d x y r l))
    * (Ideal.div (0 - (uAt d x y r l * num d 0 + vAt d x y r l * num d 1)) (radius (uAt d x y r l) (vAt d x y r l)) * num d 3)

theorem zero2 : (![0, 0] : Fin 2 → ℕ) = fun _ => 0 := by funext q; match q with | ⟨0, _⟩ => rfl | ⟨1, _⟩ => rfl
theorem zero3 : (![0, 0, 0] : Fin 3 → ℕ) = fun _ => 0 := by funext q; match q with | ⟨0, _⟩ => rfl | ⟨1, _⟩ => rfl | ⟨2, _⟩ => rfl
theorem zero4 : (![0, 0, 0, 0] : Fin 4 → ℕ) = fun _ => 0 := by
  funext q; match q with | ⟨0, _⟩ => rfl | ⟨1, _⟩ => rfl | ⟨2, _⟩ => rfl | ⟨3, _⟩ => rfl

/-- A load of a whole block is the block. -/
theorem whole (a : S32x128.Idx → EReal) : View.ld (Val := Elt Ideal) (e' := .f32) a r0_7 = a := by
  exact View.ld_unit_zero (S := S32x128) (Val := Elt Ideal) (e := .f32) zero2 inb_S32x128_S32x128_0_0 a

/-- One number taken out of the eight. -/
theorem single (o : Fin 8) (inb : ∀ a, (![0, 0, o.val] : Fin 3 → ℕ) a + S1x1x1.size a ≤ S1x1x8.size a) :
    extractAt ![0, 0, 0] (View.ld (Val := Elt Ideal) (e' := .f32) d (Rect.unit (s := S1x1x8) ![0, 0, o.val] S1x1x1.size inb)) inpos_S1x1x1_p0_0_0 = num d o := by
  show d _ = d _
  congr 1
  funext a
  apply Fin.ext
  match a with
  | ⟨0, _⟩ => rfl
  | ⟨1, _⟩ => rfl
  | ⟨2, _⟩ => show o.val + 1 * 0 = o.val; omega

theorem n0 : k0_pay2 (F := Ideal) (View.ld d r0_0) = num d 0 := single d 0 _
theorem n1 : k0_pay3 (F := Ideal) (View.ld d r0_1) = num d 1 := single d 1 _
theorem n3 : k0_pay4 (F := Ideal) (View.ld d r0_3) = num d 3 := single d 3 _
theorem n4 : k0_pay5 (F := Ideal) (View.ld d r0_4) = num d 4 := single d 4 _
theorem n5 : k0_pay6 (F := Ideal) (View.ld d r0_5) = num d 5 := single d 5 _
theorem n6 : k0_pay7 (F := Ideal) (View.ld d r0_6) = num d 6 := single d 6 _

/-- The block of the first coordinates. -/
abbrev us : S32x128.Idx → EReal := k0_pay10 (F := Ideal) (View.ld d r0_0) (View.ld d r0_1) (View.ld x r0_7) (View.ld y r0_7)

/-- The block of the second coordinates. -/
abbrev vs : S32x128.Idx → EReal := k0_pay11 (F := Ideal) (View.ld d r0_0) (View.ld d r0_1) (View.ld d r0_2) (View.ld x r0_7) (View.ld y r0_7)

/-- The block of the distances. -/
abbrev rs : S32x128.Idx → EReal :=
  k0_pay14 (F := Ideal) (k0_pay12 (View.ld d r0_0) (View.ld d r0_1) (View.ld x r0_7) (View.ld y r0_7))
    (k0_pay13 (View.ld d r0_0) (View.ld d r0_1) (View.ld d r0_2) (View.ld x r0_7) (View.ld y r0_7))

theorem u_at (r : Fin 32) (l : Fin 128) : us d x y (ix2 r l) = uAt d x y r l := by
  rw [us, whole, whole]
  pointwise [k0_pay10, k0_pay8, k0_pay9]
  rw [n0, n1]
  rfl

theorem v_at (r : Fin 32) (l : Fin 128) : vs d x y (ix2 r l) = vAt d x y r l := by
  rw [vs, whole, whole]
  pointwise [k0_pay11, k0_pay8, k0_pay9]
  rw [n0, n1, zero_sub, vAt, along, mul_assoc]

theorem r_at (r : Fin 32) (l : Fin 128) : rs d x y (ix2 r l) = radius (uAt d x y r l) (vAt d x y r l) := by
  rw [← u_at, ← v_at]
  pointwise [rs, k0_pay14, k0_pay12, k0_pay13]
  rfl

/-- The arctangent's magnitude, with the thresholds compared the other way round and the angles named. -/
theorem arc_eq (r : EReal) (z : EReal)
    (hz : z = if lit 0x401A827A#32 < r then Ideal.div (lit 0xBF800000#32) r
      else if lit 0x3ED413CD#32 < r then Ideal.div (r - 1) (r + 1) else r) :
    (((lit 0x3DA4F0D1#32 * (z * z) - lit 0x3E0E1B85#32) * (z * z) + lit 0x3E4C925F#32) * (z * z) - lit 0x3EAAAA2A#32) * (z * z) * z + z
      + (if lit 0x401A827A#32 < r then Named.named (F := Ideal) κ "half_pi" (φ := .f32) 0x3FC90FDB#32
        else if lit 0x3ED413CD#32 < r then Named.named (F := Ideal) κ "quarter_pi" (φ := .f32) 0x3F490FDB#32 else 0) = arc r := by
  have e : z = reduced r := by
    rw [hz, reduced]
    by_cases h : lit 0x3ED413CD#32 < r
    · rw [if_pos h, if_neg h.not_ge]
    · rw [if_neg h, if_pos (not_lt.1 h)]
  have t : (if lit 0x401A827A#32 < r then Named.named (F := Ideal) κ "half_pi" (φ := .f32) 0x3FC90FDB#32
        else if lit 0x3ED413CD#32 < r then Named.named (F := Ideal) κ "quarter_pi" (φ := .f32) 0x3F490FDB#32 else 0) = turned r := by
    have h1 : Named.named (F := Ideal) κ "half_pi" (φ := .f32) 0x3FC90FDB#32 = Ideal.atan2 1 0 := quarter.symm
    have h2 : Named.named (F := Ideal) κ "quarter_pi" (φ := .f32) 0x3F490FDB#32 = Ideal.atan2 1 1 := eighth.symm
    rw [h1, h2, turned]
    by_cases h : lit 0x3ED413CD#32 < r
    · rw [if_pos h, if_neg h.not_ge]
    · rw [if_neg h, if_pos (not_lt.1 h)]
  rw [poly_up, t, e, arc, add_comm]

/-- The block of the arctangents' magnitudes. -/
abbrev ms : S32x128.Idx → EReal :=
  k0_pay19 (F := Ideal) (k0_pay6 (View.ld d r0_5)) (k0_pay12 (View.ld d r0_0) (View.ld d r0_1) (View.ld x r0_7) (View.ld y r0_7))
    (k0_pay13 (View.ld d r0_0) (View.ld d r0_1) (View.ld d r0_2) (View.ld x r0_7) (View.ld y r0_7))

theorem m_at (r : Fin 32) (l : Fin 128) :
    ms d x y (ix2 r l) = arc (FloatOps.absf (F := Ideal) (φ := .f32) (Ideal.div (radius (uAt d x y r l) (vAt d x y r l)) (num d 5))) := by
  rw [← r_at, ← n5]
  refine Eq.trans ?_ (arc_eq _ _ rfl)
  pointwise [ms, k0_pay19, k0_pay18]

/-- The block of the velocities. -/
abbrev ws : S32x128.Idx → EReal :=
  k0_pay20 (F := Ideal) (k0_pay2 (View.ld d r0_0)) (k0_pay3 (View.ld d r0_1)) (k0_pay4 (View.ld d r0_3)) (us d x y) (vs d x y) (rs d x y)
    (k0_pay16 (k0_pay7 (View.ld d r0_6)))
    (k0_pay17 (k0_pay6 (View.ld d r0_5)) (k0_pay12 (View.ld d r0_0) (View.ld d r0_1) (View.ld x r0_7) (View.ld y r0_7))
      (k0_pay13 (View.ld d r0_0) (View.ld d r0_1) (View.ld d r0_2) (View.ld x r0_7) (View.ld y r0_7)))
    (k0_pay18 (k0_pay6 (View.ld d r0_5)) (k0_pay12 (View.ld d r0_0) (View.ld d r0_1) (View.ld x r0_7) (View.ld y r0_7))
      (k0_pay13 (View.ld d r0_0) (View.ld d r0_1) (View.ld d r0_2) (View.ld x r0_7) (View.ld y r0_7)))
    (ms d x y) (0 : EReal)

theorem w_at (r : Fin 32) (l : Fin 128) : ws d x y (ix2 r l) = velAt d x y r l := by
  pointwise [ws, k0_pay20, k0_pay18, k0_pay17, k0_pay16]
  rw [n0, n1, n3, n5, n6, u_at, v_at, m_at]
  have h := r_at d x y r l
  rw [rs] at h ⊢
  rw [h, velAt, speed, Disk.arctan]
  refine congrArg (fun q : EReal => Ideal.sqrt (num d 6 * num d 6 * (1 - Ideal.div (num d 5) (radius (uAt d x y r l) (vAt d x y r l)) * q)) * lit 0x43FA0000#32 * _) ?_
  rw [zero_sub]
  split_ifs with h1 h2 h2
  · exact absurd h2 h1.not_ge
  · rfl
  · rfl
  · exact absurd (not_lt.1 h1) h2

/-- The velocity that a point writes at a place. -/
theorem out4 (z : Fin 1) (r : Fin 32) (l : Fin 128) : (out0_4 (F := Ideal) d x y : S1x32x128.Idx → EReal) (ix3 z r l) = velAt d x y r l := by
  rw [← w_at]
  pointwise [out0_4, k0_pay30, k0_pay29, k0_pay28, k0_pay27, k0_pay26, k0_pay25, k0_pay24, k0_pay23]
  rw [View.canon_unit_zero zero3]
  pointwise [k0_pay21]

/-- The cell of the cube at a place, of the blocks it is computed from. -/
theorem cell (v1 v3 v7 v40 o : EReal) (v22 v30 v34 v39 v42 v44 v78 : S32x128.Idx → EReal) (z : Fin 1) (k : Fin 121) (r : Fin 32) (l : Fin 128) :
    k0_pay1 (F := Ideal) (k0_pay22 v1 v3 v7 v22 v30 v34 v39 v40 v42 v44 v78 o) (ix4 z k r l)
      = if bin ((k0_pay20 (F := Ideal) v1 v3 v7 v22 v30 v34 v40 v42 v44 v78 o : S32x128.Idx → EReal) (ix2 r l)) = ((k.val : ℝ) : EReal)
        then v39 (ix2 r l) else 0 := by
  pointwise [k0_pay22, k0_pay1]
  generalize (k0_pay20 (F := Ideal) v1 v3 v7 v22 v30 v34 v40 v42 v44 v78 o : S32x128.Idx → EReal) (ix2 r l) = v
  show Scalar.select (IntOp.cmpi .eq (Ideal.fptosi 32 (bin v)) (BitVec.ofNat 32 k.val)) (v39 (ix2 r l)) 0 = _
  unfold Scalar.select
  exact if_congr (IntOp.cmpi_eq.trans (bin_eq v k.val k.isLt)) rfl rfl

/-- The light at a place. -/
theorem light_at (r : Fin 32) (l : Fin 128) :
    (k0_pay15 (F := Ideal) (k0_pay5 (View.ld d r0_4)) (k0_pay12 (View.ld d r0_0) (View.ld d r0_1) (View.ld x r0_7) (View.ld y r0_7))
      (k0_pay13 (View.ld d r0_0) (View.ld d r0_1) (View.ld d r0_2) (View.ld x r0_7) (View.ld y r0_7)) : S32x128.Idx → EReal) (ix2 r l)
      = light (num d 4) (radius (uAt d x y r l) (vAt d x y r l)) := by
  rw [← r_at, ← n4]
  pointwise [k0_pay15]
  rw [zero_sub]
  rfl

/-- The cell of the cube that a point writes at a place. -/
theorem out3 (z : Fin 1) (k : Fin 121) (r : Fin 32) (l : Fin 128) :
    (out0_3 (F := Ideal) d x y : S1x121x32x128.Idx → EReal) (ix4 z k r l)
      = if bin (velAt d x y r l) = ((k.val : ℝ) : EReal) then light (num d 4) (radius (uAt d x y r l) (vAt d x y r l)) else 0 := by
  rw [← w_at, ← light_at]
  pointwise [out0_3, k0_pay30, k0_pay29, k0_pay28, k0_pay27, k0_pay26, k0_pay25, k0_pay24, k0_pay23]
  rw [View.canon_unit_zero zero4]
  exact cell _ _ _ _ _ _ _ _ _ _ _ _ z k r l

end Cert.KernelDisk

end
-- ==== Proof.RefDisk.lean ====
/-
  What the reference of the cubes computes at each pixel, in the functions of one pixel.
-/
module

public import proofs.«01_k».proof.Proof.Disk
public import proofs.«01_k».proof.Proof.Gen.CubeRefIdeal.Run
public import Idealize.ShloMosaic.Lib.Pointwise
public import Idealize.ShloMosaic.Lib.Claim

@[expose] public section

set_option maxRecDepth 16384

noncomputable section

namespace Cert.RefDisk

open Cert.CubeRefIdeal Cert.CubeRefIdeal.Gen Cert.CubeRefIdeal.Value Cert.Disk Idealize.ShloMosaic Idealize.ShloMosaic.TcCoe

variable (V : Valuation τ sig (Elt Ideal))

/-- The latents' array. -/
abbrev lat : S64x6.Idx → EReal := V (Proc.devRef .tc main_arg0)

/-- The pixels' first coordinates. -/
abbrev xs : S64x64.Idx → EReal := V (Proc.devRef .tc main_arg1)

/-- The pixels' second coordinates. -/
abbrev ys : S64x64.Idx → EReal := V (Proc.devRef .tc main_arg2)

/-- The position angle of a sample. -/
def pos (b : Fin 64) : EReal := Ideal.atan2 (lat V (ix2 b 0)) (lat V (ix2 b 1))

/-- First deprojected coordinate of a pixel of a sample. -/
def uAt (b i j : Fin 64) : EReal := across (Ideal.cos (pos V b)) (Ideal.sin (pos V b)) (xs V (ix2 i j)) (ys V (ix2 i j))

/-- Second deprojected coordinate of a pixel of a sample. -/
def vAt (b i j : Fin 64) : EReal :=
  along (Ideal.cos (pos V b)) (Ideal.sin (pos V b)) (Ideal.cos (lat V (ix2 b 2))) (xs V (ix2 i j)) (ys V (ix2 i j))

/-- The velocity at a pixel of a sample. -/
def velAt (b i j : Fin 64) : EReal :=
  velocity (pos V b) (Ideal.sin (lat V (ix2 b 2))) (lat V (ix2 b 4)) (lat V (ix2 b 5)) (uAt V b i j) (vAt V b i j)

theorem pos_at (b : Fin 64) : (res_main_v5 V : S64.Idx → EReal) (ix1 b) = pos V b := by
  pointwise [res_main_v5]
  rfl

theorem inc_at (b : Fin 64) : (res_main_v7 V : S64.Idx → EReal) (ix1 b) = lat V (ix2 b 2) := by
  pointwise [res_main_v7]

theorem ah_at (b : Fin 64) : (res_main_v12 V : S64.Idx → EReal) (ix1 b) = lat V (ix2 b 4) := by
  pointwise [res_main_v12]

theorem vh_at (b : Fin 64) : (res_main_v14 V : S64.Idx → EReal) (ix1 b) = lat V (ix2 b 5) := by
  pointwise [res_main_v14]

theorem u_at (b i j : Fin 64) : (res_main_v27 V : S64x64x64.Idx → EReal) (ix3 b i j) = uAt V b i j := by
  pointwise [res_main_v27]
  rw [uAt, ← pos_at]
  rfl

theorem v_at (b i j : Fin 64) : (res_main_v45 V : S64x64x64.Idx → EReal) (ix3 b i j) = vAt V b i j := by
  pointwise [res_main_v45]
  rw [vAt, ← pos_at, ← inc_at]
  rfl

theorem radius_at (b i j : Fin 64) : (res_main_v49 V : S64x64x64.Idx → EReal) (ix3 b i j) = radius (uAt V b i j) (vAt V b i j) := by
  pointwise [res_main_v49]
  rw [← u_at, ← v_at]
  rfl

theorem ratio_at (b i j : Fin 64) : (res_main_v61 V : S64x64x64.Idx → EReal) (ix3 b i j)
    = Ideal.div (radius (uAt V b i j) (vAt V b i j)) (lat V (ix2 b 4)) := by
  pointwise [res_main_v61]
  rw [← radius_at, ← ah_at]

theorem reduced_at (b i j : Fin 64) : (res_main_v77 V : S64x64x64.Idx → EReal) (ix3 b i j)
    = reduced (FloatOps.absf (F := Ideal) (φ := .f32) ((res_main_v61 V : S64x64x64.Idx → EReal) (ix3 b i j))) := by
  pointwise [res_main_v77, res_main_v68, res_main_v66, res_main_v64]
  rfl

theorem arc_at (b i j : Fin 64) : (res_main_v95 V : S64x64x64.Idx → EReal) (ix3 b i j)
    = arc (FloatOps.absf (F := Ideal) (φ := .f32) ((res_main_v61 V : S64x64x64.Idx → EReal) (ix3 b i j))) := by
  pointwise [res_main_v95, res_main_v78, res_main_v68, res_main_v66, res_main_v64, id]
  rw [arc, ← reduced_at]
  rfl

theorem vel_at (b i j : Fin 64) : (res_main_v123 V : S64x64x64.Idx → EReal) (ix3 b i j) = velAt V b i j := by
  pointwise [res_main_v123, id]
  rw [velAt, velocity, speed, sight, Disk.arctan, ← ratio_at, ← arc_at, ← radius_at, ← u_at, ← v_at, ← pos_at, ← inc_at, ← ah_at, ← vh_at]

/-- The cubes' array, of the reference's arrays. -/
def cubes : FVec Ideal S64x121x32x128 .f32 :=
  shapeCast S64x121x32x128 (mulf (uitofp .f32 (cmpf .oeq (broadcastInDim S64x121x64x64 ![0, 1, 2, 3] bcast_S64x1x64x64_S64x121x64x64_0_1_2_3 (broadcastInDim S64x1x64x64 ![0, 2, 3] bcast_S64x64x64_S64x1x64x64_0_2_3 (minimumf (broadcastInDim S64x64x64 ![] bcast_S_S64x64x64 (id (constant S_ .f32 0x42F00000#32))) (maximumf (broadcastInDim S64x64x64 ![] bcast_S_S64x64x64 (id (constant S_ .f32 0x00000000#32))) (addf (Host.floor (Host.divf (res_main_v123 V) (broadcastInDim S64x64x64 ![] bcast_S_S64x64x64 (constant S_ .f32 0x41200000#32)))) (broadcastInDim S64x64x64 ![] bcast_S_S64x64x64 (constant S_ .f32 0x42700000#32))))))) (broadcastInDim S64x121x64x64 ![0, 1, 2, 3] bcast_S1x121x1x1_S64x121x64x64_0_1_2_3 (broadcastInDim S1x121x1x1 ![1, 2, 3] bcast_S121x1x1_S1x121x1x1_1_2_3 (broadcastInDim S121x1x1 ![0] bcast_S121_S121x1x1_0 (sitofp .f32 (iotaInDim S121 32 0))))))) (broadcastInDim S64x121x64x64 ![0, 1, 2, 3] bcast_S64x1x64x64_S64x121x64x64_0_1_2_3 (broadcastInDim S64x1x64x64 ![0, 2, 3] bcast_S64x64x64_S64x1x64x64_0_2_3 (Host.exp (Host.divf (Host.negf (res_main_v49 V)) (broadcastInDim S64x64x64 ![0, 1, 2] bcast_S64x1x1_S64x64x64_0_1_2 (broadcastInDim S64x1x1 ![0] bcast_S64_S64x1x1_0 (Host.absf (shapeCast _ (extractStridedSlice S64x1 ![0, 3] (V (Proc.devRef .tc main_arg0)) slices_S64x6_S64x1_0_3) shapeCasts_S64x1_S64))))))))) shapeCasts_S64x121x64x64_S64x121x32x128

/-- The velocities' array, of the reference's arrays. -/
def velocities : FVec Ideal S64x32x128 .f32 := shapeCast S64x32x128 (res_main_v123 V) shapeCasts_S64x64x64_S64x32x128

/-- Row of the pixel that the flattened place `(r, l)` holds. -/
abbrev row (r : Fin 32) (l : Fin 128) : Fin 64 := ⟨r.val * 2 + l.val / 64, by omega⟩

/-- Column of the pixel that the flattened place `(r, l)` holds. -/
abbrev col (r : Fin 32) (l : Fin 128) : Fin 64 := ⟨l.val % 64, by omega⟩

/-- A small number, from its 32 bits. -/
theorem number (k : ℕ) (hk : k < 121) : FloatOps.sitofp (F := Ideal) FTy.f32 (BitVec.ofNat 32 k) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  push_cast
  rfl

/-- A comparison's bit as a number. -/
theorem flag (P : Prop) [Decidable P] : FloatOps.uitofp (F := Ideal) FTy.f32 (BitVec.ofBool (decide P)) = if P then 1 else 0 := by
  show (((BitVec.ofBool (decide P)).toNat : ℝ) : EReal) = _
  by_cases h : P <;> simp [h]

/-- The cell of a cube: the light at its pixel in the bin of the pixel's velocity, nothing in the other bins. -/
theorem cubes_at (b : Fin 64) (k : Fin 121) (r : Fin 32) (l : Fin 128) :
    cubes V (ix4 b k r l) = (if bin (velAt V b (row r l) (col r l)) = ((k.val : ℝ) : EReal) then 1 else 0)
      * light (FloatOps.absf (F := Ideal) (φ := .f32) (lat V (ix2 b 3))) (radius (uAt V b (row r l) (col r l)) (vAt V b (row r l) (col r l))) := by
  pointwise [cubes, id]
  rw [vel_at, radius_at]
  refine congrArg₂ (fun p q : EReal => p * q) ?_ rfl
  rw [← number k.val (by omega)]
  exact flag _

theorem velocities_at (b : Fin 64) (r : Fin 32) (l : Fin 128) : velocities V (ix3 b r l) = velAt V b (row r l) (col r l) := by
  pointwise [velocities]
  exact vel_at V b _ _

end Cert.RefDisk

end
-- ==== Proof.Cubes.lean ====
/-
  The cubes' result arrays in terms of the program's arguments: block by block what the points write, and the eight
  numbers of a sample and the pixels as the host lays them out.
-/
module

public import proofs.«01_k».proof.Proof.KernelDisk
public import proofs.«01_k».proof.Proof.RefDisk
public import Idealize.ShloMosaic.Lib.StableHlo.RunRead

@[expose] public section

set_option maxRecDepth 16384

noncomputable section

namespace Cert.Cubes

open Cert.CubeIdeal Cert.CubeIdeal.Gen Cert.Disk Cert.KernelDisk Cert.RefDisk Idealize.ShloMosaic Idealize.ShloMosaic.TcCoe Idealize.ShloMosaic.StableHlo

variable (m : (ℓ : Loc nD τ sig) → Buf (Elt Ideal) ℓ)

/-- The latents, as the program is given them. -/
abbrev lats (c : Dev nD) : S64x6.Idx → EReal := m ((c : Thread nD τ).loc main_arg0)

/-- A sample's block of the derived numbers is that sample's row. -/
theorem nums (c : Dev nD) (t : Fin cfg0.N) (o : Fin 8) : num (iblk m c 0 t) o = (V m c main_v28 : S64x1x8.Idx → EReal) (ix3 ⟨t.val, t.isLt⟩ 0 o) := by
  obtain ⟨h0, h1, h2⟩ := (by decide +kernel : ∀ t : Fin cfg0.N, win0_0.index t 0 = t.val ∧ win0_0.index t 1 = 0 ∧ win0_0.index t 2 = 0) t
  unfold num iblk
  rw [View.read_apply]
  show V m c main_v28 _ = _
  congr 1
  funext a
  apply Fin.ext
  match a with
  | ⟨0, _⟩ => show win0_0.index t 0 * 1 + 1 * 0 = t.val; rw [h0]; omega
  | ⟨1, _⟩ => show win0_0.index t 1 * 1 + 1 * 0 = 0; rw [h1]
  | ⟨2, _⟩ => show win0_0.index t 2 * 8 + 1 * o.val = o.val; rw [h2]; omega

/-- What a row of the derived numbers holds: cosine and sine of the position angle, cosine and sine of the inclination, the
    scale length without its sign, and the two numbers of the rotation curve. -/
theorem derived (c : Dev nD) (b : Fin 64) :
    let e : Fin 8 → EReal := fun o => (V m c main_v28 : S64x1x8.Idx → EReal) (ix3 b 0 o)
    let p := Ideal.atan2 (lats m c (ix2 b 0)) (lats m c (ix2 b 1))
    e 0 = Ideal.cos p ∧ e 1 = Ideal.sin p ∧ e 2 = Ideal.cos (lats m c (ix2 b 2)) ∧ e 3 = Ideal.sin (lats m c (ix2 b 2))
      ∧ e 4 = FloatOps.absf (F := Ideal) (φ := .f32) (lats m c (ix2 b 3)) ∧ e 5 = lats m c (ix2 b 4) ∧ e 6 = lats m c (ix2 b 5) := by
  intro e p
  refine ⟨?_, ?_, ?_, ?_, ?_, ?_, ?_⟩ <;>
  · dsimp only [e, p]
    unfold V
    after_reads_simp
    pointwise
    after_reads_simp
    pointwise
    try rfl

/-- The first coordinates' block at every point. -/
theorem x_at (c : Dev nD) (t : Fin cfg0.N) (r : Fin 32) (l : Fin 128) :
    (iblk m c 1 t : S32x128.Idx → EReal) (ix2 r l) = (m ((c : Thread nD τ).loc main_arg1) : S64x64.Idx → EReal) (ix2 (row r l) (col r l)) := by
  obtain ⟨h0, h1⟩ := (by decide +kernel : ∀ t : Fin cfg0.N, win0_1.index t 0 = 0 ∧ win0_1.index t 1 = 0) t
  have e : (iblk m c 1 t : S32x128.Idx → EReal) (ix2 r l) = (V m c main_v29 : S32x128.Idx → EReal) (ix2 r l) := by
    unfold iblk
    rw [View.read_apply]
    show V m c main_v29 _ = _
    congr 1
    funext a
    apply Fin.ext
    match a with
    | ⟨0, _⟩ => show win0_1.index t 0 * 32 + 1 * r.val = r.val; rw [h0]; omega
    | ⟨1, _⟩ => show win0_1.index t 1 * 128 + 1 * l.val = l.val; rw [h1]; omega
  rw [e]
  entry_read
  pointwise

/-- The second coordinates' block at every point. -/
theorem y_at (c : Dev nD) (t : Fin cfg0.N) (r : Fin 32) (l : Fin 128) :
    (iblk m c 2 t : S32x128.Idx → EReal) (ix2 r l) = (m ((c : Thread nD τ).loc main_arg2) : S64x64.Idx → EReal) (ix2 (row r l) (col r l)) := by
  obtain ⟨h0, h1⟩ := (by decide +kernel : ∀ t : Fin cfg0.N, win0_2.index t 0 = 0 ∧ win0_2.index t 1 = 0) t
  have e : (iblk m c 2 t : S32x128.Idx → EReal) (ix2 r l) = (V m c main_v30 : S32x128.Idx → EReal) (ix2 r l) := by
    unfold iblk
    rw [View.read_apply]
    show V m c main_v30 _ = _
    congr 1
    funext a
    apply Fin.ext
    match a with
    | ⟨0, _⟩ => show win0_2.index t 0 * 32 + 1 * r.val = r.val; rw [h0]; omega
    | ⟨1, _⟩ => show win0_2.index t 1 * 128 + 1 * l.val = l.val; rw [h1]; omega
  rw [e]
  entry_read
  pointwise

/-- The cubes' array after the run, at a sample: what that sample's point writes. -/
theorem arr3 (c : Dev nD) (b : Fin 64) (k : Fin 121) (r : Fin 32) (l : Fin 128) :
    ((dats m 0 c).arrAt 3 cfg0.N : S64x121x32x128.Idx → EReal) (ix4 b k r l)
      = (out0_3 (F := Ideal) (iblk m c 0 ⟨b.val, b.isLt⟩) (iblk m c 1 ⟨b.val, b.isLt⟩) (iblk m c 2 ⟨b.val, b.isLt⟩) : S1x121x32x128.Idx → EReal) (ix4 0 k r l) := by
  obtain ⟨h0, h1, h2, h3⟩ := (by decide +kernel : ∀ t : Fin cfg0.N, win0_3.index t 0 = t.val ∧ win0_3.index t 1 = 0 ∧ win0_3.index t 2 = 0 ∧ win0_3.index t 3 = 0) ⟨b.val, b.isLt⟩
  have h := congrFun (Value.blocks3 m c ⟨b.val, b.isLt⟩ ((by decide +kernel : ∀ t : Fin cfg0.N, (cfg0.win 3).flush t = true) _)) (ix4 0 k r l)
  rw [View.read_apply, Value.flushed3] at h
  refine Eq.trans ?_ (h.trans ?_)
  · congr 1
    funext a
    apply Fin.ext
    match a with
    | ⟨0, _⟩ => show b.val = win0_3.index ⟨b.val, b.isLt⟩ 0 * 1 + 1 * 0; rw [h0]; show b.val = b.val * 1 + 1 * 0; omega
    | ⟨1, _⟩ => show k.val = win0_3.index ⟨b.val, b.isLt⟩ 1 * 121 + 1 * k.val; rw [h1]; omega
    | ⟨2, _⟩ => show r.val = win0_3.index ⟨b.val, b.isLt⟩ 2 * 32 + 1 * r.val; rw [h2]; omega
    | ⟨3, _⟩ => show l.val = win0_3.index ⟨b.val, b.isLt⟩ 3 * 128 + 1 * l.val; rw [h3]; omega
  · rfl

/-- The velocities' array after the run, at a sample: what that sample's point writes. -/
theorem arr4 (c : Dev nD) (b : Fin 64) (r : Fin 32) (l : Fin 128) :
    ((dats m 0 c).arrAt 4 cfg0.N : S64x32x128.Idx → EReal) (ix3 b r l)
      = (out0_4 (F := Ideal) (iblk m c 0 ⟨b.val, b.isLt⟩) (iblk m c 1 ⟨b.val, b.isLt⟩) (iblk m c 2 ⟨b.val, b.isLt⟩) : S1x32x128.Idx → EReal) (ix3 0 r l) := by
  obtain ⟨h0, h1, h2⟩ := (by decide +kernel : ∀ t : Fin cfg0.N, win0_4.index t 0 = t.val ∧ win0_4.index t 1 = 0 ∧ win0_4.index t 2 = 0) ⟨b.val, b.isLt⟩
  have h := congrFun (Value.blocks4 m c ⟨b.val, b.isLt⟩ ((by decide +kernel : ∀ t : Fin cfg0.N, (cfg0.win 4).flush t = true) _)) (ix3 0 r l)
  rw [View.read_apply, Value.flushed4] at h
  refine Eq.trans ?_ (h.trans ?_)
  · congr 1
    funext a
    apply Fin.ext
    match a with
    | ⟨0, _⟩ => show b.val = win0_4.index ⟨b.val, b.isLt⟩ 0 * 1 + 1 * 0; rw [h0]; show b.val = b.val * 1 + 1 * 0; omega
    | ⟨1, _⟩ => show r.val = win0_4.index ⟨b.val, b.isLt⟩ 1 * 32 + 1 * r.val; rw [h1]; omega
    | ⟨2, _⟩ => show l.val = win0_4.index ⟨b.val, b.isLt⟩ 2 * 128 + 1 * l.val; rw [h2]; omega
  · rfl

end Cert.Cubes

end
-- ==== Proof.Pixels.lean ====
/-
  What the precondition says of a sample's latents and of a pixel, and that the kernel's pixel is then the reference's.
-/
module

public import proofs.«01_k».proof.Proof.Cubes
public import proofs.«01_k».proof.Proof.Gen.Pre_latents_and_pixels
public import Idealize.ShloMosaic.Lib.WordCmp

@[expose] public section

set_option maxRecDepth 16384

noncomputable section

namespace Cert.Pixels

open Cert.Disk Idealize.ShloMosaic Idealize.ShloMosaic.TcCoe

/-- A pixel that is not the origin does not deproject to the origin: the inclination's cosine is positive. -/
theorem away (p i x y : ℝ) (hi : |i| ≤ 1) (h : 0 < |x| + |y|) :
    0 < (x * Real.cos p + y * Real.sin p) * (x * Real.cos p + y * Real.sin p)
      + (-x * Real.sin p + y * Real.cos i * Real.cos p) * (-x * Real.sin p + y * Real.cos i * Real.cos p) := by
  have hp := Real.sin_sq_add_cos_sq p
  have hc : 0 < Real.cos i := Real.cos_pos_of_le_one hi
  generalize Real.cos i = c, Real.cos p = a, Real.sin p = s at hp hc ⊢
  by_contra hn
  have hu : x * a + y * s = 0 := by nlinarith [mul_self_nonneg (x * a + y * s), mul_self_nonneg (-x * s + y * c * a)]
  have hv : -x * s + y * c * a = 0 := by nlinarith [mul_self_nonneg (x * a + y * s), mul_self_nonneg (-x * s + y * c * a)]
  have hd : 0 < s ^ 2 + c * a ^ 2 := by
    rcases eq_or_ne a 0 with rfl | ha
    · nlinarith
    · have := mul_pos hc (sq_pos_of_ne_zero ha); nlinarith [sq_nonneg s]
  have hy : y * (s ^ 2 + c * a ^ 2) = 0 := by linear_combination s * hu + a * hv
  have hx : x * (s ^ 2 + c * a ^ 2) = 0 := by linear_combination c * a * hu - s * hv
  rw [(mul_eq_zero.1 hy).resolve_right hd.ne', (mul_eq_zero.1 hx).resolve_right hd.ne'] at h
  simp at h

/-- The velocity by the quotient of coordinates is the velocity by the difference of angles, for real latents within 1 of zero and
    a real pixel that is not the origin. -/
theorem sight_real (l0 l1 l2 x y : ℝ) (hi : |l2| ≤ 1) (h : 0 < |x| + |y|) :
    let p := Ideal.atan2 (l0 : EReal) (l1 : EReal)
    let u := across (Ideal.cos p) (Ideal.sin p) x y
    let v := along (Ideal.cos p) (Ideal.sin p) (Ideal.cos (l2 : EReal)) x y
    Ideal.div (0 - (u * Ideal.cos p + v * Ideal.sin p)) (radius u v) = sight p u v := by
  obtain ⟨q, hq⟩ : ∃ q : ℝ, Ideal.atan2 (l0 : EReal) (l1 : EReal) = (q : EReal) := ⟨_, rfl⟩
  intro p u v
  have hu : u = ((x * Real.cos q + y * Real.sin q : ℝ) : EReal) := by
    show across (Ideal.cos (Ideal.atan2 _ _)) (Ideal.sin (Ideal.atan2 _ _)) _ _ = _
    rw [hq, Ideal.cos_coe, Ideal.sin_coe, across]
    push_cast; rfl
  have hv : v = ((-x * Real.sin q + y * Real.cos l2 * Real.cos q : ℝ) : EReal) := by
    show along (Ideal.cos (Ideal.atan2 _ _)) (Ideal.sin (Ideal.atan2 _ _)) _ _ _ = _
    rw [hq, Ideal.cos_coe, Ideal.sin_coe, Ideal.cos_coe, along]
    push_cast; rfl
  rw [hu, hv, show p = (q : EReal) from hq]
  exact sight_eq q _ _ (away q l2 x y hi h)

variable (lat : Pre_latents_and_pixels.S64x6.Idx → EReal) (xs ys : Pre_latents_and_pixels.S64x64.Idx → EReal)

attribute [local instance] Cert.Pre_latents_and_pixels.Gen.facts

/-- An extended real whose magnitude is at most a real is a real. -/
theorem real_of_le {a : EReal} {z : ℝ} (h : max a (-a) ≤ (z : EReal)) : ∃ r : ℝ, a = (r : EReal) ∧ |r| ≤ z := by
  induction a using EReal.rec with
  | bot => exact absurd h (by simp)
  | top => exact absurd h (by simp)
  | coe r =>
    refine ⟨r, rfl, ?_⟩
    rw [← EReal.coe_neg, ← EReal.coe_strictMono.monotone.map_max, EReal.coe_le_coe_iff] at h
    exact h

/-- An extended real whose magnitude is below infinity is a real. -/
theorem real_of_lt {a : EReal} (h : max a (-a) < ⊤) : ∃ r : ℝ, a = (r : EReal) := by
  induction a using EReal.rec with
  | bot => exact absurd h (by simp)
  | top => exact absurd h (by simp)
  | coe r => exact ⟨r, rfl⟩

theorem lit_top : Ideal.ofBits .f32 0x7F800000#32 = ⊤ := by simp [Ideal.ofBits, Ideal.ieee]

/-- The precondition at a latent and a pixel: the latent is a real within 1 of zero and the pixel a real one, not the origin. -/
theorem pre_at (h : Pre_latents_and_pixels.fn (F := Ideal) lat xs ys = fun _ => 1#1) (b : Fin 64) (q : Fin 6) (i j : Fin 64) :
    (∃ r : ℝ, lat (ix2 b q) = (r : EReal) ∧ |r| ≤ 1)
      ∧ ∃ x y : ℝ, xs (ix2 i j) = (x : EReal) ∧ ys (ix2 i j) = (y : EReal) ∧ 0 < |x| + |y| := by
  have e := congrFun h (ix4 b q i j)
  have e' : Pre_latents_and_pixels.fn (F := Ideal) lat xs ys (ix4 b q i j)
      = IntOp.andi (BitVec.ofBool (decide (max (lat (ix2 b q)) (-lat (ix2 b q)) ≤ 1)))
        (IntOp.andi
          (IntOp.andi (BitVec.ofBool (decide (max (xs (ix2 i j)) (-xs (ix2 i j)) < Ideal.ofBits .f32 0x7F800000#32)))
            (BitVec.ofBool (decide (max (ys (ix2 i j)) (-ys (ix2 i j)) < Ideal.ofBits .f32 0x7F800000#32))))
          (BitVec.ofBool (decide (0 < max (xs (ix2 i j)) (-xs (ix2 i j)) + max (ys (ix2 i j)) (-ys (ix2 i j)))))) := by
    pointwise [Pre_latents_and_pixels.fn, Pre_latents_and_pixels.fn_part1]
    rfl
  rw [e'] at e
  simp only [IntOp.andi_eq_one, WordCmp.ofBool_eq_one_iff, decide_eq_true_eq, lit_top] at e
  obtain ⟨hl, ⟨hx, hy⟩, hp⟩ := e
  obtain ⟨x, ex⟩ := real_of_lt hx
  obtain ⟨y, ey⟩ := real_of_lt hy
  refine ⟨real_of_le (z := 1) (by exact_mod_cast hl), x, y, ex, ey, ?_⟩
  rw [ex, ey, ← EReal.coe_neg, ← EReal.coe_neg, ← EReal.coe_strictMono.monotone.map_max, ← EReal.coe_strictMono.monotone.map_max,
    ← EReal.coe_add] at hp
  exact_mod_cast hp

/-- What the precondition says of the latents and the pixels. -/
def Inside (V : Valuation CubeRefIdeal.τ CubeRefIdeal.sig (Elt Ideal)) : Prop :=
  (∀ (b : Fin 64) (q : Fin 6), ∃ r : ℝ, RefDisk.lat V (ix2 b q) = (r : EReal) ∧ |r| ≤ 1)
    ∧ ∀ i j : Fin 64, ∃ x y : ℝ, RefDisk.xs V (ix2 i j) = (x : EReal) ∧ RefDisk.ys V (ix2 i j) = (y : EReal) ∧ 0 < |x| + |y|

/-- The numbers `d` that the kernel reads of sample `b`, by the reference's names. -/
def Numbers (V : Valuation CubeRefIdeal.τ CubeRefIdeal.sig (Elt Ideal)) (b : Fin 64) (d : CubeIdeal.S1x1x8.Idx → EReal) : Prop :=
  KernelDisk.num d 0 = Ideal.cos (RefDisk.pos V b) ∧ KernelDisk.num d 1 = Ideal.sin (RefDisk.pos V b)
    ∧ KernelDisk.num d 2 = Ideal.cos (RefDisk.lat V (ix2 b 2)) ∧ KernelDisk.num d 3 = Ideal.sin (RefDisk.lat V (ix2 b 2))
    ∧ KernelDisk.num d 4 = FloatOps.absf (F := Ideal) (φ := .f32) (RefDisk.lat V (ix2 b 3))
    ∧ KernelDisk.num d 5 = RefDisk.lat V (ix2 b 4) ∧ KernelDisk.num d 6 = RefDisk.lat V (ix2 b 5)

section Place

variable (V : Valuation CubeRefIdeal.τ CubeRefIdeal.sig (Elt Ideal)) (h : Inside V) (b : Fin 64) (r : Fin 32) (l : Fin 128)
  (d : CubeIdeal.S1x1x8.Idx → EReal) (x y : CubeIdeal.S32x128.Idx → EReal) (hd : Numbers V b d)
  (ex : x (ix2 r l) = RefDisk.xs V (ix2 (RefDisk.row r l) (RefDisk.col r l)))
  (ey : y (ix2 r l) = RefDisk.ys V (ix2 (RefDisk.row r l) (RefDisk.col r l)))

include h hd ex ey

/-- A place of a sample's blocks: both coordinates and the velocity there are the reference's. -/
theorem place_eq :
    KernelDisk.uAt d x y r l = RefDisk.uAt V b (RefDisk.row r l) (RefDisk.col r l)
      ∧ KernelDisk.vAt d x y r l = RefDisk.vAt V b (RefDisk.row r l) (RefDisk.col r l)
      ∧ KernelDisk.velAt d x y r l = RefDisk.velAt V b (RefDisk.row r l) (RefDisk.col r l) := by
  obtain ⟨n0, n1, n2, n3, -, n5, n6⟩ := hd
  have hu : KernelDisk.uAt d x y r l = RefDisk.uAt V b (RefDisk.row r l) (RefDisk.col r l) := by
    rw [KernelDisk.uAt, n0, n1, ex, ey, RefDisk.uAt]
  have hv : KernelDisk.vAt d x y r l = RefDisk.vAt V b (RefDisk.row r l) (RefDisk.col r l) := by
    rw [KernelDisk.vAt, n0, n1, n2, ex, ey, RefDisk.vAt]
  refine ⟨hu, hv, ?_⟩
  rw [KernelDisk.velAt, hu, hv, n0, n1, n3, n5, n6, RefDisk.velAt, velocity]
  refine congrArg₂ (fun z w : EReal => z * w) rfl (congrArg₂ (fun z w : EReal => z * w) ?_ rfl)
  obtain ⟨xv, yv, e3, e4, hp⟩ := h.2 (RefDisk.row r l) (RefDisk.col r l)
  obtain ⟨l0, e0, -⟩ := h.1 b 0
  obtain ⟨l1, e1, -⟩ := h.1 b 1
  obtain ⟨l2, e2, hi⟩ := h.1 b 2
  have := sight_real l0 l1 l2 xv yv hi hp
  rw [RefDisk.uAt, RefDisk.vAt, RefDisk.pos, e0, e1, e2, e3, e4]
  exact this

/-- The cell of a cube that the kernel writes at a place is the reference's. -/
theorem cell_eq (k : Fin 121) :
    RefDisk.cubes V (ix4 b k r l) = (CubeIdeal.Gen.out0_3 (F := Ideal) d x y : CubeIdeal.S1x121x32x128.Idx → EReal) (ix4 0 k r l) := by
  obtain ⟨hu, hv, hw⟩ := place_eq V h b r l d x y hd ex ey
  rw [RefDisk.cubes_at, KernelDisk.out3, hu, hv, hw, hd.2.2.2.2.1]
  split_ifs
  · rw [one_mul]
  · rw [zero_mul]

/-- The velocity that the kernel writes at a place is the reference's. -/
theorem velocity_eq :
    RefDisk.velocities V (ix3 b r l) = (CubeIdeal.Gen.out0_4 (F := Ideal) d x y : CubeIdeal.S1x32x128.Idx → EReal) (ix3 0 r l) := by
  rw [RefDisk.velocities_at, KernelDisk.out4, (place_eq V h b r l d x y hd ex ey).2.2]

end Place

section Tie

open Cert.CubeIdeal Cert.CubeIdeal.Gen Cert.Cubes

variable (m : (ℓ : Loc CubeIdeal.nD CubeIdeal.τ CubeIdeal.sig) → Buf (Elt Ideal) ℓ) (c : Dev CubeIdeal.nD)
  (V : Valuation CubeRefIdeal.τ CubeRefIdeal.sig (Elt Ideal))

/-- The reference's three arguments are the kernel's. -/
def Same : Prop :=
  RefDisk.lat V = lats m c ∧ RefDisk.xs V = (m ((c : Thread CubeIdeal.nD CubeIdeal.τ).loc CubeIdeal.main_arg1) : CubeIdeal.S64x64.Idx → EReal)
    ∧ RefDisk.ys V = (m ((c : Thread CubeIdeal.nD CubeIdeal.τ).loc CubeIdeal.main_arg2) : CubeIdeal.S64x64.Idx → EReal)

/-- The precondition, for the reference's arguments. -/
theorem real_of_pre (h : Pre_latents_and_pixels.fn (F := Ideal) (RefDisk.lat V) (RefDisk.xs V) (RefDisk.ys V) = fun _ => 1#1) : Inside V :=
  ⟨fun b q => (pre_at _ _ _ h b q 0 0).1, fun i j => (pre_at _ _ _ h 0 0 i j).2⟩

/-- The numbers the kernel reads of a sample are the reference's. -/
theorem nums_eq (hV : Same m c V) (b : Fin 64) : Numbers V b (iblk m c 0 ⟨b.val, b.isLt⟩) := by
  rw [Numbers, RefDisk.pos, hV.1]
  simp only [nums]
  exact derived m c b

/-- The first coordinates the kernel reads are the reference's. -/
theorem xs_eq (hV : Same m c V) (b : Fin 64) (r : Fin 32) (l : Fin 128) :
    (iblk m c 1 ⟨b.val, b.isLt⟩ : CubeIdeal.S32x128.Idx → EReal) (ix2 r l) = RefDisk.xs V (ix2 (RefDisk.row r l) (RefDisk.col r l)) := by
  rw [hV.2.1]; exact x_at m c _ r l

/-- The second coordinates. -/
theorem ys_eq (hV : Same m c V) (b : Fin 64) (r : Fin 32) (l : Fin 128) :
    (iblk m c 2 ⟨b.val, b.isLt⟩ : CubeIdeal.S32x128.Idx → EReal) (ix2 r l) = RefDisk.ys V (ix2 (RefDisk.row r l) (RefDisk.col r l)) := by
  rw [hV.2.2]; exact y_at m c _ r l

/-- The kernel's cubes are the reference's. -/
theorem cubes_eq (hV : Same m c V) (h : Pre_latents_and_pixels.fn (F := Ideal) (RefDisk.lat V) (RefDisk.xs V) (RefDisk.ys V) = fun _ => 1#1) :
    RefDisk.cubes V = ((dats m 0 c).arrAt 3 cfg0.N : CubeIdeal.S64x121x32x128.Idx → EReal) := by
  funext i
  obtain ⟨b, k, r, l, rfl⟩ : ∃ (b : Fin 64) (k : Fin 121) (r : Fin 32) (l : Fin 128), i = ix4 b k r l :=
    ⟨i 0, i 1, i 2, i 3, by funext a; match a with | ⟨0, _⟩ => rfl | ⟨1, _⟩ => rfl | ⟨2, _⟩ => rfl | ⟨3, _⟩ => rfl⟩
  rw [arr3]
  exact cell_eq V (real_of_pre V h) b r l _ _ _ (nums_eq m c V hV b) (xs_eq m c V hV b r l) (ys_eq m c V hV b r l) k

/-- The kernel's velocities are the reference's. -/
theorem velocities_eq (hV : Same m c V) (h : Pre_latents_and_pixels.fn (F := Ideal) (RefDisk.lat V) (RefDisk.xs V) (RefDisk.ys V) = fun _ => 1#1) :
    RefDisk.velocities V = ((dats m 0 c).arrAt 4 cfg0.N : CubeIdeal.S64x32x128.Idx → EReal) := by
  funext i
  obtain ⟨b, r, l, rfl⟩ : ∃ (b : Fin 64) (r : Fin 32) (l : Fin 128), i = ix3 b r l :=
    ⟨i 0, i 1, i 2, by funext a; match a with | ⟨0, _⟩ => rfl | ⟨1, _⟩ => rfl | ⟨2, _⟩ => rfl⟩
  rw [arr4]
  exact velocity_eq V (real_of_pre V h) b r l _ _ _ (nums_eq m c V hV b) (xs_eq m c V hV b r l) (ys_eq m c V hV b r l)

end Tie

end Cert.Pixels

end
-- ==== Proof.FcLayers.lean ====
/-
  The dense layers by coordinates, and the kernel's blocks of arithmetic as those layers.
-/
module

public import proofs.«01_k».proof.Proof.Gen.FcIdeal.Skeleton
public import proofs.«01_k».proof.Proof.Gen.FcRefIdeal.Run
public import Idealize.ShloMosaic.Lib.Pipeline.ValueKit
public import Idealize.ShloMosaic.Lib.Pointwise

@[expose] public section

set_option maxRecDepth 16384

noncomputable section

namespace Cert.FcLayers

open Idealize.ShloMosaic

/-- One dense layer: row `r` of the input against row `n` of the weights, plus that row's bias. -/
def dense {R K N : ℕ} (x : Fin R → Fin K → EReal) (w : Fin N → Fin K → EReal) (b : Fin N → EReal) (r : Fin R) (n : Fin N) : EReal :=
  (∑ k, x r k * w n k) + b n

/-- The layer cut off below at zero. -/
def relu {R K N : ℕ} (x : Fin R → Fin K → EReal) (w : Fin N → Fin K → EReal) (b : Fin N → EReal) (r : Fin R) (n : Fin N) : EReal :=
  max (dense x w b r n) 0

/-- Cut off below at minus one and above at one. -/
def clip (v : EReal) : EReal := min 1 (max (Ideal.ofBits .f32 0xBF800000#32) v)

/-- Five layers: four cut off at zero, the last between minus one and one. -/
def latent {P : ℕ} (h : Fin 64 → Fin 8192 → EReal) (w1 : Fin 2048 → Fin 8192 → EReal) (b1 : Fin 2048 → EReal)
    (w2 : Fin 1024 → Fin 2048 → EReal) (b2 : Fin 1024 → EReal) (w3 : Fin 512 → Fin 1024 → EReal) (b3 : Fin 512 → EReal)
    (w4 : Fin 256 → Fin 512 → EReal) (b4 : Fin 256 → EReal) (w5 : Fin P → Fin 256 → EReal) (b5 : Fin P → EReal)
    (r : Fin 64) (n : Fin P) : EReal :=
  clip (dense (relu (relu (relu (relu h w1 b1) w2 b2) w3 b3) w4 b4) w5 b5 r n)

/-- A matrix by rows and columns. -/
def mat {R Q : ℕ} (x : (⟨2, ![R, Q]⟩ : Shape).Idx → EReal) (r : Fin R) (q : Fin Q) : EReal := x (ix2 r q)

/-- A vector by its coordinate. -/
def vec {R : ℕ} (x : (⟨1, ![R]⟩ : Shape).Idx → EReal) (r : Fin R) : EReal := x (ix1 r)

section Kernel

open Cert.FcIdeal Cert.FcIdeal.Gen

/-- What a point stores into the scratch is its columns of the first layer. -/
theorem pay1_at (x : Vec Ideal S64x8192 .f32) (w : Vec Ideal S256x8192 .f32) (b : Vec Ideal S1x256 .f32) (r : Fin 64) (n : Fin 256) :
    k0_pay1 x w b (ix2 r n) = relu (mat x) (mat w) (mat b 0) r n := by
  pointwise [k0_pay1, id]
  rfl

/-- What the last point stores into the result is the other four layers, clipped. -/
theorem pay2_at (x : Vec Ideal S64x2048 .f32) (w2 : Vec Ideal S1024x2048 .f32) (b2 : Vec Ideal S1x1024 .f32) (w3 : Vec Ideal S512x1024 .f32)
    (b3 : Vec Ideal S1x512 .f32) (w4 : Vec Ideal S256x512 .f32) (b4 : Vec Ideal S1x256 .f32) (w5 : Vec Ideal S128x256 .f32)
    (b5 : Vec Ideal S1x128 .f32) (r : Fin 64) (n : Fin 128) :
    k0_pay2 (k0_pay3 x w2 b2 w3 b3 w4 b4 w5 b5) (Scalar.ofBits .f32 0x3F800000#32) k0_pay4 (ix2 r n)
      = clip (dense (relu (relu (relu (mat x) (mat w2) (mat b2 0)) (mat w3) (mat b3 0)) (mat w4) (mat b4 0)) (mat w5) (mat b5 0) r n) := by
  pointwise [k0_pay3, k0_pay2, k0_pay4, id]
  rfl

end Kernel

section Reference

open Cert.FcRefIdeal Cert.FcRefIdeal.Gen Cert.FcRefIdeal.Facts Cert.FcRefIdeal.Value

/-- The reference's latents of its arguments. -/
def latents (h : FVec Ideal S64x8192 .f32) (w1 : FVec Ideal S2048x8192 .f32) (b1 : FVec Ideal S2048 .f32) (w2 : FVec Ideal S1024x2048 .f32)
    (b2 : FVec Ideal S1024 .f32) (w3 : FVec Ideal S512x1024 .f32) (b3 : FVec Ideal S512 .f32) (w4 : FVec Ideal S256x512 .f32)
    (b4 : FVec Ideal S256 .f32) (w5 : FVec Ideal S6x256 .f32) (b5 : FVec Ideal S6 .f32) : FVec Ideal S64x6 .f32 :=
  minimumf (broadcastInDim S64x6 ![] bcast_S_S64x6 (id (constant S_ .f32 0x3F800000#32))) (maximumf (broadcastInDim S64x6 ![] bcast_S_S64x6 (id (constant S_ .f32 0xBF800000#32))) (addf (Host.dotGeneral dot_S64x256_S256x6_S64x6_1_0_0_1_n_n none (maximumf (addf (Host.dotGeneral dot_S64x512_S512x256_S64x256_1_0_0_1_n_n none (maximumf (addf (Host.dotGeneral dot_S64x1024_S1024x512_S64x512_1_0_0_1_n_n none (maximumf (addf (Host.dotGeneral dot_S64x2048_S2048x1024_S64x1024_1_0_0_1_n_n none (maximumf (addf (Host.dotGeneral dot_S64x8192_S8192x2048_S64x2048_1_0_0_1_n_n none h (transpose S8192x2048 [1, 0] w1 transposes_S2048x8192_S8192x2048_1_0)) (broadcastInDim S64x2048 ![0, 1] bcast_S1x2048_S64x2048_0_1 (broadcastInDim S1x2048 ![1] bcast_S2048_S1x2048_1 b1))) (broadcastInDim S64x2048 ![] bcast_S_S64x2048 (constant S_ .f32 0x00000000#32))) (transpose S2048x1024 [1, 0] w2 transposes_S1024x2048_S2048x1024_1_0)) (broadcastInDim S64x1024 ![0, 1] bcast_S1x1024_S64x1024_0_1 (broadcastInDim S1x1024 ![1] bcast_S1024_S1x1024_1 b2))) (broadcastInDim S64x1024 ![] bcast_S_S64x1024 (constant S_ .f32 0x00000000#32))) (transpose S1024x512 [1, 0] w3 transposes_S512x1024_S1024x512_1_0)) (broadcastInDim S64x512 ![0, 1] bcast_S1x512_S64x512_0_1 (broadcastInDim S1x512 ![1] bcast_S512_S1x512_1 b3))) (broadcastInDim S64x512 ![] bcast_S_S64x512 (constant S_ .f32 0x00000000#32))) (transpose S512x256 [1, 0] w4 transposes_S256x512_S512x256_1_0)) (broadcastInDim S64x256 ![0, 1] bcast_S1x256_S64x256_0_1 (broadcastInDim S1x256 ![1] bcast_S256_S1x256_1 b4))) (broadcastInDim S64x256 ![] bcast_S_S64x256 (constant S_ .f32 0x00000000#32))) (transpose S256x6 [1, 0] w5 transposes_S6x256_S256x6_1_0)) (broadcastInDim S64x6 ![0, 1] bcast_S1x6_S64x6_0_1 (broadcastInDim S1x6 ![1] bcast_S6_S1x6_1 b5))))

/-- They are the five layers. -/
theorem latents_at (h : FVec Ideal S64x8192 .f32) (w1 : FVec Ideal S2048x8192 .f32) (b1 : FVec Ideal S2048 .f32) (w2 : FVec Ideal S1024x2048 .f32)
    (b2 : FVec Ideal S1024 .f32) (w3 : FVec Ideal S512x1024 .f32) (b3 : FVec Ideal S512 .f32) (w4 : FVec Ideal S256x512 .f32)
    (b4 : FVec Ideal S256 .f32) (w5 : FVec Ideal S6x256 .f32) (b5 : FVec Ideal S6 .f32) (r : Fin 64) (n : Fin 6) :
    latents h w1 b1 w2 b2 w3 b3 w4 b4 w5 b5 (ix2 r n)
      = latent (mat h) (mat w1) (vec b1) (mat w2) (vec b2) (mat w3) (vec b3) (mat w4) (vec b4) (mat w5) (vec b5) r n := by
  pointwise [latents, id]
  rfl

end Reference

end Cert.FcLayers

end
-- ==== Proof.FcRun.lean ====
/-
  The body of the dense layers at one grid point: the conditions on the point, the buffers it is given, and the two
  runs of it. At the points 0 to 6 it stores one slice of the first layer; at point 7 it stores the last slice and
  then the result.
-/
module

public import proofs.«01_k».proof.Proof.Gen.FcIdeal.Frame
public import proofs.«01_k».proof.Proof.Gen.FcIdeal.Skeleton
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FcRun

open Cert.FcIdeal Cert.FcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- At the points of case A the printed configuration (`Cfg.idle`) calls output 11 idle: the case stores nothing into it. -/
theorem idleAt0_11_A : ∀ t : Fin cfg0.N, ¬cond0_0 (grid0.coords t) → cfg0.idle 11 (grid0.coords t) = true := by decide +kernel
/-- At the points of case A the pipeline does not write output 11's block back. -/
theorem noFlush0_11_A : ∀ t : Fin cfg0.N, ¬cond0_0 (grid0.coords t) → (cfg0.win 11).flush t = false := by decide +kernel
/-- At the points of case B the printed configuration (`Cfg.idle`) calls output 11 live: the case stores into it. -/
theorem liveAt0_11_B : ∀ t : Fin cfg0.N, cond0_0 (grid0.coords t) → cfg0.idle 11 (grid0.coords t) = false := by decide +kernel

/-! ## The kernel body on any staging memrefs: a subtype the run finds -/

/-- One staging buffer of output window 11, through which its contents are stated (`View.read_writes_of_cover`: the
    choice does not matter). -/
abbrev VO0_11 : View sig .tc .vmem S64x128 .f32 := (Memref.whole cc0_stg11_0 : Memref sig .tc .vmem S64x128 .f32).view
/-- Each window's current staging memref at point `t`, spelled as the pipeline passes it (`bodyAt0`), and its wholeness. -/
abbrev ms0_0 (t : Fin cfg0.N) : Memref sig .tc .vmem S64x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S64x2048 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a point before the last, on buffers that hold `x0` to `x10` and a scratch that holds `xs0`: it stores the pieces found here into
    the scratch and leaves the other buffers as they were. -/
noncomputable def runA (c : Dev nD) (i : grid0.Coords) (arg1 : Memref sig .tc .vmem S64x8192 .f32) (harg1 : arg1.IsWhole) (arg2 : Memref sig .tc .vmem S256x8192 .f32) (harg2 : arg2.IsWhole) (arg3 : Memref sig .tc .vmem S1x256 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x2048 .f32) (harg13 : arg13.IsWhole) (hc0 : ¬cond0_0 i)
    (x0 : Vec F S64x8192 .f32) (x1 : Vec F S256x8192 .f32) (x2 : Vec F S1x256 .f32) (x3 : Vec F S1024x2048 .f32) (x4 : Vec F S1x1024 .f32) (x5 : Vec F S512x1024 .f32) (x6 : Vec F S1x512 .f32) (x7 : Vec F S256x512 .f32) (x8 : Vec F S1x256 .f32) (x9 : Vec F S128x256 .f32) (x10 : Vec F S1x128 .f32) (xs0 : Vec F S64x2048 .f32) :
    { LS0 : List (View.Piece (Elt F) S64x2048 .f32) //
      ∀ (xi11 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_cae_fc i arg1 harg1 arg2 harg2 arg3 harg3 arg4 harg4 arg5 harg5 arg6 harg6 arg7 harg7 arg8 harg8 arg9 harg9 arg10 harg10 arg11 harg11 arg12 harg12 arg13 harg13) K } := by
  refine ⟨?_, fun xi11 E K => ?run⟩
  case run =>
    simp only [cc0_cae_fc_eq_skeleton]; unfold cc0_cae_fc_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexact HS0

set_option maxHeartbeats 1000000 in
/-- The body at the last point: it stores the pieces found here into the scratch, reads the scratch whole, and stores into the result. -/
noncomputable def runB (c : Dev nD) (i : grid0.Coords) (arg1 : Memref sig .tc .vmem S64x8192 .f32) (harg1 : arg1.IsWhole) (arg2 : Memref sig .tc .vmem S256x8192 .f32) (harg2 : arg2.IsWhole) (arg3 : Memref sig .tc .vmem S1x256 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x2048 .f32) (harg13 : arg13.IsWhole) (hc0 : cond0_0 i)
    (x0 : Vec F S64x8192 .f32) (x1 : Vec F S256x8192 .f32) (x2 : Vec F S1x256 .f32) (x3 : Vec F S1024x2048 .f32) (x4 : Vec F S1x1024 .f32) (x5 : Vec F S512x1024 .f32) (x6 : Vec F S1x512 .f32) (x7 : Vec F S256x512 .f32) (x8 : Vec F S1x256 .f32) (x9 : Vec F S128x256 .f32) (x10 : Vec F S1x128 .f32) (xs0 : Vec F S64x2048 .f32) :
    Σ' (L11 : List (View.Piece (Elt F) S64x128 .f32)), { LS0 : List (View.Piece (Elt F) S64x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_cae_fc i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_cae_fc_eq_skeleton]; unfold cc0_cae_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexact HS0

variable (c : Dev nD) (i : grid0.Coords) (arg1 : Memref sig .tc .vmem S64x8192 .f32) (harg1 : arg1.IsWhole) (arg2 : Memref sig .tc .vmem S256x8192 .f32) (harg2 : arg2.IsWhole) (arg3 : Memref sig .tc .vmem S1x256 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x2048 .f32) (harg13 : arg13.IsWhole)
  (x0 : Vec F S64x8192 .f32) (x1 : Vec F S256x8192 .f32) (x2 : Vec F S1x256 .f32) (x3 : Vec F S1024x2048 .f32) (x4 : Vec F S1x1024 .f32) (x5 : Vec F S512x1024 .f32) (x6 : Vec F S1x512 .f32) (x7 : Vec F S256x512 .f32) (x8 : Vec F S1x256 .f32) (x9 : Vec F S128x256 .f32) (x10 : Vec F S1x128 .f32) (xs0 : Vec F S64x2048 .f32)

/-- After a point before the last the scratch is what it was with the point's slice of the first layer put into it. -/
theorem scratchA (hc0 : ¬cond0_0 i) :
    arg13.view.read (Elt F) (arg13.view.writes (Elt F) (harg13.unread xs0) (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xs0).1)
      = VecWindow.put xs0 (k0_off1 i) S64x256.size (k0_pay1 x0 x1 x2) := by
  unfold runA
  dsimp only
  refine (View.read_writes_cons_put _ _ _ _ [] rfl).trans ?_
  rw [View.writes_nil, harg13.read_unread, View.readAt_full, View.readAt_full, View.readAt_full, harg1.read_unread, harg2.read_unread, harg3.read_unread]

/-- So it is after the last point. -/
theorem scratchB (hc0 : cond0_0 i) :
    arg13.view.read (Elt F) (arg13.view.writes (Elt F) (harg13.unread xs0) (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xs0).2.1)
      = VecWindow.put xs0 (k0_off1 i) S64x256.size (k0_pay1 x0 x1 x2) := by
  unfold runB
  dsimp only
  refine (View.read_writes_cons_put _ _ _ _ [] rfl).trans ?_
  rw [View.writes_nil, harg13.read_unread, View.readAt_full, View.readAt_full, View.readAt_full, harg1.read_unread, harg2.read_unread, harg3.read_unread]

/-- At the last point the result is the other four layers of what the scratch then holds, clipped. -/
theorem resultB (hc0 : cond0_0 i) (f : arg12.view.ty.Contents (Elt F)) :
    arg12.view.read (Elt F) (arg12.view.writes (Elt F) f (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xs0).1)
      = k0_pay2 (k0_pay3 (VecWindow.put xs0 (k0_off1 i) S64x256.size (k0_pay1 x0 x1 x2)) x3 x4 x5 x6 x7 x8 x9 x10)
          (Scalar.ofBits .f32 0x3F800000#32) k0_pay4 := by
  unfold runB
  dsimp only
  refine (View.read_writes_full _ _ _ _ []).trans ?_
  show k0_pay2 (runB.sl.r c i _ _ _ _ _ _ _ _ _ _ _ _ _ _ _ _ _ _ _ _ _ _ _ _ x0 x1 x2 x3 x4 x5 x6 x7 x8 x9 x10 xs0) _ _ = _
  unfold runB.sl.r runB.sl.cst_33 runB.sl.HS0_1
  rw [View.readAt_full, View.readAt_full, View.readAt_full, View.readAt_full, View.readAt_full, View.readAt_full, View.readAt_full,
    View.readAt_full, View.readAt_full, View.readAt_full, View.readAt_full, View.readAt_full, harg4.read_unread, harg5.read_unread, harg6.read_unread, harg7.read_unread, harg8.read_unread,
    harg9.read_unread, harg10.read_unread, harg11.read_unread]
  refine congrArg (fun z => k0_pay2 (k0_pay3 z x3 x4 x5 x6 x7 x8 x9 x10) (FloatOps.ofBits .f32 0x3F800000#32) k0_pay4) ?_
  refine (View.read_writes_cons_put _ _ _ _ [] rfl).trans ?_
  rw [View.writes_nil, harg13.read_unread, harg1.read_unread, harg2.read_unread, harg3.read_unread]

end Cert.FcRun

end
-- ==== Proof.FcFrame.lean ====
/-
  The dense layers over the eight points: the scratch fills with the slices of the first layer, the last point stores
  the result, and the whole call leaves its arguments as they were.
-/
module

public import proofs.«01_k».proof.Proof.FcRun
public import Idealize.ShloMosaic.Lib.Pointwise
public import Idealize.ShloMosaic.Lib.Claim
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FcFrame

open Cert.FcRun Cert.FcIdeal Cert.FcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the result hold -/

/-- The first layer's slice that point `t` computes. -/
def slab (c : Dev nD) (t : Fin cfg0.N) : FVec F S64x256 .f32 := k0_pay1 (iblk m c 0 t) (iblk m c 1 t) (iblk m c 2 t)

/-- The point whose slice holds column `q` of the first layer. -/
def ptOf (q : Fin 2048) : Fin cfg0.N := ⟨q.val / 256, by have : cfg0.N = 8 := N_0; omega⟩

/-- The first layer whole: column `q` from the slice of its point. -/
def layer1 (c : Dev nD) : Vec F S64x2048 .f32 := fun y =>
  slab m c (ptOf (y 1)) (ix2 (y 0) (⟨(y 1).val % 256, Nat.mod_lt _ (by decide)⟩ : Fin 256))

/-- The scratch `s` has the first layer in the columns of the points before `n`. -/
def Filled (c : Dev nD) (n : ℕ) (s : Vec F S64x2048 .f32) : Prop := ∀ y, (y 1).val < 256 * n → s y = layer1 m c y

/-- The columns a point stores begin at 256 times its number. -/
theorem off1_eq (t : Fin cfg0.N) : k0_off1 (grid0.coords t) = ![0, 256 * t.val] := by
  have ht : t.val < 8 := Nat.lt_of_lt_of_eq t.isLt N_0
  have e1 : (grid0.coords t 0).val = t.val / 1 % 8 := Pipeline.Grid.coords_val t 0 (by decide) rfl
  have e0 : (grid0.coords t 0).val = t.val := by omega
  unfold k0_off1
  simp only [e0]
  refine congrArg (fun z => ![0, z]) ?_
  show (BitVec.ofNat 32 t.val * 256#32).toNat = _
  rw [BitVec.toNat_mul, BitVec.toNat_ofNat, BitVec.toNat_ofNat]
  omega

/-- Putting the point's slice fills its columns. -/
theorem filled_put (c : Dev nD) (t : Fin cfg0.N) (s : Vec F S64x2048 .f32) (h : Filled m c t.val s) :
    Filled m c (t.val + 1) (VecWindow.put s (k0_off1 (grid0.coords t)) S64x256.size (k0_pay1 (iblk m c 0 t) (iblk m c 1 t) (iblk m c 2 t))) := by
  intro y hy
  unfold VecWindow.put
  by_cases hc : 256 * t.val ≤ (y 1).val
  · have hin : ∀ a, k0_off1 (grid0.coords t) a ≤ (y a).val ∧ (y a).val < k0_off1 (grid0.coords t) a + S64x256.size a := by
      rw [off1_eq]
      intro a
      match a with
      | ⟨0, _⟩ => exact ⟨Nat.zero_le _, by have := (y 0).isLt; show (y 0).val < 0 + 64; exact (Nat.zero_add 64).symm ▸ this⟩
      | ⟨1, _⟩ => exact ⟨hc, by show (y 1).val < 256 * t.val + 256; omega⟩
    rw [dif_pos hin]
    have e : ptOf (y 1) = t := Fin.ext (by show (y 1).val / 256 = t.val; omega)
    unfold layer1
    rw [e]
    refine congrArg (slab m c t) (funext fun a => Fin.ext ?_)
    rw [Rect.unitLocal_val, off1_eq]
    match a with
    | ⟨0, _⟩ => show (y 0).val - 0 = (y 0).val; omega
    | ⟨1, _⟩ => show (y 1).val - 256 * t.val = (y 1).val % 256; omega
  · rw [dif_neg (fun hin => hc (by have := (hin 1).1; rw [off1_eq] at this; exact this))]
    exact h y (by omega)

/-- A scratch filled at all eight points holds the first layer. -/
theorem filled_all (c : Dev nD) (s : Vec F S64x2048 .f32) (h : Filled m c 8 s) : s = layer1 m c :=
  funext fun y => h y (by have : (y 1).val < 2048 := (y 1).isLt; omega)

/-- The result's block: the other four layers of the first, clipped. -/
def result (c : Dev nD) (t : Fin cfg0.N) : Vec F S64x128 .f32 :=
  k0_pay2 (k0_pay3 (layer1 m c) (iblk m c 3 t) (iblk m c 4 t) (iblk m c 5 t) (iblk m c 6 t) (iblk m c 7 t) (iblk m c 8 t) (iblk m c 9 t) (iblk m c 10 t))
    (Scalar.ofBits .f32 0x3F800000#32) k0_pay4

/-- Between the points: the scratch has the columns of the points so far. -/
def PhiS (c : Dev nD) (n : ℕ) : sProp 𝕄 :=
  iprop((∃ s, ⌜Filled m c n s⌝ ∗ owns (c : Thread nD τ) scM0_0 fullShare s) ∗ (∃ r, prngReg c r))

/-! ## The pipeline's proof data -/

/-- The proof data of the one pipeline on core `c`: the arrays as the region finds them (`V`); after the body at
    point `t` each input's buffer at its block and the output's at `result`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => result m c t
  Φ k := PhiS m c k.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = result m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  have hN : t.val < 8 := lt_of_lt_of_eq t.isLt (show cfg0.N = 8 from N_0)
  by_cases h0 : t.val % 8 = 7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11_B t ((hcond0_0 t).mpr h0)], after0_11]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) s).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    iintro ⟨H0, H1, H2, H3, H4, H5, H6, H7, H8, H9, H10, ⟨%e11, H11⟩, HS0⟩
    isplitl [HS0 Hg]
    · isplitl [HS0]
      · iexists _; isplitr
        swap
        · unfold owns; iexists _; isplitr
          swap; · iexact HS0
          ipureintro; exact scratchB c _ _ _ _ _ _ _ _ _ _ _ _ _ _ _ _ _ _ _ _ _ _ _ _ _ _ _ _ _ _ _ _ _ _ _ _ _ _ _ _
        ipureintro; exact filled_put m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; refine (resultB c _ _ _ _ _ _ _ _ _ _ _ _ _ _ _ _ _ _ _ _ _ _ _ _ _ _ _ _ _ _ _ _ _ _ _ _ _ _ _ _ _).trans ?_
    exact congrArg (fun z => k0_pay2 (k0_pay3 z (iblk m c 3 t) (iblk m c 4 t) (iblk m c 5 t) (iblk m c 6 t) (iblk m c 7 t) (iblk m c 8 t)
      (iblk m c 9 t) (iblk m c 10 t)) (Scalar.ofBits .f32 0x3F800000#32) k0_pay4)
      (filled_all m c _ (show Filled m c 8 _ from (show t.val + 1 = 8 by omega) ▸ filled_put m c t s hs))
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [Dat.leavesExact_idle (dats m 0 c) 11 t (idleAt0_11_A t (fun h => h0 ((hcond0_0 t).mp h))) (noFlush0_11_A t (fun h => h0 ((hcond0_0 t).mp h)))]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) s).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 Hg]
    · isplitl [HS0]
      · iexists _; isplitr
        swap
        · unfold owns; iexists _; isplitr
          swap; · iexact HS0
          ipureintro; exact scratchA c _ _ _ _ _ _ _ _ _ _ _ _ _ _ _ _ _ _ _ _ _ _ _ _ _ _ _ _ _ _ _ _ _ _ _ _ _ _ _ _
        ipureintro; exact filled_put m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the first point nothing is asked of the scratch. -/
theorem hin (c : Dev nD) : Pipeline.ΦA spec0 c ⊢ (dats m 0 c).Φ 0 := by
  rw [show (dats m 0 c).Φ 0 = PhiS m c 0 from rfl, PhiA0_eq]
  unfold PhiS
  iintro ⟨⟨%s, HS⟩, Hg⟩
  isplitl [HS]
  · iexists s; isplitr
    · ipureintro; exact fun y hy => absurd hy (Nat.not_lt_zero _)
    iexact HS
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%s, -, HS⟩, Hg⟩
  isplitl [HS]
  · iexists s; iexact HS
  iexact Hg

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The call runs without fault, ends with its arguments as they were and with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FcFrame

end
-- ==== Proof.FcValue.lean ====
/-
  The value of the dense layers' call: what each window's block is in terms of the arguments, and the result's six columns.
-/
module

public import proofs.«01_k».proof.Proof.FcLayers
public import proofs.«01_k».proof.Proof.FcFrame
public import Idealize.ShloMosaic.Lib.StableHlo.RunRead
public import Idealize.ShloMosaic.Lib.KernelVsHost

@[expose] public section

set_option maxRecDepth 16384

noncomputable section

namespace Cert.FcValue

open Cert.FcIdeal Cert.FcIdeal.Gen Cert.FcLayers Cert.FcFrame Idealize.ShloMosaic Idealize.ShloMosaic.TcCoe
open Idealize.SL.Sem

variable (m : (ℓ : Loc nD τ sig) → Buf (Elt Ideal) ℓ) (ρ : Dev nD → PrngReg)

/-- A block that starts at the array's beginning and has its extents is the array. -/
theorem block_eq {R Q : ℕ} (X : (⟨2, ![R, Q]⟩ : Shape).Idx → EReal) (y i : (⟨2, ![R, Q]⟩ : Shape).Idx) (a b : ℕ) (ha : a = 0) (hb : b = 0)
    (h0 : (y 0).val = a * R + 1 * (i 0).val) (h1 : (y 1).val = b * Q + 1 * (i 1).val) : X y = X i := by
  subst ha hb
  refine congrArg X (funext fun x => Fin.ext ?_)
  match x with
  | ⟨0, _⟩ => show (y 0).val = (i 0).val; omega
  | ⟨1, _⟩ => show (y 1).val = (i 1).val; omega

/-- Window 3 has one block, its whole array. -/
theorem whole_3 (c : Dev nD) (t : Fin cfg0.N) : iblk m c 3 t = V m c main_arg3 := by
  obtain ⟨h0, h1⟩ := (by decide +kernel : ∀ t : Fin cfg0.N, win0_3.index t 0 = 0 ∧ win0_3.index t 1 = 0) t
  funext i
  unfold iblk
  rw [View.read_apply]
  exact block_eq (R := 1024) (Q := 2048) (V m c main_arg3) _ i _ _ h0 h1 rfl rfl

/-- Window 4 has one block, its whole array. -/
theorem whole_4 (c : Dev nD) (t : Fin cfg0.N) : iblk m c 4 t = V m c main_v1 := by
  obtain ⟨h0, h1⟩ := (by decide +kernel : ∀ t : Fin cfg0.N, win0_4.index t 0 = 0 ∧ win0_4.index t 1 = 0) t
  funext i
  unfold iblk
  rw [View.read_apply]
  exact block_eq (R := 1) (Q := 1024) (V m c main_v1) _ i _ _ h0 h1 rfl rfl

/-- Window 5 has one block, its whole array. -/
theorem whole_5 (c : Dev nD) (t : Fin cfg0.N) : iblk m c 5 t = V m c main_arg5 := by
  obtain ⟨h0, h1⟩ := (by decide +kernel : ∀ t : Fin cfg0.N, win0_5.index t 0 = 0 ∧ win0_5.index t 1 = 0) t
  funext i
  unfold iblk
  rw [View.read_apply]
  exact block_eq (R := 512) (Q := 1024) (V m c main_arg5) _ i _ _ h0 h1 rfl rfl

/-- Window 6 has one block, its whole array. -/
theorem whole_6 (c : Dev nD) (t : Fin cfg0.N) : iblk m c 6 t = V m c main_v2 := by
  obtain ⟨h0, h1⟩ := (by decide +kernel : ∀ t : Fin cfg0.N, win0_6.index t 0 = 0 ∧ win0_6.index t 1 = 0) t
  funext i
  unfold iblk
  rw [View.read_apply]
  exact block_eq (R := 1) (Q := 512) (V m c main_v2) _ i _ _ h0 h1 rfl rfl

/-- Window 7 has one block, its whole array. -/
theorem whole_7 (c : Dev nD) (t : Fin cfg0.N) : iblk m c 7 t = V m c main_arg7 := by
  obtain ⟨h0, h1⟩ := (by decide +kernel : ∀ t : Fin cfg0.N, win0_7.index t 0 = 0 ∧ win0_7.index t 1 = 0) t
  funext i
  unfold iblk
  rw [View.read_apply]
  exact block_eq (R := 256) (Q := 512) (V m c main_arg7) _ i _ _ h0 h1 rfl rfl

/-- Window 8 has one block, its whole array. -/
theorem whole_8 (c : Dev nD) (t : Fin cfg0.N) : iblk m c 8 t = V m c main_v3 := by
  obtain ⟨h0, h1⟩ := (by decide +kernel : ∀ t : Fin cfg0.N, win0_8.index t 0 = 0 ∧ win0_8.index t 1 = 0) t
  funext i
  unfold iblk
  rw [View.read_apply]
  exact block_eq (R := 1) (Q := 256) (V m c main_v3) _ i _ _ h0 h1 rfl rfl

/-- Window 9 has one block, its whole array. -/
theorem whole_9 (c : Dev nD) (t : Fin cfg0.N) : iblk m c 9 t = V m c main_v4 := by
  obtain ⟨h0, h1⟩ := (by decide +kernel : ∀ t : Fin cfg0.N, win0_9.index t 0 = 0 ∧ win0_9.index t 1 = 0) t
  funext i
  unfold iblk
  rw [View.read_apply]
  exact block_eq (R := 128) (Q := 256) (V m c main_v4) _ i _ _ h0 h1 rfl rfl

/-- Window 10 has one block, its whole array. -/
theorem whole_10 (c : Dev nD) (t : Fin cfg0.N) : iblk m c 10 t = V m c main_v6 := by
  obtain ⟨h0, h1⟩ := (by decide +kernel : ∀ t : Fin cfg0.N, win0_10.index t 0 = 0 ∧ win0_10.index t 1 = 0) t
  funext i
  unfold iblk
  rw [View.read_apply]
  exact block_eq (R := 1) (Q := 128) (V m c main_v6) _ i _ _ h0 h1 rfl rfl

/-- The input's block is the whole input at every point. -/
theorem whole_0 (c : Dev nD) (t : Fin cfg0.N) : iblk m c 0 t = V m c main_arg0 := by
  obtain ⟨h0, h1⟩ := (by decide +kernel : ∀ t : Fin cfg0.N, win0_0.index t 0 = 0 ∧ win0_0.index t 1 = 0) t
  funext i
  unfold iblk
  rw [View.read_apply]
  exact block_eq (R := 64) (Q := 8192) (V m c main_arg0) _ i _ _ h0 h1 rfl rfl

/-- The first weights' block at a point is 256 rows of them. -/
theorem rows_1 (c : Dev nD) (t : Fin cfg0.N) (q : Fin 256) (k : Fin 8192) (n : Fin 2048) (hn : n.val = t.val * 256 + q.val) :
    iblk m c 1 t (ix2 q k) = V m c main_arg1 (ix2 n k) := by
  obtain ⟨h0, h1⟩ := (by decide +kernel : ∀ t : Fin cfg0.N, win0_1.index t 0 = t.val ∧ win0_1.index t 1 = 0) t
  unfold iblk
  rw [View.read_apply]
  show V m c main_arg1 _ = _
  refine congrArg (V m c main_arg1) (funext fun a => Fin.ext ?_)
  match a with
  | ⟨0, _⟩ => show win0_1.index t 0 * 256 + 1 * q.val = n.val; rw [h0]; omega
  | ⟨1, _⟩ => show win0_1.index t 1 * 8192 + 1 * k.val = k.val; rw [h1]; omega

/-- The first bias' block at a point is 256 entries of it. -/
theorem cols_2 (c : Dev nD) (t : Fin cfg0.N) (z : Fin 1) (q : Fin 256) (n : Fin 2048) (hn : n.val = t.val * 256 + q.val) :
    iblk m c 2 t (ix2 z q) = V m c main_v0 (ix2 0 n) := by
  obtain ⟨h0, h1⟩ := (by decide +kernel : ∀ t : Fin cfg0.N, win0_2.index t 0 = 0 ∧ win0_2.index t 1 = t.val) t
  unfold iblk
  rw [View.read_apply]
  show V m c main_v0 _ = _
  refine congrArg (V m c main_v0) (funext fun a => Fin.ext ?_)
  match a with
  | ⟨0, _⟩ => show win0_2.index t 0 * 1 + 1 * z.val = 0; rw [h0]; omega
  | ⟨1, _⟩ => show win0_2.index t 1 * 256 + 1 * q.val = n.val; rw [h1]; omega

/-- `main_v0` is the bias `main_arg2` as one row. -/
theorem bias_v0 (c : Dev nD) : mat (V m c main_v0) 0 = vec (m ((c : Thread nD τ).loc main_arg2)) := by
  funext n
  unfold mat vec V
  after_reads_simp
  pointwise

/-- `main_v1` is the bias `main_arg4` as one row. -/
theorem bias_v1 (c : Dev nD) : mat (V m c main_v1) 0 = vec (m ((c : Thread nD τ).loc main_arg4)) := by
  funext n
  unfold mat vec V
  after_reads_simp
  pointwise

/-- `main_v2` is the bias `main_arg6` as one row. -/
theorem bias_v2 (c : Dev nD) : mat (V m c main_v2) 0 = vec (m ((c : Thread nD τ).loc main_arg6)) := by
  funext n
  unfold mat vec V
  after_reads_simp
  pointwise

/-- `main_v3` is the bias `main_arg8` as one row. -/
theorem bias_v3 (c : Dev nD) : mat (V m c main_v3) 0 = vec (m ((c : Thread nD τ).loc main_arg8)) := by
  funext n
  unfold mat vec V
  after_reads_simp
  pointwise

/-- The padded weights have the last weights in their first six rows. -/
theorem padded_w (c : Dev nD) (n : Fin 6) (k : Fin 256) :
    mat (V m c main_v4) ⟨n.val, by omega⟩ k = mat (m ((c : Thread nD τ).loc main_arg9)) n k := by
  unfold mat V
  after_reads_simp
  pointwise
  exact pad_apply_of_inside (s := S6x256) (t := S128x256) ![0, 0] ![122, 0] ![0, 0] (m ((c : Thread nD τ).loc main_arg9)) _
    pads_S6x256_S128x256_01220_000 h_S_ _ (ix2 n k) fun a => by
    match a with
    | ⟨0, _⟩ => show n.val = 0 + n.val * (0 + 1); omega
    | ⟨1, _⟩ => show k.val = 0 + k.val * (0 + 1); omega

/-- The padded bias has the last bias in its first six entries. -/
theorem padded_b (c : Dev nD) (n : Fin 6) :
    mat (V m c main_v6) 0 ⟨n.val, by omega⟩ = vec (m ((c : Thread nD τ).loc main_arg10)) n := by
  unfold mat vec V
  after_reads_simp
  pointwise
  exact pad_apply_of_inside (s := S6) (t := S128) ![0] ![122] ![0] (m ((c : Thread nD τ).loc main_arg10)) _
    pads_S6_S128_01220 h_S_ _ (ix1 n) fun a => by
    match a with
    | ⟨0, _⟩ => show n.val = 0 + n.val * (0 + 1); omega

/-- The scratch after all points is the first layer of the arguments. -/
theorem layer1_at (c : Dev nD) : mat (layer1 m c)
    = relu (mat (m ((c : Thread nD τ).loc main_arg0))) (mat (m ((c : Thread nD τ).loc main_arg1))) (vec (m ((c : Thread nD τ).loc main_arg2))) := by
  funext r n
  have hn : n.val = (ptOf n).val * 256 + n.val % 256 := by show n.val = n.val / 256 * 256 + n.val % 256; omega
  refine (pay1_at _ _ _ r ⟨n.val % 256, Nat.mod_lt _ (by decide)⟩).trans ?_
  rw [whole_0 m c, V_main_arg0, ← bias_v0 m c, ← V_main_arg1 m c]
  generalize (mat (m ((c : Thread nD τ).loc main_arg0)) : Fin 64 → Fin 8192 → EReal) = x
  have hw : ∀ k : Fin 8192, mat (R := 256) (Q := 8192) (iblk m c 1 (ptOf n)) ⟨n.val % 256, Nat.mod_lt _ (by decide)⟩ k
      = mat (R := 2048) (Q := 8192) (V m c main_arg1) n k := fun k => rows_1 m c _ _ k n hn
  have hb : mat (R := 1) (Q := 256) (iblk m c 2 (ptOf n)) 0 ⟨n.val % 256, Nat.mod_lt _ (by decide)⟩
      = mat (R := 1) (Q := 2048) (V m c main_v0) 0 n := cols_2 m c _ 0 _ n hn
  unfold relu dense
  exact congrArg (max · 0) (congrArg₂ (· + ·) (Finset.sum_congr rfl fun k _ => congrArg (x r k * ·) (hw k)) hb)

/-- The first six columns of what the last point stores are the latents. -/
theorem result_at (c : Dev nD) (t : Fin cfg0.N) (r : Fin 64) (n : Fin 6) :
    result m c t (ix2 r ⟨n.val, by omega⟩)
      = latent (mat (m ((c : Thread nD τ).loc main_arg0))) (mat (m ((c : Thread nD τ).loc main_arg1))) (vec (m ((c : Thread nD τ).loc main_arg2)))
          (mat (m ((c : Thread nD τ).loc main_arg3))) (vec (m ((c : Thread nD τ).loc main_arg4))) (mat (m ((c : Thread nD τ).loc main_arg5)))
          (vec (m ((c : Thread nD τ).loc main_arg6))) (mat (m ((c : Thread nD τ).loc main_arg7))) (vec (m ((c : Thread nD τ).loc main_arg8)))
          (mat (m ((c : Thread nD τ).loc main_arg9))) (vec (m ((c : Thread nD τ).loc main_arg10))) r n := by
  refine (pay2_at _ _ _ _ _ _ _ _ _ r ⟨n.val, by omega⟩).trans ?_
  rw [layer1_at, whole_3, whole_4, whole_5, whole_6, whole_7, whole_8, whole_9, whole_10, bias_v1, bias_v2, bias_v3,
    V_main_arg3, V_main_arg5, V_main_arg7]
  unfold latent
  refine congrArg clip ?_
  unfold dense
  exact congrArg₂ (· + ·) (Finset.sum_congr rfl fun k _ => congrArg (_ * ·) (padded_w m c n k)) (padded_b m c n)

/-- The last point. -/
def last : Fin cfg0.N := ⟨7, by have : cfg0.N = 8 := N_0; omega⟩

theorem flush_last : ∀ t : Fin cfg0.N, (cfg0.win 11).flush t = true ↔ t = last := by decide +kernel

/-- The output's array ends as the last point's block. -/
theorem out_at (c : Dev nD) (r : Fin 64) (q : Fin 128) : (dats m 0 c).arrAt 11 cfg0.N (ix2 r q) = result m c last (ix2 r q) := by
  have hb := (dats m 0 c).read_blk_arrAt_eq_flushed 11
    (fun t t' hf hf' hne => absurd (((flush_last t).1 hf).trans ((flush_last t').1 hf').symm) hne) cfg0.N last last.isLt ((flush_last last).2 rfl)
  obtain ⟨h0, h1⟩ := (by decide +kernel : win0_11.index last 0 = 0 ∧ win0_11.index last 1 = 0)
  have e : (dats m 0 c).flushed 11 last = result m c last := rfl
  rw [e] at hb
  refine Eq.trans (Eq.symm ?_) (congrFun hb (ix2 r q))
  rw [View.read_apply]
  exact block_eq (R := 64) (Q := 128) ((dats m 0 c).arrAt 11 cfg0.N) _ (ix2 r q) _ _ h0 h1 rfl rfl

/-- The result is the first six columns of the output's array. -/
theorem tail_at (c : Dev nD) (r : Fin 64) (n : Fin 6) :
    Pipeline.afterTail₀ cfgs (dats m) 0 (V0 m) [hostOps1] c main_v8 (ix2 r n) = (dats m 0 c).arrAt 11 cfg0.N (ix2 r ⟨n.val, by omega⟩) := by
  unfold Pipeline.afterTail₀
  after_reads_simp
  rw [show Pipeline.withArrays (cfgs 0).spec c (V0 m c) (fun w => (dats m 0 c).arrAt w (cfgs 0).N) (Proc.devRef .tc main_v7)
    = (dats m 0 c).arrAt 11 cfg0.N from Pipeline.withArrays_arr spec0 launch0.win.arr_inj c _ _ 11]
  pointwise

/-- The call's result, entry by entry: the five layers of the arguments. -/
theorem latents_eq (c : Dev nD) (r : Fin 64) (n : Fin 6) :
    Pipeline.afterTail₀ cfgs (dats m) 0 (V0 m) [hostOps1] c main_v8 (ix2 r n)
      = latent (mat (m ((c : Thread nD τ).loc main_arg0))) (mat (m ((c : Thread nD τ).loc main_arg1))) (vec (m ((c : Thread nD τ).loc main_arg2)))
          (mat (m ((c : Thread nD τ).loc main_arg3))) (vec (m ((c : Thread nD τ).loc main_arg4))) (mat (m ((c : Thread nD τ).loc main_arg5)))
          (vec (m ((c : Thread nD τ).loc main_arg6))) (mat (m ((c : Thread nD τ).loc main_arg7))) (vec (m ((c : Thread nD τ).loc main_arg8)))
          (mat (m ((c : Thread nD τ).loc main_arg9))) (vec (m ((c : Thread nD τ).loc main_arg10))) r n :=
  (tail_at m c r n).trans ((out_at m c r _).trans (result_at m c last r n))

/-- The call runs to that result and leaves its arguments as they were. -/
theorem run : θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c).2 main_v8 (Pipeline.mem_restRefs_of main_v8 (by decide) (by decide)), h.2 c⟩)
    (θ_run_and (run_main m ρ) (unchanged m ρ))

end Cert.FcValue

end
-- ==== Proof.FcBits.lean ====
/-
  The dense layers' call as printed and its idealization are one program: no operation was rewritten. So the frame of the one is
  the frame of the other.
-/
module

public import proofs.«01_k».proof.Defs
public import proofs.«01_k».proof.Proof.Gen.Fc.Frame
public import proofs.«01_k».proof.Proof.FcFrame

@[expose] public section

set_option maxRecDepth 65536

noncomputable section

namespace Cert.FcBits

open Idealize.ShloMosaic Idealize.SL.Sem

variable {F : FTy → Type} [FloatOps F]

/-- The bodies the two programs call are the same. -/
theorem bodies_eq : Cert.Fc.defs₀ (F := F) = Cert.FcIdeal.defs₀ (F := F) := by
  unfold Cert.Fc.defs₀ Cert.FcIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So the two programs' pipelines are. -/
theorem defs_eq : Cert.Fc.defs (F := F) = Cert.FcIdeal.defs (F := F) := congrArg (Pipeline.defs (Cert.FcIdeal.pcfgs (F := F))) bodies_eq

/-- The call as printed runs without fault and leaves its arguments as they were. -/
theorem quiescent : quiescent_Fc := fun m ρ _ =>
  Eq.mpr (congrArg (fun d => θ_run d (onTc (τ := Cert.FcIdeal.τ) (Cert.FcIdeal.main (F := Bits))) ⟨m, fun _ => 0, ρ⟩ _) defs_eq)
    (Cert.FcFrame.frame (F := Bits) m ρ)

end Cert.FcBits

end
-- ==== Proof.WholeEncRun.lean ====
/-
  The first region of the whole kernel, the encoder: the conditions on the point, the buffers its body is given, and
  the two runs of the body.
-/
module

public import proofs.«01_k».proof.Proof.Gen.WholeIdeal.Launch
public import proofs.«01_k».proof.Proof.Gen.WholeIdeal.Points
public import proofs.«01_k».proof.Proof.Gen.WholeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WholeEnc

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_1, e0]
    word_cmp
   : ∀ t : Fin grid0.N, cond0_1 (grid0.coords t) ↔ t.val % 64 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the first point only — by arithmetic of the point. -/
theorem hcond0_2 : ∀ t : Fin cfg0.N, cond0_2 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_2, e0]
    word_cmp
   : ∀ t : Fin grid0.N, cond0_2 (grid0.coords t) ↔ t.val % 64 = 0)

/-! ## The kernel body on any staging memrefs: a subtype the run finds -/

/-- One staging buffer of output window 7, through which its contents are stated (`View.read_writes_of_cover`: the
    choice does not matter). -/
abbrev VO0_7 : View sig .tc .vmem S1x128x64 .f32 := (Memref.whole cc0_stg7_0 : Memref sig .tc .vmem S1x128x64 .f32).view
/-- Each window's current staging memref at point `t`, spelled as the pipeline passes it (`bodyAt0`), and its wholeness. -/
abbrev ms0_0 (t : Fin cfg0.N) : Memref sig .tc .vmem S1x120x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S120x288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x576 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1152 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x64 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4240x288 .f32 := Memref.whole cc0_scratch0
abbrev scM0_1 : Memref sig .tc .vmem S1104x576 .f32 := Memref.whole cc0_scratch1
abbrev scM0_2 : Memref sig .tc .vmem S304x1152 .f32 := Memref.whole cc0_scratch2
/-- The scratch `arg9` the kernel carries between points, as a view: what it holds is stated through it. -/
abbrev VS0_0 : View sig .tc .vmem S4240x288 .f32 := scM0_0.view
/-- The scratch `arg10` the kernel carries between points, as a view: what it holds is stated through it. -/
abbrev VS0_1 : View sig .tc .vmem S1104x576 .f32 := scM0_1.view
/-- The scratch `arg11` the kernel carries between points, as a view: what it holds is stated through it. -/
abbrev VS0_2 : View sig .tc .vmem S304x1152 .f32 := scM0_2.view

/-- The scoped buffers the region does not use, and the generator register at some state. -/
def Others (c : Dev nD) : sProp 𝕄 :=
  iprop(Pipeline.scopedRestBut (Ix := Unit) (Name := ℕ) (U := UR sig nD τ) (Lvl := ℕ) (Val := Elt F) spec0 c [cc0_scratch0, cc0_scratch1, cc0_scratch2] ∗ ∃ r, prngReg c r)

/-- The frame kit's invariant with the scratch operands as memrefs owned at some contents (`Gen.scopedRest0_split`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ Others c) := by
  unfold Pipeline.ΦA Others; rw [scopedRest0_split]; simp only [scM0_0, scM0_1, scM0_2, owns_whole]
  exact sep_assoc.antisymm sep_assoc'

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) :
    Σ' (L7 : List (View.Piece (Elt F) S1x128x64 .f32)), Σ' (LS0 : List (View.Piece (Elt F) S4240x288 .f32)), Σ' (LS1 : List (View.Piece (Elt F) S1104x576 .f32)), { LS2 : List (View.Piece (Elt F) S304x1152 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_cae_encoder i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_cae_encoder_eq_skeleton]; unfold cc0_cae_encoder_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    iexists _; iexact HS2

-- (the run's proof term is large: the definition's epilogue — `abstractNestedProofs` — walks it past the default budget)
set_option maxHeartbeats 1200000 in
/-- What the body's stores leave in each output's staging memref, as pieces (last first) IN CASE B (`scf.if` 0 not taken, `scf.if` 1 not taken, `scf.if` 2 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : ¬cond0_0 i) (hc1 : ¬cond0_1 i) (hc2 : ¬cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (xs0 : Vec F S4240x288 .f32) (xs1 : Vec F S1104x576 .f32) (xs2 : Vec F S304x1152 .f32) :
    Σ' (L7 : List (View.Piece (Elt F) S1x128x64 .f32)), Σ' (LS0 : List (View.Piece (Elt F) S4240x288 .f32)), Σ' (LS1 : List (View.Piece (Elt F) S1104x576 .f32)), { LS2 : List (View.Piece (Elt F) S304x1152 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_cae_encoder i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_cae_encoder_eq_skeleton]; unfold cc0_cae_encoder_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexact HS0
    isplitl [HS1]; · iexact HS1
    iexact HS2

end Cert.WholeEnc

end
-- ==== Proof.WholeEnc.lean ====
/-
  The first region of the whole kernel, the encoder: what its buffers hold after each point, and that its body leaves
  them so.
-/
module

public import proofs.«01_k».proof.Proof.WholeEncRun
public import Idealize.ShloMosaic.Lib.Claim

@[expose] public section

set_option maxRecDepth 16384

noncomputable section

namespace Cert.WholeEnc

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case A's pieces for output 7 tile its block (1 store of `S1x128x64`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (y : S1x128x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).1 S1x128x64.size (by sl_kernel_rfl) y

/-- What case A leaves in output 7's staging buffer: its pieces read back over junk. -/
def out0_A_7 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) : Vec F S1x128x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).1)

/-- Case A's pieces for scratch `arg9`, which the kernel carries between points, cover it: 3 pieces (stores and landed copies) of several sizes (`S4096x288`, `S72x288`) tiling it when cut into blocks of `![8, 288]` (Lib/Ring.lean `Piece.tiledBy`). -/
theorem scover0_A_0 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (y : S4240x288.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1 ![8, 288] (by sl_kernel_rfl) y

/-- What case A leaves in scratch `arg9`: its pieces read back over junk. -/
def sout0_A_0 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) : Vec F S4240x288 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1)

/-- Case A's pieces for scratch `arg10`, which the kernel carries between points, cover it: 3 pieces (stores and landed copies) of several sizes (`S1024x576`, `S40x576`) tiling it when cut into blocks of `![8, 576]` (Lib/Ring.lean `Piece.tiledBy`). -/
theorem scover0_A_1 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (y : S1104x576.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1 ![8, 576] (by sl_kernel_rfl) y

/-- What case A leaves in scratch `arg10`: its pieces read back over junk. -/
def sout0_A_1 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) : Vec F S1104x576 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1)

/-- Case A's pieces for scratch `arg11`, which the kernel carries between points, cover it: 3 pieces (stores and landed copies) of several sizes (`S24x1152`, `S256x1152`) tiling it when cut into blocks of `![8, 1152]` (Lib/Ring.lean `Piece.tiledBy`). -/
theorem scover0_A_2 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (y : S304x1152.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.2.1 ![8, 1152] (by sl_kernel_rfl) y

/-- What case A leaves in scratch `arg11`: its pieces read back over junk. -/
def sout0_A_2 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : cond0_0 i) (hc1 : cond0_1 i) (hc2 : cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) : Vec F S304x1152 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.2.1)

/-- Case B's pieces for output 7 tile its block (1 store of `S1x128x64`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : ¬cond0_0 i) (hc1 : ¬cond0_1 i) (hc2 : ¬cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (xs0 : Vec F S4240x288 .f32) (xs1 : Vec F S1104x576 .f32) (xs2 : Vec F S304x1152 .f32) (y : S1x128x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2).1 S1x128x64.size (by sl_kernel_rfl) y

/-- What case B leaves in output 7's staging buffer: its pieces read back over junk. -/
def out0_B_7 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : ¬cond0_0 i) (hc1 : ¬cond0_1 i) (hc2 : ¬cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (xs0 : Vec F S4240x288 .f32) (xs1 : Vec F S1104x576 .f32) (xs2 : Vec F S304x1152 .f32) : Vec F S1x128x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2).1)

/-- What case B leaves in scratch `arg9`: its pieces (stores, a counted loop's segment) read back over what the point before left there, which it read first. -/
def sout0_B_0 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : ¬cond0_0 i) (hc1 : ¬cond0_1 i) (hc2 : ¬cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (xs0 : Vec F S4240x288 .f32) (xs1 : Vec F S1104x576 .f32) (xs2 : Vec F S304x1152 .f32) : Vec F S4240x288 .f32 :=
  arg9.view.read (Elt F) (arg9.view.writes (Elt F) (harg9.unread xs0) (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2).2.1)

/-- What case B leaves in scratch `arg10`: its pieces (stores, a counted loop's segment) read back over what the point before left there, which it read first. -/
def sout0_B_1 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : ¬cond0_0 i) (hc1 : ¬cond0_1 i) (hc2 : ¬cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (xs0 : Vec F S4240x288 .f32) (xs1 : Vec F S1104x576 .f32) (xs2 : Vec F S304x1152 .f32) : Vec F S1104x576 .f32 :=
  arg10.view.read (Elt F) (arg10.view.writes (Elt F) (harg10.unread xs1) (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2).2.2.1)

/-- What case B leaves in scratch `arg11`: its pieces (stores, a counted loop's segment) read back over what the point before left there, which it read first. -/
def sout0_B_2 (c : Dev nD) (i : grid0.Coords) (arg1 : Memref sig .tc .vmem S1x120x4096 .f32) (harg1 : arg1.IsWhole) (arg2 : Memref sig .tc .vmem S120x288 .f32) (harg2 : arg2.IsWhole) (arg3 : Memref sig .tc .vmem S32x576 .f32) (harg3 : arg3.IsWhole) (arg4 : Memref sig .tc .vmem S64x1152 .f32) (harg4 : arg4.IsWhole) (arg5 : Memref sig .tc .vmem S1x32 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x64 .f32) (harg8 : arg8.IsWhole) (arg9 : Memref sig .tc .vmem S4240x288 .f32) (harg9 : arg9.IsWhole) (arg10 : Memref sig .tc .vmem S1104x576 .f32) (harg10 : arg10.IsWhole) (arg11 : Memref sig .tc .vmem S304x1152 .f32) (harg11 : arg11.IsWhole) (hc0 : ¬cond0_0 i) (hc1 : ¬cond0_1 i) (hc2 : ¬cond0_2 i)
    (x0 : Vec F S1x120x4096 .f32) (x1 : Vec F S120x288 .f32) (x2 : Vec F S32x576 .f32) (x3 : Vec F S64x1152 .f32) (x4 : Vec F S1x32 .f32) (x5 : Vec F S1x64 .f32) (x6 : Vec F S1x128 .f32) (xs0 : Vec F S4240x288 .f32) (xs1 : Vec F S1104x576 .f32) (xs2 : Vec F S304x1152 .f32) : Vec F S304x1152 .f32 :=
  arg11.view.read (Elt F) (arg11.view.writes (Elt F) (harg11.unread xs2) (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x64 .f32 × Vec F S4240x288 .f32 × Vec F S1104x576 .f32 × Vec F S304x1152 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h0 : (n + 1) % 64 = 0 then
      if h1 : (n + 1) % 64 = 0 then
        if h2 : (n + 1) % 64 = 0 then
          (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩))
        else
          False.elim (by have hN : n + 1 < 64 := lt_of_lt_of_eq hn (show cfg0.N = 64 from N_0); omega)
      else
        False.elim (by have hN : n + 1 < 64 := lt_of_lt_of_eq hn (show cfg0.N = 64 from N_0); omega)
    else
      if h1 : (n + 1) % 64 = 0 then
        False.elim (by have hN : n + 1 < 64 := lt_of_lt_of_eq hn (show cfg0.N = 64 from N_0); omega)
      else
        if h2 : (n + 1) % 64 = 0 then
          False.elim (by have hN : n + 1 < 64 := lt_of_lt_of_eq hn (show cfg0.N = 64 from N_0); omega)
        else
          (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 64 = 0) (h1 : t.val % 64 = 0) (h2 : t.val % 64 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (iblk V c 0 t) (iblk V c 1 t) (iblk V c 2 t) (iblk V c 3 t) (iblk V c 4 t) (iblk V c 5 t) (iblk V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (iblk V c 0 t) (iblk V c 1 t) (iblk V c 2 t) (iblk V c 3 t) (iblk V c 4 t) (iblk V c 5 t) (iblk V c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (iblk V c 0 t) (iblk V c 1 t) (iblk V c 2 t) (iblk V c 3 t) (iblk V c 4 t) (iblk V c 5 t) (iblk V c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 64 = 0) (h1 : ¬t.val % 64 = 0) (h2 : ¬t.val % 64 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ Others c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ Others c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2)) ∗ Others c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats V 0 c).A w = V c (Pipeline.arrRef spec0 w) := by
  dsimp only [dats]

/-- The invariant at a point's start (the proof data at `t.castSucc`), restated at `t.val`. -/
theorem PhiS_castSucc (c : Dev nD) (t : Fin cfg0.N) :
    (dats V 0 c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) : (dats V 0 c).after 5 t = iblk V c 5 t := by dsimp only [dats]
theorem after0_6 (c : Dev nD) (t : Fin cfg0.N) : (dats V 0 c).after 6 t = iblk V c 6 t := by dsimp only [dats]
theorem after0_7 (c : Dev nD) (t : Fin cfg0.N) : (dats V 0 c).after 7 t = (outsAt0 V c t.val t.isLt).1 := by dsimp only [dats]

/-- Each input's current staging buffer holds its block at every point, fetched there or not (`beforeK_W_of`). -/
theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d
theorem before0_4 (c : Dev nD) (t : Fin cfg0.N) (d) : (dats V 0 c).before 4 t d = iblk V c 4 t :=
  before0_4_of V (dats V 0 c) (A_eq V c 4) (after0_4 V c) t d
theorem before0_5 (c : Dev nD) (t : Fin cfg0.N) (d) : (dats V 0 c).before 5 t d = iblk V c 5 t :=
  before0_5_of V (dats V 0 c) (A_eq V c 5) (after0_5 V c) t d
theorem before0_6 (c : Dev nD) (t : Fin cfg0.N) (d) : (dats V 0 c).before 6 t d = iblk V c 6 t :=
  before0_6_of V (dats V 0 c) (A_eq V c 6) (after0_6 V c) t d

/-! ## The body obligation, at a generic point -/

/-- What the body is called with at point `t` (Lib/Pipeline.lean `BodyObligation`'s precondition, the windows one by one), -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d))
    ∗ (∃ d, owns (c : Thread nD τ) (ms0_6 t) fullShare ((dats V 0 c).before 6 t d))
    ∗ (∃ d, owns (c : Thread nD τ) (ms0_7 t) fullShare ((dats V 0 c).before 7 t d)))

/-- and what it returns. -/
def bodyPost (c : Dev nD) (t : Fin cfg0.N) : sProp 𝕄 :=
  iprop((dats V 0 c).Φ t.succ ∗ (dats V 0 c).owesAt () t.succ
    ∗ owns (c : Thread nD τ) (ms0_0 t) fullShare ((dats V 0 c).after 0 t)
    ∗ owns (c : Thread nD τ) (ms0_1 t) fullShare ((dats V 0 c).after 1 t)
    ∗ owns (c : Thread nD τ) (ms0_2 t) fullShare ((dats V 0 c).after 2 t)
    ∗ owns (c : Thread nD τ) (ms0_3 t) fullShare ((dats V 0 c).after 3 t)
    ∗ owns (c : Thread nD τ) (ms0_4 t) fullShare ((dats V 0 c).after 4 t)
    ∗ owns (c : Thread nD τ) (ms0_5 t) fullShare ((dats V 0 c).after 5 t)
    ∗ owns (c : Thread nD τ) (ms0_6 t) fullShare ((dats V 0 c).after 6 t)
    ∗ owns (c : Thread nD τ) (ms0_7 t) fullShare ((dats V 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dats V 0 c).owesAt () t.succ = (dats V 0 c).owesAt () t.castSucc from rfl,
    after0_0, after0_1, after0_2, after0_3, after0_4, after0_5, after0_6, after0_7]
  rw [show (dats V 0 c).Φ t.succ = PhiS V c (t.val + 1) t.isLt from rfl, PhiS_succ]
  have hN : t.val < 64 := lt_of_lt_of_eq t.isLt (show cfg0.N = 64 from N_0)
  by_cases h0 : t.val % 64 = 0
  · by_cases h1 : t.val % 64 = 0
    · by_cases h2 : t.val % 64 = 0
      · by_cases hz : t.val = 0
        · rw [PhiS_castSucc V c t, PhiS_zero V c _ _ hz, PhiA0_eq]
          rw [outsAt0_A V c t h0 h1 h2]
          unfold out0_A_7 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ _ _ _ _ ((hcond0_0 t).mpr h0) ((hcond0_1 t).mpr h1) ((hcond0_2 t).mpr h2) (iblk V c 0 t) (iblk V c 1 t) (iblk V c 2 t) (iblk V c 3 t) (iblk V c 4 t) (iblk V c 5 t) (iblk V c 6 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          iintro ⟨H0, H1, H2, H3, H4, H5, H6, ⟨%e7, H7⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _)
        · exfalso; have hN : t.val < 64 := lt_of_lt_of_eq t.isLt (show cfg0.N = 64 from N_0); omega
      · exfalso; omega
    · exfalso; omega
  · by_cases h1 : t.val % 64 = 0
    · exfalso; omega
    · by_cases h2 : t.val % 64 = 0
      · exfalso; omega
      · by_cases hz : t.val = 0
        · exfalso; have hN : t.val < 64 := lt_of_lt_of_eq t.isLt (show cfg0.N = 64 from N_0); omega
        · rw [PhiS_castSucc V c t, PhiS_pos V c _ _ hz]
          rw [outsAt0_B V c t h0 h1 h2]
          unfold out0_B_7 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          iintro ⟨H0, H1, H2, H3, H4, H5, H6, ⟨%e7, H7⟩, HS0, HS1, HS2⟩
          isplitl [HS0 HS1 HS2 Hg]
          · isplitl [HS0 HS1 HS2]
            · isplitl [HS0]
              · unfold owns; iexists _; isplitr
                swap; · iexact HS0
                ipureintro; rfl
              isplitl [HS1]
              · unfold owns; iexists _; isplitr
                swap; · iexact HS1
                ipureintro; rfl
              unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) V 0 c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats V 0 c).Φ t ⊢ Pipeline.ΦA spec0 c := by
  rw [show (dats V 0 c).Φ t = PhiS V c t.val (Nat.le_of_lt_succ t.isLt) from rfl, PhiS_pos V c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats V 0 c).Φ (Fin.last cfg0.N) ⊢ Pipeline.ΦA spec0 c :=
  Phi_out V c _ (by rw [Fin.val_last]; have : cfg0.N = 64 := N_0; omega)

end Cert.WholeEnc

end
-- ==== Proof.WholeFcRun.lean ====
/-
  The second region of the whole kernel, the dense layers: the conditions on the point, the buffers its body is given,
  and the two runs of the body.
-/
module

public import proofs.«01_k».proof.Proof.Gen.WholeIdeal.Launch
public import proofs.«01_k».proof.Proof.Gen.WholeIdeal.Points
public import proofs.«01_k».proof.Proof.Gen.WholeIdeal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.WholeFc

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := k1_cond1 i = 1#1
/-- It holds at the last point only — by arithmetic of the point. -/
theorem hcond0_0 : ∀ t : Fin cfg1.N, cond0_0 (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [cond0_0, k1_cond1, e0]
    word_cmp
   : ∀ t : Fin grid1.N, cond0_0 (grid1.coords t) ↔ t.val % 8 = 7)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an input). -/
theorem liveAt0_5 : ∀ t : Fin cfg1.N, cfg1.idle 5 (grid1.coords t) = false := fun _ => rfl
/-- Window 6 is never idle (an input). -/
theorem liveAt0_6 : ∀ t : Fin cfg1.N, cfg1.idle 6 (grid1.coords t) = false := fun _ => rfl
/-- Window 7 is never idle (an input). -/
theorem liveAt0_7 : ∀ t : Fin cfg1.N, cfg1.idle 7 (grid1.coords t) = false := fun _ => rfl
/-- Window 8 is never idle (an input). -/
theorem liveAt0_8 : ∀ t : Fin cfg1.N, cfg1.idle 8 (grid1.coords t) = false := fun _ => rfl
/-- Window 9 is never idle (an input). -/
theorem liveAt0_9 : ∀ t : Fin cfg1.N, cfg1.idle 9 (grid1.coords t) = false := fun _ => rfl
/-- Window 10 is never idle (an input). -/
theorem liveAt0_10 : ∀ t : Fin cfg1.N, cfg1.idle 10 (grid1.coords t) = false := fun _ => rfl
/-- At the points of case A the printed configuration (`Cfg.idle`) calls output 11 idle: the case stores nothing into it. -/
theorem idleAt0_11_A : ∀ t : Fin cfg1.N, ¬cond0_0 (grid1.coords t) → cfg1.idle 11 (grid1.coords t) = true := by decide +kernel
/-- At the points of case A the pipeline does not write output 11's block back. -/
theorem noFlush0_11_A : ∀ t : Fin cfg1.N, ¬cond0_0 (grid1.coords t) → (cfg1.win 11).flush t = false := by decide +kernel
/-- At the points of case B the printed configuration (`Cfg.idle`) calls output 11 live: the case stores into it. -/
theorem liveAt0_11_B : ∀ t : Fin cfg1.N, cond0_0 (grid1.coords t) → cfg1.idle 11 (grid1.coords t) = false := by decide +kernel

/-! ## The kernel body on any staging memrefs: a subtype the run finds -/

/-- One staging buffer of output window 11, through which its contents are stated (`View.read_writes_of_cover`: the
    choice does not matter). -/
abbrev VO0_11 : View sig .tc .vmem S64x128 .f32 := (Memref.whole cc1_stg11_0 : Memref sig .tc .vmem S64x128 .f32).view
/-- Each window's current staging memref at point `t`, spelled as the pipeline passes it (`bodyAt1`), and its wholeness. -/
abbrev ms1_0 (t : Fin cfg1.N) : Memref sig .tc .vmem S64x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64x128 .f32 := win1_11.stage (cfg1.slots t 11)
abbrev hs1_11 (t : Fin cfg1.N) : (ms1_11 t).IsWhole := hstage1_11 ((cfg1.slots t 11).cast nbuf1_11)
/-- The scratch operands: whole scoped buffers of the kernel's own, passed beside the windows. -/
abbrev scM0_0 : Memref sig .tc .vmem S64x2048 .f32 := Memref.whole cc1_scratch0

/-- The scoped buffers the region does not use, and the generator register at some state. -/
def Others (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The frame kit's invariant with the scratch operands as memrefs owned at some contents (`Gen.scopedRest_split_of_list`,
    Lib/Memref.lean `owns_whole`): what the body obligation hands the run and takes back. -/
theorem PhiA0_eq (c : Dev nD) :
    (Pipeline.ΦA spec1 c : sProp 𝕄)
      = iprop(iprop((∃ d, owns (c : Thread nD τ) scM0_0 fullShare d)) ∗ Others c) := by
  unfold Pipeline.ΦA Others; rw [Pipeline.scopedRest_split_of_list spec1 c [cc1_scratch0] (by decide) (by decide)]; simp only [scM0_0, owns_whole]
  exact sep_assoc.antisymm sep_assoc'

set_option maxHeartbeats 1000000 in
/-- The body at a point before the last, on buffers that hold `x0` to `x10` and a scratch that holds `xs0`: it stores the pieces found here into
    the scratch and leaves the other buffers as they were. -/
noncomputable def runA (c : Dev nD) (i : grid1.Coords) (arg1 : Memref sig .tc .vmem S64x8192 .f32) (harg1 : arg1.IsWhole) (arg2 : Memref sig .tc .vmem S256x8192 .f32) (harg2 : arg2.IsWhole) (arg3 : Memref sig .tc .vmem S1x256 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x2048 .f32) (harg13 : arg13.IsWhole) (hc0 : ¬cond0_0 i)
    (x0 : Vec F S64x8192 .f32) (x1 : Vec F S256x8192 .f32) (x2 : Vec F S1x256 .f32) (x3 : Vec F S1024x2048 .f32) (x4 : Vec F S1x1024 .f32) (x5 : Vec F S512x1024 .f32) (x6 : Vec F S1x512 .f32) (x7 : Vec F S256x512 .f32) (x8 : Vec F S1x256 .f32) (x9 : Vec F S128x256 .f32) (x10 : Vec F S1x128 .f32) (xs0 : Vec F S64x2048 .f32) :
    { LS0 : List (View.Piece (Elt F) S64x2048 .f32) //
      ∀ (xi11 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (arg13.view.loc (c : Thread nD τ) ↦[arg13.view.set]{fullShare} arg13.view.writes (Elt F) (harg13.unread xs0) LS0)) -∗ K ⟨⟩))
          ⊢ wp frame (wpE (defs₀ (F := F)) Variants.none c none) E (cc1_cae_fc i arg1 harg1 arg2 harg2 arg3 harg3 arg4 harg4 arg5 harg5 arg6 harg6 arg7 harg7 arg8 harg8 arg9 harg9 arg10 harg10 arg11 harg11 arg12 harg12 arg13 harg13) K } := by
  refine ⟨?_, fun xi11 E K => ?run⟩
  case run =>
    simp only [cc1_cae_fc_eq_skeleton]; unfold cc1_cae_fc_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexact HS0

set_option maxHeartbeats 1000000 in
/-- The body at the last point: it stores the pieces found here into the scratch, reads the scratch whole, and stores into the result. -/
noncomputable def runB (c : Dev nD) (i : grid1.Coords) (arg1 : Memref sig .tc .vmem S64x8192 .f32) (harg1 : arg1.IsWhole) (arg2 : Memref sig .tc .vmem S256x8192 .f32) (harg2 : arg2.IsWhole) (arg3 : Memref sig .tc .vmem S1x256 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x2048 .f32) (harg13 : arg13.IsWhole) (hc0 : cond0_0 i)
    (x0 : Vec F S64x8192 .f32) (x1 : Vec F S256x8192 .f32) (x2 : Vec F S1x256 .f32) (x3 : Vec F S1024x2048 .f32) (x4 : Vec F S1x1024 .f32) (x5 : Vec F S512x1024 .f32) (x6 : Vec F S1x512 .f32) (x7 : Vec F S256x512 .f32) (x8 : Vec F S1x256 .f32) (x9 : Vec F S128x256 .f32) (x10 : Vec F S1x128 .f32) (xs0 : Vec F S64x2048 .f32) :
    Σ' (L11 : List (View.Piece (Elt F) S64x128 .f32)), { LS0 : List (View.Piece (Elt F) S64x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc1_cae_fc i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1_cae_fc_eq_skeleton]; unfold cc1_cae_fc_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexact HS0

variable (c : Dev nD) (i : grid1.Coords) (arg1 : Memref sig .tc .vmem S64x8192 .f32) (harg1 : arg1.IsWhole) (arg2 : Memref sig .tc .vmem S256x8192 .f32) (harg2 : arg2.IsWhole) (arg3 : Memref sig .tc .vmem S1x256 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x2048 .f32) (harg13 : arg13.IsWhole)
  (x0 : Vec F S64x8192 .f32) (x1 : Vec F S256x8192 .f32) (x2 : Vec F S1x256 .f32) (x3 : Vec F S1024x2048 .f32) (x4 : Vec F S1x1024 .f32) (x5 : Vec F S512x1024 .f32) (x6 : Vec F S1x512 .f32) (x7 : Vec F S256x512 .f32) (x8 : Vec F S1x256 .f32) (x9 : Vec F S128x256 .f32) (x10 : Vec F S1x128 .f32) (xs0 : Vec F S64x2048 .f32)

/-- After a point before the last the scratch is what it was with the point's slice of the first layer put into it. -/
theorem scratchA (hc0 : ¬cond0_0 i) :
    arg13.view.read (Elt F) (arg13.view.writes (Elt F) (harg13.unread xs0) (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xs0).1)
      = VecWindow.put xs0 (k1_off1 i) S64x256.size (k1_pay1 x0 x1 x2) := by
  unfold runA
  dsimp only
  refine (View.read_writes_cons_put _ _ _ _ [] rfl).trans ?_
  rw [View.writes_nil, harg13.read_unread, View.readAt_full, View.readAt_full, View.readAt_full, harg1.read_unread, harg2.read_unread, harg3.read_unread]

/-- So it is after the last point. -/
theorem scratchB (hc0 : cond0_0 i) :
    arg13.view.read (Elt F) (arg13.view.writes (Elt F) (harg13.unread xs0) (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xs0).2.1)
      = VecWindow.put xs0 (k1_off1 i) S64x256.size (k1_pay1 x0 x1 x2) := by
  unfold runB
  dsimp only
  refine (View.read_writes_cons_put _ _ _ _ [] rfl).trans ?_
  rw [View.writes_nil, harg13.read_unread, View.readAt_full, View.readAt_full, View.readAt_full, harg1.read_unread, harg2.read_unread, harg3.read_unread]

/-- At the last point the result is the other four layers of what the scratch then holds, clipped. -/
theorem resultB (hc0 : cond0_0 i) (f : arg12.view.ty.Contents (Elt F)) :
    arg12.view.read (Elt F) (arg12.view.writes (Elt F) f (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xs0).1)
      = k1_pay2 (k1_pay3 (VecWindow.put xs0 (k1_off1 i) S64x256.size (k1_pay1 x0 x1 x2)) x3 x4 x5 x6 x7 x8 x9 x10)
          (Scalar.ofBits .f32 0x3F800000#32) k1_pay4 := by
  unfold runB
  dsimp only
  refine (View.read_writes_full _ _ _ _ []).trans ?_
  show k1_pay2 (runB.sl.r c i _ _ _ _ _ _ _ _ _ _ _ _ _ _ _ _ _ _ _ _ _ _ _ _ x0 x1 x2 x3 x4 x5 x6 x7 x8 x9 x10 xs0) _ _ = _
  unfold runB.sl.r runB.sl.cst_33 runB.sl.HS0_1
  rw [View.readAt_full, View.readAt_full, View.readAt_full, View.readAt_full, View.readAt_full, View.readAt_full, View.readAt_full,
    View.readAt_full, View.readAt_full, View.readAt_full, View.readAt_full, View.readAt_full, harg4.read_unread, harg5.read_unread, harg6.read_unread, harg7.read_unread, harg8.read_unread,
    harg9.read_unread, harg10.read_unread, harg11.read_unread]
  refine congrArg (fun z => k1_pay2 (k1_pay3 z x3 x4 x5 x6 x7 x8 x9 x10) (FloatOps.ofBits .f32 0x3F800000#32) k1_pay4) ?_
  refine (View.read_writes_cons_put _ _ _ _ [] rfl).trans ?_
  rw [View.writes_nil, harg13.read_unread, harg1.read_unread, harg2.read_unread, harg3.read_unread]

end Cert.WholeFc

end
-- ==== Proof.WholeFc.lean ====
/-
  The second region of the whole kernel, the dense layers: what its buffers hold after each point, and that its body
  leaves them so.
-/
module

public import proofs.«01_k».proof.Proof.WholeFcRun
public import Idealize.ShloMosaic.Lib.Pointwise
public import Idealize.ShloMosaic.Lib.Claim
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.WholeFc

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What the scratch and the result hold -/

/-- The first layer's slice that point `t` computes. -/
def slab (c : Dev nD) (t : Fin cfg1.N) : FVec F S64x256 .f32 := k1_pay1 (iblk V c 0 t) (iblk V c 1 t) (iblk V c 2 t)

/-- The point whose slice holds column `q` of the first layer. -/
def ptOf (q : Fin 2048) : Fin cfg1.N := ⟨q.val / 256, by have : cfg1.N = 8 := N_1; omega⟩

/-- The first layer whole: column `q` from the slice of its point. -/
def layer1 (c : Dev nD) : Vec F S64x2048 .f32 := fun y =>
  slab V c (ptOf (y 1)) (ix2 (y 0) (⟨(y 1).val % 256, Nat.mod_lt _ (by decide)⟩ : Fin 256))

/-- The scratch `s` has the first layer in the columns of the points before `n`. -/
def Filled (c : Dev nD) (n : ℕ) (s : Vec F S64x2048 .f32) : Prop := ∀ y, (y 1).val < 256 * n → s y = layer1 V c y

/-- The columns a point stores begin at 256 times its number. -/
theorem off1_eq (t : Fin cfg1.N) : k1_off1 (grid1.coords t) = ![0, 256 * t.val] := by
  have ht : t.val < 8 := Nat.lt_of_lt_of_eq t.isLt N_1
  have e1 : (grid1.coords t 0).val = t.val / 1 % 8 := Pipeline.Grid.coords_val t 0 (by decide) rfl
  have e0 : (grid1.coords t 0).val = t.val := by omega
  unfold k1_off1
  simp only [e0]
  refine congrArg (fun z => ![0, z]) ?_
  show (BitVec.ofNat 32 t.val * 256#32).toNat = _
  rw [BitVec.toNat_mul, BitVec.toNat_ofNat, BitVec.toNat_ofNat]
  omega

/-- Putting the point's slice fills its columns. -/
theorem filled_put (c : Dev nD) (t : Fin cfg1.N) (s : Vec F S64x2048 .f32) (h : Filled V c t.val s) :
    Filled V c (t.val + 1) (VecWindow.put s (k1_off1 (grid1.coords t)) S64x256.size (k1_pay1 (iblk V c 0 t) (iblk V c 1 t) (iblk V c 2 t))) := by
  intro y hy
  unfold VecWindow.put
  by_cases hc : 256 * t.val ≤ (y 1).val
  · have hin : ∀ a, k1_off1 (grid1.coords t) a ≤ (y a).val ∧ (y a).val < k1_off1 (grid1.coords t) a + S64x256.size a := by
      rw [off1_eq]
      intro a
      match a with
      | ⟨0, _⟩ => exact ⟨Nat.zero_le _, by have := (y 0).isLt; show (y 0).val < 0 + 64; exact (Nat.zero_add 64).symm ▸ this⟩
      | ⟨1, _⟩ => exact ⟨hc, by show (y 1).val < 256 * t.val + 256; omega⟩
    rw [dif_pos hin]
    have e : ptOf (y 1) = t := Fin.ext (by show (y 1).val / 256 = t.val; omega)
    unfold layer1
    rw [e]
    refine congrArg (slab V c t) (funext fun a => Fin.ext ?_)
    rw [Rect.unitLocal_val, off1_eq]
    match a with
    | ⟨0, _⟩ => show (y 0).val - 0 = (y 0).val; omega
    | ⟨1, _⟩ => show (y 1).val - 256 * t.val = (y 1).val % 256; omega
  · rw [dif_neg (fun hin => hc (by have := (hin 1).1; rw [off1_eq] at this; exact this))]
    exact h y (by omega)

/-- A scratch filled at all eight points holds the first layer. -/
theorem filled_all (c : Dev nD) (s : Vec F S64x2048 .f32) (h : Filled V c 8 s) : s = layer1 V c :=
  funext fun y => h y (by have : (y 1).val < 2048 := (y 1).isLt; omega)

/-- The result's block: the other four layers of the first, clipped. -/
def result (c : Dev nD) (t : Fin cfg1.N) : Vec F S64x128 .f32 :=
  k1_pay2 (k1_pay3 (layer1 V c) (iblk V c 3 t) (iblk V c 4 t) (iblk V c 5 t) (iblk V c 6 t) (iblk V c 7 t) (iblk V c 8 t) (iblk V c 9 t) (iblk V c 10 t))
    (Scalar.ofBits .f32 0x3F800000#32) k1_pay4

/-- Between the points: the scratch has the columns of the points so far. -/
def PhiS (c : Dev nD) (n : ℕ) : sProp 𝕄 :=
  iprop((∃ s, ⌜Filled V c n s⌝ ∗ owns (c : Thread nD τ) scM0_0 fullShare s) ∗ Others c)

/-! ## The pipeline's proof data -/

/-- The proof data of the one pipeline on core `c`: the arrays as the region finds them (`V`); after the body at
    point `t` each input's buffer at its block and the output's at `result`; the invariant `PhiS`; nothing owed; full shares. -/
def dats (_ : Fin 1) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => result V c t
  Φ k := PhiS V c k.val
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats V 0 c).A w = V c (Pipeline.arrRef spec1 w) := by
  dsimp only [dats]

/-- What the body leaves, window by window (the proof data's `match` reduced by `dsimp`). -/
theorem after0_0 (c : Dev nD) (t : Fin cfg1.N) : (dats V 0 c).after 0 t = iblk V c 0 t := by dsimp only [dats]
theorem after0_1 (c : Dev nD) (t : Fin cfg1.N) : (dats V 0 c).after 1 t = iblk V c 1 t := by dsimp only [dats]
theorem after0_2 (c : Dev nD) (t : Fin cfg1.N) : (dats V 0 c).after 2 t = iblk V c 2 t := by dsimp only [dats]
theorem after0_3 (c : Dev nD) (t : Fin cfg1.N) : (dats V 0 c).after 3 t = iblk V c 3 t := by dsimp only [dats]
theorem after0_4 (c : Dev nD) (t : Fin cfg1.N) : (dats V 0 c).after 4 t = iblk V c 4 t := by dsimp only [dats]
theorem after0_5 (c : Dev nD) (t : Fin cfg1.N) : (dats V 0 c).after 5 t = iblk V c 5 t := by dsimp only [dats]
theorem after0_6 (c : Dev nD) (t : Fin cfg1.N) : (dats V 0 c).after 6 t = iblk V c 6 t := by dsimp only [dats]
theorem after0_7 (c : Dev nD) (t : Fin cfg1.N) : (dats V 0 c).after 7 t = iblk V c 7 t := by dsimp only [dats]
theorem after0_8 (c : Dev nD) (t : Fin cfg1.N) : (dats V 0 c).after 8 t = iblk V c 8 t := by dsimp only [dats]
theorem after0_9 (c : Dev nD) (t : Fin cfg1.N) : (dats V 0 c).after 9 t = iblk V c 9 t := by dsimp only [dats]
theorem after0_10 (c : Dev nD) (t : Fin cfg1.N) : (dats V 0 c).after 10 t = iblk V c 10 t := by dsimp only [dats]
theorem after0_11 (c : Dev nD) (t : Fin cfg1.N) : (dats V 0 c).after 11 t = result V c t := by dsimp only [dats]

/-- Each input's current staging buffer holds its block at every point, fetched there or not (`beforeK_W_of`). -/
theorem before0_0 (c : Dev nD) (t : Fin cfg1.N) (d) : (dats V 0 c).before 0 t d = iblk V c 0 t :=
  before0_0_of V (dats V 0 c) (A_eq V c 0) (after0_0 V c) t d
theorem before0_1 (c : Dev nD) (t : Fin cfg1.N) (d) : (dats V 0 c).before 1 t d = iblk V c 1 t :=
  before0_1_of V (dats V 0 c) (A_eq V c 1) (after0_1 V c) t d
theorem before0_2 (c : Dev nD) (t : Fin cfg1.N) (d) : (dats V 0 c).before 2 t d = iblk V c 2 t :=
  before0_2_of V (dats V 0 c) (A_eq V c 2) (after0_2 V c) t d
theorem before0_3 (c : Dev nD) (t : Fin cfg1.N) (d) : (dats V 0 c).before 3 t d = iblk V c 3 t :=
  before0_3_of V (dats V 0 c) (A_eq V c 3) (after0_3 V c) t d
theorem before0_4 (c : Dev nD) (t : Fin cfg1.N) (d) : (dats V 0 c).before 4 t d = iblk V c 4 t :=
  before0_4_of V (dats V 0 c) (A_eq V c 4) (after0_4 V c) t d
theorem before0_5 (c : Dev nD) (t : Fin cfg1.N) (d) : (dats V 0 c).before 5 t d = iblk V c 5 t :=
  before0_5_of V (dats V 0 c) (A_eq V c 5) (after0_5 V c) t d
theorem before0_6 (c : Dev nD) (t : Fin cfg1.N) (d) : (dats V 0 c).before 6 t d = iblk V c 6 t :=
  before0_6_of V (dats V 0 c) (A_eq V c 6) (after0_6 V c) t d
theorem before0_7 (c : Dev nD) (t : Fin cfg1.N) (d) : (dats V 0 c).before 7 t d = iblk V c 7 t :=
  before0_7_of V (dats V 0 c) (A_eq V c 7) (after0_7 V c) t d
theorem before0_8 (c : Dev nD) (t : Fin cfg1.N) (d) : (dats V 0 c).before 8 t d = iblk V c 8 t :=
  before0_8_of V (dats V 0 c) (A_eq V c 8) (after0_8 V c) t d
theorem before0_9 (c : Dev nD) (t : Fin cfg1.N) (d) : (dats V 0 c).before 9 t d = iblk V c 9 t :=
  before0_9_of V (dats V 0 c) (A_eq V c 9) (after0_9 V c) t d
theorem before0_10 (c : Dev nD) (t : Fin cfg1.N) (d) : (dats V 0 c).before 10 t d = iblk V c 10 t :=
  before0_10_of V (dats V 0 c) (A_eq V c 10) (after0_10 V c) t d

/-! ## The body obligation, at a generic point -/

/-- What the body is called with at point `t` (Lib/Pipeline.lean `BodyObligation`'s precondition, the windows one by one), -/
def bodyPre (c : Dev nD) (t : Fin cfg1.N) : sProp 𝕄 :=
  iprop((dats V 0 c).Φ t.castSucc ∗ (dats V 0 c).owesAt () t.castSucc
    ∗ (∃ d, owns (c : Thread nD τ) (ms1_0 t) fullShare ((dats V 0 c).before 0 t d))
    ∗ (∃ d, owns (c : Thread nD τ) (ms1_1 t) fullShare ((dats V 0 c).before 1 t d))
    ∗ (∃ d, owns (c : Thread nD τ) (ms1_2 t) fullShare ((dats V 0 c).before 2 t d))
    ∗ (∃ d, owns (c : Thread nD τ) (ms1_3 t) fullShare ((dats V 0 c).before 3 t d))
    ∗ (∃ d, owns (c : Thread nD τ) (ms1_4 t) fullShare ((dats V 0 c).before 4 t d))
    ∗ (∃ d, owns (c : Thread nD τ) (ms1_5 t) fullShare ((dats V 0 c).before 5 t d))
    ∗ (∃ d, owns (c : Thread nD τ) (ms1_6 t) fullShare ((dats V 0 c).before 6 t d))
    ∗ (∃ d, owns (c : Thread nD τ) (ms1_7 t) fullShare ((dats V 0 c).before 7 t d))
    ∗ (∃ d, owns (c : Thread nD τ) (ms1_8 t) fullShare ((dats V 0 c).before 8 t d))
    ∗ (∃ d, owns (c : Thread nD τ) (ms1_9 t) fullShare ((dats V 0 c).before 9 t d))
    ∗ (∃ d, owns (c : Thread nD τ) (ms1_10 t) fullShare ((dats V 0 c).before 10 t d))
    ∗ (∃ d, owns (c : Thread nD τ) (ms1_11 t) fullShare ((dats V 0 c).before 11 t d)))

/-- and what it returns. -/
def bodyPost (c : Dev nD) (t : Fin cfg1.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t
    ∗ (dats V 0 c).leavesExact 7 t
    ∗ (dats V 0 c).leavesExact 8 t
    ∗ (dats V 0 c).leavesExact 9 t
    ∗ (dats V 0 c).leavesExact 10 t
    ∗ (dats V 0 c).leavesExact 11 t)

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6, before0_7, before0_8, before0_9, before0_10]
  rw [show (dats V 0 c).owesAt () t.succ = (dats V 0 c).owesAt () t.castSucc from rfl,
    show (dats V 0 c).Φ t.castSucc = PhiS V c t.val from rfl, show (dats V 0 c).Φ t.succ = PhiS V c (t.val + 1) from rfl]
  unfold PhiS
  have hN : t.val < 8 := lt_of_lt_of_eq t.isLt (show cfg1.N = 8 from N_1)
  by_cases h0 : t.val % 8 = 7
  · rw [show (dats V 0 c).leavesExact 0 t = owns (c : Thread nD τ) (ms1_0 t) fullShare ((dats V 0 c).after 0 t) from by
      unfold Dat.leavesExact; rw [liveAt0_0 t], after0_0]
    rw [show (dats V 0 c).leavesExact 1 t = owns (c : Thread nD τ) (ms1_1 t) fullShare ((dats V 0 c).after 1 t) from by
      unfold Dat.leavesExact; rw [liveAt0_1 t], after0_1]
    rw [show (dats V 0 c).leavesExact 2 t = owns (c : Thread nD τ) (ms1_2 t) fullShare ((dats V 0 c).after 2 t) from by
      unfold Dat.leavesExact; rw [liveAt0_2 t], after0_2]
    rw [show (dats V 0 c).leavesExact 3 t = owns (c : Thread nD τ) (ms1_3 t) fullShare ((dats V 0 c).after 3 t) from by
      unfold Dat.leavesExact; rw [liveAt0_3 t], after0_3]
    rw [show (dats V 0 c).leavesExact 4 t = owns (c : Thread nD τ) (ms1_4 t) fullShare ((dats V 0 c).after 4 t) from by
      unfold Dat.leavesExact; rw [liveAt0_4 t], after0_4]
    rw [show (dats V 0 c).leavesExact 5 t = owns (c : Thread nD τ) (ms1_5 t) fullShare ((dats V 0 c).after 5 t) from by
      unfold Dat.leavesExact; rw [liveAt0_5 t], after0_5]
    rw [show (dats V 0 c).leavesExact 6 t = owns (c : Thread nD τ) (ms1_6 t) fullShare ((dats V 0 c).after 6 t) from by
      unfold Dat.leavesExact; rw [liveAt0_6 t], after0_6]
    rw [show (dats V 0 c).leavesExact 7 t = owns (c : Thread nD τ) (ms1_7 t) fullShare ((dats V 0 c).after 7 t) from by
      unfold Dat.leavesExact; rw [liveAt0_7 t], after0_7]
    rw [show (dats V 0 c).leavesExact 8 t = owns (c : Thread nD τ) (ms1_8 t) fullShare ((dats V 0 c).after 8 t) from by
      unfold Dat.leavesExact; rw [liveAt0_8 t], after0_8]
    rw [show (dats V 0 c).leavesExact 9 t = owns (c : Thread nD τ) (ms1_9 t) fullShare ((dats V 0 c).after 9 t) from by
      unfold Dat.leavesExact; rw [liveAt0_9 t], after0_9]
    rw [show (dats V 0 c).leavesExact 10 t = owns (c : Thread nD τ) (ms1_10 t) fullShare ((dats V 0 c).after 10 t) from by
      unfold Dat.leavesExact; rw [liveAt0_10 t], after0_10]
    rw [show (dats V 0 c).leavesExact 11 t = owns (c : Thread nD τ) (ms1_11 t) fullShare ((dats V 0 c).after 11 t) from by
      unfold Dat.leavesExact; rw [liveAt0_11_B t ((hcond0_0 t).mpr h0)], after0_11]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid1.coords t) _ _ _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t) (iblk V c 8 t) (iblk V c 9 t) (iblk V c 10 t) s).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    iintro ⟨H0, H1, H2, H3, H4, H5, H6, H7, H8, H9, H10, ⟨%e11, H11⟩, HS0⟩
    isplitl [HS0 Hg]
    · isplitl [HS0]
      · iexists _; isplitr
        swap
        · unfold owns; iexists _; isplitr
          swap; · iexact HS0
          ipureintro; exact scratchB c _ _ _ _ _ _ _ _ _ _ _ _ _ _ _ _ _ _ _ _ _ _ _ _ _ _ _ _ _ _ _ _ _ _ _ _ _ _ _ _
        ipureintro; exact filled_put V c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; refine (resultB c _ _ _ _ _ _ _ _ _ _ _ _ _ _ _ _ _ _ _ _ _ _ _ _ _ _ _ _ _ _ _ _ _ _ _ _ _ _ _ _ _).trans ?_
    exact congrArg (fun z => k1_pay2 (k1_pay3 z (iblk V c 3 t) (iblk V c 4 t) (iblk V c 5 t) (iblk V c 6 t) (iblk V c 7 t) (iblk V c 8 t)
      (iblk V c 9 t) (iblk V c 10 t)) (Scalar.ofBits .f32 0x3F800000#32) k1_pay4)
      (filled_all V c _ (show Filled V c 8 _ from (show t.val + 1 = 8 by omega) ▸ filled_put V c t s hs))
  · rw [show (dats V 0 c).leavesExact 0 t = owns (c : Thread nD τ) (ms1_0 t) fullShare ((dats V 0 c).after 0 t) from by
      unfold Dat.leavesExact; rw [liveAt0_0 t], after0_0]
    rw [show (dats V 0 c).leavesExact 1 t = owns (c : Thread nD τ) (ms1_1 t) fullShare ((dats V 0 c).after 1 t) from by
      unfold Dat.leavesExact; rw [liveAt0_1 t], after0_1]
    rw [show (dats V 0 c).leavesExact 2 t = owns (c : Thread nD τ) (ms1_2 t) fullShare ((dats V 0 c).after 2 t) from by
      unfold Dat.leavesExact; rw [liveAt0_2 t], after0_2]
    rw [show (dats V 0 c).leavesExact 3 t = owns (c : Thread nD τ) (ms1_3 t) fullShare ((dats V 0 c).after 3 t) from by
      unfold Dat.leavesExact; rw [liveAt0_3 t], after0_3]
    rw [show (dats V 0 c).leavesExact 4 t = owns (c : Thread nD τ) (ms1_4 t) fullShare ((dats V 0 c).after 4 t) from by
      unfold Dat.leavesExact; rw [liveAt0_4 t], after0_4]
    rw [show (dats V 0 c).leavesExact 5 t = owns (c : Thread nD τ) (ms1_5 t) fullShare ((dats V 0 c).after 5 t) from by
      unfold Dat.leavesExact; rw [liveAt0_5 t], after0_5]
    rw [show (dats V 0 c).leavesExact 6 t = owns (c : Thread nD τ) (ms1_6 t) fullShare ((dats V 0 c).after 6 t) from by
      unfold Dat.leavesExact; rw [liveAt0_6 t], after0_6]
    rw [show (dats V 0 c).leavesExact 7 t = owns (c : Thread nD τ) (ms1_7 t) fullShare ((dats V 0 c).after 7 t) from by
      unfold Dat.leavesExact; rw [liveAt0_7 t], after0_7]
    rw [show (dats V 0 c).leavesExact 8 t = owns (c : Thread nD τ) (ms1_8 t) fullShare ((dats V 0 c).after 8 t) from by
      unfold Dat.leavesExact; rw [liveAt0_8 t], after0_8]
    rw [show (dats V 0 c).leavesExact 9 t = owns (c : Thread nD τ) (ms1_9 t) fullShare ((dats V 0 c).after 9 t) from by
      unfold Dat.leavesExact; rw [liveAt0_9 t], after0_9]
    rw [show (dats V 0 c).leavesExact 10 t = owns (c : Thread nD τ) (ms1_10 t) fullShare ((dats V 0 c).after 10 t) from by
      unfold Dat.leavesExact; rw [liveAt0_10 t], after0_10]
    rw [Dat.leavesExact_idle (dats V 0 c) 11 t (idleAt0_11_A t (fun h => h0 ((hcond0_0 t).mp h))) (noFlush0_11_A t (fun h => h0 ((hcond0_0 t).mp h)))]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid1.coords t) _ _ _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) s).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 Hg]
    · isplitl [HS0]
      · iexists _; isplitr
        swap
        · unfold owns; iexists _; isplitr
          swap; · iexact HS0
          ipureintro; exact scratchA c _ _ _ _ _ _ _ _ _ _ _ _ _ _ _ _ _ _ _ _ _ _ _ _ _ _ _ _ _ _ _ _ _ _ _ _ _ _ _ _
        ipureintro; exact filled_put V c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) V 0 c) (defs₀ (F := F)) Variants.none () Set.univ := fun t => by
  rw [bigSep_W1, bigSep_W1, defs₀_row]
  exact triple_restated (sound_body V c t) rfl .rfl fun _ => .rfl

/-- At the first point nothing is asked of the scratch. -/
theorem hin (c : Dev nD) : Pipeline.ΦA spec1 c ⊢ (dats V 0 c).Φ 0 := by
  rw [show (dats V 0 c).Φ 0 = PhiS V c 0 from rfl, PhiA0_eq]
  unfold PhiS
  iintro ⟨⟨%s, HS⟩, Hg⟩
  isplitl [HS]
  · iexists s; isplitr
    · ipureintro; exact fun y hy => absurd hy (Nat.not_lt_zero _)
    iexact HS
  iexact Hg

/-- After the last point what the scratch holds is forgotten. -/
theorem hout (c : Dev nD) : (dats V 0 c).Φ (Fin.last cfg1.N) ⊢ Pipeline.ΦA spec1 c := by
  rw [show (dats V 0 c).Φ (Fin.last cfg1.N) = PhiS V c cfg1.N from rfl, PhiA0_eq]
  unfold PhiS
  iintro ⟨⟨%s, -, HS⟩, Hg⟩
  isplitl [HS]
  · iexists s; iexact HS
  iexact Hg

end Cert.WholeFc

end
-- ==== Proof.WholeCube.lean ====
/-
  The third region of the whole kernel, the disk pictures: what its body computes, and that it leaves its buffers so.
-/
module

public import proofs.«01_k».proof.Proof.Gen.WholeIdeal.Launch
public import proofs.«01_k».proof.Proof.Gen.WholeIdeal.Points
public import proofs.«01_k».proof.Proof.Gen.WholeIdeal.Skeleton
public import Idealize.ShloMosaic.Lib.Claim
public import Idealize.ShloMosaic.Lib.Pipeline.FrameBody
public import Idealize.ShloMosaic.Lib.Tactic

@[expose] public section

set_option maxRecDepth 16384

noncomputable section

namespace Cert.WholeCube

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x1x8 := Rect.unit (s := S1x1x8) ![0, 0, 0] S1x1x1.size inb_S1x1x8_S1x1x1_0_0_0
abbrev r0_1 : Rect S1x1x8 := Rect.unit (s := S1x1x8) ![0, 0, 1] S1x1x1.size inb_S1x1x8_S1x1x1_0_0_1
abbrev r0_2 : Rect S1x1x8 := Rect.unit (s := S1x1x8) ![0, 0, 2] S1x1x1.size inb_S1x1x8_S1x1x1_0_0_2
abbrev r0_3 : Rect S1x1x8 := Rect.unit (s := S1x1x8) ![0, 0, 3] S1x1x1.size inb_S1x1x8_S1x1x1_0_0_3
abbrev r0_4 : Rect S1x1x8 := Rect.unit (s := S1x1x8) ![0, 0, 4] S1x1x1.size inb_S1x1x8_S1x1x1_0_0_4
abbrev r0_5 : Rect S1x1x8 := Rect.unit (s := S1x1x8) ![0, 0, 5] S1x1x1.size inb_S1x1x8_S1x1x1_0_0_5
abbrev r0_6 : Rect S1x1x8 := Rect.unit (s := S1x1x8) ![0, 0, 6] S1x1x1.size inb_S1x1x8_S1x1x1_0_0_6
abbrev r0_7 : Rect S32x128 := Rect.unit (s := S32x128) ![0, 0] S32x128.size inb_S32x128_S32x128_0_0
abbrev r0_8 : Rect S1x32x128 := Rect.unit (s := S1x32x128) ![0, 0, 0] S1x32x128.size inb_S1x32x128_S1x32x128_0_0_0
abbrev r0_9 : Rect S1x121x32x128 := Rect.unit (s := S1x121x32x128) ![0, 0, 0, 0] S1x121x32x128.size inb_S1x121x32x128_S1x121x32x128_0_0_0_0

/-! ## What the body leaves in each output window's buffer -/

/-! ### Values of the body that the stores' payloads, spelt out, would write more than once

    Each is a vector the body binds (often a part call's result), stated over the input windows' blocks and
    numbered on from the skeleton's payload functions (`k2_pay23` …, after `k2_pay22`), so that
    `out0_W` and the values after it name it instead of spelling it out (`unfold_out out0_W` opens a canon
    with them, `unfold_payloads` opens them with the payloads); the comment after each is the printed function's
    name for the value (a count appended where that name is bound again). -/

def k2_pay23 (x0 : Vec F S1x1x8 .f32) (x1 : Vec F S32x128 .f32) (x2 : Vec F S32x128 .f32) : FVec F S32x128 .f32 :=
  k2_pay10 (View.ld x0 r0_0) (View.ld x0 r0_1) (View.ld x1 r0_7) (View.ld x2 r0_7) -- `v22`
def k2_pay24 (x0 : Vec F S1x1x8 .f32) (x1 : Vec F S32x128 .f32) (x2 : Vec F S32x128 .f32) : FVec F S32x128 .f32 :=
  k2_pay11 (View.ld x0 r0_0) (View.ld x0 r0_1) (View.ld x0 r0_2) (View.ld x1 r0_7) (View.ld x2 r0_7) -- `v30`
def k2_pay25 (x0 : Vec F S1x1x8 .f32) (x1 : Vec F S32x128 .f32) (x2 : Vec F S32x128 .f32) : FVec F S32x128 .f32 :=
  k2_pay12 (View.ld x0 r0_0) (View.ld x0 r0_1) (View.ld x1 r0_7) (View.ld x2 r0_7) -- `v31`
def k2_pay26 (x0 : Vec F S1x1x8 .f32) (x1 : Vec F S32x128 .f32) (x2 : Vec F S32x128 .f32) : FVec F S32x128 .f32 :=
  k2_pay13 (View.ld x0 r0_0) (View.ld x0 r0_1) (View.ld x0 r0_2) (View.ld x1 r0_7) (View.ld x2 r0_7) -- `v32`
def k2_pay27 (x0 : Vec F S1x1x8 .f32) (x1 : Vec F S32x128 .f32) (x2 : Vec F S32x128 .f32) : FVec F S32x128 .f32 :=
  k2_pay14 (k2_pay25 x0 x1 x2) (k2_pay26 x0 x1 x2) -- `v34`
def k2_pay28 (x0 : Vec F S1x1x8 .f32) (x1 : Vec F S32x128 .f32) (x2 : Vec F S32x128 .f32) : FVec F S32x128 .f32 :=
  k2_pay17 (k2_pay6 (View.ld x0 r0_5)) (k2_pay25 x0 x1 x2) (k2_pay26 x0 x1 x2) -- `v42`
def k2_pay29 (x0 : Vec F S1x1x8 .f32) (x1 : Vec F S32x128 .f32) (x2 : Vec F S32x128 .f32) : FVec F S32x128 .f32 :=
  k2_pay18 (k2_pay6 (View.ld x0 r0_5)) (k2_pay25 x0 x1 x2) (k2_pay26 x0 x1 x2) -- `v44`
def k2_pay30 (x0 : Vec F S1x1x8 .f32) (x1 : Vec F S32x128 .f32) (x2 : Vec F S32x128 .f32) : FVec F S32x128 .f32 :=
  k2_pay19 (k2_pay6 (View.ld x0 r0_5)) (k2_pay25 x0 x1 x2) (k2_pay26 x0 x1 x2) -- `v78`

/-- Window 3's staging buffer after the body, from the input windows' blocks: its 1 store as pieces, LAST
    FIRST (Lib/Pipeline/FrameBody.lean `View.canon`; the payloads are the skeleton's and the values stated above). -/
def out0_3 (x0 : Vec F S1x1x8 .f32) (x1 : Vec F S32x128 .f32) (x2 : Vec F S32x128 .f32) : Vec F S1x121x32x128 .f32 :=
  View.canon [⟨r0_9, k2_pay1 (k2_pay22 (k2_pay2 (View.ld x0 r0_0)) (k2_pay3 (View.ld x0 r0_1)) (k2_pay4 (View.ld x0 r0_3)) (k2_pay23 x0 x1 x2) (k2_pay24 x0 x1 x2) (k2_pay27 x0 x1 x2) (k2_pay15 (k2_pay5 (View.ld x0 r0_4)) (k2_pay25 x0 x1 x2) (k2_pay26 x0 x1 x2)) (k2_pay16 (k2_pay7 (View.ld x0 r0_6))) (k2_pay28 x0 x1 x2) (k2_pay29 x0 x1 x2) (k2_pay30 x0 x1 x2) (Scalar.ofBits .f32 0x00000000#32))⟩]

/-- Its stores tile the buffer (checked by evaluation), so they cover it. -/
theorem cover0_3 (p0 : Vec F S1x121x32x128 .f32) (y : S1x121x32x128.Idx) :
    ∃ pc ∈ ([⟨r0_9, p0⟩] : List (View.Piece (Elt F) S1x121x32x128 .f32)), y ∈ pc.1.set :=
  View.cover_of_tiled [⟨r0_9, p0⟩] S1x121x32x128.size (by rfl) y

/-- Window 4's staging buffer after the body, from the input windows' blocks: its 1 store as pieces, LAST
    FIRST (Lib/Pipeline/FrameBody.lean `View.canon`; the payloads are the skeleton's and the values stated above). -/
def out0_4 (x0 : Vec F S1x1x8 .f32) (x1 : Vec F S32x128 .f32) (x2 : Vec F S32x128 .f32) : Vec F S1x32x128 .f32 :=
  View.canon [⟨r0_8, k2_pay21 (k2_pay2 (View.ld x0 r0_0)) (k2_pay3 (View.ld x0 r0_1)) (k2_pay4 (View.ld x0 r0_3)) (k2_pay23 x0 x1 x2) (k2_pay24 x0 x1 x2) (k2_pay27 x0 x1 x2) (k2_pay16 (k2_pay7 (View.ld x0 r0_6))) (k2_pay28 x0 x1 x2) (k2_pay29 x0 x1 x2) (k2_pay30 x0 x1 x2) (Scalar.ofBits .f32 0x00000000#32)⟩]

/-- Its stores tile the buffer (checked by evaluation), so they cover it. -/
theorem cover0_4 (p0 : Vec F S1x32x128 .f32) (y : S1x32x128.Idx) :
    ∃ pc ∈ ([⟨r0_8, p0⟩] : List (View.Piece (Elt F) S1x32x128 .f32)), y ∈ pc.1.set :=
  View.cover_of_tiled [⟨r0_8, p0⟩] S1x32x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid2.Coords) (arg1 : Memref sig .tc .vmem S1x1x8 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S1x121x32x128 .f32) (harg4 : arg4.IsWhole) (arg5 : Memref sig .tc .vmem S1x32x128 .f32) (harg5 : arg5.IsWhole)
    (x0 : Vec F S1x1x8 .f32) (x1 : Vec F S32x128 .f32) (x2 : Vec F S32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc2_cae_cube i arg1 harg1 arg2 harg2 arg3 harg3 arg4 harg4 arg5 harg5) K := by
  simp only [cc2_cae_cube_eq_skeleton]; unfold cc2_cae_cube_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out0_3 (iblk V c 0 t) (iblk V c 1 t) (iblk V c 2 t)
    | ⟨4, _⟩ => out0_4 (iblk V c 0 t) (iblk V c 1 t) (iblk V c 2 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dats V 0 c).A w = V c (Pipeline.arrRef spec2 w) := by
  dsimp only [dats]

/-- What the body leaves, window by window (the proof data's `match` reduced by `dsimp`, never `rfl`: Lib/Pipeline.lean `Dat`). -/
theorem after0_0 (c : Dev nD) (t : Fin cfg2.N) : (dats V 0 c).after 0 t = iblk V c 0 t := by dsimp only [dats]
theorem after0_1 (c : Dev nD) (t : Fin cfg2.N) : (dats V 0 c).after 1 t = iblk V c 1 t := by dsimp only [dats]
theorem after0_2 (c : Dev nD) (t : Fin cfg2.N) : (dats V 0 c).after 2 t = iblk V c 2 t := by dsimp only [dats]
theorem after0_3 (c : Dev nD) (t : Fin cfg2.N) : (dats V 0 c).after 3 t = out0_3 (iblk V c 0 t) (iblk V c 1 t) (iblk V c 2 t) := by dsimp only [dats]
theorem after0_4 (c : Dev nD) (t : Fin cfg2.N) : (dats V 0 c).after 4 t = out0_4 (iblk V c 0 t) (iblk V c 1 t) (iblk V c 2 t) := by dsimp only [dats]

/-- Each input's current staging buffer holds its block at every point, fetched there or not (`beforeK_W_of`). -/
theorem before0_0 (c : Dev nD) (t : Fin cfg2.N) (d) : (dats V 0 c).before 0 t d = iblk V c 0 t :=
  before0_0_of V (dats V 0 c) (A_eq V c 0) (after0_0 V c) t d
theorem before0_1 (c : Dev nD) (t : Fin cfg2.N) (d) : (dats V 0 c).before 1 t d = iblk V c 1 t :=
  before0_1_of V (dats V 0 c) (A_eq V c 1) (after0_1 V c) t d
theorem before0_2 (c : Dev nD) (t : Fin cfg2.N) (d) : (dats V 0 c).before 2 t d = iblk V c 2 t :=
  before0_2_of V (dats V 0 c) (A_eq V c 2) (after0_2 V c) t d

/-! ## The body obligation, at a generic point -/

/-- What the body is called with at point `t` (Lib/Pipeline.lean `BodyObligation`'s precondition, the windows one by one), -/
def bodyPre (c : Dev nD) (t : Fin cfg2.N) : sProp 𝕄 :=
  iprop((dats V 0 c).Φ t.castSucc ∗ (dats V 0 c).owesAt () t.castSucc
    ∗ (∃ d, owns (c : Thread nD τ) (st2_0 t) fullShare ((dats V 0 c).before 0 t d))
    ∗ (∃ d, owns (c : Thread nD τ) (st2_1 t) fullShare ((dats V 0 c).before 1 t d))
    ∗ (∃ d, owns (c : Thread nD τ) (st2_2 t) fullShare ((dats V 0 c).before 2 t d))
    ∗ (∃ d, owns (c : Thread nD τ) (st2_3 t) fullShare ((dats V 0 c).before 3 t d))
    ∗ (∃ d, owns (c : Thread nD τ) (st2_4 t) fullShare ((dats V 0 c).before 4 t d)))

/-- and what it returns. -/
def bodyPost (c : Dev nD) (t : Fin cfg2.N) : sProp 𝕄 :=
  iprop((dats V 0 c).Φ t.succ ∗ (dats V 0 c).owesAt () t.succ
    ∗ owns (c : Thread nD τ) (st2_0 t) fullShare ((dats V 0 c).after 0 t)
    ∗ owns (c : Thread nD τ) (st2_1 t) fullShare ((dats V 0 c).after 1 t)
    ∗ owns (c : Thread nD τ) (st2_2 t) fullShare ((dats V 0 c).after 2 t)
    ∗ owns (c : Thread nD τ) (st2_3 t) fullShare ((dats V 0 c).after 3 t)
    ∗ owns (c : Thread nD τ) (st2_4 t) fullShare ((dats V 0 c).after 4 t))

/-- The body at any point: the inputs' memrefs hold their blocks (`before0_W`), so `sound_kernel` applies; the invariant and
    the core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2]
  rw [show (dats V 0 c).Φ t.succ = (dats V 0 c).Φ t.castSucc from rfl,
    show (dats V 0 c).owesAt () t.succ = (dats V 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dats (F := F) V 0 c) (defs₀ (F := F)) Variants.none () Set.univ := fun t => by
  rw [bigSep_W2, bigSep_W2, defs₀_row]
  exact triple_restated (sound_body V c t) rfl .rfl fun _ => .rfl

end Cert.WholeCube

end
-- ==== Proof.WholeRun.lean ====
/-
  The whole kernel's run: its three regions in the order the program enters them, each between the host operations around
  it. What every region leaves is named by its proof data; the run ends with every buffer of the program holding what the
  last host operations leave.
-/
module

public import proofs.«01_k».proof.Proof.WholeEnc
public import proofs.«01_k».proof.Proof.WholeFc
public import proofs.«01_k».proof.Proof.WholeCube
public import proofs.«01_k».proof.Proof.Gen.WholeIdeal.Regions
public import Idealize.ShloMosaic.Lib.Pipeline.RegionArraysS

@[expose] public section

set_option maxRecDepth 16384

noncomputable section

namespace Cert.WholeRun

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the regions leave -/

/-- The first region's proof data, entered at what the first host operations leave. -/
def dat0 (c : Dev nD) : Dat τ (Elt F) Unit ℕ (UR sig nD τ) ℕ cfg0 c := WholeEnc.dats (fun c b => V1 m c b) 0 c
/-- Core `c`'s buffers after the first region. -/
def X0 (c : Dev nD) : Valuation τ sig (Elt F) := Pipeline.afterRegion (dat0 m c) (V1 m c)
/-- What the first region leaves. -/
def outsA : Outs (F := F) := fun _ r c => X0 m c r
/-- The second region's proof data, entered at what the host operations after the first region leave. -/
def dat1 (c : Dev nD) : Dat τ (Elt F) Unit ℕ (UR sig nD τ) ℕ cfg1 c := WholeFc.dats (fun c b => V7 m (outsA m) c b) 0 c
/-- Core `c`'s buffers after the second region. -/
def X1 (c : Dev nD) : Valuation τ sig (Elt F) := Pipeline.afterRegion (dat1 m c) (V7 m (outsA m) c)
/-- What the first two regions leave. -/
def outsB : Outs (F := F) := fun n r c => match n with | 2 => X0 m c r | _ => X1 m c r
/-- The third region's proof data, entered at what the host operations after the second region leave. -/
def dat2 (c : Dev nD) : Dat τ (Elt F) Unit ℕ (UR sig nD τ) ℕ cfg2 c := WholeCube.dats (fun c b => V9 m (outsB m) c b) 0 c
/-- Core `c`'s buffers after the third region. -/
def X2 (c : Dev nD) : Valuation τ sig (Elt F) := Pipeline.afterRegion (dat2 m c) (V9 m (outsB m) c)
/-- What the three regions leave. -/
def outs : Outs (F := F) := fun n r c => match n with | 2 => X0 m c r | 8 => X1 m c r | _ => X2 m c r

theorem V7_outs (c : Dev nD) : V7 m (outs m) c = V7 m (outsA m) c := rfl
theorem V9_outs (c : Dev nD) : V9 m (outs m) c = V9 m (outsB m) c := rfl

/-- The three regions' proof data. -/
def pdats : (p : Fin 3) → (c : Dev nD) → Dat τ (Elt F) Unit ℕ (UR sig nD τ) ℕ (cfgs p) c
  | ⟨0, _⟩ => dat0 m
  | ⟨1, _⟩ => dat1 m
  | ⟨2, _⟩ => dat2 m

/-- Every buffer between two items is a TensorCore reference's. -/
theorem mem_ucRefs {b : DevRef τ sig} (hb : b ∈ Pipeline.ucRefs τ sig) : ∃ r : Ref sig .tc, b = Proc.devRef .tc r := by
  have h := (Finset.mem_filter.mp hb).1
  unfold StableHlo.tcRefs at h
  obtain ⟨r, -, hr⟩ := Finset.mem_map.mp h
  exact ⟨r, hr.symm⟩

/-- After the first region only its output array differs. -/
theorem X0_eq (c : Dev nD) (b : DevRef τ sig) (hb : b ∈ Pipeline.ucRefs τ sig) : X0 m c b = V2 m (outs m) c b := by
  obtain ⟨r, rfl⟩ := mem_ucRefs hb
  by_cases h : r = main_v10
  · subst h; exact (Function.update_self (β := fun b : DevRef τ sig => b.ty.Contents (Elt F)) _ _ _).symm
  · refine Eq.trans ?_ (V2_of m (outs m) c r (by simpa using h)).symm
    exact Pipeline.afterRegion_keeps (dat0 m c) (V1 m c) launch0.win.arr_inj (fun w => WholeEnc.A_eq _ c w) r
      (fun w e => by
        by_contra ho
        exact h (e.symm.trans ((by decide : ∀ w : Fin cfg0.W, ¬ (cfg0.win w).isOut = false → Pipeline.arrRef spec0 w = main_v10) w ho)))

/-- After the second region only its output array differs. -/
theorem X1_eq (c : Dev nD) (b : DevRef τ sig) (hb : b ∈ Pipeline.ucRefs τ sig) : X1 m c b = V8 m (outs m) c b := by
  obtain ⟨r, rfl⟩ := mem_ucRefs hb
  by_cases h : r = main_v19
  · subst h; exact (Function.update_self (β := fun b : DevRef τ sig => b.ty.Contents (Elt F)) _ _ _).symm
  · refine Eq.trans ?_ (V8_of m (outs m) c r (by simpa using h)).symm
    exact Pipeline.afterRegion_keeps (dat1 m c) (V7 m (outsA m) c) launch1.win.arr_inj (fun w => WholeFc.A_eq _ c w) r
      (fun w e => by
        by_contra ho
        exact h (e.symm.trans ((by decide : ∀ w : Fin cfg1.W, ¬ (cfg1.win w).isOut = false → Pipeline.arrRef spec1 w = main_v19) w ho)))

/-- After the third region only its two output arrays differ. -/
theorem X2_eq (c : Dev nD) (b : DevRef τ sig) (hb : b ∈ Pipeline.ucRefs τ sig) : X2 m c b = V10 m (outs m) c b := by
  obtain ⟨r, rfl⟩ := mem_ucRefs hb
  by_cases h : r = main_v52_1
  · subst h; exact (Function.update_self (β := fun b : DevRef τ sig => b.ty.Contents (Elt F)) _ _ _).symm
  by_cases h' : r = main_v52_0
  · subst h'
    unfold V10
    rw [Function.update_of_ne (StableHlo.devRef_ne_of_ne h : (Proc.devRef .tc main_v52_0 : DevRef τ sig) ≠ Proc.devRef .tc main_v52_1)]
    exact (Function.update_self (β := fun b : DevRef τ sig => b.ty.Contents (Elt F)) _ _ _).symm
  refine Eq.trans ?_ (V10_of m (outs m) c r (by simp [h, h'])).symm
  exact Pipeline.afterRegion_keeps (dat2 m c) (V9 m (outsB m) c) launch2.win.arr_inj (fun w => WholeCube.A_eq _ c w) r
    (fun w e => by
      by_contra ho
      rcases (by decide : ∀ w : Fin cfg2.W, ¬ (cfg2.win w).isOut = false
          → Pipeline.arrRef spec2 w = main_v52_0 ∨ Pipeline.arrRef spec2 w = main_v52_1) w ho with h0 | h1
      · exact h' (e.symm.trans h0)
      · exact h (e.symm.trans h1))

/-! ## The launch's levels and rest -/

/-- One index on every TensorCore's cells, none elsewhere. -/
def Lv (g : GSem nD τ sig) : Finset Unit := if g.1.2 = .tc then {()} else ∅
/-- Every level is zero. -/
def lv (_ : GSem nD τ sig) (_ : Unit) : ℕ := 0

/-- What rides beside the buffers between items: the core owes nothing, and its generator register. -/
def E (_ : Fin 4) (c : Dev nD) : sProp 𝕄 :=
  iprop((∃ Wd, owes (c : Thread nD τ) (0 : CellTallies nD τ sig Unit) Wd) ∗ (∃ r, prngReg c r) ∗ emp)

theorem cut (p : Fin 3) : Pipeline.LevelCut (pcfgs (F := F)) adm () Lv lv p (fun _ => (0 : CellTallies nD τ sig Unit)) (fun _ => 0) where
  hι c w s := by simp [Lv]
  hιb c w s := le_refl _
  hD c g i h := absurd h (lt_irrefl _)

/-! ## The regions' records -/

set_option backward.isDefEq.respectTransparency.types false in
/-- The first region's record. -/
def R0 : RegionSeg (pcfgs (F := F)) adm (pdats m) () defs₀ Variants.none Lv lv 0 :=
  RegionSeg.ofHeldIn (pcfgs (F := F)) adm (pdats m) () defs₀ Variants.none Lv lv 0 (fun _ => 0) (Pipeline.ucRefs τ sig)
    (fun c => iprop(∃ r, prngReg c r)) (fun c => iprop(∃ r, prngReg c r)) launch0.toP rfl
    (fun c => (WholeEnc.body_obligation (fun c b => V1 m c b) c).loose)
    (fun _ _ => rfl) (fun _ => rfl) (fun c => (dat0 m c).share_full fun _ => rfl)
    (fun c => WholeEnc.hin (fun c b => V1 m c b) c) (fun c => WholeEnc.hout (fun c b => V1 m c b) c)
    (fun _ => 0) (cut 0) (fun _ => iprop(emp)) (fun c => V1 m c) (fun c w => (show (pdats m 0 c).arrAt w 0 = _ from WholeEnc.A_eq (fun c b => V1 m c b) c w))

set_option backward.isDefEq.respectTransparency.types false in
/-- The second region's record. -/
def R1 : RegionSeg (pcfgs (F := F)) adm (pdats m) () defs₀ Variants.none Lv lv 1 :=
  RegionSeg.ofHeldIn (pcfgs (F := F)) adm (pdats m) () defs₀ Variants.none Lv lv 1 (fun _ => 0) (Pipeline.ucRefs τ sig)
    (fun c => iprop(∃ r, prngReg c r)) (fun c => iprop(∃ r, prngReg c r)) launch1.toP rfl
    (fun c => (WholeFc.body_obligation (fun c b => V7 m (outsA m) c b) c).loose)
    (fun _ _ => rfl) (fun _ => rfl) (fun c => (dat1 m c).share_full fun _ => rfl)
    (fun c => WholeFc.hin (fun c b => V7 m (outsA m) c b) c) (fun c => WholeFc.hout (fun c b => V7 m (outsA m) c b) c)
    (fun _ => 0) (cut 1) (fun _ => iprop(emp)) (fun c => V7 m (outsA m) c) (fun c w => (show (pdats m 1 c).arrAt w 0 = _ from WholeFc.A_eq (fun c b => V7 m (outsA m) c b) c w))

set_option backward.isDefEq.respectTransparency.types false in
/-- The third region's record. -/
def R2 : RegionSeg (pcfgs (F := F)) adm (pdats m) () defs₀ Variants.none Lv lv 2 :=
  RegionSeg.ofHeldIn (pcfgs (F := F)) adm (pdats m) () defs₀ Variants.none Lv lv 2 (fun _ => 0) (Pipeline.ucRefs τ sig)
    (fun c => iprop(∃ r, prngReg c r)) (fun c => iprop(∃ r, prngReg c r)) launch2.toP rfl
    (fun c => (WholeCube.body_obligation (fun c b => V9 m (outsB m) c b) c).loose)
    (fun _ _ => rfl) (fun _ => rfl) (fun c => (dat2 m c).share_full fun _ => rfl)
    (fun c => BI.Entails.refl _) (fun c => BI.Entails.refl _)
    (fun _ => 0) (cut 2) (fun _ => iprop(emp)) (fun c => V9 m (outsB m) c) (fun c w => (show (pdats m 2 c).arrAt w 0 = _ from WholeCube.A_eq (fun c b => V9 m (outsB m) c b) c w))

theorem sub0 : Pipeline.arrRefs (τ := τ) (pcfgs (F := F) 0).spec ⊆ Pipeline.ucRefs τ sig := Pipeline.arrRefs_sub_ucRefs spec0 launch0.win.arr_unscoped
theorem sub1 : Pipeline.arrRefs (τ := τ) (pcfgs (F := F) 1).spec ⊆ Pipeline.ucRefs τ sig := Pipeline.arrRefs_sub_ucRefs spec1 launch1.win.arr_unscoped
theorem sub2 : Pipeline.arrRefs (τ := τ) (pcfgs (F := F) 2).spec ⊆ Pipeline.ucRefs τ sig := Pipeline.arrRefs_sub_ucRefs spec2 launch2.win.arr_unscoped

theorem pre0 (c : Dev nD) :
    iprop(StableHlo.held (c : Thread nD τ) (Pipeline.ucRefs τ sig) (V1 m c) ∗ E (F := F) 0 c) ⊢ (R0 m).pre c := by
  unfold R0 E
  exact RegionSeg.ofHeldIn_pre (pcs := pcfgs (F := F)) (a := adm) (p := 0) (pdats := pdats m) (D := fun _ => 0) (S := Pipeline.ucRefs τ sig)
    (X := fun c => iprop(∃ r, prngReg c r)) (Y := fun c => iprop(∃ r, prngReg c r)) (R := fun _ => iprop(emp)) (W := fun c => V1 m c) sub0 c
theorem post0 (c : Dev nD) :
    (R0 m).post c ⊢ iprop(StableHlo.held (c : Thread nD τ) (Pipeline.ucRefs τ sig) (V2 m (outs m) c) ∗ E (F := F) 1 c) := by
  rw [← StableHlo.held_congr (c.tc : Thread nD τ) (X0_eq m c)]
  unfold R0 E
  exact RegionSeg.ofHeldIn_post (pcs := pcfgs (F := F)) (a := adm) (p := 0) (pdats := pdats m) sub0 c
theorem pre1 (c : Dev nD) :
    iprop(StableHlo.held (c : Thread nD τ) (Pipeline.ucRefs τ sig) (V7 m (outs m) c) ∗ E (F := F) 1 c) ⊢ (R1 m).pre c := by
  unfold R1 E
  exact RegionSeg.ofHeldIn_pre (pcs := pcfgs (F := F)) (a := adm) (p := 1) (pdats := pdats m) (D := fun _ => 0) (S := Pipeline.ucRefs τ sig)
    (X := fun c => iprop(∃ r, prngReg c r)) (Y := fun c => iprop(∃ r, prngReg c r)) (R := fun _ => iprop(emp)) (W := fun c => V7 m (outsA m) c) sub1 c
theorem post1 (c : Dev nD) :
    (R1 m).post c ⊢ iprop(StableHlo.held (c : Thread nD τ) (Pipeline.ucRefs τ sig) (V8 m (outs m) c) ∗ E (F := F) 2 c) := by
  rw [← StableHlo.held_congr (c.tc : Thread nD τ) (X1_eq m c)]
  unfold R1 E
  exact RegionSeg.ofHeldIn_post (pcs := pcfgs (F := F)) (a := adm) (p := 1) (pdats := pdats m) sub1 c
theorem pre2 (c : Dev nD) :
    iprop(StableHlo.held (c : Thread nD τ) (Pipeline.ucRefs τ sig) (V9 m (outs m) c) ∗ E (F := F) 2 c) ⊢ (R2 m).pre c := by
  unfold R2 E
  exact RegionSeg.ofHeldIn_pre (pcs := pcfgs (F := F)) (a := adm) (p := 2) (pdats := pdats m) (D := fun _ => 0) (S := Pipeline.ucRefs τ sig)
    (X := fun c => iprop(∃ r, prngReg c r)) (Y := fun c => iprop(∃ r, prngReg c r)) (R := fun _ => iprop(emp)) (W := fun c => V9 m (outsB m) c) sub2 c
theorem post2 (c : Dev nD) :
    (R2 m).post c ⊢ iprop(StableHlo.held (c : Thread nD τ) (Pipeline.ucRefs τ sig) (V10 m (outs m) c) ∗ E (F := F) 3 c) := by
  rw [← StableHlo.held_congr (c.tc : Thread nD τ) (X2_eq m c)]
  unfold R2 E
  exact RegionSeg.ofHeldIn_post (pcs := pcfgs (F := F)) (a := adm) (p := 2) (pdats := pdats m) sub2 c

/-! ## The run -/

theorem launchGhost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launchRest (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (iprop(emp) : sProp 𝕄))) ∗ levAts Lv lv)
      ⊢ (|={Set.univ}=> bigSep Finset.univ (E (F := F) 0) : sProp 𝕄) := by
  refine Pipeline.initEach Lv lv fun c => ?_
  unfold E
  iintro ⟨⟨-, HO, -, Hp, He⟩, -⟩
  imodintro
  isplitl [HO]; · iexists ∅; iexact HO
  isplitl [Hp]; · iexists _; iexact Hp
  iexact He

theorem endRest (c : Dev nD) : E (F := F) 3 c ⊢ (iprop(∃ W, owes (c : Thread nD τ) (0 : CellTallies nD τ sig Unit) W) : sProp 𝕄) := by
  unfold E
  iintro ⟨HO, -⟩
  iexact HO

-- the theorem's implicit arguments are found by unifying its conclusion with this one, which takes unfolding plain
-- definitions in a metavariable's type
set_option backward.isDefEq.respectTransparency.types false in
/-- From any memory with zero counters the whole kernel terminates, every unscoped buffer ends at the last valuation and
    every counter at zero. -/
theorem run (ρ : Dev nD → PrngReg) :
    θ_run defs (onTc (τ := τ) (main (F := F))) ⟨m, fun _ => 0, ρ⟩ (fun r => (∀ c : Dev nD, ∀ b ∈ Pipeline.ucRefs τ sig,
      r.2.mem (c, b) = V11 m (outs m) c b) ∧ r.2.sem = fun _ => 0) := by
  refine Pipeline.θ_run_regions_kit_dev_sems (pcfgs (F := F)) adm (pdats m) () cellOf_inj emb₁ defs₀ Variants.none Lv lv m ρ main
    (segs m (outs m) Variants.none Lv lv E () (pdats m) (R0 m) (R1 m) (R2 m))
    (fun c Q => by
      rewrite [main_chain c, Seg.run_eq_chain,
        show (segs m (outs m) Variants.none Lv lv E () (pdats m) (R0 m) (R1 m) (R2 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => by simp [Lv, h]) (fun _ => iprop(emp)) _ launchGhost
    (T₀ := fun c => iprop(StableHlo.held (c : Thread nD τ) (Pipeline.ucRefs τ sig) (V0 m c) ∗ E (F := F) 0 c))
    (Tₙ := fun c => StableHlo.held (c : Thread nD τ) (Pipeline.ucRefs τ sig) (V11 m (outs m) c))
    (hch := fun c => ⟨.rfl, pre0 m c, post0 m c, .rfl, .rfl, .rfl, .rfl, pre1 m c, post1 m c, pre2 m c, post2 m c, sep_mono .rfl (endRest c)⟩)
    (hinit := ?_) (QY := fun c s => ∀ b ∈ Pipeline.ucRefs τ sig, s.mem (c, b) = V11 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ (iprop(emp) : sProp 𝕄))) : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launchRest (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro; exact h
    · iexact HSI

/-- An unscoped reference is among the buffers the run speaks of. -/
theorem ucRef (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

end Cert.WholeRun

end
-- ==== Proof.WholeFrame.lean ====
/-
  What the whole kernel's run says of its arguments and its two results.
-/
module

public import proofs.«01_k».proof.Proof.WholeRun

@[expose] public section

set_option maxRecDepth 16384

noncomputable section

namespace Cert.WholeRun

open Cert.WholeIdeal Cert.WholeIdeal.Gen
open Idealize.ShloMosaic Idealize.ShloMosaic.TcCoe
open Idealize.SL.Sem

variable {F : FTy → Type} [FloatOps F] [Named F]
variable (m : (ℓ : Loc nD τ sig) → Buf (Elt F) ℓ)

/-- The arguments end as launched. -/
theorem args (s : MemSt nD τ sig (Elt F)) (c : Dev nD) (h : ∀ b ∈ Pipeline.ucRefs τ sig, s.mem (c, b) = V11 m (outs m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18) := by
  have g : ∀ r : Ref sig .tc, ¬ (Proc.devRef .tc r : DevRef τ sig).isScoped → V11 m (outs m) c r = m ((c.tc : Thread nD τ).loc r)
      → s.mem ((c.tc : Thread nD τ).loc r) = m ((c.tc : Thread nD τ).loc r) :=
    fun r hr e => (h _ (ucRef r hr)).trans e
  exact ⟨g main_arg0 (by decide) (V11_main_arg0 m (outs m) c), g main_arg1 (by decide) (V11_main_arg1 m (outs m) c), g main_arg2 (by decide) (V11_main_arg2 m (outs m) c), g main_arg3 (by decide) (V11_main_arg3 m (outs m) c), g main_arg4 (by decide) (V11_main_arg4 m (outs m) c), g main_arg5 (by decide) (V11_main_arg5 m (outs m) c), g main_arg6 (by decide) (V11_main_arg6 m (outs m) c), g main_arg7 (by decide) (V11_main_arg7 m (outs m) c), g main_arg8 (by decide) (V11_main_arg8 m (outs m) c), g main_arg9 (by decide) (V11_main_arg9 m (outs m) c), g main_arg10 (by decide) (V11_main_arg10 m (outs m) c), g main_arg11 (by decide) (V11_main_arg11 m (outs m) c), g main_arg12 (by decide) (V11_main_arg12 m (outs m) c), g main_arg13 (by decide) (V11_main_arg13 m (outs m) c), g main_arg14 (by decide) (V11_main_arg14 m (outs m) c), g main_arg15 (by decide) (V11_main_arg15 m (outs m) c), g main_arg16 (by decide) (V11_main_arg16 m (outs m) c), g main_arg17 (by decide) (V11_main_arg17 m (outs m) c), g main_arg18 (by decide) (V11_main_arg18 m (outs m) c)⟩

/-- The whole kernel runs without fault and leaves its arguments as they were. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => args m r.2 c (h.1 c), h.2⟩) (run m ρ)

/-- Its two results and its arguments at the end. -/
theorem run_values (ρ : Dev nD → PrngReg) :
    θ_run defs (onTc (τ := τ) (main (F := F))) ⟨m, fun _ => 0, ρ⟩ (fun r => ∀ c : Dev nD,
      r.2.mem ((c.tc : Thread nD τ).loc main_v53) = V11 m (outs m) c main_v53
      ∧ r.2.mem ((c.tc : Thread nD τ).loc main_v54) = V11 m (outs m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h.1 c _ (ucRef main_v53 (by decide)), h.1 c _ (ucRef main_v54 (by decide)), args m r.2 c (h.1 c)⟩) (run m ρ)

end Cert.WholeRun

end
-- ==== Proof.WholeBits.lean ====
/-
  The whole kernel as printed differs from its idealization in two named constants only. Read with each named constant
  at its printed word, the idealization is the kernel as printed; so the frame of the one is the frame of the other.
-/
module

public import proofs.«01_k».proof.Defs
public import proofs.«01_k».proof.Proof.WholeFrame
public import proofs.«01_k».proof.Proof.Gen.Whole
public import Idealize.ShloMosaic.Lib.Ring

@[expose] public section

set_option maxRecDepth 65536

noncomputable section

namespace Cert.WholeBits

open Idealize.ShloMosaic Idealize.SL.Sem

/-- A named constant at its printed word. -/
local instance printed : Named Bits where
  named _ _ {φ} b := Scalar.ofBits φ b

open Cert.WholeIdeal in
/-- The frame of the idealization read at its printed words. -/
def Printed : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0)

/-- It is the kernel as printed. -/
theorem printed_eq : quiescent_Whole = Printed := by
  sl_kernel_rfl

/-- The kernel as printed runs without fault and leaves its arguments as they were. -/
theorem quiescent : quiescent_Whole := printed_eq.mpr fun m ρ _ => Cert.WholeRun.frame (F := Bits) m ρ

end Cert.WholeBits

end
-- ==== Proof.WholeRef.lean ====
/-
  The reference of the whole kernel is the references of the three calls, one after the other.
-/
module

public import proofs.«01_k».proof.Proof.RefConv
public import proofs.«01_k».proof.Proof.RefDisk
public import proofs.«01_k».proof.Proof.FcLayers
public import proofs.«01_k».proof.Proof.Gen.WholeRefIdeal.Run
public import Idealize.ShloMosaic.Lib.Ring

@[expose] public section

set_option maxRecDepth 16384

noncomputable section

namespace Cert.WholeRef

open Idealize.ShloMosaic Idealize.ShloMosaic.TcCoe

section Cubes

open Cert.CubeRefIdeal Cert.CubeRefIdeal.Gen Cert.CubeRefIdeal.Value

/-- The cubes before they are laid out in rows of 128. -/
def cubes (V : Valuation CubeRefIdeal.τ CubeRefIdeal.sig (Elt Ideal)) : FVec Ideal S64x121x64x64 .f32 :=
  (mulf (uitofp .f32 (cmpf .oeq (broadcastInDim S64x121x64x64 ![0, 1, 2, 3] bcast_S64x1x64x64_S64x121x64x64_0_1_2_3 (broadcastInDim S64x1x64x64 ![0, 2, 3] bcast_S64x64x64_S64x1x64x64_0_2_3 (minimumf (broadcastInDim S64x64x64 ![] bcast_S_S64x64x64 (id (constant S_ .f32 0x42F00000#32))) (maximumf (broadcastInDim S64x64x64 ![] bcast_S_S64x64x64 (id (constant S_ .f32 0x00000000#32))) (addf (Host.floor (Host.divf (res_main_v123 V) (broadcastInDim S64x64x64 ![] bcast_S_S64x64x64 (constant S_ .f32 0x41200000#32)))) (broadcastInDim S64x64x64 ![] bcast_S_S64x64x64 (constant S_ .f32 0x42700000#32))))))) (broadcastInDim S64x121x64x64 ![0, 1, 2, 3] bcast_S1x121x1x1_S64x121x64x64_0_1_2_3 (broadcastInDim S1x121x1x1 ![1, 2, 3] bcast_S121x1x1_S1x121x1x1_1_2_3 (broadcastInDim S121x1x1 ![0] bcast_S121_S121x1x1_0 (sitofp .f32 (iotaInDim S121 32 0))))))) (broadcastInDim S64x121x64x64 ![0, 1, 2, 3] bcast_S64x1x64x64_S64x121x64x64_0_1_2_3 (broadcastInDim S64x1x64x64 ![0, 2, 3] bcast_S64x64x64_S64x1x64x64_0_2_3 (Host.exp (Host.divf (Host.negf (res_main_v49 V)) (broadcastInDim S64x64x64 ![0, 1, 2] bcast_S64x1x1_S64x64x64_0_1_2 (broadcastInDim S64x1x1 ![0] bcast_S64_S64x1x1_0 (Host.absf (shapeCast _ (extractStridedSlice S64x1 ![0, 3] (V (Proc.devRef .tc main_arg0)) slices_S64x6_S64x1_0_3) shapeCasts_S64x1_S64)))))))))

theorem cubes_cast (V : Valuation CubeRefIdeal.τ CubeRefIdeal.sig (Elt Ideal)) :
    RefDisk.cubes V = shapeCast S64x121x32x128 (cubes V) shapeCasts_S64x121x64x64_S64x121x32x128 := rfl

end Cubes

open Cert.WholeRefIdeal Cert.WholeRefIdeal.Gen Cert.WholeRefIdeal.Value Idealize.ShloMosaic Idealize.ShloMosaic.TcCoe

/-- The disk's reference started from latents and pixels. -/
def start (L : FVec Ideal S64x6 .f32) (x y : FVec Ideal S64x64 .f32) : Valuation CubeRefIdeal.τ CubeRefIdeal.sig (Elt Ideal) :=
  Function.update (Function.update (Function.update (fun _ _ => default) (Proc.devRef .tc CubeRefIdeal.main_arg2) y)
    (Proc.devRef .tc CubeRefIdeal.main_arg1) x) (Proc.devRef .tc CubeRefIdeal.main_arg0) L

variable (V : Valuation τ sig (Elt Ideal))

/-- The start at the latents the reference computes and at its pixels. -/
abbrev at0 : Valuation CubeRefIdeal.τ CubeRefIdeal.sig (Elt Ideal) :=
  start (res_main_v186 V) (V (Proc.devRef .tc main_arg1)) (V (Proc.devRef .tc main_arg2))

theorem start_lat (L : FVec Ideal S64x6 .f32) (x y : FVec Ideal S64x64 .f32) : RefDisk.lat (start L x y) = L := by sl_kernel_rfl

theorem start_xs (L : FVec Ideal S64x6 .f32) (x y : FVec Ideal S64x64 .f32) : RefDisk.xs (start L x y) = x := by sl_kernel_rfl

theorem start_ys (L : FVec Ideal S64x6 .f32) (x y : FVec Ideal S64x64 .f32) : RefDisk.ys (start L x y) = y := by sl_kernel_rfl

/-- The first padded image. -/
theorem image1 : res_main_v0 V = RefConv.padded1 (V (Proc.devRef .tc main_arg0)) := by sl_kernel_rfl

/-- The second. -/
theorem image2 : res_main_v52 V = RefConv.padded2 (RefConv.conv1 (res_main_v0 V) (V (Proc.devRef .tc main_arg3)) (V (Proc.devRef .tc main_arg4))) := by
  sl_kernel_rfl

/-- The third. -/
theorem image3 : res_main_v104 V = RefConv.padded3 (RefConv.conv2 (res_main_v52 V) (V (Proc.devRef .tc main_arg5)) (V (Proc.devRef .tc main_arg6))) := by
  sl_kernel_rfl

/-- The features, one row for each sample. -/
def rows : FVec Ideal FcRefIdeal.S64x8192 .f32 := fun j =>
  Spec.three (Spec.two (Spec.one (V (Proc.devRef .tc main_arg0)) (V (Proc.devRef .tc main_arg3)) (V (Proc.devRef .tc main_arg4)) (j 0).val)
      (V (Proc.devRef .tc main_arg5)) (V (Proc.devRef .tc main_arg6))) (V (Proc.devRef .tc main_arg7)) (V (Proc.devRef .tc main_arg8))
    ((j 1).val / 64) ((j 1).val % 64 / 8) ((j 1).val % 64 % 8)

/-- The flattened result of the third block. -/
def flat : FVec Ideal S64x8192 .f32 :=
  shapeCast S64x8192 (RefConv.conv3 (res_main_v104 V) (V (Proc.devRef .tc main_arg7)) (V (Proc.devRef .tc main_arg8))) shapeCasts_S64x128x8x8_S64x8192

theorem flat_eq : flat V = rows V := by
  funext j
  obtain ⟨n, k, rfl⟩ : ∃ (n : Fin 64) (k : Fin 8192), j = ix2 n k := ⟨j 0, j 1, by funext a; match a with | ⟨0, _⟩ => rfl | ⟨1, _⟩ => rfl⟩
  have h := RefConv.features_at (V (Proc.devRef .tc main_arg0)) (V (Proc.devRef .tc main_arg3)) (V (Proc.devRef .tc main_arg4))
    (V (Proc.devRef .tc main_arg5)) (V (Proc.devRef .tc main_arg6)) (V (Proc.devRef .tc main_arg7)) (V (Proc.devRef .tc main_arg8))
    n ⟨k.val / 64, by omega⟩ ⟨k.val % 64, by omega⟩
  refine Eq.trans ?_ h
  unfold flat
  rw [image3, image2, image1]
  generalize RefConv.conv3 _ _ _ = Z
  pointwise
  simp only [show k.val / 8 % 8 = k.val % 64 / 8 by omega, show k.val % 8 = k.val % 64 % 8 by omega]

/-- The latents are the five layers of the flattened features. -/
theorem latents : res_main_v186 V = FcLayers.latents (rows V) (V (Proc.devRef .tc main_arg9)) (V (Proc.devRef .tc main_arg10))
    (V (Proc.devRef .tc main_arg11)) (V (Proc.devRef .tc main_arg12)) (V (Proc.devRef .tc main_arg13)) (V (Proc.devRef .tc main_arg14))
    (V (Proc.devRef .tc main_arg15)) (V (Proc.devRef .tc main_arg16)) (V (Proc.devRef .tc main_arg17)) (V (Proc.devRef .tc main_arg18)) := by
  rw [← flat_eq]
  sl_kernel_rfl

end Cert.WholeRef

end
-- ==== Proof.WholeEncSweep.lean ====
/-
  What the whole kernel's first region leaves at each of its 64 samples: the rows of zeros around each scratch stay, so
  every point's block is the three stages applied to that sample.
-/
module

public import proofs.«01_k».proof.Proof.WholeEncBody

@[expose] public section

set_option maxRecDepth 16384

noncomputable section

namespace Cert.WholeEncSweep

open Cert.WholeIdeal Cert.WholeIdeal.Gen Cert.WholeEnc Cert.Rows Cert.WholeEncBody Idealize.ShloMosaic Idealize.ShloMosaic.TcCoe

variable (V : (c : Dev nD) → (b : Ref sig .tc) → Buf (Elt Ideal) ((c : Thread nD τ).loc b))

/-- Scratch 1 after a point of the first kind. -/
theorem haloPtA0 (c : Dev nD) (t : Fin cfg0.N) (h : t.val % 64 = 0) : Halo (R := 4240) (Q := 288) 72 4096 (outsAt0 V c t.val t.isLt).2.1 := by
  rw [outsAt0_A V c t h h h]
  dsimp only
  exact (haloA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) ((hcond0_0 t).mpr h) ((hcond0_1 t).mpr h) ((hcond0_2 t).mpr h))

/-- Scratch 1 after a later point, from what the point before left. -/
theorem haloPtB0 (c : Dev nD) (t : Fin cfg0.N) (h : ¬ t.val % 64 = 0) (i : Halo (R := 4240) (Q := 288) 72 4096 (outsAt0 V c (t.val - 1) (by have := t.isLt; omega)).2.1) :
    Halo (R := 4240) (Q := 288) 72 4096 (outsAt0 V c t.val t.isLt).2.1 := by
  rw [outsAt0_B V c t h h h]
  dsimp only
  exact (haloB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) (outsAt0 V c (t.val - 1) (by have := t.isLt; omega)).2.1 (outsAt0 V c (t.val - 1) (by have := t.isLt; omega)).2.2.1 (outsAt0 V c (t.val - 1) (by have := t.isLt; omega)).2.2.2 (fun k => h ((hcond0_0 t).mp k)) (fun k => h ((hcond0_1 t).mp k)) (fun k => h ((hcond0_2 t).mp k)) i)

/-- Scratch 2 after a point of the first kind. -/
theorem haloPtA1 (c : Dev nD) (t : Fin cfg0.N) (h : t.val % 64 = 0) : Halo (R := 1104) (Q := 576) 40 1024 (outsAt0 V c t.val t.isLt).2.2.1 := by
  rw [outsAt0_A V c t h h h]
  dsimp only
  exact (haloA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) ((hcond0_0 t).mpr h) ((hcond0_1 t).mpr h) ((hcond0_2 t).mpr h))

/-- Scratch 2 after a later point, from what the point before left. -/
theorem haloPtB1 (c : Dev nD) (t : Fin cfg0.N) (h : ¬ t.val % 64 = 0) (i : Halo (R := 1104) (Q := 576) 40 1024 (outsAt0 V c (t.val - 1) (by have := t.isLt; omega)).2.2.1) :
    Halo (R := 1104) (Q := 576) 40 1024 (outsAt0 V c t.val t.isLt).2.2.1 := by
  rw [outsAt0_B V c t h h h]
  dsimp only
  exact (haloB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) (outsAt0 V c (t.val - 1) (by have := t.isLt; omega)).2.1 (outsAt0 V c (t.val - 1) (by have := t.isLt; omega)).2.2.1 (outsAt0 V c (t.val - 1) (by have := t.isLt; omega)).2.2.2 (fun k => h ((hcond0_0 t).mp k)) (fun k => h ((hcond0_1 t).mp k)) (fun k => h ((hcond0_2 t).mp k)) i)

/-- Scratch 3 after a point of the first kind. -/
theorem haloPtA2 (c : Dev nD) (t : Fin cfg0.N) (h : t.val % 64 = 0) : Halo (R := 304) (Q := 1152) 24 256 (outsAt0 V c t.val t.isLt).2.2.2 := by
  rw [outsAt0_A V c t h h h]
  dsimp only
  exact (haloA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) ((hcond0_0 t).mpr h) ((hcond0_1 t).mpr h) ((hcond0_2 t).mpr h))

/-- Scratch 3 after a later point, from what the point before left. -/
theorem haloPtB2 (c : Dev nD) (t : Fin cfg0.N) (h : ¬ t.val % 64 = 0) (i : Halo (R := 304) (Q := 1152) 24 256 (outsAt0 V c (t.val - 1) (by have := t.isLt; omega)).2.2.2) :
    Halo (R := 304) (Q := 1152) 24 256 (outsAt0 V c t.val t.isLt).2.2.2 := by
  rw [outsAt0_B V c t h h h]
  dsimp only
  exact (haloB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) (outsAt0 V c (t.val - 1) (by have := t.isLt; omega)).2.1 (outsAt0 V c (t.val - 1) (by have := t.isLt; omega)).2.2.1 (outsAt0 V c (t.val - 1) (by have := t.isLt; omega)).2.2.2 (fun k => h ((hcond0_0 t).mp k)) (fun k => h ((hcond0_1 t).mp k)) (fun k => h ((hcond0_2 t).mp k)) i)

/-- After every point, each scratch still has its rows of zeros. -/
theorem halos (c : Dev nD) : ∀ (n : ℕ) (hn : n < cfg0.N),
    Halo (R := 4240) (Q := 288) 72 4096 (outsAt0 V c n hn).2.1 ∧ Halo (R := 1104) (Q := 576) 40 1024 (outsAt0 V c n hn).2.2.1 ∧ Halo (R := 304) (Q := 1152) 24 256 (outsAt0 V c n hn).2.2.2 := by
  intro n
  induction n with
  | zero => exact fun hn => ⟨haloPtA0 V c ⟨0, hn⟩ rfl, haloPtA1 V c ⟨0, hn⟩ rfl, haloPtA2 V c ⟨0, hn⟩ rfl⟩
  | succ n ih =>
    intro hn
    have h : ¬ (n + 1) % 64 = 0 := by have hN : cfg0.N = 64 := (by decide); omega
    obtain ⟨i0, i1, i2⟩ := ih (by omega)
    exact ⟨haloPtB0 V c ⟨n + 1, hn⟩ h i0, haloPtB1 V c ⟨n + 1, hn⟩ h i1, haloPtB2 V c ⟨n + 1, hn⟩ h i2⟩

/-- What a point leaves in the output's block: the three stages on its own blocks of the operands. -/
theorem outs (c : Dev nD) (t : Fin cfg0.N) (z : Fin 1) (o : Fin 128) (p : Fin 64) :
    (outsAt0 V c t.val t.isLt).1 (ix3 z o p)
      = Cert.Body.enc (iblk V c 0 t) (iblk V c 1 t) (iblk V c 2 t) (iblk V c 3 t) (iblk V c 4 t) (iblk V c 5 t) (iblk V c 6 t)
          o.val (p.val / 8) (p.val % 8) := by
  by_cases h : t.val % 64 = 0
  · exact (congrArg (fun q => q.1 (ix3 z o p)) (outsAt0_A V c t h h h)).trans
      (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) ((hcond0_0 t).mpr h) ((hcond0_1 t).mpr h) ((hcond0_2 t).mpr h) z o p)
  · obtain ⟨i0, i1, i2⟩ := halos V c (t.val - 1) (by have := t.isLt; omega)
    exact (congrArg (fun q => q.1 (ix3 z o p)) (outsAt0_B V c t h h h)).trans
      (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk V c 0 t) (iblk V c 1 t) (iblk V c 2 t) (iblk V c 3 t) (iblk V c 4 t) (iblk V c 5 t) (iblk V c 6 t) (outsAt0 V c (t.val - 1) (by have := t.isLt; omega)).2.1 (outsAt0 V c (t.val - 1) (by have := t.isLt; omega)).2.2.1 (outsAt0 V c (t.val - 1) (by have := t.isLt; omega)).2.2.2 (fun k => h ((hcond0_0 t).mp k)) (fun k => h ((hcond0_1 t).mp k)) (fun k => h ((hcond0_2 t).mp k)) i0 i1 i2 z o p)

end Cert.WholeEncSweep

end
-- ==== Proof.WholeEncValue.lean ====
/-
  What the blocks of operands of the whole kernel's first region are, in terms of the program's arguments.
-/
module

public import proofs.«01_k».proof.Proof.WholeEncSweep
public import proofs.«01_k».proof.Proof.WholeRun
public import proofs.«01_k».proof.Proof.Operands
public import proofs.«01_k».proof.Proof.Spec
public import Idealize.ShloMosaic.Lib.Claim
public import Idealize.ShloMosaic.Lib.StableHlo.RunRead

@[expose] public section

set_option maxRecDepth 16384

noncomputable section

namespace Cert.WholeEncValue

open Cert.WholeIdeal Cert.WholeIdeal.Gen Cert.WholeEnc Cert.Operands Cert.Rows Cert.Band Idealize.ShloMosaic Idealize.ShloMosaic.TcCoe

variable (m : (ℓ : Loc nD τ sig) → Buf (Elt Ideal) ℓ)

/-- The image's block at a point is that sample, pixel `(p / 64, p % 64)` at column `p`. -/
theorem x_at (c : Dev nD) (t : Fin cfg0.N) (z : Fin 1) (k : Fin 120) (p : Fin 4096) :
    iblk (fun c b => V1 m c b) c 0 t (ix3 z k p) = m ((c : Thread nD τ).loc main_arg0) (ix4 ⟨t.val, t.isLt⟩ k ⟨p.val / 64, by omega⟩ ⟨p.val % 64, by omega⟩) := by
  obtain ⟨h0, h1, h2⟩ := (by decide +kernel : ∀ t : Fin cfg0.N, win0_0.index t 0 = t.val ∧ win0_0.index t 1 = 0 ∧ win0_0.index t 2 = 0) t
  have e : iblk (fun c b => V1 m c b) c 0 t (ix3 z k p) = V1 m c main_v0 (ix3 ⟨t.val, t.isLt⟩ k p) := by
    unfold iblk
    rw [View.read_apply]
    show V1 m c main_v0 _ = _
    congr 1
    funext a
    apply Fin.ext
    match a with
    | ⟨0, _⟩ => show win0_0.index t 0 * 1 + 1 * z.val = t.val; rw [h0]; omega
    | ⟨1, _⟩ => show win0_0.index t 1 * 120 + 1 * k.val = k.val; rw [h1]; omega
    | ⟨2, _⟩ => show win0_0.index t 2 * 4096 + 1 * p.val = p.val; rw [h2]; omega
  rw [e]
  unfold V1
  after_reads_simp
  pointwise

/-- Operand 1's block is the whole array at every point. -/
theorem whole_1 (c : Dev nD) (t : Fin cfg0.N) (r : Fin 120) (q : Fin 288) :
    iblk (fun c b => V1 m c b) c 1 t (ix2 r q) = V1 m c main_v2 (ix2 r q) := by
  obtain ⟨h0, h1⟩ := (by decide +kernel : ∀ t : Fin cfg0.N, win0_1.index t 0 = 0 ∧ win0_1.index t 1 = 0) t
  unfold iblk
  rw [View.read_apply]
  show V1 m c main_v2 _ = _
  congr 1
  funext a
  apply Fin.ext
  match a with
  | ⟨0, _⟩ => show win0_1.index t 0 * 120 + 1 * r.val = r.val; rw [h0]; omega
  | ⟨1, _⟩ => show win0_1.index t 1 * 288 + 1 * q.val = q.val; rw [h1]; omega

/-- Operand 2's block is the whole array at every point. -/
theorem whole_2 (c : Dev nD) (t : Fin cfg0.N) (r : Fin 32) (q : Fin 576) :
    iblk (fun c b => V1 m c b) c 2 t (ix2 r q) = V1 m c main_v4 (ix2 r q) := by
  obtain ⟨h0, h1⟩ := (by decide +kernel : ∀ t : Fin cfg0.N, win0_2.index t 0 = 0 ∧ win0_2.index t 1 = 0) t
  unfold iblk
  rw [View.read_apply]
  show V1 m c main_v4 _ = _
  congr 1
  funext a
  apply Fin.ext
  match a with
  | ⟨0, _⟩ => show win0_2.index t 0 * 32 + 1 * r.val = r.val; rw [h0]; omega
  | ⟨1, _⟩ => show win0_2.index t 1 * 576 + 1 * q.val = q.val; rw [h1]; omega

/-- Operand 3's block is the whole array at every point. -/
theorem whole_3 (c : Dev nD) (t : Fin cfg0.N) (r : Fin 64) (q : Fin 1152) :
    iblk (fun c b => V1 m c b) c 3 t (ix2 r q) = V1 m c main_v6 (ix2 r q) := by
  obtain ⟨h0, h1⟩ := (by decide +kernel : ∀ t : Fin cfg0.N, win0_3.index t 0 = 0 ∧ win0_3.index t 1 = 0) t
  unfold iblk
  rw [View.read_apply]
  show V1 m c main_v6 _ = _
  congr 1
  funext a
  apply Fin.ext
  match a with
  | ⟨0, _⟩ => show win0_3.index t 0 * 64 + 1 * r.val = r.val; rw [h0]; omega
  | ⟨1, _⟩ => show win0_3.index t 1 * 1152 + 1 * q.val = q.val; rw [h1]; omega

/-- Operand 4's block is the whole array at every point. -/
theorem whole_4 (c : Dev nD) (t : Fin cfg0.N) (r : Fin 1) (q : Fin 32) :
    iblk (fun c b => V1 m c b) c 4 t (ix2 r q) = V1 m c main_v7 (ix2 r q) := by
  obtain ⟨h0, h1⟩ := (by decide +kernel : ∀ t : Fin cfg0.N, win0_4.index t 0 = 0 ∧ win0_4.index t 1 = 0) t
  unfold iblk
  rw [View.read_apply]
  show V1 m c main_v7 _ = _
  congr 1
  funext a
  apply Fin.ext
  match a with
  | ⟨0, _⟩ => show win0_4.index t 0 * 1 + 1 * r.val = r.val; rw [h0]; omega
  | ⟨1, _⟩ => show win0_4.index t 1 * 32 + 1 * q.val = q.val; rw [h1]; omega

/-- Operand 5's block is the whole array at every point. -/
theorem whole_5 (c : Dev nD) (t : Fin cfg0.N) (r : Fin 1) (q : Fin 64) :
    iblk (fun c b => V1 m c b) c 5 t (ix2 r q) = V1 m c main_v8 (ix2 r q) := by
  obtain ⟨h0, h1⟩ := (by decide +kernel : ∀ t : Fin cfg0.N, win0_5.index t 0 = 0 ∧ win0_5.index t 1 = 0) t
  unfold iblk
  rw [View.read_apply]
  show V1 m c main_v8 _ = _
  congr 1
  funext a
  apply Fin.ext
  match a with
  | ⟨0, _⟩ => show win0_5.index t 0 * 1 + 1 * r.val = r.val; rw [h0]; omega
  | ⟨1, _⟩ => show win0_5.index t 1 * 64 + 1 * q.val = q.val; rw [h1]; omega

/-- Operand 6's block is the whole array at every point. -/
theorem whole_6 (c : Dev nD) (t : Fin cfg0.N) (r : Fin 1) (q : Fin 128) :
    iblk (fun c b => V1 m c b) c 6 t (ix2 r q) = V1 m c main_v9 (ix2 r q) := by
  obtain ⟨h0, h1⟩ := (by decide +kernel : ∀ t : Fin cfg0.N, win0_6.index t 0 = 0 ∧ win0_6.index t 1 = 0) t
  unfold iblk
  rw [View.read_apply]
  show V1 m c main_v9 _ = _
  congr 1
  funext a
  apply Fin.ext
  match a with
  | ⟨0, _⟩ => show win0_6.index t 0 * 1 + 1 * r.val = r.val; rw [h0]; omega
  | ⟨1, _⟩ => show win0_6.index t 1 * 128 + 1 * q.val = q.val; rw [h1]; omega

/-- The weights of block 1, read at offset `(i, j)` of the window. -/
theorem weight1 (c : Dev nD) (t : Fin cfg0.N) (o k i j : ℕ) (ho : o < 32) (hk : k < 120) (hi : i < 3) (hj : j < 3) :
    wmat 32 (iblk (fun c b => V1 m c b) c 1 t : (⟨2, ![120, 288]⟩ : Shape).Idx → EReal) o k i j = at4 (m ((c : Thread nD τ).loc main_arg3) : (⟨4, ![32, 120, 3, 3]⟩ : Shape).Idx → EReal) o k i j := by
  have hq : (3 * i + j) * 32 + o < 288 := by omega
  rw [wmat, at2_of_lt _ hk hq, at4_of_lt _ ho hk hi hj, whole_1]
  unfold V1
  after_reads_simp
  refine (laid1 _ _ _).trans ?_
  congr 1
  funext a
  apply Fin.ext
  match a with
  | ⟨0, _⟩ => show ((3 * i + j) * 32 + o) % 32 = o; omega
  | ⟨1, _⟩ => rfl
  | ⟨2, _⟩ => show ((3 * i + j) * 32 + o) / 32 / 3 = i; omega
  | ⟨3, _⟩ => show ((3 * i + j) * 32 + o) / 32 % 3 = j; omega

/-- The weights of block 2, read at offset `(i, j)` of the window. -/
theorem weight2 (c : Dev nD) (t : Fin cfg0.N) (o k i j : ℕ) (ho : o < 64) (hk : k < 32) (hi : i < 3) (hj : j < 3) :
    wmat 64 (iblk (fun c b => V1 m c b) c 2 t : (⟨2, ![32, 576]⟩ : Shape).Idx → EReal) o k i j = at4 (m ((c : Thread nD τ).loc main_arg5) : (⟨4, ![64, 32, 3, 3]⟩ : Shape).Idx → EReal) o k i j := by
  have hq : (3 * i + j) * 64 + o < 576 := by omega
  rw [wmat, at2_of_lt _ hk hq, at4_of_lt _ ho hk hi hj, whole_2]
  unfold V1
  after_reads_simp
  refine (laid2 _ _ _).trans ?_
  congr 1
  funext a
  apply Fin.ext
  match a with
  | ⟨0, _⟩ => show ((3 * i + j) * 64 + o) % 64 = o; omega
  | ⟨1, _⟩ => rfl
  | ⟨2, _⟩ => show ((3 * i + j) * 64 + o) / 64 / 3 = i; omega
  | ⟨3, _⟩ => show ((3 * i + j) * 64 + o) / 64 % 3 = j; omega

/-- The weights of block 3, read at offset `(i, j)` of the window. -/
theorem weight3 (c : Dev nD) (t : Fin cfg0.N) (o k i j : ℕ) (ho : o < 128) (hk : k < 64) (hi : i < 3) (hj : j < 3) :
    wmat 128 (iblk (fun c b => V1 m c b) c 3 t : (⟨2, ![64, 1152]⟩ : Shape).Idx → EReal) o k i j = at4 (m ((c : Thread nD τ).loc main_arg7) : (⟨4, ![128, 64, 3, 3]⟩ : Shape).Idx → EReal) o k i j := by
  have hq : (3 * i + j) * 128 + o < 1152 := by omega
  rw [wmat, at2_of_lt _ hk hq, at4_of_lt _ ho hk hi hj, whole_3]
  unfold V1
  after_reads_simp
  refine (laid3 _ _ _).trans ?_
  congr 1
  funext a
  apply Fin.ext
  match a with
  | ⟨0, _⟩ => show ((3 * i + j) * 128 + o) % 128 = o; omega
  | ⟨1, _⟩ => rfl
  | ⟨2, _⟩ => show ((3 * i + j) * 128 + o) / 128 / 3 = i; omega
  | ⟨3, _⟩ => show ((3 * i + j) * 128 + o) / 128 % 3 = j; omega

/-- The bias of block 1. -/
theorem bias1 (c : Dev nD) (t : Fin cfg0.N) (o : ℕ) (ho : o < 32) :
    at2 (iblk (fun c b => V1 m c b) c 4 t : (⟨2, ![1, 32]⟩ : Shape).Idx → EReal) 0 o = at1 (m ((c : Thread nD τ).loc main_arg4) : (⟨1, ![32]⟩ : Shape).Idx → EReal) o := by
  rw [at2_of_lt _ (by omega : 0 < 1) ho, at1_of_lt _ ho, whole_4]
  unfold V1
  after_reads_simp
  pointwise

/-- The bias of block 2. -/
theorem bias2 (c : Dev nD) (t : Fin cfg0.N) (o : ℕ) (ho : o < 64) :
    at2 (iblk (fun c b => V1 m c b) c 5 t : (⟨2, ![1, 64]⟩ : Shape).Idx → EReal) 0 o = at1 (m ((c : Thread nD τ).loc main_arg6) : (⟨1, ![64]⟩ : Shape).Idx → EReal) o := by
  rw [at2_of_lt _ (by omega : 0 < 1) ho, at1_of_lt _ ho, whole_5]
  unfold V1
  after_reads_simp
  pointwise

/-- The bias of block 3. -/
theorem bias3 (c : Dev nD) (t : Fin cfg0.N) (o : ℕ) (ho : o < 128) :
    at2 (iblk (fun c b => V1 m c b) c 6 t : (⟨2, ![1, 128]⟩ : Shape).Idx → EReal) 0 o = at1 (m ((c : Thread nD τ).loc main_arg8) : (⟨1, ![128]⟩ : Shape).Idx → EReal) o := by
  rw [at2_of_lt _ (by omega : 0 < 1) ho, at1_of_lt _ ho, whole_6]
  unfold V1
  after_reads_simp
  pointwise

/-- The pixels of the point's sample. -/
theorem pixel (c : Dev nD) (t : Fin cfg0.N) (k y x : ℕ) (hk : k < 120) (hy : y < 64) (hx : x < 64) :
    at3 (iblk (fun c b => V1 m c b) c 0 t : (⟨3, ![1, 120, 4096]⟩ : Shape).Idx → EReal) 0 k (y * 64 + x) = at4 (m ((c : Thread nD τ).loc main_arg0) : (⟨4, ![64, 120, 64, 64]⟩ : Shape).Idx → EReal) t.val k y x := by
  rw [at3_of_lt _ (by omega : 0 < 1) hk (by omega : y * 64 + x < 4096), at4_of_lt _ (show t.val < 64 from t.isLt) hk hy hx, x_at]
  congr 1
  funext a
  apply Fin.ext
  match a with
  | ⟨0, _⟩ => rfl
  | ⟨1, _⟩ => rfl
  | ⟨2, _⟩ => show (y * 64 + x) / 64 = y; omega
  | ⟨3, _⟩ => show (y * 64 + x) % 64 = x; omega

/-- What a point writes, as the three blocks of the program's arguments. -/
theorem outs_spec (c : Dev nD) (t : Fin cfg0.N) (z : Fin 1) (o : Fin 128) (p : Fin 64) :
    (outsAt0 (fun c b => V1 m c b) c t.val t.isLt).1 (ix3 z o p)
      = Spec.three (Spec.two (Spec.one (m ((c : Thread nD τ).loc main_arg0)) (m ((c : Thread nD τ).loc main_arg3)) (m ((c : Thread nD τ).loc main_arg4)) t.val) (m ((c : Thread nD τ).loc main_arg5)) (m ((c : Thread nD τ).loc main_arg6)))
          (m ((c : Thread nD τ).loc main_arg7)) (m ((c : Thread nD τ).loc main_arg8)) o.val (p.val / 8) (p.val % 8) := by
  rw [WholeEncSweep.outs]
  exact Spec.blk_congr
    (fun k _ _ hk _ _ => Spec.blk_congr
      (fun k _ _ hk _ _ => Spec.blk_congr (fun k y x hk hy hx => pixel m c t k y x hk hy hx)
        (fun k' i j hk' hi hj => weight1 m c t k k' i j hk hk' hi hj) (bias1 m c t k hk))
      (fun k' i j hk' hi hj => weight2 m c t k k' i j hk hk' hi hj) (bias2 m c t k hk))
    (fun k' i j hk' hi hj => weight3 m c t o.val k' i j o.isLt hk' hi hj) (bias3 m c t o.val o.isLt)

/-- The blocks the region writes do not meet. -/
theorem disjoint : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h =>
    hne ((by decide +kernel : ∀ t t' : Fin grid0.N, win0_7.index t = win0_7.index t' → t = t') t t' h)

/-- The features as a function of the arguments. -/
theorem features (c : Dev nD) (n : Fin 64) (o : Fin 128) (p : Fin 64) :
    WholeRun.X0 m c main_v10 (ix3 n o p)
      = Spec.three (Spec.two (Spec.one (m ((c : Thread nD τ).loc main_arg0)) (m ((c : Thread nD τ).loc main_arg3)) (m ((c : Thread nD τ).loc main_arg4)) n.val) (m ((c : Thread nD τ).loc main_arg5)) (m ((c : Thread nD τ).loc main_arg6)))
          (m ((c : Thread nD τ).loc main_arg7)) (m ((c : Thread nD τ).loc main_arg8)) o.val (p.val / 8) (p.val % 8) := by
  have hN : n.val < cfg0.N := n.isLt
  have hf : (cfg0.win 7).flush ⟨n.val, hN⟩ = true := (by decide +kernel : ∀ t : Fin cfg0.N, (cfg0.win 7).flush t = true) ⟨n.val, hN⟩
  have hb := (WholeRun.dat0 m c).read_blk_arrAt_eq_flushed 7 disjoint cfg0.N ⟨n.val, hN⟩ hN hf
  have e : (WholeRun.dat0 m c).flushed 7 ⟨n.val, hN⟩ = (outsAt0 (fun c b => V1 m c b) c n.val hN).1 := rfl
  rw [e] at hb
  obtain ⟨h0, h1, h2⟩ := (by decide +kernel : ∀ t : Fin cfg0.N, win0_7.index t 0 = t.val ∧ win0_7.index t 1 = 0 ∧ win0_7.index t 2 = 0) ⟨n.val, hN⟩
  have hX : WholeRun.X0 m c main_v10 = (WholeRun.dat0 m c).arrAt 7 cfg0.N := Pipeline.afterRegion_arr (WholeRun.dat0 m c) (V1 m c) launch0.win.arr_inj 7
  rw [hX, ← outs_spec m c ⟨n.val, hN⟩ 0 o p]
  refine Eq.trans (Eq.symm ?_) (congrFun hb (ix3 0 o p))
  rw [View.read_apply]
  generalize (WholeRun.dat0 m c).arrAt 7 cfg0.N = X
  show X _ = X _
  congr 1
  funext a
  apply Fin.ext
  match a with
  | ⟨0, _⟩ => show win0_7.index ⟨n.val, hN⟩ 0 * 1 + 1 * 0 = n.val; rw [h0]; exact (Nat.add_zero _).trans (Nat.mul_one _)
  | ⟨1, _⟩ => show win0_7.index ⟨n.val, hN⟩ 1 * 128 + 1 * o.val = o.val; rw [h1]; omega
  | ⟨2, _⟩ => show win0_7.index ⟨n.val, hN⟩ 2 * 64 + 1 * p.val = p.val; rw [h2]; omega

end Cert.WholeEncValue

end
-- ==== Proof.WholeFcValue.lean ====
/-
  The value of the whole kernel's second region: what each window's block is in terms of the arguments, and the result's six columns.
-/
module

public import proofs.«01_k».proof.Proof.FcLayers
public import proofs.«01_k».proof.Proof.FcValue
public import proofs.«01_k».proof.Proof.WholeRun
public import Idealize.ShloMosaic.Lib.StableHlo.RunRead
public import Idealize.ShloMosaic.Lib.KernelVsHost

@[expose] public section

set_option maxRecDepth 16384

noncomputable section

namespace Cert.WholeFcValue

open Cert.WholeIdeal Cert.WholeIdeal.Gen Cert.WholeFc Cert.WholeRun Cert.FcLayers Idealize.ShloMosaic Idealize.ShloMosaic.TcCoe
open Idealize.SL.Sem

variable (m : (ℓ : Loc nD τ sig) → Buf (Elt Ideal) ℓ)

/-- The arrays as the second region finds them. -/
abbrev W (c : Dev nD) (b : Ref sig .tc) : Buf (Elt Ideal) ((c : Thread nD τ).loc b) := V7 m (outsA m) c b

/-- An array that no operation before the second region's writes is still the program's argument. -/
theorem kept3 (c : Dev nD) (r : Ref sig .tc) (h : r ∉ hostOps0_W ∧ r ∉ ([main_v10] : List (Ref sig .tc)) ∧ r ∉ hostOps1_W) :
    V3 m (outsA m) c r = m ((c : Thread nD τ).loc r) :=
  (V3_of m (outsA m) c r h.2.2).trans ((V2_of m (outsA m) c r h.2.1).trans (V1_of m c r h.1))

theorem kept2 (c : Dev nD) (r : Ref sig .tc) (h : r ∉ hostOps0_W ∧ r ∉ ([main_v10] : List (Ref sig .tc))) :
    V2 m (outsA m) c r = m ((c : Thread nD τ).loc r) :=
  (V2_of m (outsA m) c r h.2).trans (V1_of m c r h.1)

/-- What the second stretch of operations leaves is not touched up to the region. -/
theorem since3 (c : Dev nD) (r : Ref sig .tc) (h : r ∉ hostOps1_1_W ∧ r ∉ hostOps1_2_W ∧ r ∉ hostOps1_3_W ∧ r ∉ hostOps1_4_W) :
    W m c r = V3 m (outsA m) c r :=
  (V7_of m (outsA m) c r h.2.2.2).trans ((V6_of m (outsA m) c r h.2.2.1).trans ((V5_of m (outsA m) c r h.2.1).trans (V4_of m (outsA m) c r h.1)))

theorem W_main_arg9 (c : Dev nD) : W m c main_arg9 = m ((c : Thread nD τ).loc main_arg9) := (since3 m c _ (by decide)).trans (kept3 m c _ (by decide))
theorem W_main_arg11 (c : Dev nD) : W m c main_arg11 = m ((c : Thread nD τ).loc main_arg11) := (since3 m c _ (by decide)).trans (kept3 m c _ (by decide))
theorem W_main_arg13 (c : Dev nD) : W m c main_arg13 = m ((c : Thread nD τ).loc main_arg13) := (since3 m c _ (by decide)).trans (kept3 m c _ (by decide))
theorem W_main_arg15 (c : Dev nD) : W m c main_arg15 = m ((c : Thread nD τ).loc main_arg15) := (since3 m c _ (by decide)).trans (kept3 m c _ (by decide))

/-- Window 3 has one block, its whole array. -/
theorem whole_3 (c : Dev nD) (t : Fin cfg1.N) : iblk (W m) c 3 t = W m c main_arg11 := by
  obtain ⟨h0, h1⟩ := (by decide +kernel : ∀ t : Fin cfg1.N, win1_3.index t 0 = 0 ∧ win1_3.index t 1 = 0) t
  funext i
  unfold iblk
  rw [View.read_apply]
  exact FcValue.block_eq (R := 1024) (Q := 2048) (W m c main_arg11) _ i _ _ h0 h1 rfl rfl

/-- Window 4 has one block, its whole array. -/
theorem whole_4 (c : Dev nD) (t : Fin cfg1.N) : iblk (W m) c 4 t = W m c main_v13 := by
  obtain ⟨h0, h1⟩ := (by decide +kernel : ∀ t : Fin cfg1.N, win1_4.index t 0 = 0 ∧ win1_4.index t 1 = 0) t
  funext i
  unfold iblk
  rw [View.read_apply]
  exact FcValue.block_eq (R := 1) (Q := 1024) (W m c main_v13) _ i _ _ h0 h1 rfl rfl

/-- Window 5 has one block, its whole array. -/
theorem whole_5 (c : Dev nD) (t : Fin cfg1.N) : iblk (W m) c 5 t = W m c main_arg13 := by
  obtain ⟨h0, h1⟩ := (by decide +kernel : ∀ t : Fin cfg1.N, win1_5.index t 0 = 0 ∧ win1_5.index t 1 = 0) t
  funext i
  unfold iblk
  rw [View.read_apply]
  exact FcValue.block_eq (R := 512) (Q := 1024) (W m c main_arg13) _ i _ _ h0 h1 rfl rfl

/-- Window 6 has one block, its whole array. -/
theorem whole_6 (c : Dev nD) (t : Fin cfg1.N) : iblk (W m) c 6 t = W m c main_v14 := by
  obtain ⟨h0, h1⟩ := (by decide +kernel : ∀ t : Fin cfg1.N, win1_6.index t 0 = 0 ∧ win1_6.index t 1 = 0) t
  funext i
  unfold iblk
  rw [View.read_apply]
  exact FcValue.block_eq (R := 1) (Q := 512) (W m c main_v14) _ i _ _ h0 h1 rfl rfl

/-- Window 7 has one block, its whole array. -/
theorem whole_7 (c : Dev nD) (t : Fin cfg1.N) : iblk (W m) c 7 t = W m c main_arg15 := by
  obtain ⟨h0, h1⟩ := (by decide +kernel : ∀ t : Fin cfg1.N, win1_7.index t 0 = 0 ∧ win1_7.index t 1 = 0) t
  funext i
  unfold iblk
  rw [View.read_apply]
  exact FcValue.block_eq (R := 256) (Q := 512) (W m c main_arg15) _ i _ _ h0 h1 rfl rfl

/-- Window 8 has one block, its whole array. -/
theorem whole_8 (c : Dev nD) (t : Fin cfg1.N) : iblk (W m) c 8 t = W m c main_v15 := by
  obtain ⟨h0, h1⟩ := (by decide +kernel : ∀ t : Fin cfg1.N, win1_8.index t 0 = 0 ∧ win1_8.index t 1 = 0) t
  funext i
  unfold iblk
  rw [View.read_apply]
  exact FcValue.block_eq (R := 1) (Q := 256) (W m c main_v15) _ i _ _ h0 h1 rfl rfl

/-- Window 9 has one block, its whole array. -/
theorem whole_9 (c : Dev nD) (t : Fin cfg1.N) : iblk (W m) c 9 t = W m c main_v16 := by
  obtain ⟨h0, h1⟩ := (by decide +kernel : ∀ t : Fin cfg1.N, win1_9.index t 0 = 0 ∧ win1_9.index t 1 = 0) t
  funext i
  unfold iblk
  rw [View.read_apply]
  exact FcValue.block_eq (R := 128) (Q := 256) (W m c main_v16) _ i _ _ h0 h1 rfl rfl

/-- Window 10 has one block, its whole array. -/
theorem whole_10 (c : Dev nD) (t : Fin cfg1.N) : iblk (W m) c 10 t = W m c main_v18 := by
  obtain ⟨h0, h1⟩ := (by decide +kernel : ∀ t : Fin cfg1.N, win1_10.index t 0 = 0 ∧ win1_10.index t 1 = 0) t
  funext i
  unfold iblk
  rw [View.read_apply]
  exact FcValue.block_eq (R := 1) (Q := 128) (W m c main_v18) _ i _ _ h0 h1 rfl rfl

/-- The input's block is the whole input at every point. -/
theorem whole_0 (c : Dev nD) (t : Fin cfg1.N) : iblk (W m) c 0 t = W m c main_v11 := by
  obtain ⟨h0, h1⟩ := (by decide +kernel : ∀ t : Fin cfg1.N, win1_0.index t 0 = 0 ∧ win1_0.index t 1 = 0) t
  funext i
  unfold iblk
  rw [View.read_apply]
  exact FcValue.block_eq (R := 64) (Q := 8192) (W m c main_v11) _ i _ _ h0 h1 rfl rfl

/-- The first weights' block at a point is 256 rows of them. -/
theorem rows_1 (c : Dev nD) (t : Fin cfg1.N) (q : Fin 256) (k : Fin 8192) (n : Fin 2048) (hn : n.val = t.val * 256 + q.val) :
    iblk (W m) c 1 t (ix2 q k) = W m c main_arg9 (ix2 n k) := by
  obtain ⟨h0, h1⟩ := (by decide +kernel : ∀ t : Fin cfg1.N, win1_1.index t 0 = t.val ∧ win1_1.index t 1 = 0) t
  unfold iblk
  rw [View.read_apply]
  show W m c main_arg9 _ = _
  refine congrArg (W m c main_arg9) (funext fun a => Fin.ext ?_)
  match a with
  | ⟨0, _⟩ => show win1_1.index t 0 * 256 + 1 * q.val = n.val; rw [h0]; omega
  | ⟨1, _⟩ => show win1_1.index t 1 * 8192 + 1 * k.val = k.val; rw [h1]; omega

/-- The first bias' block at a point is 256 entries of it. -/
theorem cols_2 (c : Dev nD) (t : Fin cfg1.N) (z : Fin 1) (q : Fin 256) (n : Fin 2048) (hn : n.val = t.val * 256 + q.val) :
    iblk (W m) c 2 t (ix2 z q) = W m c main_v12 (ix2 0 n) := by
  obtain ⟨h0, h1⟩ := (by decide +kernel : ∀ t : Fin cfg1.N, win1_2.index t 0 = 0 ∧ win1_2.index t 1 = t.val) t
  unfold iblk
  rw [View.read_apply]
  show W m c main_v12 _ = _
  refine congrArg (W m c main_v12) (funext fun a => Fin.ext ?_)
  match a with
  | ⟨0, _⟩ => show win1_2.index t 0 * 1 + 1 * z.val = 0; rw [h0]; omega
  | ⟨1, _⟩ => show win1_2.index t 1 * 256 + 1 * q.val = n.val; rw [h1]; omega

/-- `main_v12` is the bias `main_arg10` as one row. -/
theorem bias_v0 (c : Dev nD) : mat (W m c main_v12) 0 = vec (m ((c : Thread nD τ).loc main_arg10)) := by
  funext n
  unfold mat vec
  rw [since3 m c main_v12 (by decide)]
  unfold V3
  after_reads_simp
  rw [kept2 m c main_arg10 (by decide)]
  pointwise

/-- `main_v13` is the bias `main_arg12` as one row. -/
theorem bias_v1 (c : Dev nD) : mat (W m c main_v13) 0 = vec (m ((c : Thread nD τ).loc main_arg12)) := by
  funext n
  unfold mat vec
  rw [since3 m c main_v13 (by decide)]
  unfold V3
  after_reads_simp
  rw [kept2 m c main_arg12 (by decide)]
  pointwise

/-- `main_v14` is the bias `main_arg14` as one row. -/
theorem bias_v2 (c : Dev nD) : mat (W m c main_v14) 0 = vec (m ((c : Thread nD τ).loc main_arg14)) := by
  funext n
  unfold mat vec
  rw [since3 m c main_v14 (by decide)]
  unfold V3
  after_reads_simp
  rw [kept2 m c main_arg14 (by decide)]
  pointwise

/-- `main_v15` is the bias `main_arg16` as one row. -/
theorem bias_v3 (c : Dev nD) : mat (W m c main_v15) 0 = vec (m ((c : Thread nD τ).loc main_arg16)) := by
  funext n
  unfold mat vec
  rw [since3 m c main_v15 (by decide)]
  unfold V3
  after_reads_simp
  rw [kept2 m c main_arg16 (by decide)]
  pointwise

/-- The padded weights have the last weights in their first six rows. -/
theorem padded_w (c : Dev nD) (n : Fin 6) (k : Fin 256) :
    mat (W m c main_v16) ⟨n.val, by omega⟩ k = mat (m ((c : Thread nD τ).loc main_arg17)) n k := by
  unfold mat
  rw [show W m c main_v16 = V4 m (outsA m) c main_v16 from (V7_of m (outsA m) c _ (by decide)).trans ((V6_of m (outsA m) c _ (by decide)).trans (V5_of m (outsA m) c _ (by decide)))]
  unfold V4
  after_reads_simp
  rw [kept2 m c main_arg17 (by decide)]
  pointwise
  exact pad_apply_of_inside (s := S6x256) (t := S128x256) ![0, 0] ![122, 0] ![0, 0] (m ((c : Thread nD τ).loc main_arg17)) _
    pads_S6x256_S128x256_01220_000 h_S_ _ (ix2 n k) fun a => by
    match a with
    | ⟨0, _⟩ => show n.val = 0 + n.val * (0 + 1); omega
    | ⟨1, _⟩ => show k.val = 0 + k.val * (0 + 1); omega

/-- The padded bias has the last bias in its first six entries. -/
theorem padded_b (c : Dev nD) (n : Fin 6) :
    mat (W m c main_v18) 0 ⟨n.val, by omega⟩ = vec (m ((c : Thread nD τ).loc main_arg18)) n := by
  unfold mat vec
  unfold W V7
  after_reads_simp
  rw [kept2 m c main_arg18 (by decide)]
  pointwise
  exact pad_apply_of_inside (s := S6) (t := S128) ![0] ![122] ![0] (m ((c : Thread nD τ).loc main_arg18)) _
    pads_S6_S128_01220 h_S_ _ (ix1 n) fun a => by
    match a with
    | ⟨0, _⟩ => show n.val = 0 + n.val * (0 + 1); omega

/-- What a point stores into the scratch is its columns of the first layer. -/
theorem slab_at (x : Vec Ideal S64x8192 .f32) (w : Vec Ideal S256x8192 .f32) (b : Vec Ideal S1x256 .f32) (r : Fin 64) (n : Fin 256) :
    k1_pay1 x w b (ix2 r n) = relu (mat x) (mat w) (mat b 0) r n := by
  pointwise [k1_pay1, id]
  rfl

/-- The scratch after all points is the first layer of the arguments. -/
theorem layer1_at (c : Dev nD) : mat (layer1 (W m) c)
    = relu (mat (W m c main_v11)) (mat (m ((c : Thread nD τ).loc main_arg9))) (vec (m ((c : Thread nD τ).loc main_arg10))) := by
  funext r n
  have hn : n.val = (ptOf n).val * 256 + n.val % 256 := by show n.val = n.val / 256 * 256 + n.val % 256; omega
  refine (slab_at (iblk (W m) c 0 (ptOf n)) (iblk (W m) c 1 (ptOf n)) (iblk (W m) c 2 (ptOf n)) r ⟨n.val % 256, Nat.mod_lt _ (by decide)⟩).trans ?_
  rw [whole_0 m c, ← bias_v0 m c, ← W_main_arg9 m c]
  generalize (mat (W m c main_v11) : Fin 64 → Fin 8192 → EReal) = x
  have hw : ∀ k : Fin 8192, mat (R := 256) (Q := 8192) (iblk (W m) c 1 (ptOf n)) ⟨n.val % 256, Nat.mod_lt _ (by decide)⟩ k
      = mat (R := 2048) (Q := 8192) (W m c main_arg9) n k := fun k => rows_1 m c _ _ k n hn
  have hb : mat (R := 1) (Q := 256) (iblk (W m) c 2 (ptOf n)) 0 ⟨n.val % 256, Nat.mod_lt _ (by decide)⟩
      = mat (R := 1) (Q := 2048) (W m c main_v12) 0 n := cols_2 m c _ 0 _ n hn
  unfold relu dense
  exact congrArg (max · 0) (congrArg₂ (· + ·) (Finset.sum_congr rfl fun k _ => congrArg (x r k * ·) (hw k)) hb)

/-- The first six columns of what the last point stores are the latents. -/
theorem result_at (c : Dev nD) (t : Fin cfg1.N) (r : Fin 64) (n : Fin 6) :
    result (W m) c t (ix2 r ⟨n.val, by omega⟩)
      = latent (mat (W m c main_v11)) (mat (m ((c : Thread nD τ).loc main_arg9))) (vec (m ((c : Thread nD τ).loc main_arg10)))
          (mat (m ((c : Thread nD τ).loc main_arg11))) (vec (m ((c : Thread nD τ).loc main_arg12))) (mat (m ((c : Thread nD τ).loc main_arg13)))
          (vec (m ((c : Thread nD τ).loc main_arg14))) (mat (m ((c : Thread nD τ).loc main_arg15))) (vec (m ((c : Thread nD τ).loc main_arg16)))
          (mat (m ((c : Thread nD τ).loc main_arg17))) (vec (m ((c : Thread nD τ).loc main_arg18))) r n := by
  refine (pay2_at (layer1 (W m) c) (iblk (W m) c 3 t) (iblk (W m) c 4 t) (iblk (W m) c 5 t) (iblk (W m) c 6 t) (iblk (W m) c 7 t) (iblk (W m) c 8 t) (iblk (W m) c 9 t) (iblk (W m) c 10 t) r ⟨n.val, by omega⟩).trans ?_
  rw [layer1_at, whole_3, whole_4, whole_5, whole_6, whole_7, whole_8, whole_9, whole_10, bias_v1, bias_v2, bias_v3,
    W_main_arg11, W_main_arg13, W_main_arg15]
  unfold latent
  refine congrArg clip ?_
  unfold dense
  exact congrArg₂ (· + ·) (Finset.sum_congr rfl fun k _ => congrArg (_ * ·) (padded_w m c n k)) (padded_b m c n)

/-- The last point. -/
def last : Fin cfg1.N := ⟨7, by have : cfg1.N = 8 := N_1; omega⟩

theorem flush_last : ∀ t : Fin cfg1.N, (cfg1.win 11).flush t = true ↔ t = last := by decide +kernel

/-- The output's array ends as the last point's block. -/
theorem out_at (c : Dev nD) (r : Fin 64) (q : Fin 128) : (dats (W m) 0 c).arrAt 11 cfg1.N (ix2 r q) = result (W m) c last (ix2 r q) := by
  have hb := (dats (W m) 0 c).read_blk_arrAt_eq_flushed 11
    (fun t t' hf hf' hne => absurd (((flush_last t).1 hf).trans ((flush_last t').1 hf').symm) hne) cfg1.N last last.isLt ((flush_last last).2 rfl)
  obtain ⟨h0, h1⟩ := (by decide +kernel : win1_11.index last 0 = 0 ∧ win1_11.index last 1 = 0)
  have e : (dats (W m) 0 c).flushed 11 last = result (W m) c last := rfl
  rw [e] at hb
  refine Eq.trans (Eq.symm ?_) (congrFun hb (ix2 r q))
  rw [View.read_apply]
  exact FcValue.block_eq (R := 64) (Q := 128) ((dats (W m) 0 c).arrAt 11 cfg1.N) _ (ix2 r q) _ _ h0 h1 rfl rfl

/-- The first six columns of the second region's result are the latents of the features and the arguments. -/
theorem latents (c : Dev nD) (r : Fin 64) (n : Fin 6) :
    X1 m c main_v19 (ix2 r ⟨n.val, by omega⟩)
      = latent (mat (W m c main_v11)) (mat (m ((c : Thread nD τ).loc main_arg9))) (vec (m ((c : Thread nD τ).loc main_arg10)))
          (mat (m ((c : Thread nD τ).loc main_arg11))) (vec (m ((c : Thread nD τ).loc main_arg12))) (mat (m ((c : Thread nD τ).loc main_arg13)))
          (vec (m ((c : Thread nD τ).loc main_arg14))) (mat (m ((c : Thread nD τ).loc main_arg15))) (vec (m ((c : Thread nD τ).loc main_arg16)))
          (mat (m ((c : Thread nD τ).loc main_arg17))) (vec (m ((c : Thread nD τ).loc main_arg18))) r n := by
  have hX : X1 m c main_v19 = (dats (W m) 0 c).arrAt 11 cfg1.N := Pipeline.afterRegion_arr (dat1 m c) (V7 m (outsA m) c) launch1.win.arr_inj 11
  rw [hX]
  exact (out_at m c r _).trans (result_at m c last r n)

/-- The second region's input is the features, one row for each sample. -/
theorem input (c : Dev nD) (r : Fin 64) (k : Fin 8192) :
    W m c main_v11 (ix2 r k) = X0 m c main_v10 (ix3 r ⟨k.val / 64, by omega⟩ ⟨k.val % 64, by omega⟩) := by
  rw [since3 m c main_v11 (by decide)]
  unfold V3
  after_reads_simp
  rw [show V2 m (outsA m) c main_v10 = X0 m c main_v10 from Function.update_self (β := fun b : DevRef τ sig => b.ty.Contents (Elt Ideal)) _ _ _]
  pointwise

end Cert.WholeFcValue

end
-- ==== Proof.WholeCubeValue.lean ====
/-
  The whole kernel's third region in terms of the latents and the pixels: block by block what the points write, and the
  eight numbers of a sample and the pixels as the program lays them out.
-/
module

public import proofs.«01_k».proof.Proof.Pixels
public import proofs.«01_k».proof.Proof.WholeRun
public import Idealize.ShloMosaic.Lib.StableHlo.RunRead
public import Idealize.ShloMosaic.Lib.Ring

@[expose] public section

set_option maxRecDepth 16384

noncomputable section

namespace Cert.WholeCubeValue

open Cert.WholeIdeal Cert.WholeIdeal.Gen Cert.WholeCube Cert.WholeRun Cert.Disk Cert.KernelDisk Cert.RefDisk Idealize.ShloMosaic Idealize.ShloMosaic.TcCoe Idealize.ShloMosaic.StableHlo

variable (m : (ℓ : Loc nD τ sig) → Buf (Elt Ideal) ℓ)

/-- The arrays as the third region finds them. -/
abbrev W (c : Dev nD) (b : Ref sig .tc) : Buf (Elt Ideal) ((c : Thread nD τ).loc b) := V9 m (outsB m) c b

/-- The latents: the first six columns of the second region's result. -/
abbrev lats (σ : Valuation τ sig (Elt Ideal)) (b : Fin 64) (q : Fin 6) : EReal := (σ main_v19 : S64x128.Idx → EReal) (ix2 b ⟨q.val, by omega⟩)

/-- A pixel argument as the third region's operations find it. -/
theorem kept (c : Dev nD) (r : Ref sig .tc)
    (h : r ∉ hostOps0_W ∧ r ∉ ([main_v10] : List (Ref sig .tc)) ∧ r ∉ hostOps1_W ∧ r ∉ hostOps1_1_W ∧ r ∉ hostOps1_2_W ∧ r ∉ hostOps1_3_W
      ∧ r ∉ hostOps1_4_W ∧ r ∉ ([main_v19] : List (Ref sig .tc))) :
    V8 m (outsB m) c r = m ((c : Thread nD τ).loc r) :=
  (V8_of m (outsB m) c r h.2.2.2.2.2.2.2).trans <| (V7_of m (outsB m) c r h.2.2.2.2.2.2.1).trans <| (V6_of m (outsB m) c r h.2.2.2.2.2.1).trans <|
    (V5_of m (outsB m) c r h.2.2.2.2.1).trans <| (V4_of m (outsB m) c r h.2.2.2.1).trans <| (V3_of m (outsB m) c r h.2.2.1).trans <|
    (V2_of m (outsB m) c r h.2.1).trans (V1_of m c r h.1)

/-- A sample's block of the derived numbers is that sample's row. -/
theorem nums (c : Dev nD) (t : Fin cfg2.N) (o : Fin 8) : num (iblk (W m) c 0 t) o = (W m c main_v49 : S64x1x8.Idx → EReal) (ix3 ⟨t.val, t.isLt⟩ 0 o) := by
  obtain ⟨h0, h1, h2⟩ := (by decide +kernel : ∀ t : Fin cfg2.N, win2_0.index t 0 = t.val ∧ win2_0.index t 1 = 0 ∧ win2_0.index t 2 = 0) t
  unfold num iblk
  rw [View.read_apply]
  show W m c main_v49 _ = _
  congr 1
  funext a
  apply Fin.ext
  match a with
  | ⟨0, _⟩ => show win2_0.index t 0 * 1 + 1 * 0 = t.val; rw [h0]; omega
  | ⟨1, _⟩ => show win2_0.index t 1 * 1 + 1 * 0 = 0; rw [h1]
  | ⟨2, _⟩ => show win2_0.index t 2 * 8 + 1 * o.val = o.val; rw [h2]; omega

/-- What a row of the derived numbers holds: cosine and sine of the position angle, cosine and sine of the inclination, the
    scale length without its sign, and the two numbers of the rotation curve. -/
theorem derived (σ : Valuation τ sig (Elt Ideal)) (b : Fin 64) :
    let e : Fin 8 → EReal := fun o => (StableHlo.after hostOps2 σ main_v49 : S64x1x8.Idx → EReal) (ix3 b 0 o)
    let p := Ideal.atan2 (lats σ b 0) (lats σ b 1)
    e 0 = Ideal.cos p ∧ e 1 = Ideal.sin p ∧ e 2 = Ideal.cos (lats σ b 2) ∧ e 3 = Ideal.sin (lats σ b 2)
      ∧ e 4 = FloatOps.absf (F := Ideal) (φ := .f32) (lats σ b 3) ∧ e 5 = lats σ b 4 ∧ e 6 = lats σ b 5 := by
  intro e p
  refine ⟨?_, ?_, ?_, ?_, ?_, ?_, ?_⟩ <;>
  · dsimp only [e, p]
    after_reads_simp
    pointwise
    after_reads_simp
    pointwise
    try rfl

/-- The first coordinates' block at every point. -/
theorem x_at (c : Dev nD) (t : Fin cfg2.N) (r : Fin 32) (l : Fin 128) :
    (iblk (W m) c 1 t : S32x128.Idx → EReal) (ix2 r l) = (m ((c : Thread nD τ).loc main_arg1) : S64x64.Idx → EReal) (ix2 (row r l) (col r l)) := by
  obtain ⟨h0, h1⟩ := (by decide +kernel : ∀ t : Fin cfg2.N, win2_1.index t 0 = 0 ∧ win2_1.index t 1 = 0) t
  have e : (iblk (W m) c 1 t : S32x128.Idx → EReal) (ix2 r l) = (W m c main_v50 : S32x128.Idx → EReal) (ix2 r l) := by
    unfold iblk
    rw [View.read_apply]
    show W m c main_v50 _ = _
    congr 1
    funext a
    apply Fin.ext
    match a with
    | ⟨0, _⟩ => show win2_1.index t 0 * 32 + 1 * r.val = r.val; rw [h0]; omega
    | ⟨1, _⟩ => show win2_1.index t 1 * 128 + 1 * l.val = l.val; rw [h1]; omega
  rw [e, show W m c main_v50 = StableHlo.after hostOps2 (V8 m (outsB m) c) main_v50 from rfl, ← kept m c main_arg1 (by decide)]
  generalize V8 m (outsB m) c = σ
  after_reads_simp
  pointwise

/-- The second coordinates' block at every point. -/
theorem y_at (c : Dev nD) (t : Fin cfg2.N) (r : Fin 32) (l : Fin 128) :
    (iblk (W m) c 2 t : S32x128.Idx → EReal) (ix2 r l) = (m ((c : Thread nD τ).loc main_arg2) : S64x64.Idx → EReal) (ix2 (row r l) (col r l)) := by
  obtain ⟨h0, h1⟩ := (by decide +kernel : ∀ t : Fin cfg2.N, win2_2.index t 0 = 0 ∧ win2_2.index t 1 = 0) t
  have e : (iblk (W m) c 2 t : S32x128.Idx → EReal) (ix2 r l) = (W m c main_v51 : S32x128.Idx → EReal) (ix2 r l) := by
    unfold iblk
    rw [View.read_apply]
    show W m c main_v51 _ = _
    congr 1
    funext a
    apply Fin.ext
    match a with
    | ⟨0, _⟩ => show win2_2.index t 0 * 32 + 1 * r.val = r.val; rw [h0]; omega
    | ⟨1, _⟩ => show win2_2.index t 1 * 128 + 1 * l.val = l.val; rw [h1]; omega
  rw [e, show W m c main_v51 = StableHlo.after hostOps2 (V8 m (outsB m) c) main_v51 from rfl, ← kept m c main_arg2 (by decide)]
  generalize V8 m (outsB m) c = σ
  after_reads_simp
  pointwise

/-- What a point writes back of window 3. -/
theorem flushed3 (V : (c : Dev nD) → (b : Ref sig .tc) → Buf (Elt Ideal) ((c : Thread nD τ).loc b)) (c : Dev nD) (t : Fin cfg2.N) :
    (dats V 0 c).flushed 3 t = (cfg2.win 3).cut (grid2.coords t) (WholeCube.out0_3 (iblk V c 0 t) (iblk V c 1 t) (iblk V c 2 t)) := by
  show (cfg2.win 3).cut (grid2.coords t) ((dats V 0 c).after 3 t) = _
  rw [after0_3]

/-- The blocks that the points write of window 3 do not meet. -/
theorem disjoint3 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h =>
    hne ((by decide +kernel : ∀ t t' : Fin grid2.N, win2_3.index t = win2_3.index t' → t = t') t t' h)

/-- The cubes' array after the run, at a sample: what that sample's point writes. -/
theorem arr3 (c : Dev nD) (b : Fin 64) (k : Fin 121) (r : Fin 32) (l : Fin 128) :
    ((dats (W m) 0 c).arrAt 3 cfg2.N : S64x121x32x128.Idx → EReal) (ix4 b k r l)
      = (WholeCube.out0_3 (F := Ideal) (iblk (W m) c 0 ⟨b.val, b.isLt⟩) (iblk (W m) c 1 ⟨b.val, b.isLt⟩) (iblk (W m) c 2 ⟨b.val, b.isLt⟩) : S1x121x32x128.Idx → EReal) (ix4 0 k r l) := by
  obtain ⟨h0, h1, h2, h3⟩ := (by decide +kernel : ∀ t : Fin cfg2.N, win2_3.index t 0 = t.val ∧ win2_3.index t 1 = 0 ∧ win2_3.index t 2 = 0 ∧ win2_3.index t 3 = 0) ⟨b.val, b.isLt⟩
  have h := congrFun ((dats (W m) 0 c).read_blk_arrAt_eq_flushed 3 disjoint3 cfg2.N ⟨b.val, b.isLt⟩ b.isLt ((by decide +kernel : ∀ t : Fin cfg2.N, (cfg2.win 3).flush t = true) _)) (ix4 0 k r l)
  rw [View.read_apply, flushed3] at h
  refine Eq.trans ?_ (h.trans ?_)
  · congr 1
    funext a
    apply Fin.ext
    match a with
    | ⟨0, _⟩ => show b.val = win2_3.index ⟨b.val, b.isLt⟩ 0 * 1 + 1 * 0; rw [h0]; show b.val = b.val * 1 + 1 * 0; omega
    | ⟨1, _⟩ => show k.val = win2_3.index ⟨b.val, b.isLt⟩ 1 * 121 + 1 * k.val; rw [h1]; omega
    | ⟨2, _⟩ => show r.val = win2_3.index ⟨b.val, b.isLt⟩ 2 * 32 + 1 * r.val; rw [h2]; omega
    | ⟨3, _⟩ => show l.val = win2_3.index ⟨b.val, b.isLt⟩ 3 * 128 + 1 * l.val; rw [h3]; omega
  · generalize WholeCube.out0_3 (F := Ideal) _ _ _ = X
    rfl

/-- What a point writes back of window 4. -/
theorem flushed4 (V : (c : Dev nD) → (b : Ref sig .tc) → Buf (Elt Ideal) ((c : Thread nD τ).loc b)) (c : Dev nD) (t : Fin cfg2.N) :
    (dats V 0 c).flushed 4 t = (cfg2.win 4).cut (grid2.coords t) (WholeCube.out0_4 (iblk V c 0 t) (iblk V c 1 t) (iblk V c 2 t)) := by
  show (cfg2.win 4).cut (grid2.coords t) ((dats V 0 c).after 4 t) = _
  rw [after0_4]

/-- The blocks that the points write of window 4 do not meet. -/
theorem disjoint4 : ∀ t t' : Fin cfg2.N, (cfg2.win 4).flush t = true → (cfg2.win 4).flush t' = true → t ≠ t' →
    Disjoint ((cfg2.win 4).blk t).view.set ((cfg2.win 4).blk t').view.set :=
  fun t t' _ _ hne => (cfg2.win 4).disjoint_blk fun h =>
    hne ((by decide +kernel : ∀ t t' : Fin grid2.N, win2_4.index t = win2_4.index t' → t = t') t t' h)

/-- The velocities' array after the run, at a sample: what that sample's point writes. -/
theorem arr4 (c : Dev nD) (b : Fin 64) (r : Fin 32) (l : Fin 128) :
    ((dats (W m) 0 c).arrAt 4 cfg2.N : S64x32x128.Idx → EReal) (ix3 b r l)
      = (WholeCube.out0_4 (F := Ideal) (iblk (W m) c 0 ⟨b.val, b.isLt⟩) (iblk (W m) c 1 ⟨b.val, b.isLt⟩) (iblk (W m) c 2 ⟨b.val, b.isLt⟩) : S1x32x128.Idx → EReal) (ix3 0 r l) := by
  obtain ⟨h0, h1, h2⟩ := (by decide +kernel : ∀ t : Fin cfg2.N, win2_4.index t 0 = t.val ∧ win2_4.index t 1 = 0 ∧ win2_4.index t 2 = 0) ⟨b.val, b.isLt⟩
  have h := congrFun ((dats (W m) 0 c).read_blk_arrAt_eq_flushed 4 disjoint4 cfg2.N ⟨b.val, b.isLt⟩ b.isLt ((by decide +kernel : ∀ t : Fin cfg2.N, (cfg2.win 4).flush t = true) _)) (ix3 0 r l)
  rw [View.read_apply, flushed4] at h
  refine Eq.trans ?_ (h.trans ?_)
  · congr 1
    funext a
    apply Fin.ext
    match a with
    | ⟨0, _⟩ => show b.val = win2_4.index ⟨b.val, b.isLt⟩ 0 * 1 + 1 * 0; rw [h0]; show b.val = b.val * 1 + 1 * 0; omega
    | ⟨1, _⟩ => show r.val = win2_4.index ⟨b.val, b.isLt⟩ 1 * 32 + 1 * r.val; rw [h1]; omega
    | ⟨2, _⟩ => show l.val = win2_4.index ⟨b.val, b.isLt⟩ 2 * 128 + 1 * l.val; rw [h2]; omega
  · generalize WholeCube.out0_4 (F := Ideal) _ _ _ = X
    rfl

/-- What a point writes of the cubes, as the call on its own writes it. -/
theorem out3_same (d : S1x1x8.Idx → EReal) (x y : S32x128.Idx → EReal) :
    (WholeCube.out0_3 (F := Ideal) d x y : S1x121x32x128.Idx → EReal) = CubeIdeal.Gen.out0_3 (F := Ideal) d x y := by sl_kernel_rfl

/-- What a point writes of the velocities, as the call on its own writes it. -/
theorem out4_same (d : S1x1x8.Idx → EReal) (x y : S32x128.Idx → EReal) :
    (WholeCube.out0_4 (F := Ideal) d x y : S1x32x128.Idx → EReal) = CubeIdeal.Gen.out0_4 (F := Ideal) d x y := by sl_kernel_rfl

section Tie

variable (c : Dev nD) (V : Valuation CubeRefIdeal.τ CubeRefIdeal.sig (Elt Ideal))

/-- The latents and the pixels of a start of the disk's reference are the kernel's. -/
def Same : Prop :=
  (∀ (b : Fin 64) (q : Fin 6), RefDisk.lat V (ix2 b q) = (X1 m c main_v19 : S64x128.Idx → EReal) (ix2 b ⟨q.val, by omega⟩))
    ∧ RefDisk.xs V = (m ((c : Thread nD τ).loc main_arg1) : S64x64.Idx → EReal)
    ∧ RefDisk.ys V = (m ((c : Thread nD τ).loc main_arg2) : S64x64.Idx → EReal)

/-- The numbers the kernel reads of a sample are the reference's. -/
theorem nums_eq (hV : Same m c V) (b : Fin 64) : Pixels.Numbers V b (iblk (W m) c 0 ⟨b.val, b.isLt⟩) := by
  have e : V8 m (outsB m) c main_v19 = X1 m c main_v19 := Function.update_self (β := fun b : DevRef τ sig => b.ty.Contents (Elt Ideal)) _ _ _
  have h := derived (V8 m (outsB m) c) b
  simp only [lats, e] at h
  rw [Pixels.Numbers, RefDisk.pos]
  simp only [nums, hV.1]
  exact h

/-- The first coordinates the kernel reads are the reference's. -/
theorem xs_eq (hV : Same m c V) (b : Fin 64) (r : Fin 32) (l : Fin 128) :
    (iblk (W m) c 1 ⟨b.val, b.isLt⟩ : S32x128.Idx → EReal) (ix2 r l) = RefDisk.xs V (ix2 (RefDisk.row r l) (RefDisk.col r l)) := by
  rw [hV.2.1]; exact x_at m c _ r l

/-- The second coordinates. -/
theorem ys_eq (hV : Same m c V) (b : Fin 64) (r : Fin 32) (l : Fin 128) :
    (iblk (W m) c 2 ⟨b.val, b.isLt⟩ : S32x128.Idx → EReal) (ix2 r l) = RefDisk.ys V (ix2 (RefDisk.row r l) (RefDisk.col r l)) := by
  rw [hV.2.2]; exact y_at m c _ r l

/-- The third region's cubes are the reference's. -/
theorem cubes_eq (hV : Same m c V) (h : Pixels.Inside V) : RefDisk.cubes V = (X2 m c main_v52_0 : S64x121x32x128.Idx → EReal) := by
  rw [show X2 m c main_v52_0 = (dats (W m) 0 c).arrAt 3 cfg2.N from Pipeline.afterRegion_arr (dat2 m c) (V9 m (outsB m) c) launch2.win.arr_inj 3]
  funext i
  obtain ⟨b, k, r, l, rfl⟩ : ∃ (b : Fin 64) (k : Fin 121) (r : Fin 32) (l : Fin 128), i = ix4 b k r l :=
    ⟨i 0, i 1, i 2, i 3, by funext a; match a with | ⟨0, _⟩ => rfl | ⟨1, _⟩ => rfl | ⟨2, _⟩ => rfl | ⟨3, _⟩ => rfl⟩
  refine Eq.trans ?_ (arr3 m c b k r l).symm
  rw [out3_same]
  exact Pixels.cell_eq V h b r l _ _ _ (nums_eq m c V hV b) (xs_eq m c V hV b r l) (ys_eq m c V hV b r l) k

/-- The third region's velocities are the reference's. -/
theorem velocities_eq (hV : Same m c V) (h : Pixels.Inside V) : RefDisk.velocities V = (X2 m c main_v52_1 : S64x32x128.Idx → EReal) := by
  rw [show X2 m c main_v52_1 = (dats (W m) 0 c).arrAt 4 cfg2.N from Pipeline.afterRegion_arr (dat2 m c) (V9 m (outsB m) c) launch2.win.arr_inj 4]
  funext i
  obtain ⟨b, r, l, rfl⟩ : ∃ (b : Fin 64) (r : Fin 32) (l : Fin 128), i = ix3 b r l :=
    ⟨i 0, i 1, i 2, by funext a; match a with | ⟨0, _⟩ => rfl | ⟨1, _⟩ => rfl | ⟨2, _⟩ => rfl⟩
  refine Eq.trans ?_ (arr4 m c b r l).symm
  rw [out4_same]
  exact Pixels.velocity_eq V h b r l _ _ _ (nums_eq m c V hV b) (xs_eq m c V hV b r l) (ys_eq m c V hV b r l)

end Tie

/-- The program's first result is the third region's cubes, laid out by pixel. -/
theorem result3 (c : Dev nD) : V11 m (outs m) c main_v53 = shapeCast S64x121x64x64 (X2 m c main_v52_0 : S64x121x32x128.Idx → EReal) shapeCasts_S64x121x32x128_S64x121x64x64 := by
  have e : V10 m (outs m) c main_v52_0 = X2 m c main_v52_0 := by
    unfold V10
    rw [Function.update_of_ne (StableHlo.devRef_ne_of_ne (by decide))]
    exact Function.update_self (β := fun b : DevRef τ sig => b.ty.Contents (Elt Ideal)) _ _ _
  rw [← e, show V11 m (outs m) c = StableHlo.after hostOps3 (V10 m (outs m) c) from rfl]
  generalize V10 m (outs m) c = σ
  after_reads_simp
  rfl

/-- Its second result is the third region's velocities, laid out by pixel. -/
theorem result4 (c : Dev nD) : V11 m (outs m) c main_v54 = shapeCast S64x64x64 (X2 m c main_v52_1 : S64x32x128.Idx → EReal) shapeCasts_S64x32x128_S64x64x64 := by
  have e : V10 m (outs m) c main_v52_1 = X2 m c main_v52_1 := Function.update_self (β := fun b : DevRef τ sig => b.ty.Contents (Elt Ideal)) _ _ _
  rw [← e, show V11 m (outs m) c = StableHlo.after hostOps3 (V10 m (outs m) c) from rfl]
  generalize V10 m (outs m) c = σ
  after_reads_simp
  rfl

end Cert.WholeCubeValue

end
-- ==== Proof.WholeTie.lean ====
/-
  The whole kernel against the whole reference: the latents of the second region are the reference's, so the third region's
  results are too.
-/
module

public import proofs.«01_k».proof.Proof.WholeRef
public import proofs.«01_k».proof.Proof.WholeEncValue
public import proofs.«01_k».proof.Proof.WholeFcValue
public import proofs.«01_k».proof.Proof.WholeCubeValue
public import proofs.«01_k».proof.Proof.Gen.Pre_pixels

@[expose] public section

set_option maxRecDepth 16384

noncomputable section

namespace Cert.WholeTie

open Cert.WholeIdeal Cert.WholeIdeal.Gen Cert.WholeRun Cert.FcLayers Idealize.ShloMosaic Idealize.ShloMosaic.TcCoe Idealize.ShloMosaic.StableHlo

section Pixels

variable {a0 : FVec Ideal Pre_pixels.S64x120x64x64 .f32} {a1 : FVec Ideal Pre_pixels.S64x64 .f32} {a2 : FVec Ideal Pre_pixels.S64x64 .f32} {a3 : FVec Ideal Pre_pixels.S32x120x3x3 .f32} {a4 : FVec Ideal Pre_pixels.S32 .f32} {a5 : FVec Ideal Pre_pixels.S64x32x3x3 .f32} {a6 : FVec Ideal Pre_pixels.S64 .f32} {a7 : FVec Ideal Pre_pixels.S128x64x3x3 .f32} {a8 : FVec Ideal Pre_pixels.S128 .f32} {a9 : FVec Ideal Pre_pixels.S2048x8192 .f32} {a10 : FVec Ideal Pre_pixels.S2048 .f32} {a11 : FVec Ideal Pre_pixels.S1024x2048 .f32} {a12 : FVec Ideal Pre_pixels.S1024 .f32} {a13 : FVec Ideal Pre_pixels.S512x1024 .f32} {a14 : FVec Ideal Pre_pixels.S512 .f32} {a15 : FVec Ideal Pre_pixels.S256x512 .f32} {a16 : FVec Ideal Pre_pixels.S256 .f32} {a17 : FVec Ideal Pre_pixels.S6x256 .f32} {a18 : FVec Ideal Pre_pixels.S6 .f32}

/-- The precondition at a pixel: a real one, not the origin. -/
theorem pre_at (h : Pre_pixels.fn (F := Ideal) a0 a1 a2 a3 a4 a5 a6 a7 a8 a9 a10 a11 a12 a13 a14 a15 a16 a17 a18 = fun _ => 1#1) (i j : Fin 64) :
    ∃ x y : ℝ, a1 (ix2 i j) = (x : EReal) ∧ a2 (ix2 i j) = (y : EReal) ∧ 0 < |x| + |y| := by
  have e := congrFun h (ix2 i j)
  have e' : Pre_pixels.fn (F := Ideal) a0 a1 a2 a3 a4 a5 a6 a7 a8 a9 a10 a11 a12 a13 a14 a15 a16 a17 a18 (ix2 i j)
      = IntOp.andi
          (IntOp.andi (BitVec.ofBool (decide (max (a1 (ix2 i j)) (-a1 (ix2 i j)) < Ideal.ofBits .f32 0x7F800000#32)))
            (BitVec.ofBool (decide (max (a2 (ix2 i j)) (-a2 (ix2 i j)) < Ideal.ofBits .f32 0x7F800000#32))))
          (BitVec.ofBool (decide (0 < max (a1 (ix2 i j)) (-a1 (ix2 i j)) + max (a2 (ix2 i j)) (-a2 (ix2 i j))))) := by
    pointwise [Pre_pixels.fn]
    rfl
  rw [e'] at e
  simp only [IntOp.andi_eq_one, WordCmp.ofBool_eq_one_iff, decide_eq_true_eq, Pixels.lit_top] at e
  obtain ⟨⟨hx, hy⟩, hp⟩ := e
  obtain ⟨x, ex⟩ := Pixels.real_of_lt hx
  obtain ⟨y, ey⟩ := Pixels.real_of_lt hy
  refine ⟨x, y, ex, ey, ?_⟩
  rw [ex, ey, ← EReal.coe_neg, ← EReal.coe_neg, ← EReal.coe_strictMono.monotone.map_max, ← EReal.coe_strictMono.monotone.map_max,
    ← EReal.coe_add] at hp
  exact_mod_cast hp

end Pixels

/-- The cut-off's lower end is minus one. -/
theorem lit_neg_one : Ideal.ofBits .f32 0xBF800000#32 = ((-1 : ℝ) : EReal) := by
  simp [Ideal.ofBits, Ideal.ieee]
  rw [← EReal.coe_mul, ← EReal.coe_one]
  norm_num

/-- What is cut off below at minus one and above at one is a real within one of zero. -/
theorem clip_real (v : EReal) : ∃ r : ℝ, clip v = (r : EReal) ∧ |r| ≤ 1 := by
  have h1 : clip v ≤ ((1 : ℝ) : EReal) := by rw [clip]; exact (min_le_left _ _).trans (by simp)
  have h0 : ((-1 : ℝ) : EReal) ≤ clip v := by
    rw [clip, lit_neg_one]
    exact le_min (by rw [← EReal.coe_one]; exact EReal.coe_le_coe_iff.2 (by norm_num)) (le_max_left _ _)
  generalize clip v = w at h0 h1
  induction w with
  | bot => exact absurd h0 (not_le.2 (EReal.bot_lt_coe _))
  | top => exact absurd h1 (not_le.2 (EReal.coe_lt_top _))
  | coe r => exact ⟨r, rfl, abs_le.2 ⟨EReal.coe_le_coe_iff.1 h0, EReal.coe_le_coe_iff.1 h1⟩⟩

variable (m : (ℓ : Loc nD τ sig) → Buf (Elt Ideal) ℓ) (c : Dev nD)
  (V : Valuation WholeRefIdeal.τ WholeRefIdeal.sig (Elt Ideal))

/-- The reference's arguments are the kernel's. -/
def Same : Prop :=
  V (Proc.devRef .tc WholeRefIdeal.main_arg0) = m ((c : Thread nD τ).loc main_arg0)
    ∧ V (Proc.devRef .tc WholeRefIdeal.main_arg1) = m ((c : Thread nD τ).loc main_arg1)
    ∧ V (Proc.devRef .tc WholeRefIdeal.main_arg2) = m ((c : Thread nD τ).loc main_arg2)
    ∧ V (Proc.devRef .tc WholeRefIdeal.main_arg3) = m ((c : Thread nD τ).loc main_arg3)
    ∧ V (Proc.devRef .tc WholeRefIdeal.main_arg4) = m ((c : Thread nD τ).loc main_arg4)
    ∧ V (Proc.devRef .tc WholeRefIdeal.main_arg5) = m ((c : Thread nD τ).loc main_arg5)
    ∧ V (Proc.devRef .tc WholeRefIdeal.main_arg6) = m ((c : Thread nD τ).loc main_arg6)
    ∧ V (Proc.devRef .tc WholeRefIdeal.main_arg7) = m ((c : Thread nD τ).loc main_arg7)
    ∧ V (Proc.devRef .tc WholeRefIdeal.main_arg8) = m ((c : Thread nD τ).loc main_arg8)
    ∧ V (Proc.devRef .tc WholeRefIdeal.main_arg9) = m ((c : Thread nD τ).loc main_arg9)
    ∧ V (Proc.devRef .tc WholeRefIdeal.main_arg10) = m ((c : Thread nD τ).loc main_arg10)
    ∧ V (Proc.devRef .tc WholeRefIdeal.main_arg11) = m ((c : Thread nD τ).loc main_arg11)
    ∧ V (Proc.devRef .tc WholeRefIdeal.main_arg12) = m ((c : Thread nD τ).loc main_arg12)
    ∧ V (Proc.devRef .tc WholeRefIdeal.main_arg13) = m ((c : Thread nD τ).loc main_arg13)
    ∧ V (Proc.devRef .tc WholeRefIdeal.main_arg14) = m ((c : Thread nD τ).loc main_arg14)
    ∧ V (Proc.devRef .tc WholeRefIdeal.main_arg15) = m ((c : Thread nD τ).loc main_arg15)
    ∧ V (Proc.devRef .tc WholeRefIdeal.main_arg16) = m ((c : Thread nD τ).loc main_arg16)
    ∧ V (Proc.devRef .tc WholeRefIdeal.main_arg17) = m ((c : Thread nD τ).loc main_arg17)
    ∧ V (Proc.devRef .tc WholeRefIdeal.main_arg18) = m ((c : Thread nD τ).loc main_arg18)

/-- The second region's input is the reference's features, one row for each sample. -/
theorem rows_eq (hV : Same m c V) : mat (V7 m (outsA m) c main_v11 : S64x8192.Idx → EReal) = mat (WholeRef.rows V) := by
  obtain ⟨e0, e1, e2, e3, e4, e5, e6, e7, e8, e9, e10, e11, e12, e13, e14, e15, e16, e17, e18⟩ := hV
  funext r k
  refine (WholeFcValue.input m c r k).trans ((WholeEncValue.features m c r _ _).trans ?_)
  rw [← e0, ← e3, ← e4, ← e5, ← e6, ← e7, ← e8]
  rfl

/-- The latents of the second region are the reference's. -/
theorem latents_eq (hV : Same m c V) (b : Fin 64) (q : Fin 6) :
    (WholeRefIdeal.Value.res_main_v186 V : S64x6.Idx → EReal) (ix2 b q) = (X1 m c main_v19 : S64x128.Idx → EReal) (ix2 b ⟨q.val, by omega⟩) := by
  refine Eq.trans ?_ (WholeFcValue.latents m c b q).symm
  rw [WholeRef.latents]
  refine (latents_at _ _ _ _ _ _ _ _ _ _ _ b q).trans ?_
  rw [show mat (WholeFcValue.W m c main_v11 : S64x8192.Idx → EReal) = _ from rows_eq m c V hV]
  obtain ⟨e0, e1, e2, e3, e4, e5, e6, e7, e8, e9, e10, e11, e12, e13, e14, e15, e16, e17, e18⟩ := hV
  rw [← e9, ← e10, ← e11, ← e12, ← e13, ← e14, ← e15, ← e16, ← e17, ← e18]

/-- The start of the disk's reference is what the third region sees. -/
theorem at0_same (hV : Same m c V) : WholeCubeValue.Same m c (WholeRef.at0 V) :=
  ⟨fun b q => by rw [WholeRef.start_lat]; exact latents_eq m c V hV b q, (WholeRef.start_xs _ _ _).trans hV.2.1, (WholeRef.start_ys _ _ _).trans hV.2.2.1⟩

/-- The latents are reals within one of zero; the pixels real ones, not the origin. -/
theorem inside (hV : Same m c V) (hp : Pre_pixels.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) = fun _ => 1#1) : Pixels.Inside (WholeRef.at0 V) := by
  refine ⟨fun b q => ?_, fun i j => ?_⟩
  · rw [WholeRef.start_lat, WholeRef.latents, latents_at]
    exact clip_real _
  · rw [WholeRef.start_xs, WholeRef.start_ys, hV.2.1, hV.2.2.1]
    exact pre_at hp i j

/-- The first result. -/
theorem cubes_eq (hV : Same m c V) (hp : Pre_pixels.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) = fun _ => 1#1) :
    WholeRef.cubes (WholeRef.at0 V) = V11 m (outs m) c main_v53 := by
  rw [WholeCubeValue.result3, ← WholeCubeValue.cubes_eq m c (WholeRef.at0 V) (at0_same m c V hV) (inside m c V hV hp), WholeRef.cubes_cast]
  exact (shapeCast_shapeCast _ _ _).symm

/-- The second result. -/
theorem velocities_eq (hV : Same m c V) (hp : Pre_pixels.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) = fun _ => 1#1) :
    CubeRefIdeal.Value.res_main_v123 (WholeRef.at0 V) = V11 m (outs m) c main_v54 := by
  rw [WholeCubeValue.result4, ← WholeCubeValue.velocities_eq m c (WholeRef.at0 V) (at0_same m c V hV) (inside m c V hV hp)]
  exact (shapeCast_shapeCast _ _ _).symm

end Cert.WholeTie

end
-- ==== Proof.lean ====
module

public import proofs.«01_k».proof.Defs
public import proofs.«01_k».proof.Proof.Gen.Cube.Frame
public import proofs.«01_k».proof.Proof.Gen.Enc.Frame
public import proofs.«01_k».proof.Proof.Gen.Fc.Frame
public import proofs.«01_k».proof.Proof.Gen.FcIdeal.Frame
public import proofs.«01_k».proof.Proof.Gen.FcIdeal.Skeleton
public import proofs.«01_k».proof.Proof.Gen.FcRefIdeal.Run
public import proofs.«01_k».proof.Proof.Gen.EncIdeal.Value
public import proofs.«01_k».proof.Proof.Gen.EncRefIdeal.Run
public import proofs.«01_k».proof.Proof.Gen.CubeIdeal.Value
public import proofs.«01_k».proof.Proof.Gen.CubeRefIdeal.Run
public import proofs.«01_k».proof.Proof.Gen.Whole
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Regions
public import proofs.«01_k».proof.Proof.Gen.WholeIdeal.Points
public import proofs.«01_k».proof.Proof.Gen.WholeRefIdeal.Run
public import proofs.«01_k».proof.Proof.Operands
public import proofs.«01_k».proof.Proof.RefConv
public import proofs.«01_k».proof.Proof.Gen.Pre_latents_and_pixels
public import proofs.«01_k».proof.Proof.Gen.Pre_pixels
public import proofs.«01_k».proof.Proof.Pixels
public import proofs.«01_k».proof.Proof.FcValue
public import proofs.«01_k».proof.Proof.FcBits
public import proofs.«01_k».proof.Proof.WholeBits
public import proofs.«01_k».proof.Proof.WholeFrame
public import proofs.«01_k».proof.Proof.WholeTie
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_EncRefIdeal : quiescent_EncRefIdeal := fun m ρ _ =>
  (θ_run Cert.EncRefIdeal.defs _ _).mono (fun r h => ⟨fun c => (h c).2, sem_eq_zero_of_no_sems (by decide) r.2⟩)
    (Cert.EncRefIdeal.Value.run (F := Ideal) m ρ)

theorem algebraic_EncIdeal_EncRefIdeal : algebraic_EncIdeal_EncRefIdeal := by
  intro m ρ m' ρ' _ hagree
  refine ⟨_, Cert.EncIdeal.Value.run (F := Ideal) m ρ, ?_⟩
  refine (θ_run Cert.EncRefIdeal.defs _ _).mono (fun _ h c => ⟨?_, (h c).2⟩) (Cert.EncRefIdeal.Value.run (F := Ideal) m' ρ')
  obtain ⟨e0, e1, e2, e3, e4, e5, e6⟩ := hagree c
  rw [(h c).1]
  refine (show _ = Cert.RefConv.features (StableHlo.launchContents m' c) from rfl).trans ?_
  refine funext fun i => ?_
  rw [show i = ix3 (i 0) (i 1) (i 2) from by funext a; match a with | ⟨0, _⟩ => rfl | ⟨1, _⟩ => rfl | ⟨2, _⟩ => rfl]
  refine (Cert.RefConv.run_at _ (i 0) (i 1) (i 2)).trans (Eq.trans ?_ (Cert.Operands.result m c (i 0) (i 1) (i 2)).symm)
  rw [← e0, ← e1, ← e2, ← e3, ← e4, ← e5, ← e6]

theorem quiescent_FcRefIdeal : quiescent_FcRefIdeal := fun m ρ _ =>
  (θ_run Cert.FcRefIdeal.defs _ _).mono (fun r h => ⟨fun c => (h c).2, sem_eq_zero_of_no_sems (by decide) r.2⟩)
    (Cert.FcRefIdeal.Value.run (F := Ideal) m ρ)

theorem algebraic_FcIdeal_FcRefIdeal : algebraic_FcIdeal_FcRefIdeal := by
  intro m ρ m' ρ' _ hagree
  refine ⟨_, Cert.FcValue.run m ρ, ?_⟩
  refine (θ_run Cert.FcRefIdeal.defs _ _).mono (fun _ h c => ⟨?_, (h c).2⟩) (Cert.FcRefIdeal.Value.run (F := Ideal) m' ρ')
  obtain ⟨e0, e1, e2, e3, e4, e5, e6, e7, e8, e9, e10⟩ := hagree c
  rw [(h c).1, e0, e1, e2, e3, e4, e5, e6, e7, e8, e9, e10]
  refine funext fun i => ?_
  rw [show i = ix2 (i 0) (i 1) from by funext a; match a with | ⟨0, _⟩ => rfl | ⟨1, _⟩ => rfl]
  exact (Cert.FcLayers.latents_at _ _ _ _ _ _ _ _ _ _ _ (i 0) (i 1)).trans (Cert.FcValue.latents_eq m c (i 0) (i 1)).symm

theorem quiescent_CubeRefIdeal : quiescent_CubeRefIdeal := fun m ρ _ =>
  (θ_run Cert.CubeRefIdeal.defs _ _).mono (fun r h => ⟨fun c => (h c).2.2, sem_eq_zero_of_no_sems (by decide) r.2⟩)
    (Cert.CubeRefIdeal.Value.run (F := Ideal) m ρ)

theorem preserves_Cube_CubeIdeal : preserves_Cube_CubeIdeal :=
  ⟨IdealRules.named_const.statement Cert.CubeIdeal.κ "quarter_pi" .f32 0x3F490FDB#32 ((Real.pi * (1 / 4) : ℝ) : EReal) rfl,
    IdealRules.named_const.statement Cert.CubeIdeal.κ "half_pi" .f32 0x3FC90FDB#32 ((Real.pi * (1 / 2) : ℝ) : EReal) rfl⟩

theorem algebraic_CubeIdeal_CubeRefIdeal :
    algebraic_CubeIdeal_CubeRefIdeal_pre_latents_and_pixels (hPre_latents_and_pixels := Cert.Pre_latents_and_pixels.Gen.facts) := by
  intro m ρ m' ρ' hpre hagree
  refine ⟨_, _, Cert.CubeIdeal.Value.run_blocks (F := Ideal) m ρ, ?_⟩
  refine (θ_run Cert.CubeRefIdeal.defs _ _).mono (fun _ h c => ⟨?_, ?_, (h c).2.2⟩) (Cert.CubeRefIdeal.Value.run (F := Ideal) m' ρ')
  all_goals
    have hV : Cert.Pixels.Same m c (StableHlo.launchContents m' c) := hagree c
    have hp : Cert.Pre_latents_and_pixels.fn (F := Ideal) (Cert.RefDisk.lat (StableHlo.launchContents m' c))
        (Cert.RefDisk.xs (StableHlo.launchContents m' c)) (Cert.RefDisk.ys (StableHlo.launchContents m' c)) = fun _ => 1#1 := by
      rw [hV.1, hV.2.1, hV.2.2]
      exact hpre c
  · exact (h c).1.trans (Cert.Pixels.cubes_eq m c _ hV hp)
  · exact (h c).2.1.trans (Cert.Pixels.velocities_eq m c _ hV hp)

theorem quiescent_WholeRefIdeal : quiescent_WholeRefIdeal := fun m ρ _ =>
  (θ_run Cert.WholeRefIdeal.defs _ _).mono (fun r h => ⟨fun c => (h c).2.2, sem_eq_zero_of_no_sems (by decide) r.2⟩)
    (Cert.WholeRefIdeal.Value.run (F := Ideal) m ρ)

theorem preserves_Whole_WholeIdeal : preserves_Whole_WholeIdeal :=
  ⟨IdealRules.named_const.statement Cert.WholeIdeal.κ "quarter_pi" .f32 0x3F490FDB#32 ((Real.pi * (1 / 4) : ℝ) : EReal) rfl,
    IdealRules.named_const.statement Cert.WholeIdeal.κ "half_pi" .f32 0x3FC90FDB#32 ((Real.pi * (1 / 2) : ℝ) : EReal) rfl⟩

theorem algebraic_WholeIdeal_WholeRefIdeal : algebraic_WholeIdeal_WholeRefIdeal_pre_pixels (hPre_pixels := Cert.Pre_pixels.Gen.facts) := by
  intro m ρ m' ρ' hpre hagree
  refine ⟨_, _, Cert.WholeRun.run_values (F := Ideal) m ρ, ?_⟩
  refine (θ_run Cert.WholeRefIdeal.defs _ _).mono (fun _ h c => ⟨?_, ?_, (h c).2.2⟩) (Cert.WholeRefIdeal.Value.run (F := Ideal) m' ρ')
  · rw [(h c).1]
    exact Eq.trans (b := Cert.WholeRef.cubes (Cert.WholeRef.at0 (StableHlo.launchContents m' c))) (by sl_kernel_rfl)
      (Cert.WholeTie.cubes_eq m c _ (hagree c) (hpre c))
  · rw [(h c).2.1]
    exact Eq.trans (b := Cert.CubeRefIdeal.Value.res_main_v123 (Cert.WholeRef.at0 (StableHlo.launchContents m' c))) (by sl_kernel_rfl)
      (Cert.WholeTie.velocities_eq m c _ (hagree c) (hpre c))

theorem claim : Cert.Claim := ⟨Cert.Enc.Gen.facts, Cert.EncIdeal.Gen.facts, Cert.EncRefIdeal.Gen.facts, Cert.Fc.Gen.facts,
  Cert.FcIdeal.Gen.facts, Cert.FcRefIdeal.Gen.facts, Cert.Cube.Gen.facts,
  Cert.CubeIdeal.Gen.facts, Cert.CubeRefIdeal.Gen.facts, Cert.Whole.Gen.facts,
  Cert.WholeIdeal.Gen.facts, Cert.WholeRefIdeal.Gen.facts, Cert.Pre_latents_and_pixels.Gen.facts, Cert.Pre_pixels.Gen.facts,
  fun m ρ _ => Cert.Enc.Gen.frame m ρ, fun m ρ _ => Cert.EncIdeal.Gen.frame m ρ, quiescent_EncRefIdeal,
  Cert.FcBits.quiescent, fun m ρ _ => Cert.FcFrame.frame (F := Ideal) m ρ, quiescent_FcRefIdeal,
  fun m ρ _ => Cert.Cube.Gen.frame m ρ, fun m ρ _ => Cert.CubeIdeal.Gen.frame m ρ, fun m ρ _ => Cert.CubeIdeal.Gen.frame m ρ,
  quiescent_CubeRefIdeal, fun m ρ _ => quiescent_CubeRefIdeal m ρ trivial,
  Cert.WholeBits.quiescent, fun m ρ _ => Cert.WholeRun.frame m ρ, fun m ρ _ => Cert.WholeRun.frame m ρ,
  quiescent_WholeRefIdeal, fun m ρ _ => quiescent_WholeRefIdeal m ρ trivial,
  (trivial : preserves_Enc_EncIdeal), algebraic_EncIdeal_EncRefIdeal, (trivial : preserves_Fc_FcIdeal), algebraic_FcIdeal_FcRefIdeal,
  preserves_Cube_CubeIdeal, algebraic_CubeIdeal_CubeRefIdeal,
  preserves_Whole_WholeIdeal, algebraic_WholeIdeal_WholeRefIdeal⟩

end Cert.Proof

end
